-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_swiglu [hPre_finite_swiglu : Cert.Pre_finite_swiglu.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_swiglu.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_swiglu [hPre_finite_swiglu : Cert.Pre_finite_swiglu.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_swiglu.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Kernel23Ideal_pre_finite_swiglu [hKernel23Ideal : Cert.Kernel23Ideal.Facts] [hPre_finite_swiglu : Cert.Pre_finite_swiglu.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_swiglu m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Reference23Ideal_pre_finite_swiglu [hReference23Ideal : Cert.Reference23Ideal.Facts] [hPre_finite_swiglu : Cert.Pre_finite_swiglu.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_swiglu m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v30) = v0 c
          ∧ r.2.mem ((c.tc : Thread Cert.Reference22Ideal.nD Cert.Reference22Ideal.τ).loc Cert.Reference22Ideal.main_v31) = v1 c
          ∧ r.2.mem ((c.tc : Thread Cert.Reference22Ideal.nD Cert.Reference22Ideal.τ).loc Cert.Reference22Ideal.main_v32) = v2 c
          ∧ r.2.mem ((c.tc : Thread Cert.Reference22Ideal.nD Cert.Reference22Ideal.τ).loc Cert.Reference22Ideal.main_v33) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal_pre_finite_swiglu [hKernel23Ideal : Cert.Kernel23Ideal.Facts] [hReference23Ideal : Cert.Reference23Ideal.Facts] [hPre_finite_swiglu : Cert.Pre_finite_swiglu.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_swiglu m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v20) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v17) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v9) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v34) = v0 c
          ∧ r.2.mem ((c.tc : Thread Cert.Reference26Ideal.nD Cert.Reference26Ideal.τ).loc Cert.Reference26Ideal.main_v36) = v1 c
          ∧ r.2.mem ((c.tc : Thread Cert.Reference26Ideal.nD Cert.Reference26Ideal.τ).loc Cert.Reference26Ideal.main_v17) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v8) = v0 c
          ∧ r.2.mem ((c.tc : Thread Cert.Reference34Ideal.nD Cert.Reference34Ideal.τ).loc Cert.Reference34Ideal.main_v7) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts) (hPre_finite_swiglu : Cert.Pre_finite_swiglu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_swiglu (hKernel23Ideal := hKernel23Ideal) (hPre_finite_swiglu := hPre_finite_swiglu)
    ∧ quiescent_Reference23Ideal (hReference23Ideal := hReference23Ideal)
    ∧ quiescent_Reference23Ideal_pre_finite_swiglu (hReference23Ideal := hReference23Ideal) (hPre_finite_swiglu := hPre_finite_swiglu)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_swiglu (hKernel23Ideal := hKernel23Ideal) (hReference23Ideal := hReference23Ideal) (hPre_finite_swiglu := hPre_finite_swiglu)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite.lean ====
abbrev S4096x8704 : Shape := ⟨2, ![4096, 8704]⟩
abbrev S4096x2048 : Shape := ⟨2, ![4096, 2048]⟩
abbrev S4096x16 : Shape := ⟨2, ![4096, 16]⟩
abbrev S_ : Shape := ⟨0, ![]⟩

class Facts : Prop where
  bitsLt_bf16_f32 : FTy.bits .bf16 < FTy.bits .f32
  bcast_S_S4096x8704 : S_.BroadcastsInDim S4096x8704 (![] : Fin 0 → Fin S4096x8704.rank)
  reducesTo_S4096x8704_S_d0_1 : S4096x8704.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4096x8704 .bf16) (main_arg1 : FVec F S4096x2048 .bf16) (main_arg2 : FVec F S4096x16 .f32) : IVec S_ 1 :=
  let main_v0 : FVec F S4096x8704 .f32 := (extf .f32 · bitsLt_bf16_f32) main_arg0
  let main_v1 : FVec F S4096x8704 .f32 := Host.absf main_v0
  let main_cst : FVec F S_ .f32 := constant S_ .f32 0x7F800000#32
  let main_v2 : FVec F S4096x8704 .f32 := broadcastInDim S4096x8704 ![] bcast_S_S4096x8704 main_cst
  let main_v3 : IVec S4096x8704 1 := cmpf .olt main_v1 main_v2
  let main_c : IVec S_ 1 := constantI S_ 1 1#1
  let main_v4 : IVec S_ 1 := (fun x v => Host.reduce IntOp.andi x v reducesTo_S4096x8704_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4096x16 .f32 := Host.absf main_arg2
  let main_cst_2 : FVec F S_ .f32 := constant S_ .f32 0x7F800000#32
  let main_v12 : FVec F S4096x16 .f32 := broadcastInDim S4096x16 ![] bcast_S_S4096x16 main_cst_2
  let main_v13 : IVec S4096x16 1 := cmpf .olt main_v11 main_v12
  let main_c_3 : IVec S_ 1 := constantI S_ 1 1#1
  let main_v14 : IVec S_ 1 := (fun x v => Host.reduce IntOp.andi x v reducesTo_S4096x16_S_d0_1 h_S_) main_v13 main_c_3
  let main_v15 : IVec S_ 1 := andi main_v10 main_v14
  main_v15
-- ==== Pre_finite_swiglu.lean ====
abbrev S4096x11264 : Shape := ⟨2, ![4096, 11264]⟩
abbrev S4096x22528 : Shape := ⟨2, ![4096, 22528]⟩
abbrev S_ : Shape := ⟨0, ![]⟩

class Facts : Prop where
  bitsLt_bf16_f32 : FTy.bits .bf16 < FTy.bits .f32
  bcast_S_S4096x11264 : S_.BroadcastsInDim S4096x11264 (![] : Fin 0 → Fin S4096x11264.rank)
  reducesTo_S4096x11264_S_d0_1 : S4096x11264.ReducesTo [0, 1] S_
  h_S_ : 0 < S_.numel
  bcast_S_S4096x22528 : S_.BroadcastsInDim S4096x22528 (![] : Fin 0 → Fin S4096x22528.rank)
  reducesTo_S4096x22528_S_d0_1 : S4096x22528.ReducesTo [0, 1] S_

variable [Facts]

def fn {F : FTy → Type} [FloatOps F] (main_arg0 : FVec F S4096x11264 .bf16) (main_arg1 : FVec F S4096x22528 .bf16) : IVec S_ 1 :=
  let main_v0 : FVec F S4096x11264 .f32 := (extf .f32 · bitsLt_bf16_f32) main_arg0
  let main_v1 : FVec F S4096x11264 .f32 := Host.absf main_v0
  let main_cst : FVec F S_ .f32 := constant S_ .f32 0x7F800000#32
  let main_v2 : FVec F S4096x11264 .f32 := broadcastInDim S4096x11264 ![] bcast_S_S4096x11264 main_cst
  let main_v3 : IVec S4096x11264 1 := cmpf .olt main_v1 main_v2
  let main_c : IVec S_ 1 := constantI S_ 1 1#1
  let main_v4 : IVec S_ 1 := (fun x v => Host.reduce IntOp.andi x v reducesTo_S4096x11264_S_d0_1 h_S_) main_v3 main_c
  let main_v5 : FVec F S4096x22528 .f32 := (extf .f32 · bitsLt_bf16_f32) main_arg1
  let main_v6 : FVec F S4096x22528 .f32 := Host.absf main_v5
  let main_cst_0 : FVec F S_ .f32 := constant S_ .f32 0x7F800000#32
  let main_v7 : FVec F S4096x22528 .f32 := broadcastInDim S4096x22528 ![] bcast_S_S4096x22528 main_cst_0
  let main_v8 : IVec S4096x22528 1 := cmpf .olt main_v6 main_v7
  let main_c_1 : IVec S_ 1 := constantI S_ 1 1#1
  let main_v9 : IVec S_ 1 := (fun x v => Host.reduce IntOp.andi x v reducesTo_S4096x22528_S_d0_1 h_S_) main_v8 main_c_1
  let main_v10 : IVec S_ 1 := andi main_v4 main_v9
  main_v10
-- ==== Kernel.lean ====
abbrev S4096x8704 : Shape := ⟨2, ![4096, 8704]⟩
abbrev S4096x2048 : Shape := ⟨2, ![4096, 2048]⟩
abbrev S4096x16 : Shape := ⟨2, ![4096, 16]⟩
abbrev S4096x16x128 : Shape := ⟨3, ![4096, 16, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x128 : Shape := ⟨3, ![16, 4096, 128]⟩
abbrev S1024x128 : Shape := ⟨2, ![1024, 128]⟩
abbrev S1x1x1024 : Shape := ⟨3, ![1, 1, 1024]⟩
abbrev S1x1024x128 : Shape := ⟨3, ![1, 1024, 128]⟩
abbrev S1024x1024 : Shape := ⟨2, ![1024, 1024]⟩
abbrev S1x1024 : Shape := ⟨2, ![1, 1024]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 66
  | .vmem => 25
  | .smem => 0
  | _ => 0

abbrev bufTy : (tb : Table) → Fin (tcTables nBuf tb) → BufTy
  | .hbm, ⟨0, _⟩ => ⟨S4096x8704, .bf16⟩
  | .hbm, ⟨1, _⟩ => ⟨S4096x2048, .bf16⟩
  | .hbm, ⟨2, _⟩ => ⟨S4096x16, .f32⟩
  | .hbm, ⟨3, _⟩ => ⟨S4096x2048, .bf16⟩
  | .hbm, ⟨4, _⟩ => ⟨S4096x16x128, .bf16⟩
  | .hbm, ⟨5, _⟩ => ⟨S4096x2048, .bf16⟩
  | .hbm, ⟨6, _⟩ => ⟨S4096x16x128, .bf16⟩
  | .hbm, ⟨7, _⟩ => ⟨S4096x2048, .bf16⟩
  | .hbm, ⟨8, _⟩ => ⟨S4096x16x128, .bf16⟩
  | .hbm, ⟨9, _⟩ => ⟨S4096x16x128, .f32⟩
  | .hbm, ⟨10, _⟩ => ⟨S4096x16x128, .f32⟩
  | .hbm, ⟨11, _⟩ => ⟨S4096x16x128, .f32⟩
  | .hbm, ⟨12, _⟩ => ⟨S16x4096x4096, .f32⟩
  | .hbm, ⟨13, _⟩ => ⟨S_, .f32⟩
  | .hbm, ⟨14, _⟩ => ⟨S16x4096x4096, .f32⟩
  | .hbm, ⟨15, _⟩ => ⟨S16x4096x4096, .f32⟩
  | .hbm, ⟨16, _⟩ => ⟨S16x4096, .f32⟩
  | .hbm, ⟨17, _⟩ => ⟨S16x4096x1, .f32⟩
  | .hbm, ⟨18, _⟩ => ⟨S16x4096x4096, .f32⟩
  | .hbm, ⟨19, _⟩ => ⟨S16x4096x4096, .f32⟩
  | .hbm, ⟨20, _⟩ => ⟨S16x4096, .f32⟩
  | .hbm, ⟨21, _⟩ => ⟨S16x1x4096, .f32⟩
  | .hbm, ⟨22, _⟩ => ⟨S16x4096x4096, .f32⟩
  | .hbm, ⟨23, _⟩ => ⟨S16x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x4096, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S16x4096, .f32⟩
  | .hbm, ⟨46, _⟩ => ⟨S16x4096x1, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S4096x2048, .f32⟩
  | .hbm, ⟨51, _⟩ => ⟨S4096x16x128, .f32⟩
  | .hbm, ⟨52, _⟩ => ⟨S16x4096x4096, .f32⟩
  | .hbm, ⟨53, _⟩ => ⟨S16x4096x4096, .f32⟩
  | .hbm, ⟨54, _⟩ => ⟨S_, .f32⟩
  | .hbm, ⟨55, _⟩ => ⟨S16x4096, .f32⟩
  | .hbm, ⟨56, _⟩ => ⟨S16x4096, .f32⟩
  | .hbm, ⟨57, _⟩ => ⟨S16x4096x1, .f32⟩
  | .hbm, ⟨58, _⟩ => ⟨S16x4096x128, .f32⟩
  | .hbm, ⟨59, _⟩ => ⟨S16x4096, .f32⟩
  | .hbm, ⟨60, _⟩ => ⟨S16x1x4096, .f32⟩
  | .hbm, ⟨61, _⟩ => ⟨S16x1x4096, .f32⟩
  | .hbm, ⟨62, _⟩ => ⟨S16x1x4096, .f32⟩
  | .hbm, ⟨63, _⟩ => ⟨S4096x2048, .bf16⟩
  | .hbm, ⟨64, _⟩ => ⟨S4096x2048, .bf16⟩
  | .hbm, ⟨65, _⟩ => ⟨S16x4096x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x128, .f32⟩
  | .local _ .vmem, ⟨11, _⟩ => ⟨S1x1024x128, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1x1024x128, .f32⟩
  | .local _ .vmem, ⟨21, _⟩ => ⟨S1x1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52_0 : Ref sig .tc := ⟨.hbm, 63, rfl⟩
abbrev main_v52_1 : Ref sig .tc := ⟨.hbm, 64, rfl⟩
abbrev main_v52_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![16, 4, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S4096x8704 : Shape := ⟨2, ![4096, 8704]⟩
abbrev S4096x2048 : Shape := ⟨2, ![4096, 2048]⟩
abbrev S4096x16 : Shape := ⟨2, ![4096, 16]⟩
abbrev S4096x16x128 : Shape := ⟨3, ![4096, 16, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096x128 : Shape := ⟨3, ![16, 4096, 128]⟩

abbrev nBuf : Space → Nat
  | .hbm => 133
  | .vmem => 0
  | .smem => 0
  | _ => 0

abbrev hbmTy0_0 (i : Nat) : BufTy := match i % 128 with
  | 0 => ⟨S4096x8704, .bf16⟩
  | 1 => ⟨S4096x2048, .bf16⟩
  | 2 => ⟨S4096x16, .f32⟩
  | 3 => ⟨S4096x2048, .bf16⟩
  | 4 => ⟨S4096x16x128, .bf16⟩
  | 5 => ⟨S4096x2048, .bf16⟩
  | 6 => ⟨S4096x16x128, .bf16⟩
  | 7 => ⟨S4096x2048, .bf16⟩
  | 8 => ⟨S4096x16x128, .bf16⟩
  | 9 => ⟨S4096x16x128, .f32⟩
  | 10 => ⟨S4096x16x128, .f32⟩
  | 11 => ⟨S4096x16x128, .f32⟩
  | 12 => ⟨S16x4096x4096, .f32⟩
  | 13 => ⟨S_, .f32⟩
  | 14 => ⟨S16x4096x4096, .f32⟩
  | 15 => ⟨S16x4096x4096, .f32⟩
  | 16 => ⟨S16x4096, .f32⟩
  | 17 => ⟨S16x4096x1, .f32⟩
  | 18 => ⟨S16x4096x4096, .f32⟩
  | 19 => ⟨S16x4096x4096, .f32⟩
  | 20 => ⟨S16x4096, .f32⟩
  | 21 => ⟨S16x1x4096, .f32⟩
  | 22 => ⟨S16x4096x4096, .f32⟩
  | 23 => ⟨S16x4096x4096, .f32⟩
  | 24 => ⟨S4096, .i32⟩
  | 25 => ⟨S1x4096, .i32⟩
  | 26 => ⟨S4096, .i32⟩
  | 27 => ⟨S4096x1, .i32⟩
  | 28 => ⟨S4096x4096, .i32⟩
  | 29 => ⟨S4096x4096, .i32⟩
  | 30 => ⟨S4096x4096, .i1⟩
  | 31 => ⟨S_, .f32⟩
  | 32 => ⟨S_, .f32⟩
  | 33 => ⟨S16x4096x4096, .i1⟩
  | 34 => ⟨S16x4096x4096, .f32⟩
  | 35 => ⟨S16x4096x4096, .f32⟩
  | 36 => ⟨S_, .f32⟩
  | 37 => ⟨S16x4096x4096, .f32⟩
  | 38 => ⟨S_, .f32⟩
  | 39 => ⟨S16x4096, .f32⟩
  | 40 => ⟨S16x4096x1, .f32⟩
  | 41 => ⟨S16x4096x4096, .f32⟩
  | 42 => ⟨S16x4096x4096, .i1⟩
  | 43 => ⟨S16x4096x4096, .f32⟩
  | 44 => ⟨S_, .f32⟩
  | 45 => ⟨S16x4096, .f32⟩
  | 46 => ⟨S_, .f32⟩
  | 47 => ⟨S16x4096, .f32⟩
  | 48 => ⟨S16x4096, .f32⟩
  | 49 => ⟨S_, .f32⟩
  | 50 => ⟨S16x4096, .f32⟩
  | 51 => ⟨S16x4096, .i1⟩
  | 52 => ⟨S_, .f32⟩
  | 53 => ⟨S16x4096, .f32⟩
  | 54 => ⟨S16x4096, .i1⟩
  | 55 => ⟨S_, .f32⟩
  | 56 => ⟨S16x4096, .f32⟩
  | 57 => ⟨S_, .f32⟩
  | 58 => ⟨S16x4096, .f32⟩
  | 59 => ⟨S_, .f32⟩
  | 60 => ⟨S16x4096, .f32⟩
  | 61 => ⟨S16x4096, .f32⟩
  | 62 => ⟨S16x4096, .f32⟩
  | 63 => ⟨S16x4096x1, .f32⟩
  | 64 => ⟨S16x4096x4096, .f32⟩
  | 65 => ⟨S16x4096x4096, .f32⟩
  | 66 => ⟨S16x4096x4096, .f32⟩
  | 67 => ⟨S_, .f32⟩
  | 68 => ⟨S16x4096, .f32⟩
  | 69 => ⟨S16x4096x1, .f32⟩
  | 70 => ⟨S16x4096x4096, .f32⟩
  | 71 => ⟨S16x4096x4096, .f32⟩
  | 72 => ⟨S16x4096x1, .f32⟩
  | 73 => ⟨S_, .f32⟩
  | 74 => ⟨S16x4096x1, .f32⟩
  | 75 => ⟨S16x4096x1, .f32⟩
  | 76 => ⟨S16x4096x4096, .bf16⟩
  | 77 => ⟨S16x4096x4096, .f32⟩
  | 78 => ⟨S16x128x4096, .f32⟩
  | 79 => ⟨S4096x16x128, .f32⟩
  | 80 => ⟨S4096x16x128, .bf16⟩
  | 81 => ⟨S4096x2048, .bf16⟩
  | 82 => ⟨S4096x16x128, .bf16⟩
  | 83 => ⟨S4096x16x128, .f32⟩
  | 84 => ⟨S16x128x4096, .f32⟩
  | 85 => ⟨S16x4096x4096, .f32⟩
  | 86 => ⟨S16x128x4096, .f32⟩
  | 87 => ⟨S4096x16x128, .f32⟩
  | 88 => ⟨S16x4096x4096, .bf16⟩
  | 89 => ⟨S16x4096x4096, .f32⟩
  | 90 => ⟨S16x4096x4096, .f32⟩
  | 91 => ⟨S16x4096x4096, .f32⟩
  | 92 => ⟨S16x4096x4096, .f32⟩
  | 93 => ⟨S_, .f32⟩
  | 94 => ⟨S16x4096, .f32⟩
  | 95 => ⟨S16x4096x1, .f32⟩
  | 96 => ⟨S16x4096x1, .f32⟩
  | 97 => ⟨S16x4096x4096, .f32⟩
  | 98 => ⟨S16x4096x4096, .f32⟩
  | 99 => ⟨S_, .f32⟩
  | 100 => ⟨S16x4096, .f32⟩
  | 101 => ⟨S16x4096x4096, .f32⟩
  | 102 => ⟨S16x4096x4096, .f32⟩
  | 103 => ⟨S16x4096x4096, .f32⟩
  | 104 => ⟨S_, .f32⟩
  | 105 => ⟨S16x4096x4096, .f32⟩
  | 106 => ⟨S16x4096x4096, .f32⟩
  | 107 => ⟨S16x4096x4096, .f32⟩
  | 108 => ⟨S_, .f32⟩
  | 109 => ⟨S16x4096, .f32⟩
  | 110 => ⟨S16x1x4096, .f32⟩
  | 111 => ⟨S_, .f32⟩
  | 112 => ⟨S16x4096, .f32⟩
  | 113 => ⟨S4096x16, .f32⟩
  | 114 => ⟨S_, .f32⟩
  | 115 => ⟨S16x4096, .f32⟩
  | 116 => ⟨S16x4096x1, .f32⟩
  | 117 => ⟨S_, .f32⟩
  | 118 => ⟨S16x4096, .f32⟩
  | 119 => ⟨S4096x16, .f32⟩
  | 120 => ⟨S4096x16, .f32⟩
  | 121 => ⟨S_, .f32⟩
  | 122 => ⟨S16x4096x4096, .f32⟩
  | 123 => ⟨S16x4096x4096, .f32⟩
  | 124 => ⟨S16x4096x128, .f32⟩
  | 125 => ⟨S4096x16x128, .f32⟩
  | 126 => ⟨S4096x16x128, .bf16⟩
  | 127 => ⟨S4096x16x128, .bf16⟩
  | _ => ⟨S4096x8704, .bf16⟩

abbrev hbmTy0_1 (i : Nat) : BufTy := match i % 128 with
  | 0 => ⟨S4096x2048, .bf16⟩
  | 1 => ⟨S4096x2048, .bf16⟩
  | 2 => ⟨S16x4096, .f32⟩
  | 3 => ⟨S16x4096x1, .f32⟩
  | 4 => ⟨S16x4096x128, .f32⟩
  | _ => ⟨S4096x8704, .bf16⟩

abbrev hbmTy (i : Nat) : BufTy := match i / 128 with
  | 0 => hbmTy0_0 i
  | 1 => hbmTy0_1 i
  | _ => ⟨S4096x8704, .bf16⟩

abbrev bufTy : (tb : Table) → Fin (tcTables nBuf tb) → BufTy
  | .hbm, ⟨i, _⟩ => hbmTy i
  | _, _ => ⟨S4096x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_call1_cst : Ref sig .tc := ⟨.hbm, 104, rfl⟩
abbrev main_call1_v0 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_cst_14 : Ref sig .tc := ⟨.hbm, 111, rfl⟩
abbrev main_v86 : Ref sig .tc := ⟨.hbm, 112, rfl⟩
abbrev main_v87 : Ref sig .tc := ⟨.hbm, 113, rfl⟩
abbrev main_cst_15 : Ref sig .tc := ⟨.hbm, 114, rfl⟩
abbrev main_v88 : Ref sig .tc := ⟨.hbm, 115, rfl⟩
abbrev main_v89 : Ref sig .tc := ⟨.hbm, 116, rfl⟩
abbrev main_cst_16 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_17 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== Kernel2.lean ====
abbrev S4096x4096 : Shape := ⟨2, ![4096, 4096]⟩
abbrev S4096x17024 : Shape := ⟨2, ![4096, 17024]⟩
abbrev S1024x4096 : Shape := ⟨2, ![1024, 4096]⟩
abbrev S4096x896 : Shape := ⟨2, ![4096, 896]⟩
abbrev S1024x896 : Shape := ⟨2, ![1024, 896]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x17024, .bf16⟩
  | .hbm, ⟨2, _⟩ => ⟨S4096x4096, .bf16⟩
  | .hbm, ⟨3, _⟩ => ⟨S4096x17024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x896, .bf16⟩
  | .local _ .vmem, ⟨3, _⟩ => ⟨S4096x896, .bf16⟩
  | .local _ .vmem, ⟨4, _⟩ => ⟨S1024x896, .bf16⟩
  | .local _ .vmem, ⟨5, _⟩ => ⟨S1024x896, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩
abbrev S4096x17024 : Shape := ⟨2, ![4096, 17024]⟩
abbrev S_ : Shape := ⟨0, ![]⟩
abbrev S17024x4096 : Shape := ⟨2, ![17024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x17024, .bf16⟩
  | .hbm, ⟨2, _⟩ => ⟨S_, .f32⟩
  | .hbm, ⟨3, _⟩ => ⟨S4096x17024, .f32⟩
  | .hbm, ⟨4, _⟩ => ⟨S4096x4096, .f32⟩
  | .hbm, ⟨5, _⟩ => ⟨S4096x17024, .f32⟩
  | .hbm, ⟨6, _⟩ => ⟨S4096x17024, .f32⟩
  | .hbm, ⟨7, _⟩ => ⟨S17024x4096, .f32⟩
  | .hbm, ⟨8, _⟩ => ⟨S4096x17024, .f32⟩
  | .hbm, ⟨9, _⟩ => ⟨S4096x17024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x22528 : Shape := ⟨2, ![4096, 22528]⟩
abbrev S8x4096x2816 : Shape := ⟨3, ![8, 4096, 2816]⟩
abbrev S4096x4096 : Shape := ⟨2, ![4096, 4096]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x22528, .bf16⟩
  | .hbm, ⟨1, _⟩ => ⟨S8x4096x2816, .bf16⟩
  | .hbm, ⟨2, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, v0.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x22528 : Shape := ⟨2, ![4096, 22528]⟩
abbrev S8x4096x2816 : Shape := ⟨3, ![8, 4096, 2816]⟩
abbrev S_ : Shape := ⟨0, ![]⟩
abbrev S4096x4096 : Shape := ⟨2, ![4096, 4096]⟩
abbrev S4096x8x2816 : Shape := ⟨3, ![4096, 8, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x22528, .bf16⟩
  | .hbm, ⟨1, _⟩ => ⟨S8x4096x2816, .bf16⟩
  | .hbm, ⟨2, _⟩ => ⟨S_, .f32⟩
  | .hbm, ⟨3, _⟩ => ⟨S4096x4096, .f32⟩
  | .hbm, ⟨4, _⟩ => ⟨S8x4096x2816, .f32⟩
  | .hbm, ⟨5, _⟩ => ⟨S4096x8x2816, .f32⟩
  | .hbm, ⟨6, _⟩ => ⟨S4096x22528, .f32⟩
  | .hbm, ⟨7, _⟩ => ⟨S4096x22528, .f32⟩
  | .hbm, ⟨8, _⟩ => ⟨S4096x8x2816, .f32⟩
  | .hbm, ⟨9, _⟩ => ⟨S4096x4096, .f32⟩
  | _, _ => ⟨S4096x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x4096 : Shape := ⟨2, ![4096, 4096]⟩
abbrev S4096x22528 : Shape := ⟨2, ![4096, 22528]⟩
abbrev S8x4096x2816 : Shape := ⟨3, ![8, 4096, 2816]⟩
abbrev S512x4096 : Shape := ⟨2, ![512, 4096]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x22528, .bf16⟩
  | .hbm, ⟨2, _⟩ => ⟨S4096x4096, .bf16⟩
  | .hbm, ⟨3, _⟩ => ⟨S8x4096x2816, .bf16⟩
  | .local _ .vmem, ⟨0, _⟩ => ⟨S512x4096, .bf16⟩
  | .local _ .vmem, ⟨1, _⟩ => ⟨S512x4096, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x22528 : Shape := ⟨2, ![4096, 22528]⟩
abbrev S_ : Shape := ⟨0, ![]⟩
abbrev S8x4096x2816 : Shape := ⟨3, ![8, 4096, 2816]⟩
abbrev S4096x8x2816 : Shape := ⟨3, ![4096, 8, 2816]⟩
abbrev S8x2816x4096 : Shape := ⟨3, ![8, 2816, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x22528, .bf16⟩
  | .hbm, ⟨2, _⟩ => ⟨S_, .f32⟩
  | .hbm, ⟨3, _⟩ => ⟨S8x4096x2816, .f32⟩
  | .hbm, ⟨4, _⟩ => ⟨S4096x4096, .f32⟩
  | .hbm, ⟨5, _⟩ => ⟨S4096x8x2816, .f32⟩
  | .hbm, ⟨6, _⟩ => ⟨S4096x22528, .f32⟩
  | .hbm, ⟨7, _⟩ => ⟨S4096x22528, .f32⟩
  | .hbm, ⟨8, _⟩ => ⟨S4096x8x2816, .f32⟩
  | .hbm, ⟨9, _⟩ => ⟨S8x2816x4096, .f32⟩
  | .hbm, ⟨10, _⟩ => ⟨S8x4096x2816, .f32⟩
  | .hbm, ⟨11, _⟩ => ⟨S8x4096x2816, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x11264 : Shape := ⟨2, ![4096, 11264]⟩
abbrev S4096x4096 : Shape := ⟨2, ![4096, 4096]⟩
abbrev S11264x4096 : Shape := ⟨2, ![11264, 4096]⟩
abbrev S1408x4096 : Shape := ⟨2, ![1408, 4096]⟩
abbrev S4096x512 : Shape := ⟨2, ![4096, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S11264x4096, .bf16⟩
  | .hbm, ⟨3, _⟩ => ⟨S11264x4096, .bf16⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x11264 : Shape := ⟨2, ![4096, 11264]⟩
abbrev S4096x4096 : Shape := ⟨2, ![4096, 4096]⟩
abbrev S_ : Shape := ⟨0, ![]⟩
abbrev S11264x4096 : Shape := ⟨2, ![11264, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S_, .f32⟩
  | .hbm, ⟨3, _⟩ => ⟨S11264x4096, .f32⟩
  | .hbm, ⟨4, _⟩ => ⟨S4096x11264, .f32⟩
  | .hbm, ⟨5, _⟩ => ⟨S4096x4096, .f32⟩
  | .hbm, ⟨6, _⟩ => ⟨S4096x4096, .f32⟩
  | .hbm, ⟨7, _⟩ => ⟨S4096x11264, .f32⟩
  | .hbm, ⟨8, _⟩ => ⟨S11264x4096, .f32⟩
  | .hbm, ⟨9, _⟩ => ⟨S11264x4096, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x4096 : Shape := ⟨2, ![4096, 4096]⟩
abbrev S11264x4096 : Shape := ⟨2, ![11264, 4096]⟩
abbrev S4096x11264 : Shape := ⟨2, ![4096, 11264]⟩
abbrev S1024x4096 : Shape := ⟨2, ![1024, 4096]⟩
abbrev S1408x4096 : Shape := ⟨2, ![1408, 4096]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1408x4096, .bf16⟩
  | .local _ .vmem, ⟨3, _⟩ => ⟨S1408x4096, .bf16⟩
  | .local _ .vmem, ⟨4, _⟩ => ⟨S1024x1408, .bf16⟩
  | .local _ .vmem, ⟨5, _⟩ => ⟨S1024x1408, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S11264x4096 : Shape := ⟨2, ![11264, 4096]⟩
abbrev S_ : Shape := ⟨0, ![]⟩
abbrev S4096x11264 : Shape := ⟨2, ![4096, 11264]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S_, .f32⟩
  | .hbm, ⟨3, _⟩ => ⟨S4096x11264, .f32⟩
  | .hbm, ⟨4, _⟩ => ⟨S11264x4096, .f32⟩
  | .hbm, ⟨5, _⟩ => ⟨S4096x4096, .f32⟩
  | .hbm, ⟨6, _⟩ => ⟨S4096x4096, .f32⟩
  | .hbm, ⟨7, _⟩ => ⟨S4096x11264, .f32⟩
  | .hbm, ⟨8, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x17024 : Shape := ⟨2, ![4096, 17024]⟩
abbrev S4096x4096 : Shape := ⟨2, ![4096, 4096]⟩
abbrev S1024x2432 : Shape := ⟨2, ![1024, 2432]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x17024, .bf16⟩
  | .hbm, ⟨1, _⟩ => ⟨S4096x17024, .bf16⟩
  | .hbm, ⟨2, _⟩ => ⟨S4096x4096, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x17024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 7], ![false, false, false]⟩

def k0_cond3 (i : grid0.Coords) : BitVec 1 :=
  let arg2 : BitVec 32 := BitVec.ofNat 32 (i 2).val
  let c6_i32_3 : BitVec 32 := 6#32
  let v8 : BitVec 1 := Scalar.cmpi .eq arg2 c6_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x17024 : Shape := ⟨2, ![4096, 17024]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x17024, .bf16⟩
  | .hbm, ⟨1, _⟩ => ⟨S4096x17024, .bf16⟩
  | .hbm, ⟨2, _⟩ => ⟨S_, .f32⟩
  | .hbm, ⟨3, _⟩ => ⟨S4096x4096, .f32⟩
  | .hbm, ⟨4, _⟩ => ⟨S4096x17024, .f32⟩
  | .hbm, ⟨5, _⟩ => ⟨S4096x17024, .f32⟩
  | .hbm, ⟨6, _⟩ => ⟨S4096x17024, .f32⟩
  | .hbm, ⟨7, _⟩ => ⟨S4096x4096, .f32⟩
  | _, _ => ⟨S4096x17024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S4096x4096 : Shape := ⟨2, ![4096, 4096]⟩
abbrev S2048x4096 : Shape := ⟨2, ![2048, 4096]⟩
abbrev S4x2048x1024 : Shape := ⟨3, ![4, 2048, 1024]⟩
abbrev S1024x4096 : Shape := ⟨2, ![1024, 4096]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .hbm, ⟨3, _⟩ => ⟨S4x2048x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x4096 : Shape := ⟨2, ![4096, 4096]⟩
abbrev S_ : Shape := ⟨0, ![]⟩
abbrev S4x2048x1024 : Shape := ⟨3, ![4, 2048, 1024]⟩
abbrev S4096x4x1024 : Shape := ⟨3, ![4096, 4, 1024]⟩
abbrev S4x1024x2048 : Shape := ⟨3, ![4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S4x2048x1024, .f32⟩
  | .hbm, ⟨4, _⟩ => ⟨S4096x2048, .f32⟩
  | .hbm, ⟨5, _⟩ => ⟨S4096x4x1024, .f32⟩
  | .hbm, ⟨6, _⟩ => ⟨S4096x4096, .f32⟩
  | .hbm, ⟨7, _⟩ => ⟨S4096x4096, .f32⟩
  | .hbm, ⟨8, _⟩ => ⟨S4096x4x1024, .f32⟩
  | .hbm, ⟨9, _⟩ => ⟨S4x1024x2048, .f32⟩
  | .hbm, ⟨10, _⟩ => ⟨S4x2048x1024, .f32⟩
  | .hbm, ⟨11, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x2048 : Shape := ⟨2, ![4096, 2048]⟩
abbrev S4096x4096 : Shape := ⟨2, ![4096, 4096]⟩
abbrev S2048x4096 : Shape := ⟨2, ![2048, 4096]⟩
abbrev S4x2048x1024 : Shape := ⟨3, ![4, 2048, 1024]⟩
abbrev S1024x4096 : Shape := ⟨2, ![1024, 4096]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .hbm, ⟨3, _⟩ => ⟨S4x2048x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4096x4096 : Shape := ⟨2, ![4096, 4096]⟩
abbrev S_ : Shape := ⟨0, ![]⟩
abbrev S4x2048x1024 : Shape := ⟨3, ![4, 2048, 1024]⟩
abbrev S4096x4x1024 : Shape := ⟨3, ![4096, 4, 1024]⟩
abbrev S4x1024x2048 : Shape := ⟨3, ![4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S4x2048x1024, .f32⟩
  | .hbm, ⟨4, _⟩ => ⟨S4096x2048, .f32⟩
  | .hbm, ⟨5, _⟩ => ⟨S4096x4x1024, .f32⟩
  | .hbm, ⟨6, _⟩ => ⟨S4096x4096, .f32⟩
  | .hbm, ⟨7, _⟩ => ⟨S4096x4096, .f32⟩
  | .hbm, ⟨8, _⟩ => ⟨S4096x4x1024, .f32⟩
  | .hbm, ⟨9, _⟩ => ⟨S4x1024x2048, .f32⟩
  | .hbm, ⟨10, _⟩ => ⟨S4x2048x1024, .f32⟩
  | .hbm, ⟨11, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S4096x4096 : Shape := ⟨2, ![4096, 4096]⟩
abbrev S4x2048x1024 : Shape := ⟨3, ![4, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, v0.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩
abbrev S4x2048x1024 : Shape := ⟨3, ![4, 2048, 1024]⟩
abbrev S_ : Shape := ⟨0, ![]⟩
abbrev S4096x2048 : Shape := ⟨2, ![4096, 2048]⟩
abbrev S4096x4x1024 : Shape := ⟨3, ![4096, 4, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S_, .f32⟩
  | .hbm, ⟨3, _⟩ => ⟨S4096x2048, .f32⟩
  | .hbm, ⟨4, _⟩ => ⟨S4x2048x1024, .f32⟩
  | .hbm, ⟨5, _⟩ => ⟨S4096x4x1024, .f32⟩
  | .hbm, ⟨6, _⟩ => ⟨S4096x4096, .f32⟩
  | .hbm, ⟨7, _⟩ => ⟨S4096x4096, .f32⟩
  | .hbm, ⟨8, _⟩ => ⟨S4096x4x1024, .f32⟩
  | .hbm, ⟨9, _⟩ => ⟨S4096x2048, .f32⟩
  | .hbm, ⟨10, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x4096 : Shape := ⟨2, ![4096, 4096]⟩
abbrev S4x2048x1024 : Shape := ⟨3, ![4, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, v0.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S4x2048x1024 : Shape := ⟨3, ![4, 2048, 1024]⟩
abbrev S_ : Shape := ⟨0, ![]⟩
abbrev S4096x2048 : Shape := ⟨2, ![4096, 2048]⟩
abbrev S4096x4x1024 : Shape := ⟨3, ![4096, 4, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S_, .f32⟩
  | .hbm, ⟨3, _⟩ => ⟨S4096x2048, .f32⟩
  | .hbm, ⟨4, _⟩ => ⟨S4x2048x1024, .f32⟩
  | .hbm, ⟨5, _⟩ => ⟨S4096x4x1024, .f32⟩
  | .hbm, ⟨6, _⟩ => ⟨S4096x4096, .f32⟩
  | .hbm, ⟨7, _⟩ => ⟨S4096x4096, .f32⟩
  | .hbm, ⟨8, _⟩ => ⟨S4096x4x1024, .f32⟩
  | .hbm, ⟨9, _⟩ => ⟨S4096x2048, .f32⟩
  | .hbm, ⟨10, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x4096 : Shape := ⟨2, ![4096, 4096]⟩
abbrev S8x4096x2816 : Shape := ⟨3, ![8, 4096, 2816]⟩
abbrev S4096x22528 : Shape := ⟨2, ![4096, 22528]⟩
abbrev S1024x4096 : Shape := ⟨2, ![1024, 4096]⟩
abbrev S1x4096x1408 : Shape := ⟨3, ![1, 4096, 1408]⟩
abbrev S1024x1408 : Shape := ⟨2, ![1024, 1408]⟩
abbrev S4096x1408 : Shape := ⟨2, ![4096, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x2816, .bf16⟩
  | .hbm, ⟨2, _⟩ => ⟨S4096x22528, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1024x1408, .bf16⟩
  | .local _ .vmem, ⟨5, _⟩ => ⟨S1024x1408, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩
abbrev S8x4096x2816 : Shape := ⟨3, ![8, 4096, 2816]⟩
abbrev S4096x8x2816 : Shape := ⟨3, ![4096, 8, 2816]⟩
abbrev S4096x22528 : Shape := ⟨2, ![4096, 22528]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2816, .bf16⟩
  | .hbm, ⟨2, _⟩ => ⟨S4096x4096, .f32⟩
  | .hbm, ⟨3, _⟩ => ⟨S8x4096x2816, .f32⟩
  | .hbm, ⟨4, _⟩ => ⟨S4096x8x2816, .f32⟩
  | .hbm, ⟨5, _⟩ => ⟨S4096x22528, .f32⟩
  | .hbm, ⟨6, _⟩ => ⟨S4096x22528, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4096x11264 : Shape := ⟨2, ![4096, 11264]⟩
abbrev S11264x4096 : Shape := ⟨2, ![11264, 4096]⟩
abbrev S4096x4096 : Shape := ⟨2, ![4096, 4096]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x4096, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x11264 : Shape := ⟨2, ![4096, 11264]⟩
abbrev S11264x4096 : Shape := ⟨2, ![11264, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x11264, .f32⟩
  | .hbm, ⟨4, _⟩ => ⟨S11264x4096, .f32⟩
  | .hbm, ⟨5, _⟩ => ⟨S4096x4096, .f32⟩
  | .hbm, ⟨6, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x4096 : Shape := ⟨2, ![4096, 4096]⟩
abbrev S4096x17024 : Shape := ⟨2, ![4096, 17024]⟩
abbrev S4096x8704 : Shape := ⟨2, ![4096, 8704]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x17024, .bf16⟩
  | .hbm, ⟨2, _⟩ => ⟨S4096x8704, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x4096 : Shape := ⟨2, ![4096, 4096]⟩
abbrev S4096x17024 : Shape := ⟨2, ![4096, 17024]⟩
abbrev S4096x8704 : Shape := ⟨2, ![4096, 8704]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x17024, .bf16⟩
  | .hbm, ⟨2, _⟩ => ⟨S4096x4096, .f32⟩
  | .hbm, ⟨3, _⟩ => ⟨S4096x17024, .f32⟩
  | .hbm, ⟨4, _⟩ => ⟨S4096x17024, .f32⟩
  | .hbm, ⟨5, _⟩ => ⟨S4096x8704, .f32⟩
  | .hbm, ⟨6, _⟩ => ⟨S4096x8704, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S4096x4096 : Shape := ⟨2, ![4096, 4096]⟩
abbrev S4096x17024 : Shape := ⟨2, ![4096, 17024]⟩
abbrev S4096x8192 : Shape := ⟨2, ![4096, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x17024, .bf16⟩
  | .hbm, ⟨2, _⟩ => ⟨S4096x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi arg1 c17_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x4096 : Shape := ⟨2, ![4096, 4096]⟩
abbrev S4096x17024 : Shape := ⟨2, ![4096, 17024]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x17024, .bf16⟩
  | .hbm, ⟨2, _⟩ => ⟨S4096x4096, .f32⟩
  | .hbm, ⟨3, _⟩ => ⟨S4096x17024, .f32⟩
  | .hbm, ⟨4, _⟩ => ⟨S4096x17024, .f32⟩
  | .hbm, ⟨5, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x2048 : Shape := ⟨2, ![4096, 2048]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S4x2048x1024 : Shape := ⟨3, ![4, 2048, 1024]⟩
abbrev S4096x4x1024 : Shape := ⟨3, ![4096, 4, 1024]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S4x2048x1024, .f32⟩
  | .hbm, ⟨4, _⟩ => ⟨S4096x4x1024, .f32⟩
  | .hbm, ⟨5, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x2048 : Shape := ⟨2, ![4096, 2048]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S4x2048x1024 : Shape := ⟨3, ![4, 2048, 1024]⟩
abbrev S4096x4x1024 : Shape := ⟨3, ![4096, 4, 1024]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S4x2048x1024, .f32⟩
  | .hbm, ⟨4, _⟩ => ⟨S4096x4x1024, .f32⟩
  | .hbm, ⟨5, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4096x4096 : Shape := ⟨2, ![4096, 4096]⟩
abbrev S4096x17024 : Shape := ⟨2, ![4096, 17024]⟩
abbrev S4096x128 : Shape := ⟨2, ![4096, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x17024, .bf16⟩
  | .hbm, ⟨2, _⟩ => ⟨S4096x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c132_i32 : BitVec 32 := 132#32
  let v0 : BitVec 32 := Scalar.addi arg1 c132_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x4096 : Shape := ⟨2, ![4096, 4096]⟩
abbrev S4096x17024 : Shape := ⟨2, ![4096, 17024]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x17024, .bf16⟩
  | .hbm, ⟨2, _⟩ => ⟨S4096x4096, .f32⟩
  | .hbm, ⟨3, _⟩ => ⟨S4096x17024, .f32⟩
  | .hbm, ⟨4, _⟩ => ⟨S4096x17024, .f32⟩
  | .hbm, ⟨5, _⟩ => ⟨S4096x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S4096x4096 : Shape := ⟨2, ![4096, 4096]⟩
abbrev S4096x8192 : Shape := ⟨2, ![4096, 8192]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x8192, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .bf16⟩
  | .hbm, ⟨41, _⟩ => ⟨S4096x4096, .bf16⟩
  | .hbm, ⟨42, _⟩ => ⟨S4096x4096, .bf16⟩
  | .hbm, ⟨43, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel23.lean ====
abbrev S4096x11264 : Shape := ⟨2, ![4096, 11264]⟩
abbrev S4096x22528 : Shape := ⟨2, ![4096, 22528]⟩
abbrev S128x2816 : Shape := ⟨2, ![128, 2816]⟩
abbrev S128x5632 : Shape := ⟨2, ![128, 5632]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x22528, .bf16⟩
  | .hbm, ⟨2, _⟩ => ⟨S4096x22528, .bf16⟩
  | .local _ .vmem, ⟨0, _⟩ => ⟨S128x2816, .bf16⟩
  | .local _ .vmem, ⟨1, _⟩ => ⟨S128x2816, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .bf16⟩
  | .local _ .vmem, ⟨5, _⟩ => ⟨S128x5632, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S4096x11264 : Shape := ⟨2, ![4096, 11264]⟩
abbrev S4096x22528 : Shape := ⟨2, ![4096, 22528]⟩
abbrev S4096x4x2x2816 : Shape := ⟨4, ![4096, 4, 2, 2816]⟩
abbrev S4096x4x1x2816 : Shape := ⟨4, ![4096, 4, 1, 2816]⟩
abbrev S4096x4x2816 : Shape := ⟨3, ![4096, 4, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x22528, .bf16⟩
  | .hbm, ⟨2, _⟩ => ⟨S4096x22528, .f32⟩
  | .hbm, ⟨3, _⟩ => ⟨S4096x4x2x2816, .f32⟩
  | .hbm, ⟨4, _⟩ => ⟨S4096x4x1x2816, .f32⟩
  | .hbm, ⟨5, _⟩ => ⟨S4096x4x2816, .f32⟩
  | .hbm, ⟨6, _⟩ => ⟨S4096x4x2816, .f32⟩
  | .hbm, ⟨7, _⟩ => ⟨S4096x4x2816, .f32⟩
  | .hbm, ⟨8, _⟩ => ⟨S_, .f32⟩
  | .hbm, ⟨9, _⟩ => ⟨S4096x4x2816, .f32⟩
  | .hbm, ⟨10, _⟩ => ⟨S4096x4x2816, .f32⟩
  | .hbm, ⟨11, _⟩ => ⟨S_, .f32⟩
  | .hbm, ⟨12, _⟩ => ⟨S4096x4x2816, .f32⟩
  | .hbm, ⟨13, _⟩ => ⟨S4096x4x2816, .f32⟩
  | .hbm, ⟨14, _⟩ => ⟨S_, .f32⟩
  | .hbm, ⟨15, _⟩ => ⟨S4096x4x2816, .f32⟩
  | .hbm, ⟨16, _⟩ => ⟨S4096x4x2816, .f32⟩
  | .hbm, ⟨17, _⟩ => ⟨S4096x4x2816, .f32⟩
  | .hbm, ⟨18, _⟩ => ⟨S4096x4x2816, .f32⟩
  | .hbm, ⟨19, _⟩ => ⟨S4096x4x1x2816, .f32⟩
  | .hbm, ⟨20, _⟩ => ⟨S4096x4x2816, .f32⟩
  | .hbm, ⟨21, _⟩ => ⟨S4096x4x2816, .f32⟩
  | .hbm, ⟨22, _⟩ => ⟨S4096x11264, .f32⟩
  | .hbm, ⟨23, _⟩ => ⟨S4096x11264, .f32⟩
  | .hbm, ⟨24, _⟩ => ⟨S4096x4x2816, .f32⟩
  | .hbm, ⟨25, _⟩ => ⟨S4096x4x2816, .f32⟩
  | .hbm, ⟨26, _⟩ => ⟨S4096x4x2816, .f32⟩
  | .hbm, ⟨27, _⟩ => ⟨S4096x4x1x2816, .f32⟩
  | .hbm, ⟨28, _⟩ => ⟨S_, .f32⟩
  | .hbm, ⟨29, _⟩ => ⟨S4096x4x2x2816, .f32⟩
  | .hbm, ⟨30, _⟩ => ⟨S4096x4x2816, .f32⟩
  | .hbm, ⟨31, _⟩ => ⟨S4096x4x2816, .f32⟩
  | .hbm, ⟨32, _⟩ => ⟨S4096x4x2816, .f32⟩
  | .hbm, ⟨33, _⟩ => ⟨S4096x4x2816, .f32⟩
  | .hbm, ⟨34, _⟩ => ⟨S4096x4x1x2816, .f32⟩
  | .hbm, ⟨35, _⟩ => ⟨S_, .f32⟩
  | .hbm, ⟨36, _⟩ => ⟨S4096x4x2x2816, .f32⟩
  | .hbm, ⟨37, _⟩ => ⟨S4096x4x2x2816, .f32⟩
  | .hbm, ⟨38, _⟩ => ⟨S4096x22528, .f32⟩
  | .hbm, ⟨39, _⟩ => ⟨S4096x22528, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel24.lean ====
abbrev S4096x4096 : Shape := ⟨2, ![4096, 4096]⟩
abbrev S4096x8192 : Shape := ⟨2, ![4096, 8192]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference24Ideal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8192, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel25.lean ====
abbrev S4096x22528 : Shape := ⟨2, ![4096, 22528]⟩
abbrev S4096x11264 : Shape := ⟨2, ![4096, 11264]⟩
abbrev S128x5632 : Shape := ⟨2, ![128, 5632]⟩
abbrev S128x2816 : Shape := ⟨2, ![128, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x22528, .bf16⟩
  | .hbm, ⟨1, _⟩ => ⟨S4096x11264, .bf16⟩
  | .local _ .vmem, ⟨0, _⟩ => ⟨S128x5632, .bf16⟩
  | .local _ .vmem, ⟨1, _⟩ => ⟨S128x5632, .bf16⟩
  | .local _ .vmem, ⟨2, _⟩ => ⟨S128x2816, .bf16⟩
  | .local _ .vmem, ⟨3, _⟩ => ⟨S128x2816, .bf16⟩
  | _, _ => ⟨S4096x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference25Ideal.lean ====
abbrev S4096x22528 : Shape := ⟨2, ![4096, 22528]⟩
abbrev S4096x4x2x2816 : Shape := ⟨4, ![4096, 4, 2, 2816]⟩
abbrev S4096x4x1x2816 : Shape := ⟨4, ![4096, 4, 1, 2816]⟩
abbrev S4096x4x2816 : Shape := ⟨3, ![4096, 4, 2816]⟩
abbrev S_ : Shape := ⟨0, ![]⟩
abbrev S4096x11264 : Shape := ⟨2, ![4096, 11264]⟩

abbrev nBuf : Space → Nat
  | .hbm => 19
  | .vmem => 0
  | .smem => 0
  | _ => 0

abbrev bufTy : (tb : Table) → Fin (tcTables nBuf tb) → BufTy
  | .hbm, ⟨0, _⟩ => ⟨S4096x22528, .bf16⟩
  | .hbm, ⟨1, _⟩ => ⟨S4096x22528, .f32⟩
  | .hbm, ⟨2, _⟩ => ⟨S4096x4x2x2816, .f32⟩
  | .hbm, ⟨3, _⟩ => ⟨S4096x4x1x2816, .f32⟩
  | .hbm, ⟨4, _⟩ => ⟨S4096x4x2816, .f32⟩
  | .hbm, ⟨5, _⟩ => ⟨S4096x4x2816, .f32⟩
  | .hbm, ⟨6, _⟩ => ⟨S4096x4x2816, .f32⟩
  | .hbm, ⟨7, _⟩ => ⟨S_, .f32⟩
  | .hbm, ⟨8, _⟩ => ⟨S4096x4x2816, .f32⟩
  | .hbm, ⟨9, _⟩ => ⟨S4096x4x2816, .f32⟩
  | .hbm, ⟨10, _⟩ => ⟨S_, .f32⟩
  | .hbm, ⟨11, _⟩ => ⟨S4096x4x2816, .f32⟩
  | .hbm, ⟨12, _⟩ => ⟨S4096x4x2816, .f32⟩
  | .hbm, ⟨13, _⟩ => ⟨S4096x4x2816, .f32⟩
  | .hbm, ⟨14, _⟩ => ⟨S4096x4x1x2816, .f32⟩
  | .hbm, ⟨15, _⟩ => ⟨S4096x4x2816, .f32⟩
  | .hbm, ⟨16, _⟩ => ⟨S4096x4x2816, .f32⟩
  | .hbm, ⟨17, _⟩ => ⟨S4096x11264, .f32⟩
  | .hbm, ⟨18, _⟩ => ⟨S4096x11264, .bf16⟩
  | _, _ => ⟨S4096x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Kernel26.lean ====
abbrev S4096x4096 : Shape := ⟨2, ![4096, 4096]⟩
abbrev S1x4096 : Shape := ⟨2, ![1, 4096]⟩
abbrev S256x4096 : Shape := ⟨2, ![256, 4096]⟩
abbrev S8x4096 : Shape := ⟨2, ![8, 4096]⟩
abbrev S256 : Shape := ⟨1, ![256]⟩
abbrev S256x1 : Shape := ⟨2, ![256, 1]⟩
abbrev S32x8x4096 : Shape := ⟨3, ![32, 8, 4096]⟩
abbrev S4096 : Shape := ⟨1, ![4096]⟩

abbrev nBuf : Space → Nat
  | .hbm => 7
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | .local _ .vmem, ⟨12, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v41 : BitVec 1 := Scalar.cmpi .eq arg0 c15_i32
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference26Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel27.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel28.lean ====
abbrev S1x2752x4096 : Shape := ⟨3, ![1, 2752, 4096]⟩
abbrev S1x64x4096 : Shape := ⟨3, ![1, 64, 4096]⟩

abbrev nBuf : Space → Nat
  | .hbm => 7
  | .vmem => 14
  | .smem => 0
  | _ => 0

abbrev bufTy : (tb : Table) → Fin (tcTables nBuf tb) → BufTy
  | .hbm, ⟨0, _⟩ => ⟨S1x2752x4096, .f32⟩
  | .hbm, ⟨1, _⟩ => ⟨S1x2752x4096, .f32⟩
  | .hbm, ⟨2, _⟩ => ⟨S1x2752x4096, .f32⟩
  | .hbm, ⟨3, _⟩ => ⟨S1x2752x4096, .f32⟩
  | .hbm, ⟨4, _⟩ => ⟨S1x2752x4096, .f32⟩
  | .hbm, ⟨5, _⟩ => ⟨S1x2752x4096, .f32⟩
  | .hbm, ⟨6, _⟩ => ⟨S1x2752x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | .local _ .vmem, ⟨8, _⟩ => ⟨S1x64x4096, .f32⟩
  | .local _ .vmem, ⟨9, _⟩ => ⟨S1x64x4096, .f32⟩
  | .local _ .vmem, ⟨10, _⟩ => ⟨S1x64x4096, .f32⟩
  | .local _ .vmem, ⟨11, _⟩ => ⟨S1x64x4096, .f32⟩
  | .local _ .vmem, ⟨12, _⟩ => ⟨S1x64x4096, .f32⟩
  | .local _ .vmem, ⟨13, _⟩ => ⟨S1x64x4096, .f32⟩
  | _, _ => ⟨S1x2752x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 43], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference28Ideal.lean ====
abbrev S1x2752x4096 : Shape := ⟨3, ![1, 2752, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2752x4096, .f32⟩
  | .hbm, ⟨1, _⟩ => ⟨S1x2752x4096, .f32⟩
  | .hbm, ⟨2, _⟩ => ⟨S1x2752x4096, .f32⟩
  | .hbm, ⟨3, _⟩ => ⟨S1x2752x4096, .f32⟩
  | .hbm, ⟨4, _⟩ => ⟨S_, .f32⟩
  | .hbm, ⟨5, _⟩ => ⟨S1x2752x4096, .f32⟩
  | .hbm, ⟨6, _⟩ => ⟨S1x2752x4096, .f32⟩
  | .hbm, ⟨7, _⟩ => ⟨S_, .f32⟩
  | .hbm, ⟨8, _⟩ => ⟨S1x2752x4096, .f32⟩
  | .hbm, ⟨9, _⟩ => ⟨S1x2752x4096, .f32⟩
  | .hbm, ⟨10, _⟩ => ⟨S1x2752x4096, .f32⟩
  | .hbm, ⟨11, _⟩ => ⟨S_, .f32⟩
  | .hbm, ⟨12, _⟩ => ⟨S1x2752x4096, .f32⟩
  | .hbm, ⟨13, _⟩ => ⟨S1x2752x4096, .f32⟩
  | .hbm, ⟨14, _⟩ => ⟨S1x2752x4096, .f32⟩
  | .hbm, ⟨15, _⟩ => ⟨S_, .f32⟩
  | .hbm, ⟨16, _⟩ => ⟨S1x2752x4096, .f32⟩
  | .hbm, ⟨17, _⟩ => ⟨S1x2752x4096, .f32⟩
  | .hbm, ⟨18, _⟩ => ⟨S1x2752x4096, .f32⟩
  | .hbm, ⟨19, _⟩ => ⟨S_, .f32⟩
  | .hbm, ⟨20, _⟩ => ⟨S1x2752x4096, .f32⟩
  | .hbm, ⟨21, _⟩ => ⟨S1x2752x4096, .f32⟩
  | .hbm, ⟨22, _⟩ => ⟨S_, .f32⟩
  | .hbm, ⟨23, _⟩ => ⟨S1x2752x4096, .f32⟩
  | .hbm, ⟨24, _⟩ => ⟨S1x2752x4096, .f32⟩
  | .hbm, ⟨25, _⟩ => ⟨S1x2752x4096, .f32⟩
  | .hbm, ⟨26, _⟩ => ⟨S_, .f32⟩
  | .hbm, ⟨27, _⟩ => ⟨S1x2752x4096, .f32⟩
  | .hbm, ⟨28, _⟩ => ⟨S1x2752x4096, .f32⟩
  | .hbm, ⟨29, _⟩ => ⟨S1x2752x4096, .f32⟩
  | .hbm, ⟨30, _⟩ => ⟨S_, .f32⟩
  | .hbm, ⟨31, _⟩ => ⟨S1x2752x4096, .f32⟩
  | .hbm, ⟨32, _⟩ => ⟨S1x2752x4096, .f32⟩
  | .hbm, ⟨33, _⟩ => ⟨S1x2752x4096, .f32⟩
  | .hbm, ⟨34, _⟩ => ⟨S_, .f32⟩
  | .hbm, ⟨35, _⟩ => ⟨S1x2752x4096, .f32⟩
  | .hbm, ⟨36, _⟩ => ⟨S1x2752x4096, .f32⟩
  | _, _ => ⟨S1x2752x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S1x2048x1024 : Shape := ⟨3, ![1, 2048, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference29Ideal.lean ====
abbrev S1x2048x1024 : Shape := ⟨3, ![1, 2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048x1024, .f32⟩
  | .hbm, ⟨6, _⟩ => ⟨S1x2048x1024, .f32⟩
  | .hbm, ⟨7, _⟩ => ⟨S_, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S_, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1x1024x4096 : Shape := ⟨3, ![1, 1024, 4096]⟩
abbrev S1x64x4096 : Shape := ⟨3, ![1, 64, 4096]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x4096, .f32⟩
  | .hbm, ⟨1, _⟩ => ⟨S1x1024x4096, .f32⟩
  | .hbm, ⟨2, _⟩ => ⟨S1x1024x4096, .f32⟩
  | .hbm, ⟨3, _⟩ => ⟨S1x1024x4096, .f32⟩
  | .hbm, ⟨4, _⟩ => ⟨S1x1024x4096, .f32⟩
  | .hbm, ⟨5, _⟩ => ⟨S1x1024x4096, .f32⟩
  | .hbm, ⟨6, _⟩ => ⟨S1x1024x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | .local _ .vmem, ⟨8, _⟩ => ⟨S1x64x4096, .f32⟩
  | .local _ .vmem, ⟨9, _⟩ => ⟨S1x64x4096, .f32⟩
  | .local _ .vmem, ⟨10, _⟩ => ⟨S1x64x4096, .f32⟩
  | .local _ .vmem, ⟨11, _⟩ => ⟨S1x64x4096, .f32⟩
  | .local _ .vmem, ⟨12, _⟩ => ⟨S1x64x4096, .f32⟩
  | .local _ .vmem, ⟨13, _⟩ => ⟨S1x64x4096, .f32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference30Ideal.lean ====
abbrev S1x1024x4096 : Shape := ⟨3, ![1, 1024, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x4096, .f32⟩
  | .hbm, ⟨1, _⟩ => ⟨S1x1024x4096, .f32⟩
  | .hbm, ⟨2, _⟩ => ⟨S1x1024x4096, .f32⟩
  | .hbm, ⟨3, _⟩ => ⟨S1x1024x4096, .f32⟩
  | .hbm, ⟨4, _⟩ => ⟨S_, .f32⟩
  | .hbm, ⟨5, _⟩ => ⟨S1x1024x4096, .f32⟩
  | .hbm, ⟨6, _⟩ => ⟨S1x1024x4096, .f32⟩
  | .hbm, ⟨7, _⟩ => ⟨S_, .f32⟩
  | .hbm, ⟨8, _⟩ => ⟨S1x1024x4096, .f32⟩
  | .hbm, ⟨9, _⟩ => ⟨S1x1024x4096, .f32⟩
  | .hbm, ⟨10, _⟩ => ⟨S1x1024x4096, .f32⟩
  | .hbm, ⟨11, _⟩ => ⟨S_, .f32⟩
  | .hbm, ⟨12, _⟩ => ⟨S1x1024x4096, .f32⟩
  | .hbm, ⟨13, _⟩ => ⟨S1x1024x4096, .f32⟩
  | .hbm, ⟨14, _⟩ => ⟨S1x1024x4096, .f32⟩
  | .hbm, ⟨15, _⟩ => ⟨S_, .f32⟩
  | .hbm, ⟨16, _⟩ => ⟨S1x1024x4096, .f32⟩
  | .hbm, ⟨17, _⟩ => ⟨S1x1024x4096, .f32⟩
  | .hbm, ⟨18, _⟩ => ⟨S1x1024x4096, .f32⟩
  | .hbm, ⟨19, _⟩ => ⟨S_, .f32⟩
  | .hbm, ⟨20, _⟩ => ⟨S1x1024x4096, .f32⟩
  | .hbm, ⟨21, _⟩ => ⟨S1x1024x4096, .f32⟩
  | .hbm, ⟨22, _⟩ => ⟨S_, .f32⟩
  | .hbm, ⟨23, _⟩ => ⟨S1x1024x4096, .f32⟩
  | .hbm, ⟨24, _⟩ => ⟨S1x1024x4096, .f32⟩
  | .hbm, ⟨25, _⟩ => ⟨S1x1024x4096, .f32⟩
  | .hbm, ⟨26, _⟩ => ⟨S_, .f32⟩
  | .hbm, ⟨27, _⟩ => ⟨S1x1024x4096, .f32⟩
  | .hbm, ⟨28, _⟩ => ⟨S1x1024x4096, .f32⟩
  | .hbm, ⟨29, _⟩ => ⟨S1x1024x4096, .f32⟩
  | .hbm, ⟨30, _⟩ => ⟨S_, .f32⟩
  | .hbm, ⟨31, _⟩ => ⟨S1x1024x4096, .f32⟩
  | .hbm, ⟨32, _⟩ => ⟨S1x1024x4096, .f32⟩
  | .hbm, ⟨33, _⟩ => ⟨S1x1024x4096, .f32⟩
  | .hbm, ⟨34, _⟩ => ⟨S_, .f32⟩
  | .hbm, ⟨35, _⟩ => ⟨S1x1024x4096, .f32⟩
  | .hbm, ⟨36, _⟩ => ⟨S1x1024x4096, .f32⟩
  | _, _ => ⟨S1x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S4228x32x128 : Shape := ⟨3, ![4228, 32, 128]⟩
abbrev S28x32x128 : Shape := ⟨3, ![28, 32, 128]⟩

abbrev nBuf : Space → Nat
  | .hbm => 7
  | .vmem => 14
  | .smem => 0
  | _ => 0

abbrev bufTy : (tb : Table) → Fin (tcTables nBuf tb) → BufTy
  | .hbm, ⟨0, _⟩ => ⟨S4228x32x128, .f32⟩
  | .hbm, ⟨1, _⟩ => ⟨S4228x32x128, .f32⟩
  | .hbm, ⟨2, _⟩ => ⟨S4228x32x128, .f32⟩
  | .hbm, ⟨3, _⟩ => ⟨S4228x32x128, .f32⟩
  | .hbm, ⟨4, _⟩ => ⟨S4228x32x128, .f32⟩
  | .hbm, ⟨5, _⟩ => ⟨S4228x32x128, .f32⟩
  | .hbm, ⟨6, _⟩ => ⟨S4228x32x128, .f32⟩
  | .local _ .vmem, ⟨0, _⟩ => ⟨S28x32x128, .f32⟩
  | .local _ .vmem, ⟨1, _⟩ => ⟨S28x32x128, .f32⟩
  | .local _ .vmem, ⟨2, _⟩ => ⟨S28x32x128, .f32⟩
  | .local _ .vmem, ⟨3, _⟩ => ⟨S28x32x128, .f32⟩
  | .local _ .vmem, ⟨4, _⟩ => ⟨S28x32x128, .f32⟩
  | .local _ .vmem, ⟨5, _⟩ => ⟨S28x32x128, .f32⟩
  | .local _ .vmem, ⟨6, _⟩ => ⟨S28x32x128, .f32⟩
  | .local _ .vmem, ⟨7, _⟩ => ⟨S28x32x128, .f32⟩
  | .local _ .vmem, ⟨8, _⟩ => ⟨S28x32x128, .f32⟩
  | .local _ .vmem, ⟨9, _⟩ => ⟨S28x32x128, .f32⟩
  | .local _ .vmem, ⟨10, _⟩ => ⟨S28x32x128, .f32⟩
  | .local _ .vmem, ⟨11, _⟩ => ⟨S28x32x128, .f32⟩
  | .local _ .vmem, ⟨12, _⟩ => ⟨S28x32x128, .f32⟩
  | .local _ .vmem, ⟨13, _⟩ => ⟨S28x32x128, .f32⟩
  | _, _ => ⟨S4228x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![151, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S28x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S28x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S28x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S28x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S28x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S28x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S28x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference31Ideal.lean ====
abbrev S4228x32x128 : Shape := ⟨3, ![4228, 32, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4228x32x128, .f32⟩
  | .hbm, ⟨1, _⟩ => ⟨S4228x32x128, .f32⟩
  | .hbm, ⟨2, _⟩ => ⟨S4228x32x128, .f32⟩
  | .hbm, ⟨3, _⟩ => ⟨S4228x32x128, .f32⟩
  | .hbm, ⟨4, _⟩ => ⟨S_, .f32⟩
  | .hbm, ⟨5, _⟩ => ⟨S4228x32x128, .f32⟩
  | .hbm, ⟨6, _⟩ => ⟨S4228x32x128, .f32⟩
  | .hbm, ⟨7, _⟩ => ⟨S_, .f32⟩
  | .hbm, ⟨8, _⟩ => ⟨S4228x32x128, .f32⟩
  | .hbm, ⟨9, _⟩ => ⟨S4228x32x128, .f32⟩
  | .hbm, ⟨10, _⟩ => ⟨S4228x32x128, .f32⟩
  | .hbm, ⟨11, _⟩ => ⟨S_, .f32⟩
  | .hbm, ⟨12, _⟩ => ⟨S4228x32x128, .f32⟩
  | .hbm, ⟨13, _⟩ => ⟨S4228x32x128, .f32⟩
  | .hbm, ⟨14, _⟩ => ⟨S4228x32x128, .f32⟩
  | .hbm, ⟨15, _⟩ => ⟨S_, .f32⟩
  | .hbm, ⟨16, _⟩ => ⟨S4228x32x128, .f32⟩
  | .hbm, ⟨17, _⟩ => ⟨S4228x32x128, .f32⟩
  | .hbm, ⟨18, _⟩ => ⟨S4228x32x128, .f32⟩
  | .hbm, ⟨19, _⟩ => ⟨S_, .f32⟩
  | .hbm, ⟨20, _⟩ => ⟨S4228x32x128, .f32⟩
  | .hbm, ⟨21, _⟩ => ⟨S4228x32x128, .f32⟩
  | .hbm, ⟨22, _⟩ => ⟨S_, .f32⟩
  | .hbm, ⟨23, _⟩ => ⟨S4228x32x128, .f32⟩
  | .hbm, ⟨24, _⟩ => ⟨S4228x32x128, .f32⟩
  | .hbm, ⟨25, _⟩ => ⟨S4228x32x128, .f32⟩
  | .hbm, ⟨26, _⟩ => ⟨S_, .f32⟩
  | .hbm, ⟨27, _⟩ => ⟨S4228x32x128, .f32⟩
  | .hbm, ⟨28, _⟩ => ⟨S4228x32x128, .f32⟩
  | .hbm, ⟨29, _⟩ => ⟨S4228x32x128, .f32⟩
  | .hbm, ⟨30, _⟩ => ⟨S_, .f32⟩
  | .hbm, ⟨31, _⟩ => ⟨S4228x32x128, .f32⟩
  | .hbm, ⟨32, _⟩ => ⟨S4228x32x128, .f32⟩
  | .hbm, ⟨33, _⟩ => ⟨S4228x32x128, .f32⟩
  | .hbm, ⟨34, _⟩ => ⟨S_, .f32⟩
  | .hbm, ⟨35, _⟩ => ⟨S4228x32x128, .f32⟩
  | .hbm, ⟨36, _⟩ => ⟨S4228x32x128, .f32⟩
  | _, _ => ⟨S4228x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S1x16x4096 : Shape := ⟨3, ![1, 16, 4096]⟩

abbrev nBuf : Space → Nat
  | .hbm => 7
  | .vmem => 7
  | .smem => 0
  | _ => 0

abbrev bufTy : (tb : Table) → Fin (tcTables nBuf tb) → BufTy
  | .hbm, ⟨0, _⟩ => ⟨S1x16x4096, .f32⟩
  | .hbm, ⟨1, _⟩ => ⟨S1x16x4096, .f32⟩
  | .hbm, ⟨2, _⟩ => ⟨S1x16x4096, .f32⟩
  | .hbm, ⟨3, _⟩ => ⟨S1x16x4096, .f32⟩
  | .hbm, ⟨4, _⟩ => ⟨S1x16x4096, .f32⟩
  | .hbm, ⟨5, _⟩ => ⟨S1x16x4096, .f32⟩
  | .hbm, ⟨6, _⟩ => ⟨S1x16x4096, .f32⟩
  | .local _ .vmem, ⟨0, _⟩ => ⟨S1x16x4096, .f32⟩
  | .local _ .vmem, ⟨1, _⟩ => ⟨S1x16x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x16x4096, .f32⟩
  | .local _ .vmem, ⟨5, _⟩ => ⟨S1x16x4096, .f32⟩
  | .local _ .vmem, ⟨6, _⟩ => ⟨S1x16x4096, .f32⟩
  | _, _ => ⟨S1x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference32Ideal.lean ====
abbrev S1x16x4096 : Shape := ⟨3, ![1, 16, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16x4096, .f32⟩
  | .hbm, ⟨1, _⟩ => ⟨S1x16x4096, .f32⟩
  | .hbm, ⟨2, _⟩ => ⟨S1x16x4096, .f32⟩
  | .hbm, ⟨3, _⟩ => ⟨S1x16x4096, .f32⟩
  | .hbm, ⟨4, _⟩ => ⟨S_, .f32⟩
  | .hbm, ⟨5, _⟩ => ⟨S1x16x4096, .f32⟩
  | .hbm, ⟨6, _⟩ => ⟨S1x16x4096, .f32⟩
  | .hbm, ⟨7, _⟩ => ⟨S_, .f32⟩
  | .hbm, ⟨8, _⟩ => ⟨S1x16x4096, .f32⟩
  | .hbm, ⟨9, _⟩ => ⟨S1x16x4096, .f32⟩
  | .hbm, ⟨10, _⟩ => ⟨S1x16x4096, .f32⟩
  | .hbm, ⟨11, _⟩ => ⟨S_, .f32⟩
  | .hbm, ⟨12, _⟩ => ⟨S1x16x4096, .f32⟩
  | .hbm, ⟨13, _⟩ => ⟨S1x16x4096, .f32⟩
  | .hbm, ⟨14, _⟩ => ⟨S1x16x4096, .f32⟩
  | .hbm, ⟨15, _⟩ => ⟨S_, .f32⟩
  | .hbm, ⟨16, _⟩ => ⟨S1x16x4096, .f32⟩
  | .hbm, ⟨17, _⟩ => ⟨S1x16x4096, .f32⟩
  | .hbm, ⟨18, _⟩ => ⟨S1x16x4096, .f32⟩
  | .hbm, ⟨19, _⟩ => ⟨S_, .f32⟩
  | .hbm, ⟨20, _⟩ => ⟨S1x16x4096, .f32⟩
  | .hbm, ⟨21, _⟩ => ⟨S1x16x4096, .f32⟩
  | .hbm, ⟨22, _⟩ => ⟨S_, .f32⟩
  | .hbm, ⟨23, _⟩ => ⟨S1x16x4096, .f32⟩
  | .hbm, ⟨24, _⟩ => ⟨S1x16x4096, .f32⟩
  | .hbm, ⟨25, _⟩ => ⟨S1x16x4096, .f32⟩
  | .hbm, ⟨26, _⟩ => ⟨S_, .f32⟩
  | .hbm, ⟨27, _⟩ => ⟨S1x16x4096, .f32⟩
  | .hbm, ⟨28, _⟩ => ⟨S1x16x4096, .f32⟩
  | .hbm, ⟨29, _⟩ => ⟨S1x16x4096, .f32⟩
  | .hbm, ⟨30, _⟩ => ⟨S_, .f32⟩
  | .hbm, ⟨31, _⟩ => ⟨S1x16x4096, .f32⟩
  | .hbm, ⟨32, _⟩ => ⟨S1x16x4096, .f32⟩
  | .hbm, ⟨33, _⟩ => ⟨S1x16x4096, .f32⟩
  | .hbm, ⟨34, _⟩ => ⟨S_, .f32⟩
  | .hbm, ⟨35, _⟩ => ⟨S1x16x4096, .f32⟩
  | .hbm, ⟨36, _⟩ => ⟨S1x16x4096, .f32⟩
  | _, _ => ⟨S1x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4096x128 : Shape := ⟨2, ![4096, 128]⟩
abbrev S1x128 : Shape := ⟨2, ![1, 128]⟩
abbrev S512x128 : Shape := ⟨2, ![512, 128]⟩
abbrev S8x128 : Shape := ⟨2, ![8, 128]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S4096x128 : Shape := ⟨2, ![4096, 128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S_, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .i1⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S_, .f32⟩
  | .hbm, ⟨22, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_cst : Ref sig .tc := ⟨.hbm, 20, rfl⟩
abbrev main_call1_v0 : Ref sig .tc := ⟨.hbm, 21, rfl⟩
abbrev main_v3 : Ref sig .tc := ⟨.hbm, 22, rfl⟩

abbrev nD : Nat := 1
abbrev τ : Topo := Topo.v7x

variable {F : FTy → Type} [FloatOps F]
-- ==== Kernel34.lean ====
abbrev S4096x128 : Shape := ⟨2, ![4096, 128]⟩
abbrev S1x128 : Shape := ⟨2, ![1, 128]⟩
abbrev S512x128 : Shape := ⟨2, ![512, 128]⟩
abbrev S8x128 : Shape := ⟨2, ![8, 128]⟩
abbrev S512x512 : Shape := ⟨2, ![512, 512]⟩
abbrev S64x8x128 : Shape := ⟨3, ![64, 8, 128]⟩
abbrev S128 : Shape := ⟨1, ![128]⟩

abbrev nBuf : Space → Nat
  | .hbm => 5
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S1x128, .f32⟩
  | .hbm, ⟨3, _⟩ => ⟨S4096x128, .bf16⟩
  | .hbm, ⟨4, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | .local _ .vmem, ⟨7, _⟩ => ⟨S1x128, .f32⟩
  | .local _ .vmem, ⟨8, _⟩ => ⟨S8x128, .f32⟩
  | .local _ .vmem, ⟨9, _⟩ => ⟨S8x128, .f32⟩
  | .local _ .vmem, ⟨10, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference34Ideal.lean ====
abbrev S4096x128 : Shape := ⟨2, ![4096, 128]⟩
abbrev S1x128 : Shape := ⟨2, ![1, 128]⟩
abbrev S_ : Shape := ⟨0, ![]⟩
abbrev S128 : Shape := ⟨1, ![128]⟩

abbrev nBuf : Space → Nat
  | .hbm => 66
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .i1⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S4096x128, .f32⟩
  | .hbm, ⟨22, _⟩ => ⟨S4096x128, .i1⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .i1⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x128, .f32⟩
  | .hbm, ⟨42, _⟩ => ⟨S4096x128, .i1⟩
  | .hbm, ⟨43, _⟩ => ⟨S_, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S_, .f32⟩
  | .hbm, ⟨50, _⟩ => ⟨S4096x128, .f32⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S_, .f32⟩
  | .hbm, ⟨55, _⟩ => ⟨S4096x128, .f32⟩
  | .hbm, ⟨56, _⟩ => ⟨S_, .f32⟩
  | .hbm, ⟨57, _⟩ => ⟨S_, .f32⟩
  | .hbm, ⟨58, _⟩ => ⟨S4096x128, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S4096x128, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_cst : Ref sig .tc := ⟨.hbm, 53, rfl⟩
abbrev main_call1_v0 : Ref sig .tc := ⟨.hbm, 54, rfl⟩
abbrev main_v3 : Ref sig .tc := ⟨.hbm, 55, rfl⟩
abbrev main_call2_cst : Ref sig .tc := ⟨.hbm, 56, rfl⟩
abbrev main_call2_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩

abbrev nD : Nat := 1
abbrev τ : Topo := Topo.v7x

variable {F : FTy → Type} [FloatOps F]
-- ==== Proof.Coe.lean ====
/-
  Real numbers inside the extended reals: sums, quotients and maxima of real values are real values. The value claims
  are about finite arguments, so both sides are read as real numbers and compared there.
-/
module

public import Idealize.ShloMosaic.Lib.Pointwise

@[expose] public section

noncomputable section

namespace Cert.Coe

open Idealize.ShloMosaic
open scoped BigOperators

/-- A finite sum of real values is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real values by one that is not zero is the real quotient. -/
theorem div_coe (a b : ℝ) (hb : b ≠ 0) : Ideal.div (a : EReal) (b : EReal) = ((a / b : ℝ) : EReal) := by
  unfold Ideal.div
  rw [if_neg (by simpa using hb), div_eq_mul_inv, EReal.coe_mul, EReal.coe_inv]

/-- The logarithm of a positive real value is the real logarithm. -/
theorem log_coe (a : ℝ) (ha : 0 < a) : Ideal.log (a : EReal) = ((Real.log a : ℝ) : EReal) := by
  show (if a ≤ 0 then (⊥ : EReal) else (Real.log a : EReal)) = _
  rw [if_neg (not_le.mpr ha)]

/-- A maximum from `⊥` of values below `⊤`, one of them above `⊥`, is a real value. -/
theorem fold_max_coe {ι : Type} [Fintype ι] (f : ι → EReal) (ht : ∀ i, f i ≠ ⊤) (i₀ : ι) (hb : f i₀ ≠ ⊥) :
    ∃ M : ℝ, Finset.univ.fold max (⊥ : EReal) f = (M : EReal) := by
  have h1 : Finset.univ.fold max (⊥ : EReal) f ≠ ⊤ := by
    intro h
    have : (⊤ : EReal) ≤ Finset.univ.fold max (⊥ : EReal) f := h.ge
    rw [Finset.le_fold_max] at this
    rcases this with h | ⟨i, -, h⟩
    · exact absurd h (by simp)
    · exact ht i (top_le_iff.mp h)
  have h2 : Finset.univ.fold max (⊥ : EReal) f ≠ ⊥ := by
    intro h
    have : f i₀ ≤ Finset.univ.fold max (⊥ : EReal) f := by
      rw [Finset.le_fold_max]; exact Or.inr ⟨i₀, Finset.mem_univ _, le_rfl⟩
    rw [h] at this
    exact hb (le_bot_iff.mp this)
  exact ⟨_, (EReal.coe_toReal h1 h2).symm⟩

/-- An extended real whose absolute value is below `⊤` is a real number. -/
theorem coe_of_abs_lt (x : EReal) (h1 : x ≠ ⊤) (h2 : x ≠ ⊥) : ∃ r : ℝ, x = (r : EReal) := ⟨_, (EReal.coe_toReal h1 h2).symm⟩

/-- The word of minus infinity. -/
theorem negInf : Ideal.ofBits .f32 0xFF800000#32 = ⊥ := by simp [Ideal.ofBits, Ideal.ieee]

/-- The word of plus infinity. -/
theorem posInf : Ideal.ofBits .f32 0x7F800000#32 = ⊤ := by simp [Ideal.ofBits, Ideal.ieee]

/-- The word of the scores' scale, `128 ^ (-1/2)` in binary32, is a real number. -/
theorem scale_real : ∃ r : ℝ, Ideal.ofBits .f32 0x3DB504F3#32 = (r : EReal) := by
  refine ⟨11863283 * 2 ^ (123 - 127 - 23 : ℤ), ?_⟩
  simp [Ideal.ofBits, Ideal.ieee, -EReal.coe_mul]

/-- That number. -/
def scale : ℝ := scale_real.choose

theorem scale_coe : Ideal.ofBits .f32 0x3DB504F3#32 = (scale : EReal) := scale_real.choose_spec

end Cert.Coe

end
-- ==== Proof.Attn.lean ====
/-
  One head of the forgetting attention over the real numbers: the probabilities from the running maximum or from the
  logarithm of the denominator, the gradient of the scores in the two forms that meet here, and the sums over all
  queries cut into four tiles.
-/
module

public import proofs.«01_k».proof.Proof.Coe

@[expose] public section

noncomputable section

namespace Cert.Attn

open scoped BigOperators

variable {n : ℕ} (S : Fin n → Fin n → ℝ) (M : Fin n → ℝ) (dp : Fin n → Fin n → ℝ)

/-- The unnormalised weight of key `k` for query `q`: zero above the diagonal. -/
def wt (q k : Fin n) : ℝ := if k ≤ q then Real.exp (S q k - M q) else 0

/-- The denominator of query `q`. -/
def den (q : Fin n) : ℝ := ∑ k, wt S M q k

theorem den_eq (q : Fin n) : ∑ k, wt S M q k = den S M q := rfl

/-- The probability of key `k` for query `q`. -/
def prob (q k : Fin n) : ℝ := wt S M q k / den S M q

/-- The logarithm of the denominator, the maximum put back. -/
def lse (q : Fin n) : ℝ := M q + Real.log (den S M q)

/-- The sum over the keys of the probabilities times their cotangents. -/
def delta (q : Fin n) : ℝ := ∑ k, prob S M q k * dp q k

/-- The gradient of the score of query `q` and key `k`. -/
def ds (q k : Fin n) : ℝ := prob S M q k * (dp q k - delta S M dp q)

theorem wt_nonneg (q k : Fin n) : 0 ≤ wt S M q k := by
  unfold wt; split
  · exact (Real.exp_pos _).le
  · exact le_rfl

theorem den_pos (q : Fin n) : 0 < den S M q := by
  refine Finset.sum_pos' (fun k _ => wt_nonneg S M q k) ⟨q, Finset.mem_univ _, ?_⟩
  unfold wt; rw [if_pos le_rfl]; exact Real.exp_pos _

/-- Below the diagonal the exponential of the score minus the logarithm of the denominator is the probability. -/
theorem exp_sub_lse (q k : Fin n) (h : k ≤ q) : Real.exp (S q k - lse S M q) = prob S M q k := by
  unfold lse prob
  rw [← sub_sub, Real.exp_sub, Real.exp_log (den_pos S M q), wt, if_pos h]

/-- Above the diagonal the probability is zero. -/
theorem prob_of_not_le (q k : Fin n) (h : ¬k ≤ q) : prob S M q k = 0 := by
  unfold prob wt; rw [if_neg h, zero_div]

theorem ds_of_not_le (q k : Fin n) (h : ¬k ≤ q) : ds S M dp q k = 0 := by
  unfold ds; rw [prob_of_not_le S M q k h, zero_mul]

/-- The probabilities of a query add up to one. -/
theorem sum_prob (q : Fin n) : ∑ k, prob S M q k = 1 := by
  unfold prob; rw [← Finset.sum_div]; exact div_self (den_pos S M q).ne'

/-- The gradients of the scores of a query add up to zero. -/
theorem sum_ds (q : Fin n) : ∑ k, ds S M dp q k = 0 := by
  unfold ds
  simp only [mul_sub, Finset.sum_sub_distrib, ← Finset.sum_mul, sum_prob, one_mul]
  exact sub_self _

/-- The gradient of the score as differentiating `weight / denominator` writes it. -/
theorem ds_of_quotient (q k : Fin n) :
    (if k ≤ q then (dp q k / den S M q + -∑ j, dp q j * (1 / (den S M q * den S M q)) * wt S M q j) * wt S M q k else 0)
      = ds S M dp q k := by
  by_cases h : k ≤ q
  · rw [if_pos h]
    have hd := (den_pos S M q).ne'
    have e : ∑ j, dp q j * (1 / (den S M q * den S M q)) * wt S M q j = delta S M dp q / den S M q := by
      unfold delta prob
      rw [Finset.sum_div]
      refine Finset.sum_congr rfl fun j _ => ?_
      field_simp
    rw [e]
    unfold ds prob
    field_simp
    ring
  · rw [if_neg h, ds_of_not_le S M dp q k h]

/-! ## Tiles -/

/-- Element `r` of tile `i` of four tiles of 1024. -/
abbrev at4 (i : Fin 4) (r : Fin 1024) : Fin 4096 := ⟨1024 * i.val + r.val, by omega⟩

/-- A sum over 4096 elements is the sum over the four tiles. -/
theorem sum_tiles (f : Fin 4096 → ℝ) : ∑ q, f q = ∑ i : Fin 4, ∑ r : Fin 1024, f (at4 i r) := by
  rw [← Fintype.sum_prod_type', ← Equiv.sum_comp (finProdFinEquiv (m := 4) (n := 1024))]
  refine Finset.sum_congr rfl fun p _ => congrArg f (Fin.ext ?_)
  simp only [finProdFinEquiv_apply_val]
  omega

end Cert.Attn

end
-- ==== Proof.Args.lean ====
/-
  The real numbers that finite arguments hold, head by head, and what the attention and its gradient are over them.
-/
module

public import proofs.«01_k».proof.Proof.Attn

@[expose] public section

noncomputable section

namespace Cert.Args

open Cert.Coe
open scoped BigOperators

/-- The numbers of all heads: queries, keys, values, the output's cotangent, the cumulative log of the forget gate. -/
structure Reals where
  q : Fin 16 → Fin 4096 → Fin 128 → ℝ
  k : Fin 16 → Fin 4096 → Fin 128 → ℝ
  v : Fin 16 → Fin 4096 → Fin 128 → ℝ
  d : Fin 16 → Fin 4096 → Fin 128 → ℝ
  c : Fin 16 → Fin 4096 → ℝ

/-- The three argument arrays hold these numbers: `q`, `k` and `v` are stretches of 2048 columns of the first. -/
structure Reals.Of (R : Reals) (A0 : Fin 4096 → Fin 8704 → EReal) (A1 : Fin 4096 → Fin 2048 → EReal)
    (A2 : Fin 4096 → Fin 16 → EReal) : Prop where
  q : ∀ (h : Fin 16) s (x : Fin 128) p, A0 s ⟨h.val * 128 + x.val, p⟩ = ((R.q h s x : ℝ) : EReal)
  k : ∀ (h : Fin 16) s (x : Fin 128) p, A0 s ⟨2048 + (h.val * 128 + x.val), p⟩ = ((R.k h s x : ℝ) : EReal)
  v : ∀ (h : Fin 16) s (x : Fin 128) p, A0 s ⟨4096 + (h.val * 128 + x.val), p⟩ = ((R.v h s x : ℝ) : EReal)
  d : ∀ (h : Fin 16) s (x : Fin 128) p, A1 s ⟨h.val * 128 + x.val, p⟩ = ((R.d h s x : ℝ) : EReal)
  c : ∀ (h : Fin 16) s, A2 s h = ((R.c h s : ℝ) : EReal)

/-- Arrays without infinities hold real numbers. -/
theorem exists_of (A0 : Fin 4096 → Fin 8704 → EReal) (A1 : Fin 4096 → Fin 2048 → EReal) (A2 : Fin 4096 → Fin 16 → EReal)
    (h0 : ∀ i j, A0 i j ≠ ⊤ ∧ A0 i j ≠ ⊥) (h1 : ∀ i j, A1 i j ≠ ⊤ ∧ A1 i j ≠ ⊥) (h2 : ∀ i j, A2 i j ≠ ⊤ ∧ A2 i j ≠ ⊥) :
    ∃ R : Reals, R.Of A0 A1 A2 :=
  ⟨{ q := fun h s x => (A0 s ⟨h.val * 128 + x.val, by omega⟩).toReal
     k := fun h s x => (A0 s ⟨2048 + (h.val * 128 + x.val), by omega⟩).toReal
     v := fun h s x => (A0 s ⟨4096 + (h.val * 128 + x.val), by omega⟩).toReal
     d := fun h s x => (A1 s ⟨h.val * 128 + x.val, by omega⟩).toReal
     c := fun h s => (A2 s h).toReal },
   { q := fun _ _ _ _ => (EReal.coe_toReal (h0 _ _).1 (h0 _ _).2).symm
     k := fun _ _ _ _ => (EReal.coe_toReal (h0 _ _).1 (h0 _ _).2).symm
     v := fun _ _ _ _ => (EReal.coe_toReal (h0 _ _).1 (h0 _ _).2).symm
     d := fun _ _ _ _ => (EReal.coe_toReal (h1 _ _).1 (h1 _ _).2).symm
     c := fun _ _ => (EReal.coe_toReal (h2 _ _).1 (h2 _ _).2).symm }⟩

namespace Reals

variable (R : Reals)

/-- The score of query `q` and key `k`. -/
def S (h : Fin 16) (q k : Fin 4096) : ℝ := (∑ x, R.q h q x * R.k h k x) * scale + R.c h q - R.c h k

/-- The masked score, `⊥` above the diagonal. -/
def masked (h : Fin 16) (q k : Fin 4096) : EReal := if k ≤ q then ((R.S h q k : ℝ) : EReal) else ⊥

theorem exists_max (h : Fin 16) (q : Fin 4096) : ∃ M : ℝ, Finset.univ.fold max (⊥ : EReal) (R.masked h q) = (M : EReal) := by
  refine fold_max_coe _ (fun k => ?_) q ?_
  · unfold masked; split
    · exact EReal.coe_ne_top _
    · exact bot_ne_top
  · unfold masked; rw [if_pos le_rfl]; exact EReal.coe_ne_bot _

/-- The largest score of query `q`. -/
def M (h : Fin 16) (q : Fin 4096) : ℝ := (R.exists_max h q).choose

theorem M_eq (h : Fin 16) (q : Fin 4096) : Finset.univ.fold max (⊥ : EReal) (R.masked h q) = ((R.M h q : ℝ) : EReal) :=
  (R.exists_max h q).choose_spec

/-- The cotangent of the probability of key `k` for query `q`. -/
def dp (h : Fin 16) (q k : Fin 4096) : ℝ := ∑ x, R.d h q x * R.v h k x

/-- The probability, the logarithm of the denominator, and the product of output and cotangent. -/
def P (h : Fin 16) (q k : Fin 4096) : ℝ := Attn.prob (R.S h) (R.M h) q k
def L (h : Fin 16) (q : Fin 4096) : ℝ := Attn.lse (R.S h) (R.M h) q
def D (h : Fin 16) (q : Fin 4096) : ℝ := Attn.delta (R.S h) (R.M h) (R.dp h) q

/-- The gradient of the score. -/
def G (h : Fin 16) (q k : Fin 4096) : ℝ := Attn.ds (R.S h) (R.M h) (R.dp h) q k

/-- The gradients of the keys, of the values and of the cumulative gate. -/
def dk (h : Fin 16) (k : Fin 4096) (x : Fin 128) : ℝ := (∑ q, R.G h q k * R.q h q x) * scale
def dv (h : Fin 16) (k : Fin 4096) (x : Fin 128) : ℝ := ∑ q, R.P h q k * R.d h q x
def dc (h : Fin 16) (k : Fin 4096) : ℝ := -∑ q, R.G h q k

/-- The exponential of a masked score from the maximum is the weight. -/
theorem exp_masked (h : Fin 16) (q k : Fin 4096) :
    Idealize.ShloMosaic.Ideal.exp (R.masked h q k - ((R.M h q : ℝ) : EReal)) = ((Attn.wt (R.S h) (R.M h) q k : ℝ) : EReal) := by
  unfold masked Attn.wt
  split
  · rw [← EReal.coe_sub]; rfl
  · rw [EReal.bot_sub]; simp

/-- The exponential of a masked score from the logarithm of the denominator is the probability. -/
theorem exp_masked_lse (h : Fin 16) (q k : Fin 4096) :
    Idealize.ShloMosaic.Ideal.exp (R.masked h q k - ((R.L h q : ℝ) : EReal)) = ((R.P h q k : ℝ) : EReal) := by
  unfold masked P L
  by_cases hk : k ≤ q
  · rw [if_pos hk, ← EReal.coe_sub, ← Attn.exp_sub_lse _ _ _ _ hk]; rfl
  · rw [if_neg hk, EReal.bot_sub, Attn.prob_of_not_le _ _ _ _ hk]; simp

end Reals

/-- The signed comparison of two positions below 4096 as 32-bit words. -/
theorem sle_word {n : ℕ} (hn : n ≤ 4096) (a b : Fin n) :
    Idealize.ShloMosaic.IntOp.cmpi .sle (BitVec.ofNat 32 a.val) (BitVec.ofNat 32 b.val) = (if a ≤ b then 1#1 else 0#1) := by
  have h1 : (BitVec.ofNat 32 a.val).toInt = a.val := by
    rw [BitVec.toInt_eq_toNat_of_lt] <;> simp only [BitVec.toNat_ofNat] <;> omega
  have h2 : (BitVec.ofNat 32 b.val).toInt = b.val := by
    rw [BitVec.toInt_eq_toNat_of_lt] <;> simp only [BitVec.toNat_ofNat] <;> omega
  unfold Idealize.ShloMosaic.IntOp.cmpi
  simp only [BitVec.sle, h1, h2, Fin.le_def, Nat.cast_le]
  by_cases hle : a.val ≤ b.val <;> simp [hle]

end Cert.Args

end
-- ==== Proof.Finite.lean ====
/-
  The precondition read back: no element of an argument is infinite.
-/
module

public import proofs.«01_k».proof.Proof.Args
public import proofs.«01_k».proof.Pre_finite
public import Idealize.ShloMosaic.Lib.ReduceAll

@[expose] public section

noncomputable section

open Idealize.ShloMosaic

namespace Cert.Pre_finite

/-- The shape relations of the precondition's operations. -/
theorem facts : Facts where
  bitsLt_bf16_f32 := by decide
  bcast_S_S4096x8704 := by decide
  reducesTo_S4096x8704_S_d0_1 := by decide
  h_S_ := by decide
  bcast_S_S4096x2048 := by decide
  reducesTo_S4096x2048_S_d0_1 := by decide
  bcast_S_S4096x16 := by decide
  reducesTo_S4096x16_S_d0_1 := by decide

instance : Subsingleton S_.Idx := ⟨fun a b => funext fun d => d.elim0⟩

theorem inf_top : Ideal.ofBits .f32 0x7F800000#32 = (⊤ : EReal) := by simp [Ideal.ofBits, Ideal.ieee]

/-- An element whose absolute value is below infinity is a real number. -/
theorem finite_of_abs (a : EReal) (h : Ideal.cmp .olt (max a (-a)) (Ideal.ofBits .f32 0x7F800000#32) = 1#1) : a ≠ ⊤ ∧ a ≠ ⊥ := by
  rw [inf_top] at h
  constructor
  · rintro rfl; revert h; simp [Ideal.cmp]
  · rintro rfl; revert h; simp [Ideal.cmp]

theorem elements {s : Shape} (x : FVec Ideal s .f32) (hb : S_.BroadcastsInDim s (![] : Fin 0 → Fin s.rank)) {axes : List (Fin s.rank)}
    (hr : s.ReducesTo axes S_) (hS : 0 < S_.numel) (j : S_.Idx)
    (e : Host.reduce IntOp.andi (cmpf .olt (Host.absf x) (broadcastInDim s ![] hb (constant S_ .f32 0x7F800000#32)))
      (constantI S_ 1 1#1) hr hS j = 1#1) (i : s.Idx) : x i ≠ (⊤ : EReal) ∧ x i ≠ (⊥ : EReal) :=
  finite_of_abs (x i) (Host.reduce_andi_all _ _ _ _ j e i)

/-- Where the precondition holds, the three arguments hold real numbers. -/
theorem exists_reals (a0 : FVec Ideal S4096x8704 .bf16) (a1 : FVec Ideal S4096x2048 .bf16) (a2 : FVec Ideal S4096x16 .f32)
    (h : letI := facts; fn (F := Ideal) a0 a1 a2 = fun _ => 1#1) :
    ∃ R : Cert.Args.Reals, R.Of (fun i j => a0 (ix2 i j)) (fun i j => a1 (ix2 i j)) (fun i j => a2 (ix2 i j)) := by
  letI := facts
  have e := congrFun h (Shape.Idx.first facts.h_S_)
  unfold fn at e
  obtain ⟨e01, e2⟩ := IntOp.andi_eq_one.1 e
  obtain ⟨e0, e1⟩ := IntOp.andi_eq_one.1 e01
  exact Cert.Args.exists_of _ _ _
    (fun i j => elements (extf .f32 a0 facts.bitsLt_bf16_f32) _ _ _ _ e0 (ix2 i j))
    (fun i j => elements (extf .f32 a1 facts.bitsLt_bf16_f32) _ _ _ _ e1 (ix2 i j))
    (fun i j => elements a2 _ _ _ _ e2 (ix2 i j))

end Cert.Pre_finite

end
-- ==== Proof.Blocks.lean ====
/-
  What the body leaves in its three accumulators and its three result blocks at one point of the grid, as one term of the
  blocks it read and of the accumulators before it: nothing, zeros, the product of one tile, or the finished blocks.
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Blocks

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The column of a key block: lane 0. -/
abbrev col (x5 : Vec F S1x1024x128 .f32) : Vec F S1x1024x1 .f32 :=
  View.ld x5 (Rect.unit (s := S1x1024x128) ![0, 0, 0] S1x1024x1.size inb_S1x1024x128_S1x1024x1_0_0_0)

section Tiles

variable (x0 : Vec F S1024x128 .bf16) (x1 : Vec F S1024x128 .bf16) (x2 : Vec F S1024x128 .bf16) (x3 : Vec F S1024x128 .bf16)
  (x4 : Vec F S1x1x1024 .f32) (x5 : Vec F S1x1024x128 .f32) (x6 : Vec F S1x1x1024 .f32) (x7 : Vec F S1x1x1024 .f32)
  (s : Vec F S1024x128 .f32)

/-- The tile's probabilities on the diagonal (masked) and below it (not masked). -/
abbrev pD : FVec F S1024x1024 .f32 := k0_pay13 x1 x0 x4 (col x5) x6
abbrev pL : FVec F S1024x1024 .f32 := k0_pay15 x1 x0 x4 (col x5) x6

/-- The accumulators after one tile on the diagonal. -/
def dkD : Vec F S1024x128 .f32 := k0_pay5 (pD x0 x1 x4 x5 x6) x2 x3 x7 s x0
def dvD : Vec F S1024x128 .f32 := k0_pay14 x1 x0 x4 (col x5) x6 s x3
def dcD : Vec F S1024x128 .f32 := k0_pay6 (pD x0 x1 x4 x5 x6) x2 x3 x7 s

/-- The accumulators after one tile below the diagonal. -/
def dkL : Vec F S1024x128 .f32 := k0_pay8 (pL x0 x1 x4 x5 x6) (k0_pay17 x2 x3) x7 s x0
def dvL : Vec F S1024x128 .f32 := k0_pay16 x1 x0 x4 (col x5) x6 s x3
def dcL : Vec F S1024x128 .f32 := k0_pay9 (pL x0 x1 x4 x5 x6) (k0_pay17 x2 x3) x7 s

end Tiles

section Cases

variable (c : Dev nD) (i : grid0.Coords)
  (a3 : Memref sig .tc .vmem S1024x128 .bf16) (h3 : a3.IsWhole)
  (a4 : Memref sig .tc .vmem S1024x128 .bf16) (h4 : a4.IsWhole)
  (a5 : Memref sig .tc .vmem S1024x128 .bf16) (h5 : a5.IsWhole)
  (a6 : Memref sig .tc .vmem S1024x128 .bf16) (h6 : a6.IsWhole)
  (a7 : Memref sig .tc .vmem S1x1x1024 .f32) (h7 : a7.IsWhole)
  (a8 : Memref sig .tc .vmem S1x1024x128 .f32) (h8 : a8.IsWhole)
  (a9 : Memref sig .tc .vmem S1x1x1024 .f32) (h9 : a9.IsWhole)
  (a10 : Memref sig .tc .vmem S1x1x1024 .f32) (h10 : a10.IsWhole)
  (a11 : Memref sig .tc .vmem S1024x128 .bf16) (h11 : a11.IsWhole)
  (a12 : Memref sig .tc .vmem S1024x128 .bf16) (h12 : a12.IsWhole)
  (a13 : Memref sig .tc .vmem S1x1024x128 .f32) (h13 : a13.IsWhole)
  (a14 : Memref sig .tc .vmem S1024x128 .f32) (h14 : a14.IsWhole)
  (a15 : Memref sig .tc .vmem S1024x128 .f32) (h15 : a15.IsWhole)
  (a16 : Memref sig .tc .vmem S1024x128 .f32) (h16 : a16.IsWhole)
  (x0 : Vec F S1024x128 .bf16) (x1 : Vec F S1024x128 .bf16) (x2 : Vec F S1024x128 .bf16) (x3 : Vec F S1024x128 .bf16)
  (x4 : Vec F S1x1x1024 .f32) (x5 : Vec F S1x1024x128 .f32) (x6 : Vec F S1x1x1024 .f32) (x7 : Vec F S1x1x1024 .f32)
  (s0 s1 s2 : Vec F S1024x128 .f32)

theorem sout_A_0 (hc0 : cond0_0 i) (hc1 : cond0_1 i) (hc2 : ¬cond0_2 i) (hc3 : ¬cond0_3 i) :
    sout0_A_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 = dkD x0 x1 x2 x3 x4 x5 x6 x7 (k0_pay1 (F := F)) := by
  unfold sout0_A_0
  rw [View.read_writes_eq_canon _ _ _ (scover0_A_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7)]
  unfold kernelRun0_A
  dsimp only
  sl_unfold_words
  rw [View.canon_cons_unit_zero (S := S1024x128) hz, View.readCov_unit_zero (S := S1024x128) _ hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_A_1 (hc0 : cond0_0 i) (hc1 : cond0_1 i) (hc2 : ¬cond0_2 i) (hc3 : ¬cond0_3 i) :
    sout0_A_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 = dvD x0 x1 x3 x4 x5 x6 (k0_pay2 (F := F)) := by
  unfold sout0_A_1
  rw [View.read_writes_eq_canon _ _ _ (scover0_A_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7)]
  unfold kernelRun0_A
  dsimp only
  sl_unfold_words
  rw [View.canon_cons_unit_zero (S := S1024x128) hz, View.readCov_unit_zero (S := S1024x128) _ hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_A_2 (hc0 : cond0_0 i) (hc1 : cond0_1 i) (hc2 : ¬cond0_2 i) (hc3 : ¬cond0_3 i) :
    sout0_A_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 = dcD x0 x1 x2 x3 x4 x5 x6 x7 (k0_pay3 (F := F)) := by
  unfold sout0_A_2
  rw [View.read_writes_eq_canon _ _ _ (scover0_A_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7)]
  unfold kernelRun0_A
  dsimp only
  sl_unfold_words
  rw [View.canon_cons_unit_zero (S := S1024x128) hz, View.readCov_unit_zero (S := S1024x128) _ hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_B_0 (hc0 : ¬cond0_0 i) (hc1 : ¬cond0_1 i) (hc2 : cond0_2 i) (hc3 : ¬cond0_3 i) :
    sout0_B_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dkL x0 x1 x2 x3 x4 x5 x6 x7 s0 := by
  unfold sout0_B_0
  rw [View.read_writes_eq_canon _ _ _ (scover0_B_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_B
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_B_1 (hc0 : ¬cond0_0 i) (hc1 : ¬cond0_1 i) (hc2 : cond0_2 i) (hc3 : ¬cond0_3 i) :
    sout0_B_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dvL x0 x1 x3 x4 x5 x6 s1 := by
  unfold sout0_B_1
  rw [View.read_writes_eq_canon _ _ _ (scover0_B_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_B
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_B_2 (hc0 : ¬cond0_0 i) (hc1 : ¬cond0_1 i) (hc2 : cond0_2 i) (hc3 : ¬cond0_3 i) :
    sout0_B_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dcL x0 x1 x2 x3 x4 x5 x6 x7 s2 := by
  unfold sout0_B_2
  rw [View.read_writes_eq_canon _ _ _ (scover0_B_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_B
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_C_0 (hc0 : ¬cond0_0 i) (hc1 : ¬cond0_1 i) (hc2 : cond0_2 i) (hc3 : cond0_3 i) :
    sout0_C_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dkL x0 x1 x2 x3 x4 x5 x6 x7 s0 := by
  unfold sout0_C_0
  rw [View.read_writes_eq_canon _ _ _ (scover0_C_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_C_1 (hc0 : ¬cond0_0 i) (hc1 : ¬cond0_1 i) (hc2 : cond0_2 i) (hc3 : cond0_3 i) :
    sout0_C_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dvL x0 x1 x3 x4 x5 x6 s1 := by
  unfold sout0_C_1
  rw [View.read_writes_eq_canon _ _ _ (scover0_C_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_C_2 (hc0 : ¬cond0_0 i) (hc1 : ¬cond0_1 i) (hc2 : cond0_2 i) (hc3 : cond0_3 i) :
    sout0_C_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dcL x0 x1 x2 x3 x4 x5 x6 x7 s2 := by
  unfold sout0_C_2
  rw [View.read_writes_eq_canon _ _ _ (scover0_C_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem out_C_8 (hc0 : ¬cond0_0 i) (hc1 : ¬cond0_1 i) (hc2 : cond0_2 i) (hc3 : cond0_3 i) :
    out0_C_8 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = k0_pay10 (dkL x0 x1 x2 x3 x4 x5 x6 x7 s0) := by
  unfold out0_C_8
  rw [View.read_writes_eq_canon _ _ _ (cover0_C_8 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_C
  dsimp only
  sl_unfold_words
  rw [View.canon_unit_zero hz, View.readCov_unit_zero (S := S1024x128) _ hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem out_C_9 (hc0 : ¬cond0_0 i) (hc1 : ¬cond0_1 i) (hc2 : cond0_2 i) (hc3 : cond0_3 i) :
    out0_C_9 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = k0_pay11 (dvL x0 x1 x3 x4 x5 x6 s1) := by
  unfold out0_C_9
  rw [View.read_writes_eq_canon _ _ _ (cover0_C_9 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_C
  dsimp only
  sl_unfold_words
  rw [View.canon_unit_zero hz, View.readCov_unit_zero (S := S1024x128) _ hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem out_C_10 (hc0 : ¬cond0_0 i) (hc1 : ¬cond0_1 i) (hc2 : cond0_2 i) (hc3 : cond0_3 i) :
    out0_C_10 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = k0_pay12 (dcL x0 x1 x2 x3 x4 x5 x6 x7 s2) := by
  unfold out0_C_10
  rw [View.read_writes_eq_canon _ _ _ (cover0_C_10 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_C
  dsimp only
  sl_unfold_words
  rw [View.canon_unit_zero hz3, View.readCov_unit_zero (S := S1024x128) _ hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_D_0 (hc0 : cond0_0 i) (hc1 : ¬cond0_1 i) (hc2 : ¬cond0_2 i) (hc3 : ¬cond0_3 i) :
    sout0_D_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 = (k0_pay1 (F := F)) := by
  unfold sout0_D_0
  rw [View.read_writes_eq_canon _ _ _ (scover0_D_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7)]
  unfold kernelRun0_D
  dsimp only
  sl_unfold_words
  rw [View.canon_unit_zero hz]

theorem sout_D_1 (hc0 : cond0_0 i) (hc1 : ¬cond0_1 i) (hc2 : ¬cond0_2 i) (hc3 : ¬cond0_3 i) :
    sout0_D_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 = (k0_pay2 (F := F)) := by
  unfold sout0_D_1
  rw [View.read_writes_eq_canon _ _ _ (scover0_D_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7)]
  unfold kernelRun0_D
  dsimp only
  sl_unfold_words
  rw [View.canon_unit_zero hz]

theorem sout_D_2 (hc0 : cond0_0 i) (hc1 : ¬cond0_1 i) (hc2 : ¬cond0_2 i) (hc3 : ¬cond0_3 i) :
    sout0_D_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 = (k0_pay3 (F := F)) := by
  unfold sout0_D_2
  rw [View.read_writes_eq_canon _ _ _ (scover0_D_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7)]
  unfold kernelRun0_D
  dsimp only
  sl_unfold_words
  rw [View.canon_unit_zero hz]

theorem sout_E_0 (hc0 : ¬cond0_0 i) (hc1 : cond0_1 i) (hc2 : ¬cond0_2 i) (hc3 : ¬cond0_3 i) :
    sout0_E_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dkD x0 x1 x2 x3 x4 x5 x6 x7 s0 := by
  unfold sout0_E_0
  rw [View.read_writes_eq_canon _ _ _ (scover0_E_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_E
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_E_1 (hc0 : ¬cond0_0 i) (hc1 : cond0_1 i) (hc2 : ¬cond0_2 i) (hc3 : ¬cond0_3 i) :
    sout0_E_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dvD x0 x1 x3 x4 x5 x6 s1 := by
  unfold sout0_E_1
  rw [View.read_writes_eq_canon _ _ _ (scover0_E_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_E
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_E_2 (hc0 : ¬cond0_0 i) (hc1 : cond0_1 i) (hc2 : ¬cond0_2 i) (hc3 : ¬cond0_3 i) :
    sout0_E_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dcD x0 x1 x2 x3 x4 x5 x6 x7 s2 := by
  unfold sout0_E_2
  rw [View.read_writes_eq_canon _ _ _ (scover0_E_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_E
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_F_0 (hc0 : ¬cond0_0 i) (hc1 : ¬cond0_1 i) (hc2 : ¬cond0_2 i) (hc3 : ¬cond0_3 i) :
    sout0_F_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = s0 := rfl

theorem sout_F_1 (hc0 : ¬cond0_0 i) (hc1 : ¬cond0_1 i) (hc2 : ¬cond0_2 i) (hc3 : ¬cond0_3 i) :
    sout0_F_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = s1 := rfl

theorem sout_F_2 (hc0 : ¬cond0_0 i) (hc1 : ¬cond0_1 i) (hc2 : ¬cond0_2 i) (hc3 : ¬cond0_3 i) :
    sout0_F_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = s2 := rfl

theorem sout_G_0 (hc0 : ¬cond0_0 i) (hc1 : cond0_1 i) (hc2 : ¬cond0_2 i) (hc3 : cond0_3 i) :
    sout0_G_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dkD x0 x1 x2 x3 x4 x5 x6 x7 s0 := by
  unfold sout0_G_0
  rw [View.read_writes_eq_canon _ _ _ (scover0_G_0 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_G
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_G_1 (hc0 : ¬cond0_0 i) (hc1 : cond0_1 i) (hc2 : ¬cond0_2 i) (hc3 : cond0_3 i) :
    sout0_G_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dvD x0 x1 x3 x4 x5 x6 s1 := by
  unfold sout0_G_1
  rw [View.read_writes_eq_canon _ _ _ (scover0_G_1 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_G
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem sout_G_2 (hc0 : ¬cond0_0 i) (hc1 : cond0_1 i) (hc2 : ¬cond0_2 i) (hc3 : cond0_3 i) :
    sout0_G_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = dcD x0 x1 x2 x3 x4 x5 x6 x7 s2 := by
  unfold sout0_G_2
  rw [View.read_writes_eq_canon _ _ _ (scover0_G_2 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_G
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem out_G_8 (hc0 : ¬cond0_0 i) (hc1 : cond0_1 i) (hc2 : ¬cond0_2 i) (hc3 : cond0_3 i) :
    out0_G_8 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = k0_pay10 (dkD x0 x1 x2 x3 x4 x5 x6 x7 s0) := by
  unfold out0_G_8
  rw [View.read_writes_eq_canon _ _ _ (cover0_G_8 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_G
  dsimp only
  sl_unfold_words
  rw [View.canon_unit_zero hz, View.readCov_unit_zero (S := S1024x128) _ hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem out_G_9 (hc0 : ¬cond0_0 i) (hc1 : cond0_1 i) (hc2 : ¬cond0_2 i) (hc3 : cond0_3 i) :
    out0_G_9 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = k0_pay11 (dvD x0 x1 x3 x4 x5 x6 s1) := by
  unfold out0_G_9
  rw [View.read_writes_eq_canon _ _ _ (cover0_G_9 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_G
  dsimp only
  sl_unfold_words
  rw [View.canon_unit_zero hz, View.readCov_unit_zero (S := S1024x128) _ hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

theorem out_G_10 (hc0 : ¬cond0_0 i) (hc1 : cond0_1 i) (hc2 : ¬cond0_2 i) (hc3 : cond0_3 i) :
    out0_G_10 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2 = k0_pay12 (dcD x0 x1 x2 x3 x4 x5 x6 x7 s2) := by
  unfold out0_G_10
  rw [View.read_writes_eq_canon _ _ _ (cover0_G_10 c i a3 h3 a4 h4 a5 h5 a6 h6 a7 h7 a8 h8 a9 h9 a10 h10 a11 h11 a12 h12 a13 h13 a14 h14 a15 h15 a16 h16 hc0 hc1 hc2 hc3 x0 x1 x2 x3 x4 x5 x6 x7 s0 s1 s2)]
  unfold kernelRun0_G
  dsimp only
  sl_unfold_words
  rw [View.canon_unit_zero hz3, View.readCov_unit_zero (S := S1024x128) _ hz]
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S1024x128) hz, View.ld_unit_zero (S := S1x1x1024) hz3, shapeCast_self]
  rfl

end Cases

end Cert.KernelIdeal.Blocks

end
-- ==== Proof.Steps.lean ====
/-
  The accumulators and the finished blocks at each point of the grid, in terms of the blocks read there and of the
  accumulators of the point before.
-/
module

public import proofs.«01_k».proof.Proof.Blocks

@[expose] public section

set_option maxRecDepth 16384

noncomputable section

open Idealize.ShloMosaic Idealize.ShloMosaic.TcCoe

namespace Cert.KernelIdeal.Steps

open Cert.KernelIdeal Cert.KernelIdeal.Gen Cert.KernelIdeal.Blocks

variable {F : FTy → Type} [FloatOps F] (m : (ℓ : Loc nD τ sig) → Buf (Elt F) ℓ) (c : Dev nD)

/-- The blocks read at a point: queries, keys, values, the output's cotangent, the gate's rows and columns, the
    logarithm of the denominator, the product of output and cotangent. -/
def X0 (t : Fin cfg0.N) : Vec F S1024x128 .bf16 := iblk m c 0 t
def X1 (t : Fin cfg0.N) : Vec F S1024x128 .bf16 := iblk m c 1 t
def X2 (t : Fin cfg0.N) : Vec F S1024x128 .bf16 := iblk m c 2 t
def X3 (t : Fin cfg0.N) : Vec F S1024x128 .bf16 := iblk m c 3 t
def X4 (t : Fin cfg0.N) : Vec F S1x1x1024 .f32 := iblk m c 4 t
def X5 (t : Fin cfg0.N) : Vec F S1x1024x128 .f32 := iblk m c 5 t
def X6 (t : Fin cfg0.N) : Vec F S1x1x1024 .f32 := iblk m c 6 t
def X7 (t : Fin cfg0.N) : Vec F S1x1x1024 .f32 := iblk m c 7 t

/-- The three accumulators after point `n`. -/
def acc (n : ℕ) (hn : n < cfg0.N) : Vec F S1024x128 .f32 × Vec F S1024x128 .f32 × Vec F S1024x128 .f32 :=
  (outsAt0 m c n hn).2.2.2

variable (t : Fin cfg0.N)

theorem prev_lt : t.val - 1 < cfg0.N := Nat.lt_of_le_of_lt (Nat.sub_le _ _) t.isLt

theorem acc_A (h0 : t.val % 4 = 0) (h1 : t.val / 4 % 4 = t.val % 4) (h2 : ¬t.val / 4 % 4 + 1 ≤ t.val % 4) (h3 : ¬t.val % 4 = 3) :
    acc m c t.val t.isLt = (dkD (X0 m c t) (X1 m c t) (X2 m c t) (X3 m c t) (X4 m c t) (X5 m c t) (X6 m c t) (X7 m c t) k0_pay1, dvD (X0 m c t) (X1 m c t) (X3 m c t) (X4 m c t) (X5 m c t) (X6 m c t) k0_pay2, dcD (X0 m c t) (X1 m c t) (X2 m c t) (X3 m c t) (X4 m c t) (X5 m c t) (X6 m c t) (X7 m c t) k0_pay3) := by
  unfold acc
  rw [outsAt0_A m c t h0 h1 h2 h3]
  dsimp only
  rw [sout_A_0, sout_A_1, sout_A_2]
  rfl

theorem acc_D (h0 : t.val % 4 = 0) (h1 : ¬t.val / 4 % 4 = t.val % 4) (h2 : ¬t.val / 4 % 4 + 1 ≤ t.val % 4) (h3 : ¬t.val % 4 = 3) :
    acc m c t.val t.isLt = (k0_pay1, k0_pay2, k0_pay3) := by
  unfold acc
  rw [outsAt0_D m c t h0 h1 h2 h3]
  dsimp only
  rw [sout_D_0, sout_D_1, sout_D_2]

theorem acc_E (h0 : ¬t.val % 4 = 0) (h1 : t.val / 4 % 4 = t.val % 4) (h2 : ¬t.val / 4 % 4 + 1 ≤ t.val % 4) (h3 : ¬t.val % 4 = 3) :
    acc m c t.val t.isLt = (dkD (X0 m c t) (X1 m c t) (X2 m c t) (X3 m c t) (X4 m c t) (X5 m c t) (X6 m c t) (X7 m c t) (acc m c (t.val - 1) (prev_lt t)).1,
      dvD (X0 m c t) (X1 m c t) (X3 m c t) (X4 m c t) (X5 m c t) (X6 m c t) (acc m c (t.val - 1) (prev_lt t)).2.1,
      dcD (X0 m c t) (X1 m c t) (X2 m c t) (X3 m c t) (X4 m c t) (X5 m c t) (X6 m c t) (X7 m c t) (acc m c (t.val - 1) (prev_lt t)).2.2) := by
  unfold acc
  rw [outsAt0_E m c t h0 h1 h2 h3]
  dsimp only
  rw [sout_E_0, sout_E_1, sout_E_2]
  rfl

theorem acc_F (h0 : ¬t.val % 4 = 0) (h1 : ¬t.val / 4 % 4 = t.val % 4) (h2 : ¬t.val / 4 % 4 + 1 ≤ t.val % 4) (h3 : ¬t.val % 4 = 3) :
    acc m c t.val t.isLt = acc m c (t.val - 1) (prev_lt t) := by
  unfold acc
  rw [outsAt0_F m c t h0 h1 h2 h3]
  dsimp only
  rw [sout_F_0, sout_F_1, sout_F_2]

theorem acc_G (h0 : ¬t.val % 4 = 0) (h1 : t.val / 4 % 4 = t.val % 4) (h2 : ¬t.val / 4 % 4 + 1 ≤ t.val % 4) (h3 : t.val % 4 = 3) :
    acc m c t.val t.isLt = (dkD (X0 m c t) (X1 m c t) (X2 m c t) (X3 m c t) (X4 m c t) (X5 m c t) (X6 m c t) (X7 m c t) (acc m c (t.val - 1) (prev_lt t)).1,
      dvD (X0 m c t) (X1 m c t) (X3 m c t) (X4 m c t) (X5 m c t) (X6 m c t) (acc m c (t.val - 1) (prev_lt t)).2.1,
      dcD (X0 m c t) (X1 m c t) (X2 m c t) (X3 m c t) (X4 m c t) (X5 m c t) (X6 m c t) (X7 m c t) (acc m c (t.val - 1) (prev_lt t)).2.2) := by
  unfold acc
  rw [outsAt0_G m c t h0 h1 h2 h3]
  dsimp only
  rw [sout_G_0, sout_G_1, sout_G_2]
  rfl

theorem outs_G (h0 : ¬t.val % 4 = 0) (h1 : t.val / 4 % 4 = t.val % 4) (h2 : ¬t.val / 4 % 4 + 1 ≤ t.val % 4) (h3 : t.val % 4 = 3) :
    (outsAt0 m c t.val t.isLt).1 = k0_pay10 (acc m c t.val t.isLt).1
      ∧ (outsAt0 m c t.val t.isLt).2.1 = k0_pay11 (acc m c t.val t.isLt).2.1
      ∧ (outsAt0 m c t.val t.isLt).2.2.1 = k0_pay12 (acc m c t.val t.isLt).2.2 := by
  rw [acc_G m c t h0 h1 h2 h3, outsAt0_G m c t h0 h1 h2 h3]
  dsimp only
  rw [out_G_8, out_G_9, out_G_10]
  exact ⟨rfl, rfl, rfl⟩

theorem acc_B (h0 : ¬t.val % 4 = 0) (h1 : ¬t.val / 4 % 4 = t.val % 4) (h2 : t.val / 4 % 4 + 1 ≤ t.val % 4) (h3 : ¬t.val % 4 = 3) :
    acc m c t.val t.isLt = (dkL (X0 m c t) (X1 m c t) (X2 m c t) (X3 m c t) (X4 m c t) (X5 m c t) (X6 m c t) (X7 m c t) (acc m c (t.val - 1) (prev_lt t)).1,
      dvL (X0 m c t) (X1 m c t) (X3 m c t) (X4 m c t) (X5 m c t) (X6 m c t) (acc m c (t.val - 1) (prev_lt t)).2.1,
      dcL (X0 m c t) (X1 m c t) (X2 m c t) (X3 m c t) (X4 m c t) (X5 m c t) (X6 m c t) (X7 m c t) (acc m c (t.val - 1) (prev_lt t)).2.2) := by
  unfold acc
  rw [outsAt0_B m c t h0 h1 h2 h3]
  dsimp only
  rw [sout_B_0, sout_B_1, sout_B_2]
  rfl

theorem acc_C (h0 : ¬t.val % 4 = 0) (h1 : ¬t.val / 4 % 4 = t.val % 4) (h2 : t.val / 4 % 4 + 1 ≤ t.val % 4) (h3 : t.val % 4 = 3) :
    acc m c t.val t.isLt = (dkL (X0 m c t) (X1 m c t) (X2 m c t) (X3 m c t) (X4 m c t) (X5 m c t) (X6 m c t) (X7 m c t) (acc m c (t.val - 1) (prev_lt t)).1,
      dvL (X0 m c t) (X1 m c t) (X3 m c t) (X4 m c t) (X5 m c t) (X6 m c t) (acc m c (t.val - 1) (prev_lt t)).2.1,
      dcL (X0 m c t) (X1 m c t) (X2 m c t) (X3 m c t) (X4 m c t) (X5 m c t) (X6 m c t) (X7 m c t) (acc m c (t.val - 1) (prev_lt t)).2.2) := by
  unfold acc
  rw [outsAt0_C m c t h0 h1 h2 h3]
  dsimp only
  rw [sout_C_0, sout_C_1, sout_C_2]
  rfl

theorem outs_C (h0 : ¬t.val % 4 = 0) (h1 : ¬t.val / 4 % 4 = t.val % 4) (h2 : t.val / 4 % 4 + 1 ≤ t.val % 4) (h3 : t.val % 4 = 3) :
    (outsAt0 m c t.val t.isLt).1 = k0_pay10 (acc m c t.val t.isLt).1
      ∧ (outsAt0 m c t.val t.isLt).2.1 = k0_pay11 (acc m c t.val t.isLt).2.1
      ∧ (outsAt0 m c t.val t.isLt).2.2.1 = k0_pay12 (acc m c t.val t.isLt).2.2 := by
  rw [acc_C m c t h0 h1 h2 h3, outsAt0_C m c t h0 h1 h2 h3]
  dsimp only
  rw [out_C_8, out_C_9, out_C_10]
  exact ⟨rfl, rfl, rfl⟩

end Cert.KernelIdeal.Steps

end
-- ==== Proof.Tiles.lean ====
/-
  One tile of the backward pass over real numbers: 1024 keys against 1024 queries of one head. When the blocks the body
  reads hold real numbers, its probabilities, and what it adds to the gradients of the keys, of the values and of the
  cumulative gate, are real numbers too, written here as sums over the queries of the tile.
-/
module

public import proofs.«01_k».proof.Proof.Blocks
public import proofs.«01_k».proof.Proof.Coe

@[expose] public section

set_option maxRecDepth 16384

noncomputable section

open Idealize.ShloMosaic Idealize.ShloMosaic.TcCoe

namespace Cert.KernelIdeal.Tiles

open Cert.KernelIdeal Cert.KernelIdeal.Gen Cert.KernelIdeal.Blocks Cert.Coe
open scoped BigOperators

/-- The real numbers of one tile: queries, keys, values, the output's cotangent, the cumulative gate of the queries and
    of the keys, the logarithm of the denominator and the product of output and cotangent of each query. -/
structure Tile where
  q : Fin 1024 → Fin 128 → ℝ
  k : Fin 1024 → Fin 128 → ℝ
  v : Fin 1024 → Fin 128 → ℝ
  d : Fin 1024 → Fin 128 → ℝ
  cq : Fin 1024 → ℝ
  ck : Fin 1024 → ℝ
  ls : Fin 1024 → ℝ
  dl : Fin 1024 → ℝ

/-- The blocks the body reads hold the tile's numbers. -/
structure Tile.Holds (T : Tile) (x0 x1 x2 x3 : Vec Ideal S1024x128 .bf16) (x4 : Vec Ideal S1x1x1024 .f32)
    (x5 : Vec Ideal S1x1024x128 .f32) (x6 x7 : Vec Ideal S1x1x1024 .f32) : Prop where
  q : ∀ s x, x0 (ix2 s x) = ((T.q s x : ℝ) : EReal)
  k : ∀ r x, x1 (ix2 r x) = ((T.k r x : ℝ) : EReal)
  v : ∀ r x, x2 (ix2 r x) = ((T.v r x : ℝ) : EReal)
  d : ∀ s x, x3 (ix2 s x) = ((T.d s x : ℝ) : EReal)
  cq : ∀ s, x4 (ix3 0 0 s) = ((T.cq s : ℝ) : EReal)
  ck : ∀ r x, x5 (ix3 0 r x) = ((T.ck r : ℝ) : EReal)
  ls : ∀ s, x6 (ix3 0 0 s) = ((T.ls s : ℝ) : EReal)
  dl : ∀ s, x7 (ix3 0 0 s) = ((T.dl s : ℝ) : EReal)

/-- The probability of key `r` for query `s` of the tile, not masked. -/
def Tile.p (T : Tile) (r s : Fin 1024) : ℝ := Real.exp ((∑ x, T.k r x * T.q s x) * scale + (T.cq s - T.ck r) - T.ls s)

/-- The same, zero for the queries before the key. -/
def Tile.pm (T : Tile) (r s : Fin 1024) : ℝ := if r ≤ s then T.p r s else 0

/-- The gradient of the score, from the probability. -/
def Tile.g (T : Tile) (p : Fin 1024 → Fin 1024 → ℝ) (r s : Fin 1024) : ℝ := p r s * ((∑ x, T.v r x * T.d s x) - T.dl s)

/-- A block of 1024 rows of 128 real numbers. -/
def Is (s : Vec Ideal S1024x128 .f32) (S : Fin 1024 → Fin 128 → ℝ) : Prop := ∀ r x, s (ix2 r x) = ((S r x : ℝ) : EReal)

section

variable {T : Tile} {x0 x1 x2 x3 : Vec Ideal S1024x128 .bf16} {x4 : Vec Ideal S1x1x1024 .f32}
  {x5 : Vec Ideal S1x1024x128 .f32} {x6 x7 : Vec Ideal S1x1x1024 .f32} (h : T.Holds x0 x1 x2 x3 x4 x5 x6 x7)
  {s : Vec Ideal S1024x128 .f32} {S : Fin 1024 → Fin 128 → ℝ} (hs : Is s S)

include h

theorem col_eq (r : Fin 1024) : col x5 (ix3 0 r 0) = ((T.ck r : ℝ) : EReal) := by
  rw [← h.ck r 0]; pointwise [col]

theorem pL_eq (r s : Fin 1024) : pL x0 x1 x4 x5 x6 (ix2 r s) = ((T.p r s : ℝ) : EReal) := by
  have e := col_eq h r
  unfold pL
  generalize col x5 = cc at e ⊢
  pointwise [k0_pay15]
  simp only [h.q, h.k, h.cq, h.ls, e, scale_coe, ← EReal.coe_mul, sum_coe, ← EReal.coe_sub, ← EReal.coe_add]
  rfl

theorem pD_eq (r s : Fin 1024) : pD x0 x1 x4 x5 x6 (ix2 r s) = ((T.pm r s : ℝ) : EReal) := by
  have e := col_eq h r
  unfold pD
  generalize col x5 = cc at e ⊢
  pointwise [k0_pay13]
  simp only [h.q, h.k, h.cq, h.ls, e, scale_coe, ← EReal.coe_mul, sum_coe, ← EReal.coe_sub, ← EReal.coe_add, negInf]
  have hc : IntOp.cmpi CmpIPredicate.sge (BitVec.ofNat 32 s.val) (BitVec.ofNat 32 r.val) = (if r ≤ s then 1#1 else 0#1) := by
    have h1 : (BitVec.ofNat 32 s.val).toInt = s.val := by
      rw [BitVec.toInt_eq_toNat_of_lt] <;> simp only [BitVec.toNat_ofNat] <;> omega
    have h2 : (BitVec.ofNat 32 r.val).toInt = r.val := by
      rw [BitVec.toInt_eq_toNat_of_lt] <;> simp only [BitVec.toNat_ofNat] <;> omega
    unfold IntOp.cmpi
    simp only [BitVec.sle, h1, h2, Fin.le_def, Nat.cast_le]
    by_cases hle : r.val ≤ s.val <;> simp [hle]
  rw [hc]
  unfold Tile.pm Scalar.select
  by_cases hle : r ≤ s
  · rw [if_pos hle, if_pos hle]; rfl
  · rw [if_neg hle, if_neg hle]
    show Ideal.exp (⊥ - ((T.ls s : ℝ) : EReal)) = _
    rw [EReal.bot_sub]; simp

include hs

theorem dvL_eq : Is (dvL x0 x1 x3 x4 x5 x6 s) fun r x => S r x + ∑ j, T.p r j * T.d j x := by
  intro r x
  unfold dvL
  pointwise [k0_pay16]
  have e : ∀ j, k0_pay15 x1 x0 x4 (col x5) x6 (ix2 r j) = ((T.p r j : ℝ) : EReal) := pL_eq h r
  generalize k0_pay15 x1 x0 x4 (col x5) x6 = p at e ⊢
  simp only [hs r x, e, h.d, ← EReal.coe_mul, sum_coe, ← EReal.coe_add]

theorem dvD_eq : Is (dvD x0 x1 x3 x4 x5 x6 s) fun r x => S r x + ∑ j, T.pm r j * T.d j x := by
  intro r x
  unfold dvD
  pointwise [k0_pay14]
  have e : ∀ j, k0_pay13 x1 x0 x4 (col x5) x6 (ix2 r j) = ((T.pm r j : ℝ) : EReal) := pD_eq h r
  generalize k0_pay13 x1 x0 x4 (col x5) x6 = p at e ⊢
  simp only [hs r x, e, h.d, ← EReal.coe_mul, sum_coe, ← EReal.coe_add]

theorem dkL_eq : Is (dkL x0 x1 x2 x3 x4 x5 x6 x7 s) fun r x => S r x + ∑ j, T.g T.p r j * T.q j x := by
  intro r x
  have e : ∀ j, pL x0 x1 x4 x5 x6 (ix2 r j) = ((T.p r j : ℝ) : EReal) := pL_eq h r
  unfold dkL
  generalize pL x0 x1 x4 x5 x6 = p at e ⊢
  pointwise [k0_pay8, k0_pay7, k0_pay17]
  simp only [hs r x, e, h.q, h.v, h.d, h.dl, ← EReal.coe_mul, sum_coe, ← EReal.coe_sub, ← EReal.coe_add]
  rfl

theorem dkD_eq : Is (dkD x0 x1 x2 x3 x4 x5 x6 x7 s) fun r x => S r x + ∑ j, T.g T.pm r j * T.q j x := by
  intro r x
  have e : ∀ j, pD x0 x1 x4 x5 x6 (ix2 r j) = ((T.pm r j : ℝ) : EReal) := pD_eq h r
  unfold dkD
  generalize pD x0 x1 x4 x5 x6 = p at e ⊢
  pointwise [k0_pay5, k0_pay4]
  simp only [hs r x, e, h.q, h.v, h.d, h.dl, ← EReal.coe_mul, sum_coe, ← EReal.coe_sub, ← EReal.coe_add]
  rfl

theorem dcL_eq : Is (dcL x0 x1 x2 x3 x4 x5 x6 x7 s) fun r x => S r x - ∑ j, T.g T.p r j := by
  intro r x
  have e : ∀ j, pL x0 x1 x4 x5 x6 (ix2 r j) = ((T.p r j : ℝ) : EReal) := pL_eq h r
  unfold dcL
  generalize pL x0 x1 x4 x5 x6 = p at e ⊢
  pointwise [k0_pay9, k0_pay7, k0_pay17]
  simp only [hs r x, e, h.v, h.d, h.dl, ← EReal.coe_mul, sum_coe, ← EReal.coe_sub]
  rfl

theorem dcD_eq : Is (dcD x0 x1 x2 x3 x4 x5 x6 x7 s) fun r x => S r x - ∑ j, T.g T.pm r j := by
  intro r x
  have e : ∀ j, pD x0 x1 x4 x5 x6 (ix2 r j) = ((T.pm r j : ℝ) : EReal) := pD_eq h r
  unfold dcD
  generalize pD x0 x1 x4 x5 x6 = p at e ⊢
  pointwise [k0_pay6, k0_pay4]
  simp only [hs r x, e, h.v, h.d, h.dl, ← EReal.coe_mul, sum_coe, ← EReal.coe_sub]
  rfl

end

/-- The reset leaves zeros. -/
theorem zero0 : Is (k0_pay1 (F := Ideal)) fun _ _ => 0 := by
  intro r x; pointwise [k0_pay1]; simp [Ideal.ofBits, Ideal.ieee]
theorem zero1 : Is (k0_pay2 (F := Ideal)) fun _ _ => 0 := by
  intro r x; pointwise [k0_pay2]; simp [Ideal.ofBits, Ideal.ieee]
theorem zero2 : Is (k0_pay3 (F := Ideal)) fun _ _ => 0 := by
  intro r x; pointwise [k0_pay3]; simp [Ideal.ofBits, Ideal.ieee]

/-- The finished blocks: the keys' gradient scaled, the others as accumulated. -/
theorem fin0 {s : Vec Ideal S1024x128 .f32} {S : Fin 1024 → Fin 128 → ℝ} (hs : Is s S) (r : Fin 1024) (x : Fin 128) :
    k0_pay10 s (ix2 r x) = ((S r x * scale : ℝ) : EReal) := by
  pointwise [k0_pay10]; rw [hs r x, scale_coe, ← EReal.coe_mul]
theorem fin1 {s : Vec Ideal S1024x128 .f32} {S : Fin 1024 → Fin 128 → ℝ} (hs : Is s S) (r : Fin 1024) (x : Fin 128) :
    k0_pay11 s (ix2 r x) = ((S r x : ℝ) : EReal) := by
  pointwise [k0_pay11]; rw [hs r x]
theorem fin2 {s : Vec Ideal S1024x128 .f32} {S : Fin 1024 → Fin 128 → ℝ} (hs : Is s S) (r : Fin 1024) (x : Fin 128) :
    k0_pay12 s (ix3 0 r x) = ((S r x : ℝ) : EReal) := by
  pointwise [k0_pay12]; rw [hs r x]

end Cert.KernelIdeal.Tiles

end
-- ==== Proof.HostVals.lean ====
/-
  What the kernel's program hands to the pallas call: the rows of the cumulative gate, of the logarithm of the
  denominator and of the product of output and cotangent, computed on the host, as real numbers.
-/
module

public import proofs.«01_k».proof.Proof.Args
public import proofs.«01_k».proof.Proof.Gen.KernelIdeal.Frame.Runs
public import Idealize.ShloMosaic.Lib.StableHlo.ReadAt

@[expose] public section

set_option maxRecDepth 16384

noncomputable section

open Idealize.ShloMosaic Idealize.ShloMosaic.TcCoe

namespace Cert.KernelIdeal.HostVals

open Cert.KernelIdeal Cert.KernelIdeal.Gen Cert.Coe Cert.Args
open scoped BigOperators

/-- The argument arrays as launched, by row and column. -/
abbrev A0 (m : (ℓ : Loc nD τ sig) → Buf (Elt Ideal) ℓ) (c : Dev nD) : Fin 4096 → Fin 8704 → EReal :=
  fun i j => m ((c : Thread nD τ).loc main_arg0) (ix2 i j)
abbrev A1 (m : (ℓ : Loc nD τ sig) → Buf (Elt Ideal) ℓ) (c : Dev nD) : Fin 4096 → Fin 2048 → EReal :=
  fun i j => m ((c : Thread nD τ).loc main_arg1) (ix2 i j)
abbrev A2 (m : (ℓ : Loc nD τ sig) → Buf (Elt Ideal) ℓ) (c : Dev nD) : Fin 4096 → Fin 16 → EReal :=
  fun i j => m ((c : Thread nD τ).loc main_arg2) (ix2 i j)

variable {m : (ℓ : Loc nD τ sig) → Buf (Elt Ideal) ℓ} {c : Dev nD} {R : Reals} (hR : R.Of (A0 m c) (A1 m c) (A2 m c))

/-! The arrays of the host lines, by their types. -/

section Steps

variable (m c)

def w27 : FVec Ideal S16x4096x4096 .f32 := V m c main_v27
def w28 : FVec Ideal S16x4096 .f32 := V m c main_v28
def w32 : FVec Ideal S16x4096x4096 .f32 := V m c main_v32
def w33 : FVec Ideal S16x4096 .f32 := V m c main_v33
def w34 : FVec Ideal S16x4096 .f32 := V m c main_v34
def w35 : FVec Ideal S16x4096 .f32 := V m c main_v35
def w39 : FVec Ideal S16x4096x4096 .f32 := V m c main_v39
def w42 : FVec Ideal S16x4096x4096 .f32 := V m c main_v42
def w44 : FVec Ideal S16x4096 .f32 := V m c main_v44
def w47 : FVec Ideal S16x4096x128 .f32 := V m c main_v47
def w49 : FVec Ideal S16x1x4096 .f32 := V m c main_v49
def w50 : FVec Ideal S16x1x4096 .f32 := V m c main_v50
def w51 : FVec Ideal S16x1x4096 .f32 := V m c main_v51

/-! Each array from the ones before it. -/

theorem s28 : w28 m c = Host.reduce FloatOps.maximumf (w27 m c) (constant S_ .f32 0xFF800000#32)
    reducesTo_S16x4096x4096_S16x4096_d2 h_S_ := by
  unfold w27 w28 V; after_reads_simp
theorem s32 : w32 m c = Host.exp (subf (w27 m c) (broadcastInDim S16x4096x4096 ![0, 1, 2]
    bcast_S16x4096x1_S16x4096x4096_0_1_2 (broadcastInDim S16x4096x1 ![0, 1] bcast_S16x4096_S16x4096x1_0_1 (w28 m c)))) := by
  unfold w27 w28 w32 V; after_reads_simp
theorem s33 : w33 m c = Host.reduceAdd (w32 m c) (constant S_ .f32 0x00000000#32) reducesTo_S16x4096x4096_S16x4096_d2 h_S_ := by
  unfold w32 w33 V; after_reads_simp
theorem s34 : w34 m c = Host.log (w33 m c) := by
  unfold w33 w34 V; after_reads_simp
theorem s35 : w35 m c = addf (w28 m c) (w34 m c) := by
  unfold w28 w34 w35 V; after_reads_simp
theorem s39 : w39 m c = Host.exp (subf (w27 m c) (broadcastInDim S16x4096x4096 ![0, 1, 2]
    bcast_S16x4096x1_S16x4096x4096_0_1_2 (broadcastInDim S16x4096x1 ![0, 1] bcast_S16x4096_S16x4096x1_0_1 (w35 m c)))) := by
  unfold w27 w35 w39 V; after_reads_simp
theorem s44 : w44 m c = Host.reduceAdd (mulf (w39 m c) (w42 m c)) (constant S_ .f32 0x00000000#32)
    reducesTo_S16x4096x4096_S16x4096_d2 h_S_ := by
  unfold w39 w42 w44 V; after_reads_simp
theorem s50 : w50 m c = broadcastInDim S16x1x4096 ![0, 2] bcast_S16x4096_S16x1x4096_0_2 (w35 m c) := by
  unfold w35 w50 V; after_reads_simp
theorem s51 : w51 m c = broadcastInDim S16x1x4096 ![0, 2] bcast_S16x4096_S16x1x4096_0_2 (w44 m c) := by
  unfold w44 w51 V; after_reads_simp

end Steps

/-! Their elements as real numbers. -/

include hR

theorem v27 (h : Fin 16) (q k : Fin 4096) : w27 m c (ix3 h q k) = R.masked h q k := by
  unfold w27 V
  after_reads_at
  rw [sle_word le_rfl]
  have e1 := fun x p => hR.q h q x p
  have e2 := fun x p => hR.k h k x p
  have e3 := hR.c h q
  have e4 := hR.c h k
  unfold A0 at e1 e2
  unfold A2 at e3 e4
  simp only [e1, e2, e3, e4, scale_coe, ← EReal.coe_mul, sum_coe, ← EReal.coe_sub, ← EReal.coe_add]
  unfold Reals.masked Scalar.select
  by_cases hk : k ≤ q
  · rw [if_pos hk, if_pos hk]; rfl
  · rw [if_neg hk, if_neg hk]; exact negInf

theorem v28 (h : Fin 16) (q : Fin 4096) : w28 m c (ix2 h q) = ((R.M h q : ℝ) : EReal) := by
  rw [s28, ← R.M_eq]
  have e := v27 hR h q
  pointwise
  simp only [e, negInf]

theorem v32 (h : Fin 16) (q k : Fin 4096) : w32 m c (ix3 h q k) = ((Attn.wt (R.S h) (R.M h) q k : ℝ) : EReal) := by
  rw [s32, ← R.exp_masked]
  have e := v27 hR h q k
  have e' := v28 hR h q
  pointwise
  rw [e, e']

theorem v33 (h : Fin 16) (q : Fin 4096) : w33 m c (ix2 h q) = ((Attn.den (R.S h) (R.M h) q : ℝ) : EReal) := by
  rw [s33, ← Attn.den_eq, ← sum_coe]
  pointwise
  exact Finset.sum_congr rfl fun k _ => v32 hR h q k

theorem v34 (h : Fin 16) (q : Fin 4096) :
    w34 m c (ix2 h q) = ((Real.log (Attn.den (R.S h) (R.M h) q) : ℝ) : EReal) := by
  rw [s34, ← log_coe _ (Attn.den_pos (R.S h) (R.M h) q), ← v33 hR h q]
  generalize w33 m c = w
  pointwise

theorem add_at (w w' : FVec Ideal S16x4096 .f32) (h : Fin 16) (q : Fin 4096) :
    addf w w' (ix2 h q) = w (ix2 h q) + w' (ix2 h q) := by
  pointwise

theorem lse_coe (h : Fin 16) (q : Fin 4096) :
    ((R.M h q : ℝ) : EReal) + ((Real.log (Attn.den (R.S h) (R.M h) q) : ℝ) : EReal) = ((R.L h q : ℝ) : EReal) := by
  unfold Reals.L Attn.lse
  generalize Real.log (Attn.den (R.S h) (R.M h) q) = y
  generalize R.M h q = x
  exact (EReal.coe_add x y).symm

theorem v35 (h : Fin 16) (q : Fin 4096) : w35 m c (ix2 h q) = ((R.L h q : ℝ) : EReal) :=
  (congrFun (s35 m c) _).trans ((add_at hR _ _ h q).trans ((congrArg₂ (· + ·) (v28 hR h q) (v34 hR h q)).trans (lse_coe hR h q)))

theorem v39 (h : Fin 16) (q k : Fin 4096) : w39 m c (ix3 h q k) = ((R.P h q k : ℝ) : EReal) := by
  rw [s39, ← R.exp_masked_lse]
  have e := v27 hR h q k
  have e' := v35 hR h q
  pointwise
  rw [e, e']

theorem v42 (h : Fin 16) (q k : Fin 4096) : w42 m c (ix3 h q k) = ((R.dp h q k : ℝ) : EReal) := by
  unfold w42 V
  after_reads_at
  have e1 := fun x p => hR.d h q x p
  have e2 := fun x p => hR.v h k x p
  unfold A1 at e1
  unfold A0 at e2
  simp only [e1, e2, ← EReal.coe_mul, sum_coe]
  rfl

theorem v44 (h : Fin 16) (q : Fin 4096) : w44 m c (ix2 h q) = ((R.D h q : ℝ) : EReal) := by
  rw [s44]
  have e := v39 hR h q
  have e' := v42 hR h q
  pointwise
  simp only [e, e', ← EReal.coe_mul, sum_coe]
  unfold Reals.D Attn.delta Reals.P
  rfl

/-- The rows the pallas call reads. -/
theorem lse_row (h : Fin 16) (q : Fin 4096) : w50 m c (ix3 h 0 q) = ((R.L h q : ℝ) : EReal) := by
  rw [s50, ← v35 hR h q]
  pointwise

theorem delta_row (h : Fin 16) (q : Fin 4096) : w51 m c (ix3 h 0 q) = ((R.D h q : ℝ) : EReal) := by
  rw [s51, ← v44 hR h q]
  pointwise

theorem c_row (h : Fin 16) (q : Fin 4096) : w49 m c (ix3 h 0 q) = ((R.c h q : ℝ) : EReal) := by
  unfold w49 V
  after_reads_at
  exact hR.c h q

theorem c_col (h : Fin 16) (q : Fin 4096) (x : Fin 128) : w47 m c (ix3 h q x) = ((R.c h q : ℝ) : EReal) := by
  unfold w47 V
  after_reads_at
  exact hR.c h q

end Cert.KernelIdeal.HostVals

end
-- ==== Proof.Reads.lean ====
/-
  The blocks the body reads at the point of head `h`, key tile `j` and query tile `i`: the tile's real numbers, at and
  below the diagonal.
-/
module

public import proofs.«01_k».proof.Proof.Steps
public import proofs.«01_k».proof.Proof.Tiles
public import proofs.«01_k».proof.Proof.HostVals

@[expose] public section

set_option maxRecDepth 16384

noncomputable section

open Idealize.ShloMosaic Idealize.ShloMosaic.TcCoe

namespace Cert.KernelIdeal.Reads

open Cert.KernelIdeal Cert.KernelIdeal.Gen Cert.KernelIdeal.Blocks Cert.KernelIdeal.Steps Cert.KernelIdeal.Tiles
open Cert.KernelIdeal.HostVals Cert.Args Cert.Attn Cert.Coe
open scoped BigOperators

/-- The numbers of the tile of query tile `i` and key tile `j` of head `h`. -/
def tile (R : Reals) (h : Fin 16) (i j : Fin 4) : Tile where
  q s x := R.q h (at4 i s) x
  k r x := R.k h (at4 j r) x
  v r x := R.v h (at4 j r) x
  d s x := R.d h (at4 i s) x
  cq s := R.c h (at4 i s)
  ck r := R.c h (at4 j r)
  ls s := R.L h (at4 i s)
  dl s := R.D h (at4 i s)

theorem tile_q (R : Reals) (h : Fin 16) (i j : Fin 4) (s x) : (tile R h i j).q s x = R.q h (at4 i s) x := by rw [tile]
theorem tile_k (R : Reals) (h : Fin 16) (i j : Fin 4) (s x) : (tile R h i j).k s x = R.k h (at4 j s) x := by rw [tile]
theorem tile_v (R : Reals) (h : Fin 16) (i j : Fin 4) (s x) : (tile R h i j).v s x = R.v h (at4 j s) x := by rw [tile]
theorem tile_d (R : Reals) (h : Fin 16) (i j : Fin 4) (s x) : (tile R h i j).d s x = R.d h (at4 i s) x := by rw [tile]
theorem tile_cq (R : Reals) (h : Fin 16) (i j : Fin 4) (s) : (tile R h i j).cq s = R.c h (at4 i s) := by rw [tile]
theorem tile_ck (R : Reals) (h : Fin 16) (i j : Fin 4) (s) : (tile R h i j).ck s = R.c h (at4 j s) := by rw [tile]
theorem tile_ls (R : Reals) (h : Fin 16) (i j : Fin 4) (s) : (tile R h i j).ls s = R.L h (at4 i s) := by rw [tile]
theorem tile_dl (R : Reals) (h : Fin 16) (i j : Fin 4) (s) : (tile R h i j).dl s = R.D h (at4 i s) := by rw [tile]

/-! ## Where the blocks lie -/

theorem idx0 : ∀ t : Fin grid0.N, win0_0.index t (0 : Fin 2) = max (t.val % 4) (t.val / 4 % 4) ∧
    win0_0.index t (1 : Fin 2) = t.val / 16 := by decide +kernel
theorem idx1 : ∀ t : Fin grid0.N, win0_1.index t (0 : Fin 2) = t.val / 4 % 4 ∧
    win0_1.index t (1 : Fin 2) = 16 + t.val / 16 := by decide +kernel
theorem idx2 : ∀ t : Fin grid0.N, win0_2.index t (0 : Fin 2) = t.val / 4 % 4 ∧
    win0_2.index t (1 : Fin 2) = 32 + t.val / 16 := by decide +kernel
theorem idx3 : ∀ t : Fin grid0.N, win0_3.index t (0 : Fin 2) = max (t.val % 4) (t.val / 4 % 4) ∧
    win0_3.index t (1 : Fin 2) = t.val / 16 := by decide +kernel
theorem idx4 : ∀ t : Fin grid0.N, win0_4.index t (0 : Fin 3) = t.val / 16 ∧ win0_4.index t (1 : Fin 3) = 0 ∧
    win0_4.index t (2 : Fin 3) = max (t.val % 4) (t.val / 4 % 4) := by decide +kernel
theorem idx5 : ∀ t : Fin grid0.N, win0_5.index t (0 : Fin 3) = t.val / 16 ∧ win0_5.index t (1 : Fin 3) = t.val / 4 % 4 ∧
    win0_5.index t (2 : Fin 3) = 0 := by decide +kernel
theorem idx6 : ∀ t : Fin grid0.N, win0_6.index t (0 : Fin 3) = t.val / 16 ∧ win0_6.index t (1 : Fin 3) = 0 ∧
    win0_6.index t (2 : Fin 3) = max (t.val % 4) (t.val / 4 % 4) := by decide +kernel
theorem idx7 : ∀ t : Fin grid0.N, win0_7.index t (0 : Fin 3) = t.val / 16 ∧ win0_7.index t (1 : Fin 3) = 0 ∧
    win0_7.index t (2 : Fin 3) = max (t.val % 4) (t.val / 4 % 4) := by decide +kernel

variable {m : (ℓ : Loc nD τ sig) → Buf (Elt Ideal) ℓ} {c : Dev nD} {R : Reals}

/-! ## The elements of a block, of any contents of the arrays -/

section Blocks

variable (W : (b : Ref sig .tc) → Buf (Elt Ideal) ((c : Thread nD τ).loc b))
variable (t : Fin cfg0.N) (h : Fin 16) (i j : Fin 4) (ht : t.val = 16 * h.val + 4 * j.val + i.val) (hij : j ≤ i)

include hij ht in
theorem top_tile : max (t.val % 4) (t.val / 4 % 4) = i.val := by
  have := Fin.le_def.mp hij
  omega

include ht hij in
theorem block0 (r : Fin 1024) (x : Fin 128) (p) :
    ((cfg0.win 0).blk t).view.read (Elt Ideal) (W (Pipeline.arrRef spec0 0)) (ix2 r x) = W main_arg0 (ix2 (at4 i r) ⟨h.val * 128 + x.val, p⟩) := by
  obtain ⟨e0, e1⟩ := idx0 t
  have e := top_tile t h i j ht hij
  show W main_arg0 (((cfg0.win 0).blk t).view.emb (ix2 r x)) = _
  refine congrArg _ (funext fun a => Fin.ext ?_)
  match a with
  | ⟨0, _⟩ => show win0_0.index t (0 : Fin 2) * 1024 + 1 * r.val = 1024 * i.val + r.val; rw [e0, e]; omega
  | ⟨1, _⟩ => show win0_0.index t (1 : Fin 2) * 128 + 1 * x.val = h.val * 128 + x.val; rw [e1]; omega

include ht in
theorem block1 (r : Fin 1024) (x : Fin 128) (p) :
    ((cfg0.win 1).blk t).view.read (Elt Ideal) (W (Pipeline.arrRef spec0 1)) (ix2 r x) = W main_arg0 (ix2 (at4 j r) ⟨2048 + (h.val * 128 + x.val), p⟩) := by
  obtain ⟨e0, e1⟩ := idx1 t
  show W main_arg0 (((cfg0.win 1).blk t).view.emb (ix2 r x)) = _
  refine congrArg _ (funext fun a => Fin.ext ?_)
  match a with
  | ⟨0, _⟩ => show win0_1.index t (0 : Fin 2) * 1024 + 1 * r.val = 1024 * j.val + r.val; rw [e0]; omega
  | ⟨1, _⟩ => show win0_1.index t (1 : Fin 2) * 128 + 1 * x.val = 2048 + (h.val * 128 + x.val); rw [e1]; omega

include ht in
theorem block2 (r : Fin 1024) (x : Fin 128) (p) :
    ((cfg0.win 2).blk t).view.read (Elt Ideal) (W (Pipeline.arrRef spec0 2)) (ix2 r x) = W main_arg0 (ix2 (at4 j r) ⟨4096 + (h.val * 128 + x.val), p⟩) := by
  obtain ⟨e0, e1⟩ := idx2 t
  show W main_arg0 (((cfg0.win 2).blk t).view.emb (ix2 r x)) = _
  refine congrArg _ (funext fun a => Fin.ext ?_)
  match a with
  | ⟨0, _⟩ => show win0_2.index t (0 : Fin 2) * 1024 + 1 * r.val = 1024 * j.val + r.val; rw [e0]; omega
  | ⟨1, _⟩ => show win0_2.index t (1 : Fin 2) * 128 + 1 * x.val = 4096 + (h.val * 128 + x.val); rw [e1]; omega

include ht hij in
theorem block3 (r : Fin 1024) (x : Fin 128) (p) :
    ((cfg0.win 3).blk t).view.read (Elt Ideal) (W (Pipeline.arrRef spec0 3)) (ix2 r x) = W main_arg1 (ix2 (at4 i r) ⟨h.val * 128 + x.val, p⟩) := by
  obtain ⟨e0, e1⟩ := idx3 t
  have e := top_tile t h i j ht hij
  show W main_arg1 (((cfg0.win 3).blk t).view.emb (ix2 r x)) = _
  refine congrArg _ (funext fun a => Fin.ext ?_)
  match a with
  | ⟨0, _⟩ => show win0_3.index t (0 : Fin 2) * 1024 + 1 * r.val = 1024 * i.val + r.val; rw [e0, e]; omega
  | ⟨1, _⟩ => show win0_3.index t (1 : Fin 2) * 128 + 1 * x.val = h.val * 128 + x.val; rw [e1]; omega

include ht hij in
theorem block4 (s : Fin 1024) :
    ((cfg0.win 4).blk t).view.read (Elt Ideal) (W (Pipeline.arrRef spec0 4)) (ix3 0 0 s) = W main_v49 (ix3 h 0 (at4 i s)) := by
  obtain ⟨e0, e1, e2⟩ := idx4 t
  have e := top_tile t h i j ht hij
  show W main_v49 (((cfg0.win 4).blk t).view.emb (ix3 0 0 s)) = _
  refine congrArg _ (funext fun a => Fin.ext ?_)
  match a with
  | ⟨0, _⟩ => show win0_4.index t (0 : Fin 3) * 1 + 1 * 0 = h.val; rw [e0]; omega
  | ⟨1, _⟩ => show win0_4.index t (1 : Fin 3) * 1 + 1 * 0 = 0; rw [e1]
  | ⟨2, _⟩ => show win0_4.index t (2 : Fin 3) * 1024 + 1 * s.val = 1024 * i.val + s.val; rw [e2, e]; omega

include ht in
theorem block5 (r : Fin 1024) (x : Fin 128) :
    ((cfg0.win 5).blk t).view.read (Elt Ideal) (W (Pipeline.arrRef spec0 5)) (ix3 0 r x) = W main_v47 (ix3 h (at4 j r) x) := by
  obtain ⟨e0, e1, e2⟩ := idx5 t
  show W main_v47 (((cfg0.win 5).blk t).view.emb (ix3 0 r x)) = _
  refine congrArg _ (funext fun a => Fin.ext ?_)
  match a with
  | ⟨0, _⟩ => show win0_5.index t (0 : Fin 3) * 1 + 1 * 0 = h.val; rw [e0]; omega
  | ⟨1, _⟩ => show win0_5.index t (1 : Fin 3) * 1024 + 1 * r.val = 1024 * j.val + r.val; rw [e1]; omega
  | ⟨2, _⟩ => show win0_5.index t (2 : Fin 3) * 128 + 1 * x.val = x.val; rw [e2]; omega

include ht hij in
theorem block6 (s : Fin 1024) :
    ((cfg0.win 6).blk t).view.read (Elt Ideal) (W (Pipeline.arrRef spec0 6)) (ix3 0 0 s) = W main_v50 (ix3 h 0 (at4 i s)) := by
  obtain ⟨e0, e1, e2⟩ := idx6 t
  have e := top_tile t h i j ht hij
  show W main_v50 (((cfg0.win 6).blk t).view.emb (ix3 0 0 s)) = _
  refine congrArg _ (funext fun a => Fin.ext ?_)
  match a with
  | ⟨0, _⟩ => show win0_6.index t (0 : Fin 3) * 1 + 1 * 0 = h.val; rw [e0]; omega
  | ⟨1, _⟩ => show win0_6.index t (1 : Fin 3) * 1 + 1 * 0 = 0; rw [e1]
  | ⟨2, _⟩ => show win0_6.index t (2 : Fin 3) * 1024 + 1 * s.val = 1024 * i.val + s.val; rw [e2, e]; omega

include ht hij in
theorem block7 (s : Fin 1024) :
    ((cfg0.win 7).blk t).view.read (Elt Ideal) (W (Pipeline.arrRef spec0 7)) (ix3 0 0 s) = W main_v51 (ix3 h 0 (at4 i s)) := by
  obtain ⟨e0, e1, e2⟩ := idx7 t
  have e := top_tile t h i j ht hij
  show W main_v51 (((cfg0.win 7).blk t).view.emb (ix3 0 0 s)) = _
  refine congrArg _ (funext fun a => Fin.ext ?_)
  match a with
  | ⟨0, _⟩ => show win0_7.index t (0 : Fin 3) * 1 + 1 * 0 = h.val; rw [e0]; omega
  | ⟨1, _⟩ => show win0_7.index t (1 : Fin 3) * 1 + 1 * 0 = 0; rw [e1]
  | ⟨2, _⟩ => show win0_7.index t (2 : Fin 3) * 1024 + 1 * s.val = 1024 * i.val + s.val; rw [e2, e]; omega

end Blocks

section Reads

variable (t : Fin cfg0.N) (h : Fin 16) (i j : Fin 4) (ht : t.val = 16 * h.val + 4 * j.val + i.val) (hij : j ≤ i)

include ht

theorem read1 (r : Fin 1024) (x : Fin 128) (p) : X1 m c t (ix2 r x) = A0 m c (at4 j r) ⟨2048 + (h.val * 128 + x.val), p⟩ := by
  unfold X1 iblk; rw [block1 (V m c) t h i j ht r x p, V_main_arg0]
theorem read2 (r : Fin 1024) (x : Fin 128) (p) : X2 m c t (ix2 r x) = A0 m c (at4 j r) ⟨4096 + (h.val * 128 + x.val), p⟩ := by
  unfold X2 iblk; rw [block2 (V m c) t h i j ht r x p, V_main_arg0]
theorem read5 (r : Fin 1024) (x : Fin 128) : X5 m c t (ix3 0 r x) = w47 m c (ix3 h (at4 j r) x) := by
  unfold X5 iblk w47; exact block5 (V m c) t h i j ht r x

include hij

theorem read0 (r : Fin 1024) (x : Fin 128) (p) : X0 m c t (ix2 r x) = A0 m c (at4 i r) ⟨h.val * 128 + x.val, p⟩ := by
  unfold X0 iblk; rw [block0 (V m c) t h i j ht hij r x p, V_main_arg0]
theorem read3 (r : Fin 1024) (x : Fin 128) (p) : X3 m c t (ix2 r x) = A1 m c (at4 i r) ⟨h.val * 128 + x.val, p⟩ := by
  unfold X3 iblk; rw [block3 (V m c) t h i j ht hij r x p, V_main_arg1]
theorem read4 (s : Fin 1024) : X4 m c t (ix3 0 0 s) = w49 m c (ix3 h 0 (at4 i s)) := by
  unfold X4 iblk w49; exact block4 (V m c) t h i j ht hij s
theorem read6 (s : Fin 1024) : X6 m c t (ix3 0 0 s) = w50 m c (ix3 h 0 (at4 i s)) := by
  unfold X6 iblk w50; exact block6 (V m c) t h i j ht hij s
theorem read7 (s : Fin 1024) : X7 m c t (ix3 0 0 s) = w51 m c (ix3 h 0 (at4 i s)) := by
  unfold X7 iblk w51; exact block7 (V m c) t h i j ht hij s

/-- At and below the diagonal the blocks read are the tile's. -/
theorem holds (hR : R.Of (A0 m c) (A1 m c) (A2 m c)) : (tile R h i j).Holds (X0 m c t) (X1 m c t) (X2 m c t) (X3 m c t) (X4 m c t) (X5 m c t) (X6 m c t) (X7 m c t) where
  q s x := by rw [tile_q, read0 t h i j ht hij s x (by omega), hR.q]
  k r x := by rw [tile_k, read1 t h i j ht r x (by omega), hR.k]
  v r x := by rw [tile_v, read2 t h i j ht r x (by omega), hR.v]
  d s x := by rw [tile_d, read3 t h i j ht hij s x (by omega), hR.d]
  cq s := by rw [tile_cq, read4 t h i j ht hij s, c_row hR]
  ck r x := by rw [tile_ck, read5 t h i j ht r x, c_col hR]
  ls s := by rw [tile_ls, read6 t h i j ht hij s, lse_row hR]
  dl s := by rw [tile_dl, read7 t h i j ht hij s, delta_row hR]

end Reads

end Cert.KernelIdeal.Reads

end
-- ==== Proof.Fold.lean ====
/-
  The accumulators over the grid: after the point of head `h`, key tile `j` and query tile `i` they hold the sums over
  the query tiles up to `i`; after the last query tile the result blocks hold the gradients of the key tile.
-/
module

public import proofs.«01_k».proof.Proof.Reads

@[expose] public section

set_option maxRecDepth 16384

noncomputable section

open Idealize.ShloMosaic Idealize.ShloMosaic.TcCoe

namespace Cert.KernelIdeal.Fold

open Cert.KernelIdeal Cert.KernelIdeal.Gen Cert.KernelIdeal.Blocks Cert.KernelIdeal.Steps Cert.KernelIdeal.Tiles
open Cert.KernelIdeal.HostVals Cert.KernelIdeal.Reads Cert.Args Cert.Attn Cert.Coe
open scoped BigOperators

variable {m : (ℓ : Loc nD τ sig) → Buf (Elt Ideal) ℓ} {c : Dev nD} {R : Reals}

/-! ## The tile's numbers are those of the attention -/

theorem tile_p (h : Fin 16) (i j : Fin 4) (r s : Fin 1024) (hle : at4 j r ≤ at4 i s) :
    (tile R h i j).p r s = R.P h (at4 i s) (at4 j r) := by
  unfold Reals.P
  rw [← exp_sub_lse _ _ _ _ hle]
  unfold Tile.p
  simp only [tile_q, tile_k, tile_cq, tile_ck, tile_ls, mul_comm (R.k h _ _)]
  rw [← add_sub_assoc]
  rfl

theorem at4_le_of_lt (i j : Fin 4) (r s : Fin 1024) (hij : j < i) : at4 j r ≤ at4 i s := by
  rw [Fin.lt_def] at hij; rw [Fin.le_def]; simp only; omega

theorem tile_p_below (h : Fin 16) (i j : Fin 4) (r s : Fin 1024) (hij : j < i) :
    (tile R h i j).p r s = R.P h (at4 i s) (at4 j r) := tile_p h i j r s (at4_le_of_lt i j r s hij)

theorem tile_pm (h : Fin 16) (i : Fin 4) (r s : Fin 1024) :
    (tile R h i i).pm r s = R.P h (at4 i s) (at4 i r) := by
  unfold Tile.pm
  by_cases hle : r ≤ s
  · rw [if_pos hle]; exact tile_p h i i r s (by rw [Fin.le_def] at *; simp only; omega)
  · rw [if_neg hle]
    exact (prob_of_not_le _ _ _ _ (by rw [Fin.le_def] at *; simp only; omega)).symm

theorem tile_g (h : Fin 16) (i j : Fin 4) (r s : Fin 1024) (p : Fin 1024 → Fin 1024 → ℝ)
    (hp : p r s = R.P h (at4 i s) (at4 j r)) : (tile R h i j).g p r s = R.G h (at4 i s) (at4 j r) := by
  unfold Tile.g Reals.G Attn.ds tile
  rw [hp]
  unfold Reals.D Reals.dp Reals.P
  simp only [mul_comm (R.v h _ _)]

/-! ## What a query tile adds -/

section Parts

variable (R) (h : Fin 16) (j : Fin 4)

def ck (i : Fin 4) (r : Fin 1024) (x : Fin 128) : ℝ := ∑ s, R.G h (at4 i s) (at4 j r) * R.q h (at4 i s) x
def cv (i : Fin 4) (r : Fin 1024) (x : Fin 128) : ℝ := ∑ s, R.P h (at4 i s) (at4 j r) * R.d h (at4 i s) x
def cc (i : Fin 4) (r : Fin 1024) (x : Fin 128) : ℝ := -∑ s, R.G h (at4 i s) (at4 j r)

theorem not_le_of_lt (i : Fin 4) (r s : Fin 1024) (hij : i < j) : ¬at4 j r ≤ at4 i s := by
  rw [Fin.lt_def] at hij; rw [Fin.le_def]; simp only; omega

theorem ck_zero (i : Fin 4) (hij : i < j) (r x) : ck R h j i r x = 0 :=
  Finset.sum_eq_zero fun s _ => by
    rw [Reals.G, ds_of_not_le _ _ _ _ _ (not_le_of_lt j i r s hij), zero_mul]
theorem cv_zero (i : Fin 4) (hij : i < j) (r x) : cv R h j i r x = 0 :=
  Finset.sum_eq_zero fun s _ => by
    rw [Reals.P, prob_of_not_le _ _ _ _ (not_le_of_lt j i r s hij), zero_mul]
theorem cc_zero (i : Fin 4) (hij : i < j) (r x) : cc R h j i r x = 0 := by
  unfold cc
  rw [Finset.sum_eq_zero fun s _ => by rw [Reals.G, ds_of_not_le _ _ _ _ _ (not_le_of_lt j i r s hij)], neg_zero]

end Parts

/-- The sum of the query tiles up to `i`. -/
def part (C : Fin 4 → Fin 1024 → Fin 128 → ℝ) (i : Fin 4) (r : Fin 1024) (x : Fin 128) : ℝ :=
  ∑ i' : Fin 4, if i' ≤ i then C i' r x else 0

theorem part_zero (C : Fin 4 → Fin 1024 → Fin 128 → ℝ) (r x) : part C 0 r x = 0 + C 0 r x := by
  unfold part; simp [Fin.sum_univ_four, Fin.le_def]

theorem part_succ (C : Fin 4 → Fin 1024 → Fin 128 → ℝ) (i i' : Fin 4) (hi : i.val = i'.val + 1) (r x) :
    part C i r x = part C i' r x + C i r x := by
  unfold part
  rw [← Fintype.sum_ite_eq' i (fun k => C k r x), ← Finset.sum_add_distrib]
  refine Finset.sum_congr rfl fun k _ => ?_
  rcases Nat.lt_trichotomy k.val i.val with hk | hk | hk
  · rw [if_pos (Fin.le_def.mpr hk.le), if_pos (Fin.le_def.mpr (by omega)), if_neg (fun e => by rw [e] at hk; omega), add_zero]
  · rw [if_pos (Fin.le_def.mpr hk.le), if_neg (fun e => by rw [Fin.le_def] at e; omega), if_pos (Fin.ext hk), zero_add]
  · rw [if_neg (fun e => by rw [Fin.le_def] at e; omega), if_neg (fun e => by rw [Fin.le_def] at e; omega),
      if_neg (fun e => by rw [e] at hk; omega), add_zero]

theorem part_last (C : Fin 4 → Fin 1024 → Fin 128 → ℝ) (r x) : part C 3 r x = ∑ i, C i r x := by
  unfold part; simp [Fin.sum_univ_four, Fin.le_def]

/-- The accumulators hold the three partial sums. -/
def Good (R : Reals) (h : Fin 16) (i j : Fin 4) (a : Vec Ideal S1024x128 .f32 × Vec Ideal S1024x128 .f32 × Vec Ideal S1024x128 .f32) : Prop :=
  Is a.1 (part (ck R h j) i) ∧ Is a.2.1 (part (cv R h j) i) ∧ Is a.2.2 (part (cc R h j) i)

theorem _root_.Cert.KernelIdeal.Tiles.Is.to {s : Vec Ideal S1024x128 .f32} {S S' : Fin 1024 → Fin 128 → ℝ} (hs : Is s S) (e : ∀ r x, S r x = S' r x) : Is s S' :=
  fun r x => by rw [hs r x, e r x]

section Tile

variable (t : Fin cfg0.N) (h : Fin 16) (i j : Fin 4) (ht : t.val = 16 * h.val + 4 * j.val + i.val)
  (hR : R.Of (A0 m c) (A1 m c) (A2 m c)) {s0 s1 s2 : Vec Ideal S1024x128 .f32} {S0 S1 S2 : Fin 1024 → Fin 128 → ℝ}
  (h0 : Is s0 S0) (h1 : Is s1 S1) (h2 : Is s2 S2)

include ht hR

theorem below_dk (hij : j < i) (h0 : Is s0 S0) : Is (dkL (X0 m c t) (X1 m c t) (X2 m c t) (X3 m c t) (X4 m c t) (X5 m c t) (X6 m c t) (X7 m c t) s0) fun r x => S0 r x + ck R h j i r x :=
  (dkL_eq (holds t h i j ht hij.le hR) h0).to fun r x => by
    unfold ck
    exact congrArg (S0 r x + ·) (Finset.sum_congr rfl fun s _ => by rw [tile_g h i j r s _ (tile_p_below h i j r s hij), tile_q])

theorem below_dv (hij : j < i) (h0 : Is s0 S0) : Is (dvL (X0 m c t) (X1 m c t) (X3 m c t) (X4 m c t) (X5 m c t) (X6 m c t) s0) fun r x => S0 r x + cv R h j i r x :=
  (dvL_eq (holds t h i j ht hij.le hR) h0).to fun r x => by
    unfold cv
    exact congrArg (S0 r x + ·) (Finset.sum_congr rfl fun s _ => by rw [tile_p_below h i j r s hij, tile_d])

theorem below_dc (hij : j < i) (h0 : Is s0 S0) : Is (dcL (X0 m c t) (X1 m c t) (X2 m c t) (X3 m c t) (X4 m c t) (X5 m c t) (X6 m c t) (X7 m c t) s0) fun r x => S0 r x + cc R h j i r x :=
  (dcL_eq (holds t h i j ht hij.le hR) h0).to fun r x => by
    unfold cc
    rw [sub_eq_add_neg]
    exact congrArg (fun z => S0 r x + -z) (Finset.sum_congr rfl fun s _ => by rw [tile_g h i j r s _ (tile_p_below h i j r s hij)])

theorem diag_dk (hij : i = j) (h0 : Is s0 S0) : Is (dkD (X0 m c t) (X1 m c t) (X2 m c t) (X3 m c t) (X4 m c t) (X5 m c t) (X6 m c t) (X7 m c t) s0) fun r x => S0 r x + ck R h j i r x := by
  subst hij
  refine (dkD_eq (holds t h i i ht le_rfl hR) h0).to fun r x => ?_
  unfold ck
  exact congrArg (S0 r x + ·) (Finset.sum_congr rfl fun s _ => by rw [tile_g h i i r s _ (tile_pm h i r s), tile_q])

theorem diag_dv (hij : i = j) (h0 : Is s0 S0) : Is (dvD (X0 m c t) (X1 m c t) (X3 m c t) (X4 m c t) (X5 m c t) (X6 m c t) s0) fun r x => S0 r x + cv R h j i r x := by
  subst hij
  refine (dvD_eq (holds t h i i ht le_rfl hR) h0).to fun r x => ?_
  unfold cv
  exact congrArg (S0 r x + ·) (Finset.sum_congr rfl fun s _ => by rw [tile_pm h i r s, tile_d])

theorem diag_dc (hij : i = j) (h0 : Is s0 S0) : Is (dcD (X0 m c t) (X1 m c t) (X2 m c t) (X3 m c t) (X4 m c t) (X5 m c t) (X6 m c t) (X7 m c t) s0) fun r x => S0 r x + cc R h j i r x := by
  subst hij
  refine (dcD_eq (holds t h i i ht le_rfl hR) h0).to fun r x => ?_
  unfold cc
  rw [sub_eq_add_neg]
  exact congrArg (fun z => S0 r x + -z) (Finset.sum_congr rfl fun s _ => by rw [tile_g h i i r s _ (tile_pm h i r s)])

end Tile

/-- The first query tile: the accumulators start from zeros. -/
theorem first (hR : R.Of (A0 m c) (A1 m c) (A2 m c)) (t : Fin cfg0.N) (h : Fin 16) (j : Fin 4)
    (ht : t.val = 16 * h.val + 4 * j.val + (0 : Fin 4).val) : Good R h 0 j (acc m c t.val t.isLt) := by
  have ht' : t.val = 16 * h.val + 4 * j.val := ht
  have m1 : t.val % 4 = 0 := by omega
  have m2 : t.val / 4 % 4 = j.val := by omega
  by_cases hj : j.val = 0
  · rw [acc_A m c t m1 (by rw [m1, m2]; omega) (by rw [m1, m2]; omega) (by rw [m1]; omega)]
    have hij : (0 : Fin 4) = j := Fin.ext hj.symm
    exact ⟨(diag_dk t h 0 j ht hR hij zero0).to fun r x => (part_zero _ r x).symm,
      (diag_dv t h 0 j ht hR hij zero1).to fun r x => (part_zero _ r x).symm,
      (diag_dc t h 0 j ht hR hij zero2).to fun r x => (part_zero _ r x).symm⟩
  · rw [acc_D m c t m1 (by rw [m1, m2]; omega) (by rw [m1, m2]; omega) (by rw [m1]; omega)]
    have hij : (0 : Fin 4) < j := Fin.lt_def.mpr (Nat.pos_of_ne_zero hj)
    exact ⟨zero0.to fun r x => by rw [part_zero, ck_zero R h j 0 hij, add_zero],
      zero1.to fun r x => by rw [part_zero, cv_zero R h j 0 hij, add_zero],
      zero2.to fun r x => by rw [part_zero, cc_zero R h j 0 hij, add_zero]⟩

/-- The next query tile: the accumulators gain its sums. -/
theorem next (hR : R.Of (A0 m c) (A1 m c) (A2 m c)) (t : Fin cfg0.N) (h : Fin 16) (i i' j : Fin 4)
    (ht : t.val = 16 * h.val + 4 * j.val + i.val) (hi : i.val = i'.val + 1)
    (ih : Good R h i' j (acc m c (t.val - 1) (prev_lt t))) : Good R h i j (acc m c t.val t.isLt) := by
  obtain ⟨g0, g1, g2⟩ := ih
  have m1 : t.val % 4 = i.val := by omega
  have m2 : t.val / 4 % 4 = j.val := by omega
  have e0 : ∀ r x, part (ck R h j) i' r x + ck R h j i r x = part (ck R h j) i r x := fun r x => (part_succ _ i i' hi r x).symm
  have e1 : ∀ r x, part (cv R h j) i' r x + cv R h j i r x = part (cv R h j) i r x := fun r x => (part_succ _ i i' hi r x).symm
  have e2 : ∀ r x, part (cc R h j) i' r x + cc R h j i r x = part (cc R h j) i r x := fun r x => (part_succ _ i i' hi r x).symm
  rcases Nat.lt_trichotomy j.val i.val with hlt | heq | hgt
  · have hij : j < i := hlt
    by_cases h3 : i.val = 3
    · rw [acc_C m c t (by rw [m1]; omega) (by rw [m1, m2]; omega) (by rw [m1, m2]; omega) (by rw [m1]; omega)]
      exact ⟨(below_dk t h i j ht hR hij g0).to e0, (below_dv t h i j ht hR hij g1).to e1, (below_dc t h i j ht hR hij g2).to e2⟩
    · rw [acc_B m c t (by rw [m1]; omega) (by rw [m1, m2]; omega) (by rw [m1, m2]; omega) (by rw [m1]; omega)]
      exact ⟨(below_dk t h i j ht hR hij g0).to e0, (below_dv t h i j ht hR hij g1).to e1, (below_dc t h i j ht hR hij g2).to e2⟩
  · have hij : i = j := Fin.ext heq.symm
    by_cases h3 : i.val = 3
    · rw [acc_G m c t (by rw [m1]; omega) (by rw [m1, m2]; omega) (by rw [m1, m2]; omega) (by rw [m1]; omega)]
      exact ⟨(diag_dk t h i j ht hR hij g0).to e0, (diag_dv t h i j ht hR hij g1).to e1, (diag_dc t h i j ht hR hij g2).to e2⟩
    · rw [acc_E m c t (by rw [m1]; omega) (by rw [m1, m2]; omega) (by rw [m1, m2]; omega) (by rw [m1]; omega)]
      exact ⟨(diag_dk t h i j ht hR hij g0).to e0, (diag_dv t h i j ht hR hij g1).to e1, (diag_dc t h i j ht hR hij g2).to e2⟩
  · rw [acc_F m c t (by rw [m1]; omega) (by rw [m1, m2]; omega) (by rw [m1, m2]; omega) (by rw [m1]; omega)]
    have hij : i < j := hgt
    exact ⟨g0.to fun r x => by rw [← e0, ck_zero R h j i hij, add_zero],
      g1.to fun r x => by rw [← e1, cv_zero R h j i hij, add_zero],
      g2.to fun r x => by rw [← e2, cc_zero R h j i hij, add_zero]⟩

/-- The accumulators at every point. -/
theorem good (hR : R.Of (A0 m c) (A1 m c) (A2 m c)) (h : Fin 16) (j : Fin 4) : ∀ (n : ℕ) (hn : n < 4) (t : Fin cfg0.N),
    t.val = 16 * h.val + 4 * j.val + n → Good R h ⟨n, hn⟩ j (acc m c t.val t.isLt)
  | 0, hn, t, ht => first hR t h j ht
  | n + 1, hn, t, ht => by
      refine next hR t h ⟨n + 1, hn⟩ ⟨n, by omega⟩ j ht rfl ?_
      exact good hR h j n (by omega) ⟨t.val - 1, prev_lt t⟩ (by show t.val - 1 = _; omega)

/-- The result blocks of a key tile, after its last query tile. -/
theorem blocks (hR : R.Of (A0 m c) (A1 m c) (A2 m c)) (h : Fin 16) (j : Fin 4) (t : Fin cfg0.N)
    (ht : t.val = 16 * h.val + 4 * j.val + 3) (r : Fin 1024) (x : Fin 128) :
    (outsAt0 m c t.val t.isLt).1 (ix2 r x) = ((R.dk h (at4 j r) x : ℝ) : EReal)
      ∧ (outsAt0 m c t.val t.isLt).2.1 (ix2 r x) = ((R.dv h (at4 j r) x : ℝ) : EReal)
      ∧ (outsAt0 m c t.val t.isLt).2.2.1 (ix3 0 r x) = ((R.dc h (at4 j r) : ℝ) : EReal) := by
  obtain ⟨g0, g1, g2⟩ := good hR h j 3 (by omega) t ht
  have e : (outsAt0 m c t.val t.isLt).1 = k0_pay10 (acc m c t.val t.isLt).1
      ∧ (outsAt0 m c t.val t.isLt).2.1 = k0_pay11 (acc m c t.val t.isLt).2.1
      ∧ (outsAt0 m c t.val t.isLt).2.2.1 = k0_pay12 (acc m c t.val t.isLt).2.2 := by
    have m1 : t.val % 4 = 3 := by omega
    have m2 : t.val / 4 % 4 = j.val := by omega
    by_cases hj : j.val = 3
    · exact outs_G m c t (by rw [m1]; omega) (by rw [m1, m2]; omega) (by rw [m1, m2]; omega) m1
    · exact outs_C m c t (by rw [m1]; omega) (by rw [m1, m2]; omega) (by rw [m1, m2]; omega) m1
  rw [e.1, e.2.1, e.2.2, fin0 g0, fin1 g1, fin2 g2]
  have p : ∀ C, part C ⟨3, by omega⟩ r x = ∑ i, C i r x := fun C => part_last C r x
  rw [p, p, p]
  unfold Reals.dk Reals.dv Reals.dc
  rw [sum_tiles, sum_tiles, sum_tiles, ← Finset.sum_neg_distrib]
  exact ⟨rfl, rfl, rfl⟩

end Cert.KernelIdeal.Fold

end
-- ==== Proof.Final.lean ====
/-
  The kernel's run: the three result arrays end holding the gradients of the keys, of the values and of the cumulative
  gate, and the arguments end as launched.
-/
module

public import proofs.«01_k».proof.Proof.Fold

@[expose] public section

set_option maxRecDepth 16384

noncomputable section

open Idealize.ShloMosaic Idealize.ShloMosaic.TcCoe Idealize.SL.Sem

namespace Cert.KernelIdeal.Final

open Cert.KernelIdeal Cert.KernelIdeal.Gen Cert.KernelIdeal.Fold Cert.KernelIdeal.HostVals Cert.Args Cert.Attn

variable {m : (ℓ : Loc nD τ sig) → Buf (Elt Ideal) ℓ} {R : Reals} {c : Dev nD}

/-- A gradient by head, position and lane, as an array whose columns are the heads' lanes one after the other. -/
def cols (f : Fin 16 → Fin 4096 → Fin 128 → ℝ) : Vec Ideal S4096x2048 .bf16 :=
  fun i => ((f ⟨(i 1).val / 128, by have : (i 1).val < 2048 := (i 1).isLt; omega⟩ (i 0)
    ⟨(i 1).val % 128, Nat.mod_lt _ (by decide)⟩ : ℝ) : EReal)

/-- A gradient by head and position, the same in every lane. -/
def lanes (f : Fin 16 → Fin 4096 → ℝ) : Vec Ideal S16x4096x128 .f32 := fun i => ((f (i 0) (i 1) : ℝ) : EReal)

theorem cols_at (f : Fin 16 → Fin 4096 → Fin 128 → ℝ) (i : S4096x2048.Idx) (h : Fin 16) (s : Fin 4096) (x : Fin 128)
    (h0 : (i 0).val = s.val) (h1 : (i 1).val = h.val * 128 + x.val) : cols f i = ((f h s x : ℝ) : EReal) := by
  unfold cols
  have eh : (⟨(i 1).val / 128, by have : (i 1).val < 2048 := (i 1).isLt; omega⟩ : Fin 16) = h := Fin.ext (by dsimp only; omega)
  have ex : (⟨(i 1).val % 128, Nat.mod_lt _ (by decide)⟩ : Fin 128) = x := Fin.ext (by dsimp only; omega)
  have es : i 0 = s := Fin.ext h0
  rw [eh, ex, es]

theorem lanes_at (f : Fin 16 → Fin 4096 → ℝ) (i : S16x4096x128.Idx) (h : Fin 16) (s : Fin 4096)
    (h0 : (i 0).val = h.val) (h1 : (i 1).val = s.val) : lanes f i = ((f h s : ℝ) : EReal) := by
  unfold lanes
  rw [show i 0 = h from Fin.ext h0, show i 1 = s from Fin.ext h1]

theorem split (t : Fin cfg0.N) (hm : t.val % 4 = 3) : ∃ (h : Fin 16) (j : Fin 4), t.val = 16 * h.val + 4 * j.val + 3 := by
  have ht : t.val < 256 := lt_of_lt_of_le t.isLt (by decide)
  exact ⟨⟨t.val / 16, by omega⟩, ⟨t.val / 4 % 4, by omega⟩, by show t.val = 16 * (t.val / 16) + 4 * (t.val / 4 % 4) + 3; omega⟩

theorem idx8 : ∀ t : Fin grid0.N, win0_8.index t (0 : Fin 2) = t.val / 4 % 4 ∧ win0_8.index t (1 : Fin 2) = t.val / 16 := by
  decide +kernel

theorem onto8 : ∀ (j : Fin 4) (h : Fin 16), ∃ t : Fin cfg0.N, (cfg0.win 8).flush t = true ∧
    win0_8.index t (0 : Fin 2) = j.val ∧ win0_8.index t (1 : Fin 2) = h.val := by
  decide +kernel

theorem flushed8 (hR : R.Of (A0 m c) (A1 m c) (A2 m c)) (t : Fin cfg0.N) (hf : (cfg0.win 8).flush t = true) :
    (dats m 0 c).flushed 8 t = ((cfg0.win 8).blk t).view.read (Elt Ideal) (cols R.dk) := by
  show (cfg0.win 8).cut (grid0.coords t) ((dats m 0 c).after 8 t) = _
  rw [after0_8]
  obtain ⟨h, j, ht⟩ := split t ((flush0_8 t).mp hf)
  obtain ⟨e0, e1⟩ := idx8 t
  have m2 : t.val / 4 % 4 = j.val := by omega
  have m3 : t.val / 16 = h.val := by omega
  funext y
  have hb := (blocks hR h j t ht (y 0) (y 1)).1
  generalize outsAt0 m c t.val t.isLt = o at hb ⊢
  show o.1 ((cfg0.win 8).xinj (grid0.coords t) y) = cols R.dk (((cfg0.win 8).blk t).view.emb y)
  have hx : (cfg0.win 8).xinj (grid0.coords t) y = ix2 (y 0) (y 1) := by
    funext a; apply Fin.ext
    match a with
    | ⟨0, _⟩ => rfl
    | ⟨1, _⟩ => rfl
  refine (congrArg o.1 hx).trans (hb.trans (cols_at _ _ h (at4 j (y 0)) (y 1) ?_ ?_).symm)
  · show win0_8.index t (0 : Fin 2) * 1024 + 1 * (y 0).val = 1024 * j.val + (y 0).val; rw [e0, m2]; omega
  · show win0_8.index t (1 : Fin 2) * 128 + 1 * (y 1).val = h.val * 128 + (y 1).val; rw [e1, m3]; omega

theorem cover8 (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, hft, q0, q1⟩ := onto8 ⟨(i 0).val / 1024, by omega⟩ ⟨(i 1).val / 128, by omega⟩
  refine ⟨t, hft, ?_⟩
  show i ∈ ((View.whole main_v52_0).slice (win0_8.rect t)).set
  rw [View.set_slice_whole, Rect.mem_set_unit]
  intro a
  match a with
  | ⟨0, _⟩ => show win0_8.index t (0 : Fin 2) * 1024 ≤ (i 0).val ∧ (i 0).val < win0_8.index t (0 : Fin 2) * 1024 + 1024; rw [q0]; dsimp only; omega
  | ⟨1, _⟩ => show win0_8.index t (1 : Fin 2) * 128 ≤ (i 1).val ∧ (i 1).val < win0_8.index t (1 : Fin 2) * 128 + 128; rw [q1]; dsimp only; omega

theorem idx9 : ∀ t : Fin grid0.N, win0_9.index t (0 : Fin 2) = t.val / 4 % 4 ∧ win0_9.index t (1 : Fin 2) = t.val / 16 := by
  decide +kernel

theorem onto9 : ∀ (j : Fin 4) (h : Fin 16), ∃ t : Fin cfg0.N, (cfg0.win 9).flush t = true ∧
    win0_9.index t (0 : Fin 2) = j.val ∧ win0_9.index t (1 : Fin 2) = h.val := by
  decide +kernel

theorem flushed9 (hR : R.Of (A0 m c) (A1 m c) (A2 m c)) (t : Fin cfg0.N) (hf : (cfg0.win 9).flush t = true) :
    (dats m 0 c).flushed 9 t = ((cfg0.win 9).blk t).view.read (Elt Ideal) (cols R.dv) := by
  show (cfg0.win 9).cut (grid0.coords t) ((dats m 0 c).after 9 t) = _
  rw [after0_9]
  obtain ⟨h, j, ht⟩ := split t ((flush0_9 t).mp hf)
  obtain ⟨e0, e1⟩ := idx9 t
  have m2 : t.val / 4 % 4 = j.val := by omega
  have m3 : t.val / 16 = h.val := by omega
  funext y
  have hb := (blocks hR h j t ht (y 0) (y 1)).2.1
  generalize outsAt0 m c t.val t.isLt = o at hb ⊢
  show o.2.1 ((cfg0.win 9).xinj (grid0.coords t) y) = cols R.dv (((cfg0.win 9).blk t).view.emb y)
  have hx : (cfg0.win 9).xinj (grid0.coords t) y = ix2 (y 0) (y 1) := by
    funext a; apply Fin.ext
    match a with
    | ⟨0, _⟩ => rfl
    | ⟨1, _⟩ => rfl
  refine (congrArg o.2.1 hx).trans (hb.trans (cols_at _ _ h (at4 j (y 0)) (y 1) ?_ ?_).symm)
  · show win0_9.index t (0 : Fin 2) * 1024 + 1 * (y 0).val = 1024 * j.val + (y 0).val; rw [e0, m2]; omega
  · show win0_9.index t (1 : Fin 2) * 128 + 1 * (y 1).val = h.val * 128 + (y 1).val; rw [e1, m3]; omega

theorem cover9 (i : S4096x2048.Idx) : ∃ t : Fin cfg0.N, (cfg0.win 9).flush t = true ∧ i ∈ ((cfg0.win 9).blk t).view.set := by
  have hi0 : (i 0).val < 4096 := (i 0).isLt
  have hi1 : (i 1).val < 2048 := (i 1).isLt
  obtain ⟨t, hft, q0, q1⟩ := onto9 ⟨(i 0).val / 1024, by omega⟩ ⟨(i 1).val / 128, by omega⟩
  refine ⟨t, hft, ?_⟩
  show i ∈ ((View.whole main_v52_1).slice (win0_9.rect t)).set
  rw [View.set_slice_whole, Rect.mem_set_unit]
  intro a
  match a with
  | ⟨0, _⟩ => show win0_9.index t (0 : Fin 2) * 1024 ≤ (i 0).val ∧ (i 0).val < win0_9.index t (0 : Fin 2) * 1024 + 1024; rw [q0]; dsimp only; omega
  | ⟨1, _⟩ => show win0_9.index t (1 : Fin 2) * 128 ≤ (i 1).val ∧ (i 1).val < win0_9.index t (1 : Fin 2) * 128 + 128; rw [q1]; dsimp only; omega

theorem idx10 : ∀ t : Fin grid0.N, win0_10.index t (0 : Fin 3) = t.val / 16 ∧ win0_10.index t (1 : Fin 3) = t.val / 4 % 4 := by
  decide +kernel

theorem onto10 : ∀ (j : Fin 4) (h : Fin 16), ∃ t : Fin cfg0.N, (cfg0.win 10).flush t = true ∧
    win0_10.index t (0 : Fin 3) = h.val ∧ win0_10.index t (1 : Fin 3) = j.val ∧ win0_10.index t (2 : Fin 3) = 0 := by
  decide +kernel

theorem flushed10 (hR : R.Of (A0 m c) (A1 m c) (A2 m c)) (t : Fin cfg0.N) (hf : (cfg0.win 10).flush t = true) :
    (dats m 0 c).flushed 10 t = ((cfg0.win 10).blk t).view.read (Elt Ideal) (lanes R.dc) := by
  show (cfg0.win 10).cut (grid0.coords t) ((dats m 0 c).after 10 t) = _
  rw [after0_10]
  obtain ⟨h, j, ht⟩ := split t ((flush0_10 t).mp hf)
  obtain ⟨e0, e1⟩ := idx10 t
  have m2 : t.val / 4 % 4 = j.val := by omega
  have m3 : t.val / 16 = h.val := by omega
  funext y
  have hb := (blocks hR h j t ht (y 1) (y 2)).2.2
  generalize outsAt0 m c t.val t.isLt = o at hb ⊢
  show o.2.2.1 ((cfg0.win 10).xinj (grid0.coords t) y) = lanes R.dc (((cfg0.win 10).blk t).view.emb y)
  have hy0 : (y 0).val < 1 := (y 0).isLt
  have hx : (cfg0.win 10).xinj (grid0.coords t) y = ix3 0 (y 1) (y 2) := by
    funext a; apply Fin.ext
    match a with
    | ⟨0, _⟩ => show (y 0).val = 0; omega
    | ⟨1, _⟩ => rfl
    | ⟨2, _⟩ => rfl
  refine (congrArg o.2.2.1 hx).trans (hb.trans (lanes_at _ _ h (at4 j (y 1)) ?_ ?_).symm)
  · show win0_10.index t (0 : Fin 3) * 1 + 1 * (y 0).val = h.val; rw [e0, m3]; omega
  · show win0_10.index t (1 : Fin 3) * 1024 + 1 * (y 1).val = 1024 * j.val + (y 1).val; rw [e1, m2]; omega

theorem cover10 (i : S16x4096x128.Idx) : ∃ t : Fin cfg0.N, (cfg0.win 10).flush t = true ∧ i ∈ ((cfg0.win 10).blk t).view.set := by
  have hi0 : (i 0).val < 16 := (i 0).isLt
  have hi1 : (i 1).val < 4096 := (i 1).isLt
  have hi2 : (i 2).val < 128 := (i 2).isLt
  obtain ⟨t, hft, q0, q1, q2⟩ := onto10 ⟨(i 1).val / 1024, by omega⟩ ⟨(i 0).val, by omega⟩
  refine ⟨t, hft, ?_⟩
  show i ∈ ((View.whole main_v52_2).slice (win0_10.rect t)).set
  rw [View.set_slice_whole, Rect.mem_set_unit]
  intro a
  match a with
  | ⟨0, _⟩ => show win0_10.index t (0 : Fin 3) * 1 ≤ (i 0).val ∧ (i 0).val < win0_10.index t (0 : Fin 3) * 1 + 1; rw [q0]; dsimp only; omega
  | ⟨1, _⟩ => show win0_10.index t (1 : Fin 3) * 1024 ≤ (i 1).val ∧ (i 1).val < win0_10.index t (1 : Fin 3) * 1024 + 1024; rw [q1]; dsimp only; omega
  | ⟨2, _⟩ => show win0_10.index t (2 : Fin 3) * 128 ≤ (i 2).val ∧ (i 2).val < win0_10.index t (2 : Fin 3) * 128 + 128; rw [q2]; omega

/-- The run of the kernel's program from memories whose arguments hold real numbers. -/
theorem run (R : Dev nD → Reals) (hR : ∀ c, (R c).Of (A0 m c) (A1 m c) (A2 m c)) (ρ : Dev nD → PrngReg) :
    θ_run defs (onTc (τ := τ) (main (F := Ideal))) ⟨m, fun _ => 0, ρ⟩ fun r => ∀ c : Dev nD,
      r.2.mem ((c : Thread nD τ).loc main_v52_0) = cols (R c).dk
      ∧ r.2.mem ((c : Thread nD τ).loc main_v52_1) = cols (R c).dv
      ∧ r.2.mem ((c : Thread nD τ).loc main_v52_2) = lanes (R c).dc
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 8).trans ((dats m 0 c).arrAt_eq_of_cover 8 _ (fun t hf => flushed8 (hR c) t hf) cover8),
      ((h c).1 9).trans ((dats m 0 c).arrAt_eq_of_cover 9 _ (fun t hf => flushed9 (hR c) t hf) cover9),
      ((h c).1 10).trans ((dats m 0 c).arrAt_eq_of_cover 10 _ (fun t hf => flushed10 (hR c) t hf) cover10),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c)⟩)
    (run_main m ρ)

end Cert.KernelIdeal.Final

end
-- ==== Proof.RefSteps.lean ====
/-
  The arrays of the reference's host lines, each from the ones before it.
-/
module

public import proofs.«01_k».proof.Proof.Args
public import proofs.«01_k».proof.Proof.Gen.ReferenceIdeal.Run
public import Idealize.ShloMosaic.Lib.StableHlo.ReadAt

@[expose] public section

set_option maxRecDepth 16384
set_option maxHeartbeats 4000000

noncomputable section

open Idealize.ShloMosaic Idealize.ShloMosaic.TcCoe Idealize.ShloMosaic.StableHlo

namespace Cert.ReferenceIdeal.HostSteps

open Cert.ReferenceIdeal Cert.ReferenceIdeal.Gen Cert.ReferenceIdeal.Value

/-- A buffer after all of the reference's operations. -/
abbrev W (m : (ℓ : Loc nD τ sig) → Buf (Elt Ideal) ℓ) (c : Dev nD) (b : Ref sig .tc) : Buf (Elt Ideal) ((c : Thread nD τ).loc b) :=
  StableHlo.after ops (fun b => m (c, b)) b

variable (m : (ℓ : Loc nD τ sig) → Buf (Elt Ideal) ℓ) (c : Dev nD)

def r27 : FVec Ideal S16x4096x4096 .f32 := W m c main_v27_0
def b27 : IVec S16x4096x4096 1 := W m c main_v27_1
def r6 : FVec Ideal S4096x16x128 .f32 := W m c main_v6
def r8 : FVec Ideal S4096x16x128 .f32 := W m c main_v8
def r28 : FVec Ideal S16x4096 .f32 := W m c main_v28
def r35 : FVec Ideal S16x4096 .f32 := W m c main_v35
def r48 : FVec Ideal S16x4096x4096 .f32 := W m c main_v48
def r49 : FVec Ideal S16x4096 .f32 := W m c main_v49
def r52 : FVec Ideal S16x4096x4096 .f32 := W m c main_v52
def r55 : FVec Ideal S16x4096x1 .f32 := W m c main_v55
def r64 : FVec Ideal S16x128x4096 .f32 := W m c main_v64
def r65 : FVec Ideal S16x4096x4096 .f32 := W m c main_v65
def r66 : FVec Ideal S16x128x4096 .f32 := W m c main_v66
def r69 : FVec Ideal S16x4096x4096 .f32 := W m c main_v69
def r72 : FVec Ideal S16x4096x4096 .f32 := W m c main_v72
def r73 : FVec Ideal S16x4096 .f32 := W m c main_v73
def r78 : FVec Ideal S16x4096 .f32 := W m c main_v78
def r81 : FVec Ideal S16x4096x4096 .f32 := W m c main_v81
def r82 : FVec Ideal S16x4096x4096 .f32 := W m c main_v82
def r84 : FVec Ideal S16x4096 .f32 := W m c main_v84
def r86 : FVec Ideal S16x4096 .f32 := W m c main_v86
def r88 : FVec Ideal S16x4096 .f32 := W m c main_v88
def r90 : FVec Ideal S16x4096 .f32 := W m c main_v90
def r94 : FVec Ideal S16x4096x4096 .f32 := W m c main_v94
def r95 : FVec Ideal S16x4096x128 .f32 := W m c main_v95
def r99 : FVec Ideal S4096x2048 .bf16 := W m c main_v99
def r100 : FVec Ideal S4096x2048 .bf16 := W m c main_v100
def r103 : FVec Ideal S16x4096x128 .f32 := W m c main_v103

theorem s28 : r28 m c = Host.reduce FloatOps.maximumf (r27 m c) (constant S_ .f32 0xFF800000#32) reducesTo_S16x4096x4096_S16x4096_d2 h_S_ := by
  unfold r28 r27 W
  simp only [ops, TRef.nullary, TRef.ternary, TRef.unary, TRef.toBuf, TRef.ofBuf, cast_eq]
  after_reads_simp
theorem s35 : r35 m c = maximumf (broadcastInDim S16x4096 ![] bcast_S_S16x4096 (constant S_ .f32 0xFF800000#32)) (r28 m c) := by
  unfold r35 r28 W
  simp only [ops, TRef.nullary, TRef.ternary, TRef.unary, TRef.toBuf, TRef.ofBuf, cast_eq]
  after_reads_simp
theorem s48 : r48 m c = Host.exp (subf (r27 m c) (broadcastInDim S16x4096x4096 ![0, 1, 2] bcast_S16x4096x1_S16x4096x4096_0_1_2 (broadcastInDim S16x4096x1 ![0, 1] bcast_S16x4096_S16x4096x1_0_1 (r35 m c)))) := by
  unfold r48 r27 r35 W
  simp only [ops, TRef.nullary, TRef.ternary, TRef.unary, TRef.toBuf, TRef.ofBuf, cast_eq]
  after_reads_simp
theorem s49 : r49 m c = Host.reduceAdd (r48 m c) (constant S_ .f32 0x00000000#32) reducesTo_S16x4096x4096_S16x4096_d2 h_S_ := by
  unfold r49 r48 W
  simp only [ops, TRef.nullary, TRef.ternary, TRef.unary, TRef.toBuf, TRef.ofBuf, cast_eq]
  after_reads_simp
theorem s52 : r52 m c = Host.divf (r48 m c) (broadcastInDim S16x4096x4096 ![0, 1, 2] bcast_S16x4096x1_S16x4096x4096_0_1_2 (broadcastInDim S16x4096x1 ![0, 1] bcast_S16x4096_S16x4096x1_0_1 (r49 m c))) := by
  unfold r52 r48 r49 W
  simp only [ops, TRef.nullary, TRef.ternary, TRef.unary, TRef.toBuf, TRef.ofBuf, cast_eq]
  after_reads_simp
theorem s55 : r55 m c = Host.divf (broadcastInDim S16x4096x1 ![] bcast_S_S16x4096x1 (constant S_ .f32 0x3F800000#32)) (mulf (broadcastInDim S16x4096x1 ![0, 1] bcast_S16x4096_S16x4096x1_0_1 (r49 m c)) (broadcastInDim S16x4096x1 ![0, 1] bcast_S16x4096_S16x4096x1_0_1 (r49 m c))) := by
  unfold r55 r49 W
  simp only [ops, TRef.nullary, TRef.ternary, TRef.unary, TRef.toBuf, TRef.ofBuf, cast_eq]
  after_reads_simp
theorem s66 : r66 m c = Host.dotGeneral dot_S16x128x4096_S16x4096x4096_S16x128x4096_2_1_1_2_0_0 none (r64 m c) (extf .f32 (truncf .bf16 (r52 m c) bitsLt_bf16_f32) bitsLt_bf16_f32) := by
  unfold r66 r52 r64 W
  simp only [ops, TRef.nullary, TRef.ternary, TRef.unary, TRef.toBuf, TRef.ofBuf, cast_eq]
  after_reads_simp
theorem s69 : r69 m c = extf .f32 (truncf .bf16 (r65 m c) bitsLt_bf16_f32) bitsLt_bf16_f32 := by
  unfold r69 r65 W
  simp only [ops, TRef.nullary, TRef.ternary, TRef.unary, TRef.toBuf, TRef.ofBuf, cast_eq]
  after_reads_simp
theorem s72 : r72 m c = mulf (mulf (r69 m c) (broadcastInDim S16x4096x4096 ![0, 1, 2] bcast_S16x4096x1_S16x4096x4096_0_1_2 (r55 m c))) (r48 m c) := by
  unfold r72 r69 r55 r48 W
  simp only [ops, TRef.nullary, TRef.ternary, TRef.unary, TRef.toBuf, TRef.ofBuf, cast_eq]
  after_reads_simp
theorem s73 : r73 m c = Host.reduceAdd (r72 m c) (constant S_ .f32 0x00000000#32) reducesTo_S16x4096x4096_S16x4096_d2 h_S_ := by
  unfold r73 r72 W
  simp only [ops, TRef.nullary, TRef.ternary, TRef.unary, TRef.toBuf, TRef.ofBuf, cast_eq]
  after_reads_simp
theorem s78 : r78 m c = Host.reduceAdd (Host.negf (shapeCast S16x4096x1 (r73 m c) shapeCasts_S16x4096_S16x4096x1)) (constant S_ .f32 0x00000000#32) reducesTo_S16x4096x1_S16x4096_d2 h_S_ := by
  unfold r78 r73 W
  simp only [ops, TRef.nullary, TRef.ternary, TRef.unary, TRef.toBuf, TRef.ofBuf, cast_eq]
  after_reads_simp
  all_goals rfl
theorem s81 : r81 m c = mulf (addf (Host.divf (r69 m c) (broadcastInDim S16x4096x4096 ![0, 1, 2] bcast_S16x4096x1_S16x4096x4096_0_1_2 (broadcastInDim S16x4096x1 ![0, 1] bcast_S16x4096_S16x4096x1_0_1 (r49 m c)))) (broadcastInDim S16x4096x4096 ![0, 1] bcast_S16x4096_S16x4096x4096_0_1 (r78 m c))) (r48 m c) := by
  unfold r81 r69 r49 r78 r48 W
  simp only [ops, TRef.nullary, TRef.ternary, TRef.unary, TRef.toBuf, TRef.ofBuf, cast_eq]
  after_reads_simp
theorem s82 : r82 m c = select (b27 m c) (r81 m c) (broadcastInDim S16x4096x4096 ![] bcast_S_S16x4096x4096 (constant S_ .f32 0x00000000#32)) := by
  unfold r82 b27 r81 W
  simp only [ops, TRef.nullary, TRef.ternary, TRef.unary, TRef.toBuf, TRef.ofBuf, cast_eq]
  after_reads_simp
theorem s84 : r84 m c = Host.reduceAdd (Host.negf (r82 m c)) (constant S_ .f32 0x00000000#32) reducesTo_S16x4096x4096_S16x4096_d1 h_S_ := by
  unfold r84 r82 W
  simp only [ops, TRef.nullary, TRef.ternary, TRef.unary, TRef.toBuf, TRef.ofBuf, cast_eq]
  after_reads_simp
theorem s86 : r86 m c = Host.reduceAdd (shapeCast S16x1x4096 (r84 m c) shapeCasts_S16x4096_S16x1x4096) (constant S_ .f32 0x00000000#32) reducesTo_S16x1x4096_S16x4096_d1 h_S_ := by
  unfold r86 r84 W
  simp only [ops, TRef.nullary, TRef.ternary, TRef.unary, TRef.toBuf, TRef.ofBuf, cast_eq]
  after_reads_simp
  all_goals rfl
theorem s88 : r88 m c = Host.reduceAdd (r82 m c) (constant S_ .f32 0x00000000#32) reducesTo_S16x4096x4096_S16x4096_d2 h_S_ := by
  unfold r88 r82 W
  simp only [ops, TRef.nullary, TRef.ternary, TRef.unary, TRef.toBuf, TRef.ofBuf, cast_eq]
  after_reads_simp
theorem s90 : r90 m c = Host.reduceAdd (shapeCast S16x4096x1 (r88 m c) shapeCasts_S16x4096_S16x4096x1) (constant S_ .f32 0x00000000#32) reducesTo_S16x4096x1_S16x4096_d2 h_S_ := by
  unfold r90 r88 W
  simp only [ops, TRef.nullary, TRef.ternary, TRef.unary, TRef.toBuf, TRef.ofBuf, cast_eq]
  after_reads_simp
  all_goals rfl
theorem s94 : r94 m c = mulf (r82 m c) (broadcastInDim S16x4096x4096 ![] bcast_S_S16x4096x4096 (constant S_ .f32 0x3DB504F3#32)) := by
  unfold r94 r82 W
  simp only [ops, TRef.nullary, TRef.ternary, TRef.unary, TRef.toBuf, TRef.ofBuf, cast_eq]
  after_reads_simp
theorem s95 : r95 m c = Host.dotGeneral dot_S16x4096x4096_S4096x16x128_S16x4096x128_1_0_2_2_0_1 none (r94 m c) (r6 m c) := by
  unfold r95 r94 r6 W
  simp only [ops, TRef.nullary, TRef.ternary, TRef.unary, TRef.toBuf, TRef.ofBuf, cast_eq]
  after_reads_simp
theorem s99 : r99 m c = shapeCast S4096x2048 (truncf .bf16 (transpose S4096x16x128 [1, 0, 2] (r95 m c) transposes_S16x4096x128_S4096x16x128_1_0_2) bitsLt_bf16_f32) shapeCasts_S4096x16x128_S4096x2048 := by
  unfold r99 r95 W
  simp only [ops, TRef.nullary, TRef.ternary, TRef.unary, TRef.toBuf, TRef.ofBuf, cast_eq]
  after_reads_simp
  all_goals rfl
theorem s100 : r100 m c = shapeCast S4096x2048 (truncf .bf16 (transpose S4096x16x128 [2, 0, 1] (r66 m c) transposes_S16x128x4096_S4096x16x128_2_0_1) bitsLt_bf16_f32) shapeCasts_S4096x16x128_S4096x2048 := by
  unfold r100 r66 W
  simp only [ops, TRef.nullary, TRef.ternary, TRef.unary, TRef.toBuf, TRef.ofBuf, cast_eq]
  after_reads_simp
  all_goals rfl
theorem s103 : r103 m c = broadcastInDim S16x4096x128 ![0, 1, 2] bcast_S16x4096x1_S16x4096x128_0_1_2 (broadcastInDim S16x4096x1 ![0, 1] bcast_S16x4096_S16x4096x1_0_1 (transpose S16x4096 [1, 0] (addf (transpose S4096x16 [1, 0] (r86 m c) transposes_S16x4096_S4096x16_1_0) (transpose S4096x16 [1, 0] (r90 m c) transposes_S16x4096_S4096x16_1_0)) transposes_S4096x16_S16x4096_1_0)) := by
  unfold r103 r86 r90 W
  simp only [ops, TRef.nullary, TRef.ternary, TRef.unary, TRef.toBuf, TRef.ofBuf, cast_eq]
  after_reads_simp

end Cert.ReferenceIdeal.HostSteps

end
-- ==== Proof.RefVals.lean ====
/-
  The elements of the reference's host arrays over real numbers, down to its three results: the gradients of the keys, of
  the values and of the cumulative gate.
-/
module

public import proofs.«01_k».proof.Proof.RefSteps

@[expose] public section

set_option maxRecDepth 16384
set_option maxHeartbeats 1000000

noncomputable section

open Idealize.ShloMosaic Idealize.ShloMosaic.TcCoe Idealize.ShloMosaic.StableHlo

namespace Cert.ReferenceIdeal.RefVals

open Cert.ReferenceIdeal Cert.ReferenceIdeal.Gen Cert.ReferenceIdeal.Value Cert.ReferenceIdeal.HostSteps Cert.Coe Cert.Args Cert.Attn
open scoped BigOperators

/-- The row maximum against minus infinity. -/
theorem max_row (w : FVec Ideal S16x4096 .f32) (h : Fin 16) (q : Fin 4096) (y : ℝ) (e : w (ix2 h q) = (y : EReal)) :
    maximumf (broadcastInDim S16x4096 ![] bcast_S_S16x4096 (constant S_ .f32 0xFF800000#32)) w (ix2 h q) = (y : EReal) := by
  have h1 : maximumf (broadcastInDim S16x4096 ![] bcast_S_S16x4096 (constant S_ .f32 0xFF800000#32)) w (ix2 h q)
      = max (Ideal.ofBits .f32 0xFF800000#32) (w (ix2 h q)) := by pointwise
  exact h1.trans ((congrArg₂ max negInf e).trans (max_bot_left _))

/-- The argument arrays as launched, by row and column. -/
abbrev A0 (m : (ℓ : Loc nD τ sig) → Buf (Elt Ideal) ℓ) (c : Dev nD) : Fin 4096 → Fin 8704 → EReal :=
  fun i j => m ((c : Thread nD τ).loc main_arg0) (ix2 i j)
abbrev A1 (m : (ℓ : Loc nD τ sig) → Buf (Elt Ideal) ℓ) (c : Dev nD) : Fin 4096 → Fin 2048 → EReal :=
  fun i j => m ((c : Thread nD τ).loc main_arg1) (ix2 i j)
abbrev A2 (m : (ℓ : Loc nD τ sig) → Buf (Elt Ideal) ℓ) (c : Dev nD) : Fin 4096 → Fin 16 → EReal :=
  fun i j => m ((c : Thread nD τ).loc main_arg2) (ix2 i j)

variable {m : (ℓ : Loc nD τ sig) → Buf (Elt Ideal) ℓ} {c : Dev nD} {R : Reals} (hR : R.Of (A0 m c) (A1 m c) (A2 m c))

include hR

theorem v27 (h : Fin 16) (q k : Fin 4096) : r27 m c (ix3 h q k) = R.masked h q k := by
  unfold r27 W
  simp only [ops, TRef.nullary, TRef.ternary, TRef.unary, TRef.toBuf, TRef.ofBuf, cast_eq]
  after_reads_at
  rw [sle_word le_rfl]
  have e1 := fun x p => hR.q h q x p
  have e2 := fun x p => hR.k h k x p
  have e3 := hR.c h q
  have e4 := hR.c h k
  unfold A0 at e1 e2
  unfold A2 at e3 e4
  simp only [e1, e2, e3, e4, scale_coe, ← EReal.coe_mul, sum_coe, ← EReal.coe_sub, ← EReal.coe_add]
  unfold Reals.masked Scalar.select
  by_cases hk : k ≤ q
  · rw [if_pos hk, if_pos hk]; rfl
  · rw [if_neg hk, if_neg hk]; exact negInf

theorem vb27 (h : Fin 16) (q k : Fin 4096) : b27 m c (ix3 h q k) = if k ≤ q then 1#1 else 0#1 := by
  unfold b27 W
  simp only [ops, TRef.nullary, TRef.ternary, TRef.unary, TRef.toBuf, TRef.ofBuf, cast_eq]
  after_reads_at
  exact sle_word le_rfl k q

theorem v6 (h : Fin 16) (q : Fin 4096) (x : Fin 128) : r6 m c (ix3 q h x) = ((R.q h q x : ℝ) : EReal) := by
  unfold r6 W
  after_reads_at
  exact hR.q h q x _

theorem v64 (h : Fin 16) (q : Fin 4096) (x : Fin 128) : r64 m c (ix3 h x q) = ((R.d h q x : ℝ) : EReal) := by
  unfold r64 W
  after_reads_at
  exact hR.d h q x _

theorem v65 (h : Fin 16) (q k : Fin 4096) : r65 m c (ix3 h q k) = ((R.dp h q k : ℝ) : EReal) := by
  unfold r65 W
  after_reads_at
  have e1 := fun x p => hR.d h q x p
  have e2 := fun x p => hR.v h k x p
  unfold A1 at e1
  unfold A0 at e2
  simp only [e1, e2, ← EReal.coe_mul, sum_coe]
  rfl

theorem v28 (h : Fin 16) (q : Fin 4096) : r28 m c (ix2 h q) = ((R.M h q : ℝ) : EReal) := by
  rw [s28, ← R.M_eq]
  have e := v27 hR h q
  generalize r27 m c = w at e ⊢
  pointwise
  simp only [e, negInf]

theorem v35 (h : Fin 16) (q : Fin 4096) : r35 m c (ix2 h q) = ((R.M h q : ℝ) : EReal) := by
  rw [s35]
  exact max_row _ h q _ (v28 hR h q)

theorem v48 (h : Fin 16) (q k : Fin 4096) : r48 m c (ix3 h q k) = ((wt (R.S h) (R.M h) q k : ℝ) : EReal) := by
  rw [s48, ← R.exp_masked]
  have e := v27 hR h q k
  have e' := v35 hR h q
  generalize r27 m c = w at e ⊢
  generalize r35 m c = w' at e' ⊢
  pointwise
  rw [e, e']

theorem v49 (h : Fin 16) (q : Fin 4096) : r49 m c (ix2 h q) = ((den (R.S h) (R.M h) q : ℝ) : EReal) := by
  rw [s49, ← den_eq, ← sum_coe]
  have e := v48 hR h q
  generalize r48 m c = w at e ⊢
  pointwise
  exact Finset.sum_congr rfl fun k _ => e k

theorem v52 (h : Fin 16) (q k : Fin 4096) : r52 m c (ix3 h q k) = ((R.P h q k : ℝ) : EReal) := by
  rw [s52]
  have e := v48 hR h q k
  have e' := v49 hR h q
  generalize r48 m c = w at e ⊢
  generalize r49 m c = w' at e' ⊢
  pointwise
  rw [e, e', div_coe _ _ (den_pos (R.S h) (R.M h) q).ne']
  unfold Reals.P prob
  rfl

theorem v55 (h : Fin 16) (q : Fin 4096) :
    r55 m c (ix3 h q 0) = ((1 / (den (R.S h) (R.M h) q * den (R.S h) (R.M h) q) : ℝ) : EReal) := by
  rw [s55]
  have e := v49 hR h q
  have hd := (den_pos (R.S h) (R.M h) q).ne'
  generalize den (R.S h) (R.M h) q = d at e hd ⊢
  generalize r49 m c = w at e ⊢
  pointwise
  rw [e, ← EReal.coe_one, ← EReal.coe_mul, div_coe _ _ (mul_ne_zero hd hd)]

theorem v69 (h : Fin 16) (q k : Fin 4096) : r69 m c (ix3 h q k) = ((R.dp h q k : ℝ) : EReal) := by
  rw [s69, ← v65 hR h q k]
  generalize r65 m c = w
  pointwise

theorem v72 (h : Fin 16) (q k : Fin 4096) : r72 m c (ix3 h q k)
    = ((R.dp h q k * (1 / (den (R.S h) (R.M h) q * den (R.S h) (R.M h) q)) * wt (R.S h) (R.M h) q k : ℝ) : EReal) := by
  rw [s72]
  have e := v69 hR h q k
  have e' := v55 hR h q
  have e'' := v48 hR h q k
  generalize den (R.S h) (R.M h) q = d at e' ⊢
  generalize wt (R.S h) (R.M h) q k = z at e'' ⊢
  generalize R.dp h q k = y at e ⊢
  generalize r69 m c = w at e ⊢
  generalize r55 m c = w' at e' ⊢
  generalize r48 m c = w'' at e'' ⊢
  pointwise
  rw [e, e', e'', ← EReal.coe_mul, ← EReal.coe_mul]

theorem v73 (h : Fin 16) (q : Fin 4096) : r73 m c (ix2 h q)
    = ((∑ k, R.dp h q k * (1 / (den (R.S h) (R.M h) q * den (R.S h) (R.M h) q)) * wt (R.S h) (R.M h) q k : ℝ) : EReal) := by
  rw [s73, ← sum_coe]
  have e := v72 hR h q
  generalize r72 m c = w at e ⊢
  pointwise
  exact Finset.sum_congr rfl fun k _ => e k

theorem v78 (h : Fin 16) (q : Fin 4096) : r78 m c (ix2 h q)
    = ((-∑ k, R.dp h q k * (1 / (den (R.S h) (R.M h) q * den (R.S h) (R.M h) q)) * wt (R.S h) (R.M h) q k : ℝ) : EReal) := by
  rw [s78]
  have e := v73 hR h q
  generalize (∑ k, R.dp h q k * (1 / (den (R.S h) (R.M h) q * den (R.S h) (R.M h) q)) * wt (R.S h) (R.M h) q k) = y at e ⊢
  generalize r73 m c = w at e ⊢
  pointwise
  simp only [Finset.univ_unique, Finset.sum_singleton, e]
  rfl

theorem v81 (h : Fin 16) (q k : Fin 4096) : r81 m c (ix3 h q k)
    = (((R.dp h q k / den (R.S h) (R.M h) q + -∑ j, R.dp h q j * (1 / (den (R.S h) (R.M h) q * den (R.S h) (R.M h) q))
        * wt (R.S h) (R.M h) q j) * wt (R.S h) (R.M h) q k : ℝ) : EReal) := by
  rw [s81]
  have e := v69 hR h q k
  have e' := v49 hR h q
  have e'' := v78 hR h q
  have e3 := v48 hR h q k
  have hd := (den_pos (R.S h) (R.M h) q).ne'
  generalize (-∑ k, R.dp h q k * (1 / (den (R.S h) (R.M h) q * den (R.S h) (R.M h) q)) * wt (R.S h) (R.M h) q k) = u at e'' ⊢
  generalize den (R.S h) (R.M h) q = d at e' hd ⊢
  generalize wt (R.S h) (R.M h) q k = z at e3 ⊢
  generalize R.dp h q k = y at e ⊢
  generalize r69 m c = w at e ⊢
  generalize r49 m c = w' at e' ⊢
  generalize r78 m c = w'' at e'' ⊢
  generalize r48 m c = w3 at e3 ⊢
  pointwise
  rw [e, e', e'', e3, div_coe _ _ hd, ← EReal.coe_add, ← EReal.coe_mul]

theorem v82 (h : Fin 16) (q k : Fin 4096) : r82 m c (ix3 h q k) = ((R.G h q k : ℝ) : EReal) := by
  unfold Reals.G
  rw [s82, ← ds_of_quotient]
  have e := v81 hR h q k
  have e' := vb27 hR h q k
  generalize (R.dp h q k / den (R.S h) (R.M h) q + -∑ j, R.dp h q j * (1 / (den (R.S h) (R.M h) q * den (R.S h) (R.M h) q))
        * wt (R.S h) (R.M h) q j) * wt (R.S h) (R.M h) q k = y at e ⊢
  generalize r81 m c = w at e ⊢
  generalize b27 m c = w' at e' ⊢
  pointwise
  rw [e, e', ← EReal.coe_zero]
  unfold Scalar.select
  by_cases hk : k ≤ q
  · rw [if_pos hk, if_pos hk]; rfl
  · rw [if_neg hk, if_neg hk]; rfl

theorem v84 (h : Fin 16) (k : Fin 4096) : r84 m c (ix2 h k) = ((R.dc h k : ℝ) : EReal) := by
  unfold Reals.dc
  rw [s84, ← Finset.sum_neg_distrib, ← sum_coe]
  have e := fun q => v82 hR h q k
  generalize r82 m c = w at e ⊢
  pointwise
  exact Finset.sum_congr rfl fun q _ => by rw [e q]; rfl

theorem v86 (h : Fin 16) (k : Fin 4096) : r86 m c (ix2 h k) = ((R.dc h k : ℝ) : EReal) := by
  rw [s86]
  have e := v84 hR h k
  generalize R.dc h k = y at e ⊢
  generalize r84 m c = w at e ⊢
  pointwise
  simp only [Finset.univ_unique, Finset.sum_singleton, e]

theorem v88 (h : Fin 16) (q : Fin 4096) : r88 m c (ix2 h q) = ((0 : ℝ) : EReal) := by
  rw [s88, ← sum_ds (R.S h) (R.M h) (R.dp h) q, ← sum_coe]
  have e := v82 hR h q
  generalize r82 m c = w at e ⊢
  pointwise
  exact Finset.sum_congr rfl fun k _ => by rw [e k]; rw [Reals.G]

theorem v90 (h : Fin 16) (q : Fin 4096) : r90 m c (ix2 h q) = ((0 : ℝ) : EReal) := by
  rw [s90]
  have e := v88 hR h q
  generalize r88 m c = w at e ⊢
  pointwise
  simp only [Finset.univ_unique, Finset.sum_singleton, e]

theorem v103 (h : Fin 16) (k : Fin 4096) (x : Fin 128) : r103 m c (ix3 h k x) = ((R.dc h k : ℝ) : EReal) := by
  rw [s103]
  have e := v86 hR h k
  have e' := v90 hR h k
  generalize R.dc h k = y at e ⊢
  generalize r86 m c = w at e ⊢
  generalize r90 m c = w' at e' ⊢
  pointwise
  rw [e, e', ← EReal.coe_add, add_zero]

theorem v94 (h : Fin 16) (q k : Fin 4096) : r94 m c (ix3 h q k) = ((R.G h q k * scale : ℝ) : EReal) := by
  rw [s94]
  have e := v82 hR h q k
  generalize R.G h q k = y at e ⊢
  generalize r82 m c = w at e ⊢
  pointwise
  rw [e, scale_coe, ← EReal.coe_mul]

theorem v95 (h : Fin 16) (k : Fin 4096) (x : Fin 128) : r95 m c (ix3 h k x) = ((R.dk h k x : ℝ) : EReal) := by
  have er : R.dk h k x = ∑ q, R.G h q k * scale * R.q h q x := by
    unfold Reals.dk
    rw [Finset.sum_mul]
    exact Finset.sum_congr rfl fun q _ => by ring
  rw [s95, er, ← sum_coe]
  have e := fun q => v94 hR h q k
  have e' := fun q => v6 hR h q x
  generalize r94 m c = w at e ⊢
  generalize r6 m c = w' at e' ⊢
  pointwise
  exact Finset.sum_congr rfl fun q _ => by rw [e q, e' q, ← EReal.coe_mul]

theorem v66 (h : Fin 16) (k : Fin 4096) (x : Fin 128) : r66 m c (ix3 h x k) = ((R.dv h k x : ℝ) : EReal) := by
  have er : R.dv h k x = ∑ q, R.d h q x * R.P h q k := by
    unfold Reals.dv
    exact Finset.sum_congr rfl fun q _ => by ring
  rw [s66, er, ← sum_coe]
  have e := fun q => v52 hR h q k
  have e' := fun q => v64 hR h q x
  generalize r52 m c = w at e ⊢
  generalize r64 m c = w' at e' ⊢
  pointwise
  exact Finset.sum_congr rfl fun q _ => by rw [e q, e' q, ← EReal.coe_mul]

theorem v99 (h : Fin 16) (k : Fin 4096) (x : Fin 128) (p) : r99 m c (ix2 k ⟨h.val * 128 + x.val, p⟩) = ((R.dk h k x : ℝ) : EReal) := by
  rw [s99, ← v95 hR h k x]
  generalize r95 m c = w
  pointwise

theorem v100 (h : Fin 16) (k : Fin 4096) (x : Fin 128) (p) : r100 m c (ix2 k ⟨h.val * 128 + x.val, p⟩) = ((R.dv h k x : ℝ) : EReal) := by
  rw [s100, ← v66 hR h k x]
  generalize r66 m c = w
  pointwise

end Cert.ReferenceIdeal.RefVals

end
-- ==== Proof.RefFinal.lean ====
/-
  The reference's run: its three results end at the same gradients as the kernel's, its arguments as launched.
-/
module

public import proofs.«01_k».proof.Proof.RefVals
public import proofs.«01_k».proof.Proof.Final

@[expose] public section

set_option maxRecDepth 16384

noncomputable section

open Idealize.ShloMosaic Idealize.ShloMosaic.TcCoe Idealize.ShloMosaic.StableHlo Idealize.SL.Sem

namespace Cert.ReferenceIdeal.RefFinal

open Cert.ReferenceIdeal Cert.ReferenceIdeal.Gen Cert.ReferenceIdeal.Value Cert.ReferenceIdeal.HostSteps Cert.ReferenceIdeal.RefVals Cert.Args

/-- An array whose elements are those of a gradient by head, position and lane. -/
theorem eq_cols (w : FVec Ideal S4096x2048 .bf16) (f : Fin 16 → Fin 4096 → Fin 128 → ℝ)
    (e : ∀ (h : Fin 16) (k : Fin 4096) (x : Fin 128) p, w (ix2 k ⟨h.val * 128 + x.val, p⟩) = ((f h k x : ℝ) : EReal)) :
    w = Cert.KernelIdeal.Final.cols f := by
  funext i
  have h1 : (i 1).val < 2048 := (i 1).isLt
  have hh : (i 1).val / 128 < 16 := by omega
  have hx : (i 1).val % 128 < 128 := Nat.mod_lt _ (by decide)
  have hs : (i 1).val = (i 1).val / 128 * 128 + (i 1).val % 128 := by omega
  have hi : i = ix2 (i 0) ⟨(i 1).val / 128 * 128 + (i 1).val % 128, by omega⟩ := by
    funext d
    match d with
    | ⟨0, _⟩ => rfl
    | ⟨1, _⟩ => exact Fin.ext hs
  rw [Cert.KernelIdeal.Final.cols_at f i ⟨(i 1).val / 128, hh⟩ (i 0) ⟨(i 1).val % 128, hx⟩ rfl hs]
  exact (congrArg w hi).trans (e ⟨(i 1).val / 128, hh⟩ (i 0) ⟨(i 1).val % 128, hx⟩ (by omega))

/-- An array whose elements are those of a gradient by head and position. -/
theorem eq_lanes (w : FVec Ideal S16x4096x128 .f32) (f : Fin 16 → Fin 4096 → ℝ)
    (e : ∀ (h : Fin 16) (k : Fin 4096) (x : Fin 128), w (ix3 h k x) = ((f h k : ℝ) : EReal)) : w = Cert.KernelIdeal.Final.lanes f := by
  funext i
  have hi : i = ix3 (i 0) (i 1) (i 2) := by
    funext d
    match d with
    | ⟨0, _⟩ => rfl
    | ⟨1, _⟩ => rfl
    | ⟨2, _⟩ => rfl
  exact (congrArg w hi).trans (e (i 0) (i 1) (i 2))

theorem run (m : (ℓ : Loc nD τ sig) → Buf (Elt Ideal) ℓ) (R : Dev nD → Reals) (hR : ∀ c, (R c).Of (A0 m c) (A1 m c) (A2 m c)) (ρ : Dev nD → PrngReg) :
    θ_run (defs (F := Ideal)) (onTc (τ := τ) (main (F := Ideal))) ⟨m, fun _ => 0, ρ⟩ fun r => ∀ c : Dev nD,
      r.2.mem ((c.tc : Thread nD τ).loc main_v99) = Cert.KernelIdeal.Final.cols (R c).dk
      ∧ r.2.mem ((c.tc : Thread nD τ).loc main_v100) = Cert.KernelIdeal.Final.cols (R c).dv
      ∧ r.2.mem ((c.tc : Thread nD τ).loc main_v103) = Cert.KernelIdeal.Final.lanes (R c).dc
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c =>
      ⟨(h c main_v99).trans (eq_cols (r99 m c) _ fun a b x p => v99 (hR c) a b x p),
       (h c main_v100).trans (eq_cols (r100 m c) _ fun a b x p => v100 (hR c) a b x p),
       (h c main_v103).trans (eq_lanes (r103 m c) _ fun a b x => v103 (hR c) a b x),
       (h c main_arg0).trans (by simp only [ops, TRef.nullary, TRef.ternary, TRef.unary, TRef.toBuf, TRef.ofBuf, cast_eq]; after_results_simp <;> rfl),
       (h c main_arg1).trans (by simp only [ops, TRef.nullary, TRef.ternary, TRef.unary, TRef.toBuf, TRef.ofBuf, cast_eq]; after_results_simp <;> rfl),
       (h c main_arg2).trans (by simp only [ops, TRef.nullary, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.RefFinal

end
-- ==== Proof.Sums.lean ====
/-
  Sums taken in steps.
-/
module

public import Idealize.ShloMosaic.Lib.Pointwise
public import Idealize.ShloMosaic.Lib.Pipeline.ValueKit

@[expose] public section

noncomputable section

open scoped BigOperators

namespace Cert.Sums

/-- The terms of a sum of `n` steps, numbered by the naturals. -/
def steps (n : ℕ) (g : Fin n → EReal) (s : ℕ) : EReal := if h : s < n then g ⟨s, h⟩ else 0

theorem steps_lt (n : ℕ) (g : Fin n → EReal) (s : Fin n) : steps n g s.val = g s := dif_pos s.isLt

/-- The steps' terms add up to the sum. -/
theorem steps_sum (n : ℕ) (g : Fin n → EReal) : ∑ s ∈ Finset.range n, steps n g s = ∑ s : Fin n, g s := by
  rw [Finset.sum_range]
  exact Finset.sum_congr rfl fun s _ => steps_lt n g s

end Cert.Sums

end
-- ==== Proof.InProjDw.lean ====
/-
  The gradient of the input projection's weights: the tiled kernel's result and the plain product's are the same sums.
-/
module

public import proofs.«01_k».proof.Defs
public import proofs.«01_k».proof.Proof.Gen.Kernel2Ideal.Value
public import proofs.«01_k».proof.Proof.Gen.Reference2Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel2Ideal.Product

open Cert.Kernel2Ideal Cert.Kernel2Ideal.Gen

/-- One element of the product of two blocks. -/
def dotAt (x0 : Vec Ideal S1024x4096 .bf16) (x1 : Vec Ideal S4096x896 .bf16) (i : Fin 1024) (j : Fin 896) : EReal :=
  ∑ k : Fin 4096, x0 (ix2 i k) * x1 (ix2 k j)

theorem dotAt_eq (x0 : Vec Ideal S1024x4096 .bf16) (x1 : Vec Ideal S4096x896 .bf16) (i : Fin 1024) (j : Fin 896) (a b : Fin 4096 → EReal)
    (h0 : ∀ k, x0 (ix2 i k) = a k) (h1 : ∀ k, x1 (ix2 k j) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S4096x896 .bf16) (i : Fin 1024) (j : Fin 896) :
    k0_pay1 x0 x1 (ix2 i j) = dotAt x0 x1 i j := by
  unfold dotAt
  pointwise [k0_pay1]

theorem out_at (x0 : Vec Ideal S1024x4096 .bf16) (x1 : Vec Ideal S4096x896 .bf16) (i : Fin 1024) (j : Fin 896) :
    out0_2 x0 x1 (ix2 i j) = dotAt x0 x1 i j := by
  have hz : (![0, 0] : Fin 2 → Nat) = fun _ => 0 := by decide
  unfold out0_2
  rw [View.canon_unit_zero (S := S1024x896) hz, View.ld_unit_zero (S := S1024x4096) hz, View.ld_unit_zero (S := S4096x896) hz]
  exact tile x0 x1 i j

/-- The product's elements. -/
def prod (a : Vec Ideal S4096x4096 .bf16) (b : Vec Ideal S4096x17024 .bf16) : Vec Ideal S4096x17024 .bf16 :=
  fun i => ∑ k : Fin 4096, a (ix2 k (i 0)) * b (ix2 k (i 1))

variable (m : (ℓ : Loc nD τ sig) → Buf (Elt Ideal) ℓ) (c : Dev nD)

abbrev A0 : Vec Ideal S4096x4096 .bf16 := m ((c : Thread nD τ).loc main_arg0)
abbrev A1 : Vec Ideal S4096x17024 .bf16 := m ((c : Thread nD τ).loc main_arg1)

theorem transposed (i : Fin 4096) (k : Fin 4096) : V m c main_v0 (ix2 i k) = A0 m c (ix2 k i) := by
  unfold V; after_reads_at

theorem idx0 : ∀ t : Fin grid0.N, win0_0.index t (0 : Fin 2) = t.val / 19 ∧ win0_0.index t (1 : Fin 2) = 0 := by decide +kernel

theorem idx1 : ∀ t : Fin grid0.N, win0_1.index t (0 : Fin 2) = 0 ∧ win0_1.index t (1 : Fin 2) = t.val % 19 := by decide +kernel

theorem idx2 : ∀ t : Fin grid0.N, win0_2.index t (0 : Fin 2) = t.val / 19 ∧ win0_2.index t (1 : Fin 2) = t.val % 19 := by decide +kernel

theorem onto : ∀ (p : Fin 4) (q : Fin 19), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_v0 (ix2 ⟨(t.val / 19) * 1024 + r.val, p0⟩ k) := by
  obtain ⟨e0, e1⟩ := idx0 t
  show W main_v0 (((cfg0.win 0).blk t).view.emb (ix2 r k)) = _
  refine congrArg _ (funext fun a => Fin.ext ?_)
  match a with
  | ⟨0, _⟩ => show win0_0.index t (0 : Fin 2) * 1024 + 1 * r.val = (t.val / 19) * 1024 + r.val; rw [e0]; omega
  | ⟨1, _⟩ => show win0_0.index t (1 : Fin 2) * 4096 + 1 * k.val = k.val; rw [e1]; omega

theorem block1 (k : Fin 4096) (j : Fin 896) (p1) :
    ((cfg0.win 1).blk t).view.read (Elt Ideal) (W (Pipeline.arrRef spec0 1)) (ix2 k j) = W main_arg1 (ix2 k ⟨(t.val % 19) * 896 + j.val, p1⟩) := by
  obtain ⟨e0, e1⟩ := idx1 t
  show W main_arg1 (((cfg0.win 1).blk t).view.emb (ix2 k j)) = _
  refine congrArg _ (funext fun a => Fin.ext ?_)
  match a with
  | ⟨0, _⟩ => show win0_1.index t (0 : Fin 2) * 4096 + 1 * k.val = k.val; rw [e0]; omega
  | ⟨1, _⟩ => show win0_1.index t (1 : Fin 2) * 896 + 1 * j.val = (t.val % 19) * 896 + j.val; rw [e1]; omega

end Blocks

theorem out_eq (x0 : Vec Ideal S1024x4096 .bf16) (x1 : Vec Ideal S4096x896 .bf16) (i : Fin 1024) (j : Fin 896) (a b : Fin 4096 → EReal)
    (h0 : ∀ k, x0 (ix2 i k) = a k) (h1 : ∀ k, x1 (ix2 k j) = b k) :
    out0_2 x0 x1 (ix2 i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1⟩ := idx2 t
  have ht : t.val < 76 := lt_of_lt_of_le t.isLt (by decide)
  funext y
  have hya : (y 0).val < 1024 := (y 0).isLt
  have hyb : (y 1).val < 896 := (y 1).isLt
  have p0 : t.val / 19 * 1024 + (y 0).val < 4096 := by omega
  have pc : t.val % 19 * 896 + (y 1).val < 17024 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (transposed m c ⟨_, p0⟩ k)
  have r1 := fun k : Fin 4096 => (block1 (c := c) (V m c) t k (y 1) pc).trans (congrFun (V_main_arg1 m c) _)
  have hb := out_eq (iblk m c 0 t) (iblk m c 1 t) (y 0) (y 1) _ _ r0 r1
  generalize out0_2 (iblk m c 0 t) (iblk m c 1 t) = o at hb ⊢
  show o ((cfg0.win 2).xinj (grid0.coords t) y) = prod (A0 m c) (A1 m c) (((cfg0.win 2).blk t).view.emb y)
  have g0 : ((cfg0.win 2).blk t).view.emb y 0 = (⟨t.val / 19 * 1024 + (y 0).val, p0⟩ : Fin 4096) := Fin.ext (by
    show win0_2.index t (0 : Fin 2) * 1024 + 1 * (y 0).val = t.val / 19 * 1024 + (y 0).val; rw [e0]; omega)
  have g1 : ((cfg0.win 2).blk t).view.emb y 1 = (⟨t.val % 19 * 896 + (y 1).val, pc⟩ : Fin 17024) := Fin.ext (by
    show win0_2.index t (1 : Fin 2) * 896 + 1 * (y 1).val = t.val % 19 * 896 + (y 1).val; rw [e1]; omega)
  refine (congrArg o hx).trans (hb.trans ?_)
  unfold prod
  rw [g0, g1]

/-- Every index lies in the block of a point that writes back. -/
theorem cover (i : S4096x17024.Idx) : ∃ t : Fin cfg0.N, (cfg0.win 2).flush t = true ∧ i ∈ ((cfg0.win 2).blk t).view.set := by
  have hi0 : (i 0).val < 4096 := (i 0).isLt
  have hi1 : (i 1).val < 17024 := (i 1).isLt
  obtain ⟨t, hft, q0, q1⟩ := onto ⟨(i 0).val / 1024, by omega⟩ ⟨(i 1).val / 896, by omega⟩
  refine ⟨t, hft, ?_⟩
  show i ∈ ((View.whole main_v1).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 896 ≤ (i 1).val ∧ (i 1).val < win0_2.index t (1 : Fin 2) * 896 + 896; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel2Ideal.Product

namespace Cert.Reference2Ideal.Product

open Cert.Reference2Ideal Cert.Reference2Ideal.Gen

variable (a : Vec Ideal S4096x4096 .bf16) (b : Vec Ideal S4096x17024 .bf16)

/-- The plain product, element by element. -/
theorem host (i : Fin 4096) (j : Fin 17024) :
    (truncf .bf16 (transpose S4096x17024 [1, 0] (Host.dotGeneral dot_S4096x17024_S4096x4096_S17024x4096_0_0_1_1_n_n none (extf .f32 b bitsLt_bf16_f32) (extf .f32 a bitsLt_bf16_f32)) transposes_S17024x4096_S4096x17024_1_0) bitsLt_bf16_f32 : FVec Ideal S4096x17024 .bf16) (ix2 i j)
      = ∑ k : Fin 4096, b (ix2 k j) * a (ix2 k i) := by
  pointwise

theorem value (w : Vec Ideal S4096x17024 .bf16) (e : ∀ (i : Fin 4096) (j : Fin 17024), w (ix2 i j) = ∑ k : Fin 4096, b (ix2 k j) * a (ix2 k i)) :
    w = Cert.Kernel2Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel2Ideal.Product.prod
  exact Finset.sum_congr rfl fun k _ => mul_comm _ _

end Cert.Reference2Ideal.Product

namespace Cert.InProjDw

/-- The two programs end with the same result. -/
theorem algebraic : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Product.prod (Cert.Kernel2Ideal.Product.A0 m c) (Cert.Kernel2Ideal.Product.A1 m c),
    Cert.Kernel2Ideal.Product.run m g, ?_⟩
  refine (θ_run _ _ _).mono (fun r h c => ⟨?_, (h c).2⟩) (Cert.Reference2Ideal.Value.run (F := Ideal) m' g')
  refine (h c).1.trans ((Cert.Reference2Ideal.Product.value _ _ _ (Cert.Reference2Ideal.Product.host _ _)).trans ?_)
  unfold Cert.Kernel2Ideal.Product.A0 Cert.Kernel2Ideal.Product.A1
  rw [(hag c).1, (hag c).2]

end Cert.InProjDw

end
-- ==== Proof.GateUpDx.lean ====
/-
  The gradient of the activations entering the gate and up products: the tiled kernel's result and the plain product's are the same sums.
-/
module

public import proofs.«01_k».proof.Defs
public import proofs.«01_k».proof.Proof.Gen.Kernel3Ideal.Value
public import proofs.«01_k».proof.Proof.Gen.Reference3Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel3Ideal.Product

open Cert.Kernel3Ideal Cert.Kernel3Ideal.Gen

/-- One element of the product of two blocks. -/
def dotAt (x0 : Vec Ideal S1024x2816 .bf16) (x1 : Vec Ideal S1x1024x2816 .bf16) (i : Fin 1024) (j : Fin 1024) : EReal :=
  ∑ k : Fin 2816, x0 (ix2 i k) * x1 (ix3 (0 : Fin 1) j k)

theorem dotAt_eq (x0 : Vec Ideal S1024x2816 .bf16) (x1 : Vec Ideal S1x1024x2816 .bf16) (i : Fin 1024) (j : Fin 1024) (a b : Fin 2816 → EReal)
    (h0 : ∀ k, x0 (ix2 i k) = a k) (h1 : ∀ k, x1 (ix3 (0 : Fin 1) j k) = b k) : dotAt x0 x1 i j = ∑ k : Fin 2816, a k * b k := by
  unfold dotAt
  exact Finset.sum_congr rfl fun k _ => by rw [h0, h1]

theorem tile1 (x0 : Vec Ideal S1024x2816 .bf16) (x1 : Vec Ideal S1x1024x2816 .bf16) (i : Fin 1024) (j : Fin 1024) :
    k0_pay1 x0 x1 (ix2 i j) = dotAt x0 x1 i j := by
  unfold dotAt
  pointwise [k0_pay1]

theorem tile2 (s : Vec Ideal S1024x1024 .f32) (x0 : Vec Ideal S1024x2816 .bf16) (x1 : Vec Ideal S1x1024x2816 .bf16) (i : Fin 1024) (j : Fin 1024) :
    k0_pay2 s x0 x1 (ix2 i j) = s (ix2 i j) + dotAt x0 x1 i j := by
  unfold dotAt
  pointwise [k0_pay2]

theorem tile3 (s : Vec Ideal S1024x1024 .f32) (x0 : Vec Ideal S1024x2816 .bf16) (x1 : Vec Ideal S1x1024x2816 .bf16) (i : Fin 1024) (j : Fin 1024) :
    k0_pay3 s x0 x1 (ix2 i j) = s (ix2 i j) + dotAt x0 x1 i j := by
  unfold dotAt
  pointwise [k0_pay3]

/-- At the first step of a run the accumulator is set to the blocks' product. -/
theorem first (c : Dev nD) (i₀ : grid0.Coords) (a3 : Memref sig .tc .vmem S1024x2816 .bf16) (h3 : a3.IsWhole)
    (a4 : Memref sig .tc .vmem S1x1024x2816 .bf16) (h4 : a4.IsWhole) (a5 : Memref sig .tc .vmem S1024x1024 .f32) (h5 : a5.IsWhole) (a6 : Memref sig .tc .vmem S1024x1024 .f32) (h6 : a6.IsWhole)
    (hc0 : cond0_0 i₀) (hc1 : ¬cond0_1 i₀) (hc2 : ¬cond0_2 i₀)
    (x0 : Vec Ideal S1024x2816 .bf16) (x1 : Vec Ideal S1x1024x2816 .bf16) :
    sout0_A_0 c i₀ a3 h3 a4 h4 a5 h5 a6 h6 hc0 hc1 hc2 x0 x1 = k0_pay1 x0 x1 := by
  have hz : (![0, 0] : Fin 2 → Nat) = fun _ => 0 := by decide
  have hz3 : (![0, 0, 0] : Fin 3 → Nat) = fun _ => 0 := by decide
  unfold sout0_A_0
  rw [View.read_writes_eq_canon _ _ _ (scover0_A_0 c i₀ a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S1024x2816) hz, View.ld_unit_zero (S := S1x1024x2816) hz3, View.ld_unit_zero (S := S1024x1024) hz, shapeCast_self]

/-- At a middle step the blocks' product is added to the accumulator. -/
theorem middle (c : Dev nD) (i₀ : grid0.Coords) (a3 : Memref sig .tc .vmem S1024x2816 .bf16) (h3 : a3.IsWhole)
    (a4 : Memref sig .tc .vmem S1x1024x2816 .bf16) (h4 : a4.IsWhole) (a5 : Memref sig .tc .vmem S1024x1024 .f32) (h5 : a5.IsWhole) (a6 : Memref sig .tc .vmem S1024x1024 .f32) (h6 : a6.IsWhole)
    (hc0 : ¬cond0_0 i₀) (hc1 : cond0_1 i₀) (hc2 : ¬cond0_2 i₀)
    (x0 : Vec Ideal S1024x2816 .bf16) (x1 : Vec Ideal S1x1024x2816 .bf16) (s : Vec Ideal S1024x1024 .f32) :
    sout0_B_0 c i₀ a3 h3 a4 h4 a5 h5 a6 h6 hc0 hc1 hc2 x0 x1 s = k0_pay2 s x0 x1 := by
  have hz : (![0, 0] : Fin 2 → Nat) = fun _ => 0 := by decide
  have hz3 : (![0, 0, 0] : Fin 3 → Nat) = fun _ => 0 := by decide
  unfold sout0_B_0
  rw [View.read_writes_eq_canon _ _ _ (scover0_B_0 c i₀ a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h6.read_unread, View.ld_unit_zero (S := S1024x2816) hz, View.ld_unit_zero (S := S1x1024x2816) hz3, View.ld_unit_zero (S := S1024x1024) hz, shapeCast_self]

/-- At the last step the sum is stored to the result. -/
theorem last (c : Dev nD) (i₀ : grid0.Coords) (a3 : Memref sig .tc .vmem S1024x2816 .bf16) (h3 : a3.IsWhole)
    (a4 : Memref sig .tc .vmem S1x1024x2816 .bf16) (h4 : a4.IsWhole) (a5 : Memref sig .tc .vmem S1024x1024 .f32) (h5 : a5.IsWhole) (a6 : Memref sig .tc .vmem S1024x1024 .f32) (h6 : a6.IsWhole)
    (hc0 : ¬cond0_0 i₀) (hc1 : ¬cond0_1 i₀) (hc2 : cond0_2 i₀)
    (x0 : Vec Ideal S1024x2816 .bf16) (x1 : Vec Ideal S1x1024x2816 .bf16) (s : Vec Ideal S1024x1024 .f32) :
    out0_C_2 c i₀ a3 h3 a4 h4 a5 h5 a6 h6 hc0 hc1 hc2 x0 x1 s = k0_pay3 s x0 x1 := by
  have hz : (![0, 0] : Fin 2 → Nat) = fun _ => 0 := by decide
  have hz3 : (![0, 0, 0] : Fin 3 → Nat) = fun _ => 0 := by decide
  unfold out0_C_2
  rw [View.read_writes_eq_canon _ _ _ (cover0_C_2 c i₀ a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x2816) hz, View.ld_unit_zero (S := S1x1024x2816) hz3, View.ld_unit_zero (S := S1024x1024) hz, shapeCast_self]

/-- The place of lane `l` of slot `s` when the slots lie one after the other. -/
def pos (s : Fin 8) (l : Fin 2816) : Fin 22528 := ⟨s.val * 2816 + l.val, by omega⟩

/-- The product's elements. -/
def prod (a : Vec Ideal S4096x22528 .bf16) (b : Vec Ideal S8x4096x2816 .bf16) : Vec Ideal S4096x4096 .f32 :=
  fun i => ∑ s : Fin 8, ∑ k : Fin 2816, a (ix2 (i 0) (pos s k)) * b (ix3 s (i 1) k)

variable (m : (ℓ : Loc nD τ sig) → Buf (Elt Ideal) ℓ) (c : Dev nD)

abbrev A0 : Vec Ideal S4096x22528 .bf16 := m ((c : Thread nD τ).loc main_arg0)
abbrev A1 : Vec Ideal S8x4096x2816 .bf16 := m ((c : Thread nD τ).loc main_arg1)

theorem idx0 : ∀ t : Fin grid0.N, win0_0.index t (0 : Fin 2) = t.val / 32 ∧ win0_0.index t (1 : Fin 2) = t.val % 8 := by decide +kernel

theorem idx1 : ∀ t : Fin grid0.N, win0_1.index t (0 : Fin 3) = t.val % 8 ∧ win0_1.index t (1 : Fin 3) = t.val / 8 % 4 ∧ win0_1.index t (2 : Fin 3) = 0 := by decide +kernel

theorem idx2 : ∀ t : Fin grid0.N, win0_2.index t (0 : Fin 2) = t.val / 32 ∧ win0_2.index t (1 : Fin 2) = t.val / 8 % 4 := by decide +kernel

theorem onto : ∀ (p : Fin 4) (q : Fin 4), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 2816) (p0) (p1) :
    ((cfg0.win 0).blk t).view.read (Elt Ideal) (W (Pipeline.arrRef spec0 0)) (ix2 r k) = W main_arg0 (ix2 ⟨(t.val / 32) * 1024 + r.val, p0⟩ ⟨(t.val % 8) * 2816 + k.val, p1⟩) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 32) * 1024 + r.val; rw [e0]; omega
  | ⟨1, _⟩ => show win0_0.index t (1 : Fin 2) * 2816 + 1 * k.val = (t.val % 8) * 2816 + k.val; rw [e1]; omega

theorem block1 (j : Fin 1024) (k : Fin 2816) (p0) (p1) :
    ((cfg0.win 1).blk t).view.read (Elt Ideal) (W (Pipeline.arrRef spec0 1)) (ix3 (0 : Fin 1) j k) = W main_arg1 (ix3 ⟨t.val % 8, p0⟩ ⟨(t.val / 8 % 4) * 1024 + j.val, p1⟩ k) := by
  obtain ⟨e0, e1, e2⟩ := idx1 t
  show W main_arg1 (((cfg0.win 1).blk t).view.emb (ix3 (0 : Fin 1) j k)) = _
  refine congrArg _ (funext fun a => Fin.ext ?_)
  match a with
  | ⟨0, _⟩ => show win0_1.index t (0 : Fin 3) * 1 + 1 * 0 = t.val % 8; rw [e0]; omega
  | ⟨1, _⟩ => show win0_1.index t (1 : Fin 3) * 1024 + 1 * j.val = (t.val / 8 % 4) * 1024 + j.val; rw [e1]; omega
  | ⟨2, _⟩ => show win0_1.index t (2 : Fin 3) * 2816 + 1 * k.val = k.val; rw [e2]; omega

end Blocks

theorem scratch_first (t : Fin cfg0.N) (h : t.val % 8 = 0) (i : Fin 1024) (j : Fin 1024) :
    (outsAt0 m c t.val t.isLt).2 (ix2 i j) = dotAt (iblk m c 0 t) (iblk m c 1 t) i j := by
  rw [outsAt0_A m c t h (fun h => by omega) (fun h => by omega)]
  dsimp only
  rw [first]
  exact tile1 _ _ i j

theorem scratch_next (t : Fin cfg0.N) (h : 1 ≤ t.val % 8 ∧ t.val % 8 ≤ 6) (i : Fin 1024) (j : Fin 1024) :
    (outsAt0 m c t.val t.isLt).2 (ix2 i j)
      = (outsAt0 m c (t.val - 1) (Nat.lt_of_le_of_lt (Nat.sub_le _ _) t.isLt)).2 (ix2 i j) + dotAt (iblk m c 0 t) (iblk m c 1 t) i j := by
  rw [outsAt0_B m c t (fun h => by omega) h (fun h => by omega)]
  dsimp only
  rw [middle]
  exact tile2 _ _ _ i j

theorem result_last (t : Fin cfg0.N) (h : t.val % 8 = 7) (i : Fin 1024) (j : Fin 1024) :
    (outsAt0 m c t.val t.isLt).1 (ix2 i j)
      = (outsAt0 m c (t.val - 1) (Nat.lt_of_le_of_lt (Nat.sub_le _ _) t.isLt)).2 (ix2 i j) + dotAt (iblk m c 0 t) (iblk m c 1 t) i j := by
  rw [outsAt0_C m c t (fun h => by omega) (fun h => by omega) h]
  dsimp only
  rw [last]
  exact tile3 _ _ _ i j

/-- After step `r` of a run the accumulator holds the sum of the first `r + 1` blocks' products. -/
theorem scratch (i : Fin 1024) (j : Fin 1024) (P : ℕ → EReal) (r : ℕ) (hr : r ≤ 6) (t : Fin cfg0.N) (h : t.val % 8 = r)
    (hP : ∀ t' : Fin cfg0.N, t'.val / 8 = t.val / 8 → dotAt (iblk m c 0 t') (iblk m c 1 t') i j = P (t'.val % 8)) :
    (outsAt0 m c t.val t.isLt).2 (ix2 i j) = ∑ s ∈ Finset.range (r + 1), P s := by
  induction r generalizing t with
  | zero => rw [scratch_first m c t h i j, hP t rfl, h, Finset.sum_range_one]
  | succ r ih =>
    rw [scratch_next m c t ⟨by omega, by omega⟩ i j, hP t rfl, Finset.sum_range_succ, h]
    have hp := ih (by omega) ⟨t.val - 1, Nat.lt_of_le_of_lt (Nat.sub_le _ _) t.isLt⟩ (by dsimp only; omega)
      (fun t' h' => hP t' (by dsimp only at h'; omega))
    exact congrArg (· + P (r + 1)) hp

/-- What the last step of a run stores. -/
theorem total (i : Fin 1024) (j : Fin 1024) (P : ℕ → EReal) (t : Fin cfg0.N) (h : t.val % 8 = 7)
    (hP : ∀ t' : Fin cfg0.N, t'.val / 8 = t.val / 8 → dotAt (iblk m c 0 t') (iblk m c 1 t') i j = P (t'.val % 8)) :
    (outsAt0 m c t.val t.isLt).1 (ix2 i j) = (∑ s ∈ Finset.range 8, P s) := by
  have hp := scratch m c i j P 6 (by omega) ⟨t.val - 1, Nat.lt_of_le_of_lt (Nat.sub_le _ _) t.isLt⟩ (by dsimp only; omega)
    (fun t' h' => hP t' (by dsimp only at h'; omega))
  rw [result_last m c t h i j, hP t rfl, h, Finset.sum_range_succ]
  exact congrArg (· + P 7) hp

/-- The last point of a run writes back its block of the product. -/
theorem flushed (t : Fin cfg0.N) (hf : (cfg0.win 2).flush t = true) :
    (dats m 0 c).flushed 2 t = ((cfg0.win 2).blk t).view.read (Elt Ideal) (prod (A0 m c) (A1 m c)) := by
  have hm : t.val % 8 = 7 := (flush0_2 t).mp hf
  rw [Value.flushed2]
  obtain ⟨e0, e1⟩ := idx2 t
  have ht : t.val < 128 := lt_of_lt_of_le t.isLt (by decide)
  funext y
  have hya : (y 0).val < 1024 := (y 0).isLt
  have hyb : (y 1).val < 1024 := (y 1).isLt
  have p0 : t.val / 32 * 1024 + (y 0).val < 4096 := by omega
  have pc : t.val / 8 % 4 * 1024 + (y 1).val < 4096 := by omega
  have hx : (cfg0.win 2).xinj (grid0.coords t) y = ix2 (y 0) (y 1) := by
    funext a; apply Fin.ext
    match a with
    | ⟨0, _⟩ => rfl
    | ⟨1, _⟩ => rfl
  have hP : ∀ t' : Fin cfg0.N, t'.val / 8 = t.val / 8 → dotAt (iblk m c 0 t') (iblk m c 1 t') (y 0) (y 1)
      = Sums.steps 8 (fun s : Fin 8 => ∑ k : Fin 2816, A0 m c (ix2 (⟨t.val / 32 * 1024 + (y 0).val, p0⟩ : Fin 4096) (pos s k)) * A1 m c (ix3 s (⟨t.val / 8 % 4 * 1024 + (y 1).val, pc⟩ : Fin 4096) k)) (t'.val % 8) := by
    intro t' h'
    have ht' : t'.val < 128 := lt_of_lt_of_le t'.isLt (by decide)
    have q0 : (t'.val / 32) * 1024 + (y 0).val < 4096 := by omega
    have qc : (t'.val / 8 % 4) * 1024 + (y 1).val < 4096 := by omega
    have qk : ∀ k : Fin 2816, (t'.val % 8) * 2816 + k.val < 22528 := fun k => by omega
    have er : (⟨(t'.val / 32) * 1024 + (y 0).val, q0⟩ : Fin 4096) = (⟨t.val / 32 * 1024 + (y 0).val, p0⟩ : Fin 4096) := Fin.ext (by show (t'.val / 32) * 1024 + (y 0).val = t.val / 32 * 1024 + (y 0).val; omega)
    have ec : (⟨(t'.val / 8 % 4) * 1024 + (y 1).val, qc⟩ : Fin 4096) = (⟨t.val / 8 % 4 * 1024 + (y 1).val, pc⟩ : Fin 4096) := Fin.ext (by show (t'.val / 8 % 4) * 1024 + (y 1).val = t.val / 8 % 4 * 1024 + (y 1).val; omega)
    have r0 := fun k : Fin 2816 => (block0 (c := c) (V m c) t' (y 0) k q0 (qk k)).trans ((congrFun (V_main_arg0 m c) _).trans
      (congrArg (fun z => A0 m c (ix2 z (pos ⟨t'.val % 8, Nat.mod_lt _ (by decide)⟩ k))) er))
    have r1 := fun k : Fin 2816 => (block1 (c := c) (V m c) t' (y 1) k (Nat.mod_lt _ (by decide)) qc).trans ((congrFun (V_main_arg1 m c) _).trans
      (congrArg (fun z => A1 m c (ix3 ⟨t'.val % 8, Nat.mod_lt _ (by decide)⟩ z k)) ec))
    exact (dotAt_eq (iblk m c 0 t') (iblk m c 1 t') (y 0) (y 1) _ _ r0 r1).trans (Sums.steps_lt 8 (fun s : Fin 8 => ∑ k : Fin 2816, A0 m c (ix2 (⟨t.val / 32 * 1024 + (y 0).val, p0⟩ : Fin 4096) (pos s k)) * A1 m c (ix3 s (⟨t.val / 8 % 4 * 1024 + (y 1).val, pc⟩ : Fin 4096) k)) ⟨t'.val % 8, Nat.mod_lt _ (by decide)⟩).symm
  have hb := total m c (y 0) (y 1) _ t hm hP
  generalize (outsAt0 m c t.val t.isLt).1 = o at hb ⊢
  show o ((cfg0.win 2).xinj (grid0.coords t) y) = prod (A0 m c) (A1 m c) (((cfg0.win 2).blk t).view.emb y)
  have g0 : ((cfg0.win 2).blk t).view.emb y 0 = (⟨t.val / 32 * 1024 + (y 0).val, p0⟩ : Fin 4096) := Fin.ext (by
    show win0_2.index t (0 : Fin 2) * 1024 + 1 * (y 0).val = t.val / 32 * 1024 + (y 0).val; rw [e0]; omega)
  have g1 : ((cfg0.win 2).blk t).view.emb y 1 = (⟨t.val / 8 % 4 * 1024 + (y 1).val, pc⟩ : Fin 4096) := Fin.ext (by
    show win0_2.index t (1 : Fin 2) * 1024 + 1 * (y 1).val = t.val / 8 % 4 * 1024 + (y 1).val; rw [e1]; omega)
  refine (congrArg o hx).trans (hb.trans ?_)
  unfold prod
  rw [g0, g1]
  exact Sums.steps_sum _ _

/-- Every index lies in the block of a point that writes back. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, hft, q0, q1⟩ := onto ⟨(i 0).val / 1024, by omega⟩ ⟨(i 1).val / 1024, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 1024 ≤ (i 1).val ∧ (i 1).val < win0_2.index t (1 : Fin 2) * 1024 + 1024; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t hf) cover), (h c).2⟩)
    (Value.run_blocks m ρ)

end Cert.Kernel3Ideal.Product

namespace Cert.Reference3Ideal.Product

open Cert.Reference3Ideal Cert.Reference3Ideal.Gen

variable (a : Vec Ideal S4096x22528 .bf16) (b : Vec Ideal S8x4096x2816 .bf16)

/-- The plain product, element by element. -/
theorem host (i : Fin 4096) (j : Fin 4096) :
    (Host.dotGeneral dot_S4096x8x2816_S8x4096x2816_S4096x4096_12_02_0_1_n_n none (shapeCast _ (extf .f32 a bitsLt_bf16_f32) shapeCasts_S4096x22528_S4096x8x2816) (extf .f32 b bitsLt_bf16_f32) : FVec Ideal S4096x4096 .f32) (ix2 i j)
      = ∑ s : Fin 8, ∑ k : Fin 2816, a (ix2 i (Cert.Kernel3Ideal.Product.pos s k)) * b (ix3 s j k) := by
  unfold Cert.Kernel3Ideal.Product.pos
  pointwise

theorem value (w : Vec Ideal S4096x4096 .f32) (e : ∀ (i : Fin 4096) (j : Fin 4096), w (ix2 i j) = ∑ s : Fin 8, ∑ k : Fin 2816, a (ix2 i (Cert.Kernel3Ideal.Product.pos s k)) * b (ix3 s j k)) :
    w = Cert.Kernel3Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel3Ideal.Product.prod
  rfl

end Cert.Reference3Ideal.Product

namespace Cert.GateUpDx

/-- The two programs end with the same result. -/
theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Kernel3Ideal.Product.prod (Cert.Kernel3Ideal.Product.A0 m c) (Cert.Kernel3Ideal.Product.A1 m c),
    Cert.Kernel3Ideal.Product.run m g, ?_⟩
  refine (θ_run _ _ _).mono (fun r h c => ⟨?_, (h c).2⟩) (Cert.Reference3Ideal.Value.run (F := Ideal) m' g')
  refine (h c).1.trans ((Cert.Reference3Ideal.Product.value _ _ _ (Cert.Reference3Ideal.Product.host _ _)).trans ?_)
  unfold Cert.Kernel3Ideal.Product.A0 Cert.Kernel3Ideal.Product.A1
  rw [(hag c).1, (hag c).2]

end Cert.GateUpDx

end
-- ==== Proof.GateUpDw.lean ====
/-
  The gradient of the gate and up weights: the tiled kernel's result and the plain product's are the same sums.
-/
module

public import proofs.«01_k».proof.Defs
public import proofs.«01_k».proof.Proof.Gen.Kernel4Ideal.Value
public import proofs.«01_k».proof.Proof.Gen.Reference4Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel4Ideal.Product

open Cert.Kernel4Ideal Cert.Kernel4Ideal.Gen

/-- One element of the product of two blocks. -/
def dotAt (x0 : Vec Ideal S512x4096 .bf16) (x1 : Vec Ideal S4096x1408 .bf16) (i : Fin 512) (j : Fin 1408) : EReal :=
  ∑ k : Fin 4096, x0 (ix2 i k) * x1 (ix2 k j)

theorem dotAt_eq (x0 : Vec Ideal S512x4096 .bf16) (x1 : Vec Ideal S4096x1408 .bf16) (i : Fin 512) (j : Fin 1408) (a b : Fin 4096 → EReal)
    (h0 : ∀ k, x0 (ix2 i k) = a k) (h1 : ∀ k, x1 (ix2 k j) = b k) : dotAt x0 x1 i j = ∑ k : Fin 4096, a k * b k := by
  unfold dotAt
  exact Finset.sum_congr rfl fun k _ => by rw [h0, h1]

/-- What one grid point's program stores, element by element. -/
theorem tile (x0 : Vec Ideal S512x4096 .bf16) (x1 : Vec Ideal S4096x1408 .bf16) (u : Fin 1) (i : Fin 512) (j : Fin 1408) :
    k0_pay1 x0 x1 (ix3 u i j) = dotAt x0 x1 i j := by
  unfold dotAt
  pointwise [k0_pay1]

theorem out_at (x0 : Vec Ideal S512x4096 .bf16) (x1 : Vec Ideal S4096x1408 .bf16) (u : Fin 1) (i : Fin 512) (j : Fin 1408) :
    out0_2 x0 x1 (ix3 u i j) = dotAt x0 x1 i j := by
  have hz : (![0, 0] : Fin 2 → Nat) = fun _ => 0 := by decide
  have hz3 : (![0, 0, 0] : Fin 3 → Nat) = fun _ => 0 := by decide
  unfold out0_2
  rw [View.canon_unit_zero (S := S1x512x1408) hz3, View.ld_unit_zero (S := S512x4096) hz, View.ld_unit_zero (S := S4096x1408) hz]
  exact tile x0 x1 u i j

/-- The place of lane `l` of slot `s` when the slots lie one after the other. -/
def pos (s : Fin 8) (l : Fin 2816) : Fin 22528 := ⟨s.val * 2816 + l.val, by omega⟩

/-- The product's elements. -/
def prod (a : Vec Ideal S4096x4096 .bf16) (b : Vec Ideal S4096x22528 .bf16) : Vec Ideal S8x4096x2816 .bf16 :=
  fun i => ∑ k : Fin 4096, a (ix2 k (i 1)) * b (ix2 k (pos (i 0) (i 2)))

variable (m : (ℓ : Loc nD τ sig) → Buf (Elt Ideal) ℓ) (c : Dev nD)

abbrev A0 : Vec Ideal S4096x4096 .bf16 := m ((c : Thread nD τ).loc main_arg0)
abbrev A1 : Vec Ideal S4096x22528 .bf16 := m ((c : Thread nD τ).loc main_arg1)

theorem transposed (i : Fin 4096) (k : Fin 4096) : V m c main_v0 (ix2 i k) = A0 m c (ix2 k i) := by
  unfold V; after_reads_at

theorem idx0 : ∀ t : Fin grid0.N, win0_0.index t (0 : Fin 2) = t.val / 16 ∧ win0_0.index t (1 : Fin 2) = 0 := by decide +kernel

theorem idx1 : ∀ t : Fin grid0.N, win0_1.index t (0 : Fin 2) = 0 ∧ win0_1.index t (1 : Fin 2) = t.val % 16 := by decide +kernel

theorem idx2 : ∀ t : Fin grid0.N, win0_2.index t (0 : Fin 3) = t.val % 16 / 2 ∧ win0_2.index t (1 : Fin 3) = t.val / 16 ∧ win0_2.index t (2 : Fin 3) = t.val % 16 % 2 := by decide +kernel

theorem onto : ∀ (s : Fin 8) (p : Fin 8) (l : Fin 2), ∃ t : Fin cfg0.N, (cfg0.win 2).flush t = true ∧
    win0_2.index t (0 : Fin 3) = s.val ∧ win0_2.index t (1 : Fin 3) = p.val ∧ win0_2.index t (2 : Fin 3) = l.val := by decide +kernel

section Blocks

variable {c}
variable (W : (b : Ref sig .tc) → Buf (Elt Ideal) ((c : Thread nD τ).loc b)) (t : Fin cfg0.N)

theorem block0 (r : Fin 512) (k : Fin 4096) (p0) :
    ((cfg0.win 0).blk t).view.read (Elt Ideal) (W (Pipeline.arrRef spec0 0)) (ix2 r k) = W main_v0 (ix2 ⟨(t.val / 16) * 512 + r.val, p0⟩ k) := by
  obtain ⟨e0, e1⟩ := idx0 t
  show W main_v0 (((cfg0.win 0).blk t).view.emb (ix2 r k)) = _
  refine congrArg _ (funext fun a => Fin.ext ?_)
  match a with
  | ⟨0, _⟩ => show win0_0.index t (0 : Fin 2) * 512 + 1 * r.val = (t.val / 16) * 512 + r.val; rw [e0]; omega
  | ⟨1, _⟩ => show win0_0.index t (1 : Fin 2) * 4096 + 1 * k.val = k.val; rw [e1]; omega

theorem block1 (k : Fin 4096) (j : Fin 1408) (p1) :
    ((cfg0.win 1).blk t).view.read (Elt Ideal) (W (Pipeline.arrRef spec0 1)) (ix2 k j) = W main_arg1 (ix2 k ⟨(t.val % 16) * 1408 + j.val, p1⟩) := by
  obtain ⟨e0, e1⟩ := idx1 t
  show W main_arg1 (((cfg0.win 1).blk t).view.emb (ix2 k j)) = _
  refine congrArg _ (funext fun a => Fin.ext ?_)
  match a with
  | ⟨0, _⟩ => show win0_1.index t (0 : Fin 2) * 4096 + 1 * k.val = k.val; rw [e0]; omega
  | ⟨1, _⟩ => show win0_1.index t (1 : Fin 2) * 1408 + 1 * j.val = (t.val % 16) * 1408 + j.val; rw [e1]; omega

end Blocks

theorem out_eq (x0 : Vec Ideal S512x4096 .bf16) (x1 : Vec Ideal S4096x1408 .bf16) (u : Fin 1) (i : Fin 512) (j : Fin 1408) (a b : Fin 4096 → EReal)
    (h0 : ∀ k, x0 (ix2 i k) = a k) (h1 : ∀ k, x1 (ix2 k j) = b k) :
    out0_2 x0 x1 (ix3 u i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1, e2⟩ := idx2 t
  have ht : t.val < 128 := lt_of_lt_of_le t.isLt (by decide)
  funext y
  have hya : (y 1).val < 512 := (y 1).isLt
  have hyb : (y 2).val < 1408 := (y 2).isLt
  have p0 : t.val / 16 * 512 + (y 1).val < 4096 := by omega
  have pc : t.val % 16 * 1408 + (y 2).val < 22528 := by omega
  have ps : t.val % 16 / 2 < 8 := by omega
  have pl : t.val % 16 % 2 * 1408 + (y 2).val < 2816 := by omega
  have hx : (cfg0.win 2).xinj (grid0.coords t) y = ix3 (y 0) (y 1) (y 2) := by
    funext a; apply Fin.ext
    match a with
    | ⟨0, _⟩ => rfl
    | ⟨1, _⟩ => rfl
    | ⟨2, _⟩ => rfl
  have r0 := fun k : Fin 4096 => (block0 (c := c) (V m c) t (y 1) k p0).trans (transposed m c ⟨_, p0⟩ k)
  have r1 := fun k : Fin 4096 => ((block1 (c := c) (V m c) t k (y 2) pc).trans (congrFun (V_main_arg1 m c) _)).trans
    (congrArg (fun z => A1 m c (ix2 k z)) (Fin.ext (by show t.val % 16 * 1408 + (y 2).val = t.val % 16 / 2 * 2816 + (t.val % 16 % 2 * 1408 + (y 2).val); omega) :
      (⟨t.val % 16 * 1408 + (y 2).val, pc⟩ : Fin 22528) = pos ⟨t.val % 16 / 2, ps⟩ ⟨t.val % 16 % 2 * 1408 + (y 2).val, pl⟩))
  have hb := out_eq (iblk m c 0 t) (iblk m c 1 t) (y 0) (y 1) (y 2) _ _ r0 r1
  generalize out0_2 (iblk m c 0 t) (iblk m c 1 t) = o at hb ⊢
  show o ((cfg0.win 2).xinj (grid0.coords t) y) = prod (A0 m c) (A1 m c) (((cfg0.win 2).blk t).view.emb y)
  have hu : (y 0).val < 1 := (y 0).isLt
  have g0 : ((cfg0.win 2).blk t).view.emb y 0 = (⟨t.val % 16 / 2, ps⟩ : Fin 8) := Fin.ext (by
    show win0_2.index t (0 : Fin 3) * 1 + 1 * (y 0).val = t.val % 16 / 2; rw [e0]; omega)
  have g1 : ((cfg0.win 2).blk t).view.emb y 1 = (⟨t.val / 16 * 512 + (y 1).val, p0⟩ : Fin 4096) := Fin.ext (by
    show win0_2.index t (1 : Fin 3) * 512 + 1 * (y 1).val = t.val / 16 * 512 + (y 1).val; rw [e1]; omega)
  have g2 : ((cfg0.win 2).blk t).view.emb y 2 = (⟨t.val % 16 % 2 * 1408 + (y 2).val, pl⟩ : Fin 2816) := Fin.ext (by
    show win0_2.index t (2 : Fin 3) * 1408 + 1 * (y 2).val = t.val % 16 % 2 * 1408 + (y 2).val; rw [e2]; omega)
  refine (congrArg o hx).trans (hb.trans ?_)
  unfold prod
  rw [g0, g1, g2]

/-- Every index lies in the block of a point that writes back. -/
theorem cover (i : S8x4096x2816.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 2816 := (i 2).isLt
  obtain ⟨t, hft, q0, q1, q2⟩ := onto ⟨(i 0).val / 1, by omega⟩ ⟨(i 1).val / 512, by omega⟩ ⟨(i 2).val / 1408, by omega⟩
  refine ⟨t, hft, ?_⟩
  show i ∈ ((View.whole main_v1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [q0]; dsimp only; omega
  | ⟨1, _⟩ => show win0_2.index t (1 : Fin 3) * 512 ≤ (i 1).val ∧ (i 1).val < win0_2.index t (1 : Fin 3) * 512 + 512; rw [q1]; dsimp only; omega
  | ⟨2, _⟩ => show win0_2.index t (2 : Fin 3) * 1408 ≤ (i 2).val ∧ (i 2).val < win0_2.index t (2 : Fin 3) * 1408 + 1408; rw [q2]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel4Ideal.Product

namespace Cert.Reference4Ideal.Product

open Cert.Reference4Ideal Cert.Reference4Ideal.Gen

variable (a : Vec Ideal S4096x4096 .bf16) (b : Vec Ideal S4096x22528 .bf16)

/-- The plain product, element by element. -/
theorem host (s : Fin 8) (i : Fin 4096) (l : Fin 2816) :
    (truncf .bf16 (transpose S8x4096x2816 [0, 2, 1] (Host.dotGeneral dot_S4096x8x2816_S4096x4096_S8x2816x4096_0_0_12_1_n_n none (shapeCast _ (extf .f32 b bitsLt_bf16_f32) shapeCasts_S4096x22528_S4096x8x2816) (extf .f32 a bitsLt_bf16_f32)) transposes_S8x2816x4096_S8x4096x2816_0_2_1) bitsLt_bf16_f32 : FVec Ideal S8x4096x2816 .bf16) (ix3 s i l)
      = ∑ k : Fin 4096, b (ix2 k (Cert.Kernel4Ideal.Product.pos s l)) * a (ix2 k i) := by
  unfold Cert.Kernel4Ideal.Product.pos
  pointwise

theorem value (w : Vec Ideal S8x4096x2816 .bf16) (e : ∀ (s : Fin 8) (i : Fin 4096) (l : Fin 2816), w (ix3 s i l) = ∑ k : Fin 4096, b (ix2 k (Cert.Kernel4Ideal.Product.pos s l)) * a (ix2 k i)) :
    w = Cert.Kernel4Ideal.Product.prod a b := by
  funext i
  have hi : i = ix3 (i 0) (i 1) (i 2) := by
    funext d
    match d with
    | ⟨0, _⟩ => rfl
    | ⟨1, _⟩ => rfl
    | ⟨2, _⟩ => rfl
  refine (congrArg w hi).trans ((e (i 0) (i 1) (i 2)).trans ?_)
  unfold Cert.Kernel4Ideal.Product.prod
  exact Finset.sum_congr rfl fun k _ => mul_comm _ _

end Cert.Reference4Ideal.Product

namespace Cert.GateUpDw

/-- The two programs end with the same result. -/
theorem algebraic : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Kernel4Ideal.Product.prod (Cert.Kernel4Ideal.Product.A0 m c) (Cert.Kernel4Ideal.Product.A1 m c),
    Cert.Kernel4Ideal.Product.run m g, ?_⟩
  refine (θ_run _ _ _).mono (fun r h c => ⟨?_, (h c).2⟩) (Cert.Reference4Ideal.Value.run (F := Ideal) m' g')
  refine (h c).1.trans ((Cert.Reference4Ideal.Product.value _ _ _ (Cert.Reference4Ideal.Product.host _ _)).trans ?_)
  unfold Cert.Kernel4Ideal.Product.A0 Cert.Kernel4Ideal.Product.A1
  rw [(hag c).1, (hag c).2]

end Cert.GateUpDw

end
-- ==== Proof.DownDw.lean ====
/-
  The gradient of the down projection's weights: the tiled kernel's result and the plain product's are the same sums.
-/
module

public import proofs.«01_k».proof.Defs
public import proofs.«01_k».proof.Proof.Gen.Kernel5Ideal.Value
public import proofs.«01_k».proof.Proof.Gen.Reference5Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel5Ideal.Product

open Cert.Kernel5Ideal Cert.Kernel5Ideal.Gen

/-- One element of the product of two blocks. -/
def dotAt (x0 : Vec Ideal S1408x4096 .bf16) (x1 : Vec Ideal S4096x512 .bf16) (i : Fin 1408) (j : Fin 512) : EReal :=
  ∑ k : Fin 4096, x0 (ix2 i k) * x1 (ix2 k j)

theorem dotAt_eq (x0 : Vec Ideal S1408x4096 .bf16) (x1 : Vec Ideal S4096x512 .bf16) (i : Fin 1408) (j : Fin 512) (a b : Fin 4096 → EReal)
    (h0 : ∀ k, x0 (ix2 i k) = a k) (h1 : ∀ k, x1 (ix2 k j) = b k) : dotAt x0 x1 i j = ∑ k : Fin 4096, a k * b k := by
  unfold dotAt
  exact Finset.sum_congr rfl fun k _ => by rw [h0, h1]

/-- What one grid point's program stores, element by element. -/
theorem tile (x0 : Vec Ideal S1408x4096 .bf16) (x1 : Vec Ideal S4096x512 .bf16) (i : Fin 1408) (j : Fin 512) :
    k0_pay1 x0 x1 (ix2 i j) = dotAt x0 x1 i j := by
  unfold dotAt
  pointwise [k0_pay1]

theorem out_at (x0 : Vec Ideal S1408x4096 .bf16) (x1 : Vec Ideal S4096x512 .bf16) (i : Fin 1408) (j : Fin 512) :
    out0_2 x0 x1 (ix2 i j) = dotAt x0 x1 i j := by
  have hz : (![0, 0] : Fin 2 → Nat) = fun _ => 0 := by decide
  unfold out0_2
  rw [View.canon_unit_zero (S := S1408x512) hz, View.ld_unit_zero (S := S1408x4096) hz, View.ld_unit_zero (S := S4096x512) hz]
  exact tile x0 x1 i j

/-- The product's elements. -/
def prod (a : Vec Ideal S4096x11264 .bf16) (b : Vec Ideal S4096x4096 .bf16) : Vec Ideal S11264x4096 .bf16 :=
  fun i => ∑ k : Fin 4096, a (ix2 k (i 0)) * b (ix2 k (i 1))

variable (m : (ℓ : Loc nD τ sig) → Buf (Elt Ideal) ℓ) (c : Dev nD)

abbrev A0 : Vec Ideal S4096x11264 .bf16 := m ((c : Thread nD τ).loc main_arg0)
abbrev A1 : Vec Ideal S4096x4096 .bf16 := m ((c : Thread nD τ).loc main_arg1)

theorem transposed (i : Fin 11264) (k : Fin 4096) : V m c main_v0 (ix2 i k) = A0 m c (ix2 k i) := by
  unfold V; after_reads_at

theorem idx0 : ∀ t : Fin grid0.N, win0_0.index t (0 : Fin 2) = t.val / 8 ∧ win0_0.index t (1 : Fin 2) = 0 := by decide +kernel

theorem idx1 : ∀ t : Fin grid0.N, win0_1.index t (0 : Fin 2) = 0 ∧ win0_1.index t (1 : Fin 2) = t.val % 8 := by decide +kernel

theorem idx2 : ∀ t : Fin grid0.N, win0_2.index t (0 : Fin 2) = t.val / 8 ∧ win0_2.index t (1 : Fin 2) = t.val % 8 := by decide +kernel

theorem onto : ∀ (p : Fin 8) (q : Fin 8), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1408) (k : Fin 4096) (p0) :
    ((cfg0.win 0).blk t).view.read (Elt Ideal) (W (Pipeline.arrRef spec0 0)) (ix2 r k) = W main_v0 (ix2 ⟨(t.val / 8) * 1408 + r.val, p0⟩ k) := by
  obtain ⟨e0, e1⟩ := idx0 t
  show W main_v0 (((cfg0.win 0).blk t).view.emb (ix2 r k)) = _
  refine congrArg _ (funext fun a => Fin.ext ?_)
  match a with
  | ⟨0, _⟩ => show win0_0.index t (0 : Fin 2) * 1408 + 1 * r.val = (t.val / 8) * 1408 + r.val; rw [e0]; omega
  | ⟨1, _⟩ => show win0_0.index t (1 : Fin 2) * 4096 + 1 * k.val = k.val; rw [e1]; omega

theorem block1 (k : Fin 4096) (j : Fin 512) (p1) :
    ((cfg0.win 1).blk t).view.read (Elt Ideal) (W (Pipeline.arrRef spec0 1)) (ix2 k j) = W main_arg1 (ix2 k ⟨(t.val % 8) * 512 + j.val, p1⟩) := by
  obtain ⟨e0, e1⟩ := idx1 t
  show W main_arg1 (((cfg0.win 1).blk t).view.emb (ix2 k j)) = _
  refine congrArg _ (funext fun a => Fin.ext ?_)
  match a with
  | ⟨0, _⟩ => show win0_1.index t (0 : Fin 2) * 4096 + 1 * k.val = k.val; rw [e0]; omega
  | ⟨1, _⟩ => show win0_1.index t (1 : Fin 2) * 512 + 1 * j.val = (t.val % 8) * 512 + j.val; rw [e1]; omega

end Blocks

theorem out_eq (x0 : Vec Ideal S1408x4096 .bf16) (x1 : Vec Ideal S4096x512 .bf16) (i : Fin 1408) (j : Fin 512) (a b : Fin 4096 → EReal)
    (h0 : ∀ k, x0 (ix2 i k) = a k) (h1 : ∀ k, x1 (ix2 k j) = b k) :
    out0_2 x0 x1 (ix2 i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1⟩ := idx2 t
  have ht : t.val < 64 := lt_of_lt_of_le t.isLt (by decide)
  funext y
  have hya : (y 0).val < 1408 := (y 0).isLt
  have hyb : (y 1).val < 512 := (y 1).isLt
  have p0 : t.val / 8 * 1408 + (y 0).val < 11264 := by omega
  have pc : t.val % 8 * 512 + (y 1).val < 4096 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (transposed m c ⟨_, p0⟩ k)
  have r1 := fun k : Fin 4096 => (block1 (c := c) (V m c) t k (y 1) pc).trans (congrFun (V_main_arg1 m c) _)
  have hb := out_eq (iblk m c 0 t) (iblk m c 1 t) (y 0) (y 1) _ _ r0 r1
  generalize out0_2 (iblk m c 0 t) (iblk m c 1 t) = o at hb ⊢
  show o ((cfg0.win 2).xinj (grid0.coords t) y) = prod (A0 m c) (A1 m c) (((cfg0.win 2).blk t).view.emb y)
  have g0 : ((cfg0.win 2).blk t).view.emb y 0 = (⟨t.val / 8 * 1408 + (y 0).val, p0⟩ : Fin 11264) := Fin.ext (by
    show win0_2.index t (0 : Fin 2) * 1408 + 1 * (y 0).val = t.val / 8 * 1408 + (y 0).val; rw [e0]; omega)
  have g1 : ((cfg0.win 2).blk t).view.emb y 1 = (⟨t.val % 8 * 512 + (y 1).val, pc⟩ : Fin 4096) := Fin.ext (by
    show win0_2.index t (1 : Fin 2) * 512 + 1 * (y 1).val = t.val % 8 * 512 + (y 1).val; rw [e1]; omega)
  refine (congrArg o hx).trans (hb.trans ?_)
  unfold prod
  rw [g0, g1]

/-- Every index lies in the block of a point that writes back. -/
theorem cover (i : S11264x4096.Idx) : ∃ t : Fin cfg0.N, (cfg0.win 2).flush t = true ∧ i ∈ ((cfg0.win 2).blk t).view.set := by
  have hi0 : (i 0).val < 11264 := (i 0).isLt
  have hi1 : (i 1).val < 4096 := (i 1).isLt
  obtain ⟨t, hft, q0, q1⟩ := onto ⟨(i 0).val / 1408, by omega⟩ ⟨(i 1).val / 512, by omega⟩
  refine ⟨t, hft, ?_⟩
  show i ∈ ((View.whole main_v1).slice (win0_2.rect t)).set
  rw [View.set_slice_whole, Rect.mem_set_unit]
  intro a
  match a with
  | ⟨0, _⟩ => show win0_2.index t (0 : Fin 2) * 1408 ≤ (i 0).val ∧ (i 0).val < win0_2.index t (0 : Fin 2) * 1408 + 1408; rw [q0]; dsimp only; omega
  | ⟨1, _⟩ => show win0_2.index t (1 : Fin 2) * 512 ≤ (i 1).val ∧ (i 1).val < win0_2.index t (1 : Fin 2) * 512 + 512; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel5Ideal.Product

namespace Cert.Reference5Ideal.Product

open Cert.Reference5Ideal Cert.Reference5Ideal.Gen

variable (a : Vec Ideal S4096x11264 .bf16) (b : Vec Ideal S4096x4096 .bf16)

/-- The plain product, element by element. -/
theorem host (i : Fin 11264) (j : Fin 4096) :
    (truncf .bf16 (transpose S11264x4096 [1, 0] (Host.dotGeneral dot_S4096x4096_S4096x11264_S4096x11264_0_0_1_1_n_n none (extf .f32 b bitsLt_bf16_f32) (extf .f32 a bitsLt_bf16_f32)) transposes_S4096x11264_S11264x4096_1_0) bitsLt_bf16_f32 : FVec Ideal S11264x4096 .bf16) (ix2 i j)
      = ∑ k : Fin 4096, b (ix2 k j) * a (ix2 k i) := by
  pointwise

theorem value (w : Vec Ideal S11264x4096 .bf16) (e : ∀ (i : Fin 11264) (j : Fin 4096), w (ix2 i j) = ∑ k : Fin 4096, b (ix2 k j) * a (ix2 k i)) :
    w = Cert.Kernel5Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel5Ideal.Product.prod
  exact Finset.sum_congr rfl fun k _ => mul_comm _ _

end Cert.Reference5Ideal.Product

namespace Cert.DownDw

/-- The two programs end with the same result. -/
theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Kernel5Ideal.Product.prod (Cert.Kernel5Ideal.Product.A0 m c) (Cert.Kernel5Ideal.Product.A1 m c),
    Cert.Kernel5Ideal.Product.run m g, ?_⟩
  refine (θ_run _ _ _).mono (fun r h c => ⟨?_, (h c).2⟩) (Cert.Reference5Ideal.Value.run (F := Ideal) m' g')
  refine (h c).1.trans ((Cert.Reference5Ideal.Product.value _ _ _ (Cert.Reference5Ideal.Product.host _ _)).trans ?_)
  unfold Cert.Kernel5Ideal.Product.A0 Cert.Kernel5Ideal.Product.A1
  rw [(hag c).1, (hag c).2]

end Cert.DownDw

end
-- ==== Proof.DownDx.lean ====
/-
  The gradient of the hidden activations: the tiled kernel's result and the plain product's are the same sums.
-/
module

public import proofs.«01_k».proof.Defs
public import proofs.«01_k».proof.Proof.Gen.Kernel6Ideal.Value
public import proofs.«01_k».proof.Proof.Gen.Reference6Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel6Ideal.Product

open Cert.Kernel6Ideal Cert.Kernel6Ideal.Gen

/-- One element of the product of two blocks. -/
def dotAt (x0 : Vec Ideal S1024x4096 .bf16) (x1 : Vec Ideal S1408x4096 .bf16) (i : Fin 1024) (j : Fin 1408) : EReal :=
  ∑ k : Fin 4096, x0 (ix2 i k) * x1 (ix2 j k)

theorem dotAt_eq (x0 : Vec Ideal S1024x4096 .bf16) (x1 : Vec Ideal S1408x4096 .bf16) (i : Fin 1024) (j : Fin 1408) (a b : Fin 4096 → EReal)
    (h0 : ∀ k, x0 (ix2 i k) = a k) (h1 : ∀ k, x1 (ix2 j k) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S1408x4096 .bf16) (i : Fin 1024) (j : Fin 1408) :
    k0_pay1 x0 x1 (ix2 i j) = dotAt x0 x1 i j := by
  unfold dotAt
  pointwise [k0_pay1]

theorem out_at (x0 : Vec Ideal S1024x4096 .bf16) (x1 : Vec Ideal S1408x4096 .bf16) (i : Fin 1024) (j : Fin 1408) :
    out0_2 x0 x1 (ix2 i j) = dotAt x0 x1 i j := by
  have hz : (![0, 0] : Fin 2 → Nat) = fun _ => 0 := by decide
  unfold out0_2
  rw [View.canon_unit_zero (S := S1024x1408) hz, View.ld_unit_zero (S := S1024x4096) hz, View.ld_unit_zero (S := S1408x4096) hz]
  exact tile x0 x1 i j

/-- The product's elements. -/
def prod (a : Vec Ideal S4096x4096 .bf16) (b : Vec Ideal S11264x4096 .bf16) : Vec Ideal S4096x11264 .bf16 :=
  fun i => ∑ k : Fin 4096, a (ix2 (i 0) k) * b (ix2 (i 1) k)

variable (m : (ℓ : Loc nD τ sig) → Buf (Elt Ideal) ℓ) (c : Dev nD)

abbrev A0 : Vec Ideal S4096x4096 .bf16 := m ((c : Thread nD τ).loc main_arg0)
abbrev A1 : Vec Ideal S11264x4096 .bf16 := m ((c : Thread nD τ).loc main_arg1)

theorem idx0 : ∀ t : Fin grid0.N, win0_0.index t (0 : Fin 2) = t.val / 8 ∧ win0_0.index t (1 : Fin 2) = 0 := by decide +kernel

theorem idx1 : ∀ t : Fin grid0.N, win0_1.index t (0 : Fin 2) = t.val % 8 ∧ win0_1.index t (1 : Fin 2) = 0 := by decide +kernel

theorem idx2 : ∀ t : Fin grid0.N, win0_2.index t (0 : Fin 2) = t.val / 8 ∧ win0_2.index t (1 : Fin 2) = t.val % 8 := by decide +kernel

theorem onto : ∀ (p : Fin 4) (q : Fin 8), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_arg0 (ix2 ⟨(t.val / 8) * 1024 + r.val, p0⟩ k) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 8) * 1024 + r.val; rw [e0]; omega
  | ⟨1, _⟩ => show win0_0.index t (1 : Fin 2) * 4096 + 1 * k.val = k.val; rw [e1]; omega

theorem block1 (j : Fin 1408) (k : Fin 4096) (p0) :
    ((cfg0.win 1).blk t).view.read (Elt Ideal) (W (Pipeline.arrRef spec0 1)) (ix2 j k) = W main_arg1 (ix2 ⟨(t.val % 8) * 1408 + j.val, p0⟩ k) := by
  obtain ⟨e0, e1⟩ := idx1 t
  show W main_arg1 (((cfg0.win 1).blk t).view.emb (ix2 j k)) = _
  refine congrArg _ (funext fun a => Fin.ext ?_)
  match a with
  | ⟨0, _⟩ => show win0_1.index t (0 : Fin 2) * 1408 + 1 * j.val = (t.val % 8) * 1408 + j.val; rw [e0]; omega
  | ⟨1, _⟩ => show win0_1.index t (1 : Fin 2) * 4096 + 1 * k.val = k.val; rw [e1]; omega

end Blocks

theorem out_eq (x0 : Vec Ideal S1024x4096 .bf16) (x1 : Vec Ideal S1408x4096 .bf16) (i : Fin 1024) (j : Fin 1408) (a b : Fin 4096 → EReal)
    (h0 : ∀ k, x0 (ix2 i k) = a k) (h1 : ∀ k, x1 (ix2 j k) = b k) :
    out0_2 x0 x1 (ix2 i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1⟩ := idx2 t
  have ht : t.val < 32 := lt_of_lt_of_le t.isLt (by decide)
  funext y
  have hya : (y 0).val < 1024 := (y 0).isLt
  have hyb : (y 1).val < 1408 := (y 1).isLt
  have p0 : t.val / 8 * 1024 + (y 0).val < 4096 := by omega
  have pc : t.val % 8 * 1408 + (y 1).val < 11264 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (congrFun (V_main_arg0 m c) _)
  have r1 := fun k : Fin 4096 => (block1 (c := c) (V m c) t (y 1) k pc).trans (congrFun (V_main_arg1 m c) _)
  have hb := out_eq (iblk m c 0 t) (iblk m c 1 t) (y 0) (y 1) _ _ r0 r1
  generalize out0_2 (iblk m c 0 t) (iblk m c 1 t) = o at hb ⊢
  show o ((cfg0.win 2).xinj (grid0.coords t) y) = prod (A0 m c) (A1 m c) (((cfg0.win 2).blk t).view.emb y)
  have g0 : ((cfg0.win 2).blk t).view.emb y 0 = (⟨t.val / 8 * 1024 + (y 0).val, p0⟩ : Fin 4096) := Fin.ext (by
    show win0_2.index t (0 : Fin 2) * 1024 + 1 * (y 0).val = t.val / 8 * 1024 + (y 0).val; rw [e0]; omega)
  have g1 : ((cfg0.win 2).blk t).view.emb y 1 = (⟨t.val % 8 * 1408 + (y 1).val, pc⟩ : Fin 11264) := Fin.ext (by
    show win0_2.index t (1 : Fin 2) * 1408 + 1 * (y 1).val = t.val % 8 * 1408 + (y 1).val; rw [e1]; omega)
  refine (congrArg o hx).trans (hb.trans ?_)
  unfold prod
  rw [g0, g1]

/-- Every index lies in the block of a point that writes back. -/
theorem cover (i : S4096x11264.Idx) : ∃ t : Fin cfg0.N, (cfg0.win 2).flush t = true ∧ i ∈ ((cfg0.win 2).blk t).view.set := by
  have hi0 : (i 0).val < 4096 := (i 0).isLt
  have hi1 : (i 1).val < 11264 := (i 1).isLt
  obtain ⟨t, hft, q0, q1⟩ := onto ⟨(i 0).val / 1024, by omega⟩ ⟨(i 1).val / 1408, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 1408 ≤ (i 1).val ∧ (i 1).val < win0_2.index t (1 : Fin 2) * 1408 + 1408; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel6Ideal.Product

namespace Cert.Reference6Ideal.Product

open Cert.Reference6Ideal Cert.Reference6Ideal.Gen

variable (a : Vec Ideal S4096x4096 .bf16) (b : Vec Ideal S11264x4096 .bf16)

/-- The plain product, element by element. -/
theorem host (i : Fin 4096) (j : Fin 11264) :
    (truncf .bf16 (Host.dotGeneral dot_S4096x4096_S11264x4096_S4096x11264_1_1_0_0_n_n none (extf .f32 a bitsLt_bf16_f32) (extf .f32 b bitsLt_bf16_f32)) bitsLt_bf16_f32 : FVec Ideal S4096x11264 .bf16) (ix2 i j)
      = ∑ k : Fin 4096, a (ix2 i k) * b (ix2 j k) := by
  pointwise

theorem value (w : Vec Ideal S4096x11264 .bf16) (e : ∀ (i : Fin 4096) (j : Fin 11264), w (ix2 i j) = ∑ k : Fin 4096, a (ix2 i k) * b (ix2 j k)) :
    w = Cert.Kernel6Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel6Ideal.Product.prod
  rfl

end Cert.Reference6Ideal.Product

namespace Cert.DownDx

/-- The two programs end with the same result. -/
theorem algebraic : Cert.algebraic_Kernel6Ideal_Reference6Ideal (hKernel6Ideal := Cert.Kernel6Ideal.Gen.facts)
    (hReference6Ideal := Cert.Reference6Ideal.Gen.facts) := by
  intro m g m' g' _ hag
  refine ⟨fun c => Cert.Kernel6Ideal.Product.prod (Cert.Kernel6Ideal.Product.A0 m c) (Cert.Kernel6Ideal.Product.A1 m c),
    Cert.Kernel6Ideal.Product.run m g, ?_⟩
  refine (θ_run _ _ _).mono (fun r h c => ⟨?_, (h c).2⟩) (Cert.Reference6Ideal.Value.run (F := Ideal) m' g')
  refine (h c).1.trans ((Cert.Reference6Ideal.Product.value _ _ _ (Cert.Reference6Ideal.Product.host _ _)).trans ?_)
  unfold Cert.Kernel6Ideal.Product.A0 Cert.Kernel6Ideal.Product.A1
  rw [(hag c).1, (hag c).2]

end Cert.DownDx

end
-- ==== Proof.OutProjDw.lean ====
/-
  The gradient of the output projection's weights: the tiled kernel's result and the plain product's are the same sums.
-/
module

public import proofs.«01_k».proof.Defs
public import proofs.«01_k».proof.Proof.Gen.Kernel7Ideal.Value
public import proofs.«01_k».proof.Proof.Gen.Reference7Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel7Ideal.Product

open Cert.Kernel7Ideal Cert.Kernel7Ideal.Gen

/-- One element of the product of two blocks. -/
def dotAt (x0 : Vec Ideal S1024x4096 .bf16) (x1 : Vec Ideal S4096x512 .bf16) (i : Fin 1024) (j : Fin 512) : EReal :=
  ∑ k : Fin 4096, x0 (ix2 i k) * x1 (ix2 k j)

theorem dotAt_eq (x0 : Vec Ideal S1024x4096 .bf16) (x1 : Vec Ideal S4096x512 .bf16) (i : Fin 1024) (j : Fin 512) (a b : Fin 4096 → EReal)
    (h0 : ∀ k, x0 (ix2 i k) = a k) (h1 : ∀ k, x1 (ix2 k j) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S4096x512 .bf16) (i : Fin 1024) (j : Fin 512) :
    k0_pay1 x0 x1 (ix2 i j) = dotAt x0 x1 i j := by
  unfold dotAt
  pointwise [k0_pay1]

theorem out_at (x0 : Vec Ideal S1024x4096 .bf16) (x1 : Vec Ideal S4096x512 .bf16) (i : Fin 1024) (j : Fin 512) :
    out0_2 x0 x1 (ix2 i j) = dotAt x0 x1 i j := by
  have hz : (![0, 0] : Fin 2 → Nat) = fun _ => 0 := by decide
  unfold out0_2
  rw [View.canon_unit_zero (S := S1024x512) hz, View.ld_unit_zero (S := S1024x4096) hz, View.ld_unit_zero (S := S4096x512) hz]
  exact tile x0 x1 i j

/-- The product's elements. -/
def prod (a : Vec Ideal S4096x4096 .bf16) (b : Vec Ideal S4096x4096 .bf16) : Vec Ideal S4096x4096 .bf16 :=
  fun i => ∑ k : Fin 4096, a (ix2 k (i 0)) * b (ix2 k (i 1))

variable (m : (ℓ : Loc nD τ sig) → Buf (Elt Ideal) ℓ) (c : Dev nD)

abbrev A0 : Vec Ideal S4096x4096 .bf16 := m ((c : Thread nD τ).loc main_arg0)
abbrev A1 : Vec Ideal S4096x4096 .bf16 := m ((c : Thread nD τ).loc main_arg1)

theorem transposed (i : Fin 4096) (k : Fin 4096) : V m c main_v0 (ix2 i k) = A0 m c (ix2 k i) := by
  unfold V; after_reads_at

theorem idx0 : ∀ t : Fin grid0.N, win0_0.index t (0 : Fin 2) = t.val / 8 ∧ win0_0.index t (1 : Fin 2) = 0 := by decide +kernel

theorem idx1 : ∀ t : Fin grid0.N, win0_1.index t (0 : Fin 2) = 0 ∧ win0_1.index t (1 : Fin 2) = t.val % 8 := by decide +kernel

theorem idx2 : ∀ t : Fin grid0.N, win0_2.index t (0 : Fin 2) = t.val / 8 ∧ win0_2.index t (1 : Fin 2) = t.val % 8 := by decide +kernel

theorem onto : ∀ (p : Fin 4) (q : Fin 8), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_v0 (ix2 ⟨(t.val / 8) * 1024 + r.val, p0⟩ k) := by
  obtain ⟨e0, e1⟩ := idx0 t
  show W main_v0 (((cfg0.win 0).blk t).view.emb (ix2 r k)) = _
  refine congrArg _ (funext fun a => Fin.ext ?_)
  match a with
  | ⟨0, _⟩ => show win0_0.index t (0 : Fin 2) * 1024 + 1 * r.val = (t.val / 8) * 1024 + r.val; rw [e0]; omega
  | ⟨1, _⟩ => show win0_0.index t (1 : Fin 2) * 4096 + 1 * k.val = k.val; rw [e1]; omega

theorem block1 (k : Fin 4096) (j : Fin 512) (p1) :
    ((cfg0.win 1).blk t).view.read (Elt Ideal) (W (Pipeline.arrRef spec0 1)) (ix2 k j) = W main_arg1 (ix2 k ⟨(t.val % 8) * 512 + j.val, p1⟩) := by
  obtain ⟨e0, e1⟩ := idx1 t
  show W main_arg1 (((cfg0.win 1).blk t).view.emb (ix2 k j)) = _
  refine congrArg _ (funext fun a => Fin.ext ?_)
  match a with
  | ⟨0, _⟩ => show win0_1.index t (0 : Fin 2) * 4096 + 1 * k.val = k.val; rw [e0]; omega
  | ⟨1, _⟩ => show win0_1.index t (1 : Fin 2) * 512 + 1 * j.val = (t.val % 8) * 512 + j.val; rw [e1]; omega

end Blocks

theorem out_eq (x0 : Vec Ideal S1024x4096 .bf16) (x1 : Vec Ideal S4096x512 .bf16) (i : Fin 1024) (j : Fin 512) (a b : Fin 4096 → EReal)
    (h0 : ∀ k, x0 (ix2 i k) = a k) (h1 : ∀ k, x1 (ix2 k j) = b k) :
    out0_2 x0 x1 (ix2 i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1⟩ := idx2 t
  have ht : t.val < 32 := lt_of_lt_of_le t.isLt (by decide)
  funext y
  have hya : (y 0).val < 1024 := (y 0).isLt
  have hyb : (y 1).val < 512 := (y 1).isLt
  have p0 : t.val / 8 * 1024 + (y 0).val < 4096 := by omega
  have pc : t.val % 8 * 512 + (y 1).val < 4096 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (transposed m c ⟨_, p0⟩ k)
  have r1 := fun k : Fin 4096 => (block1 (c := c) (V m c) t k (y 1) pc).trans (congrFun (V_main_arg1 m c) _)
  have hb := out_eq (iblk m c 0 t) (iblk m c 1 t) (y 0) (y 1) _ _ r0 r1
  generalize out0_2 (iblk m c 0 t) (iblk m c 1 t) = o at hb ⊢
  show o ((cfg0.win 2).xinj (grid0.coords t) y) = prod (A0 m c) (A1 m c) (((cfg0.win 2).blk t).view.emb y)
  have g0 : ((cfg0.win 2).blk t).view.emb y 0 = (⟨t.val / 8 * 1024 + (y 0).val, p0⟩ : Fin 4096) := Fin.ext (by
    show win0_2.index t (0 : Fin 2) * 1024 + 1 * (y 0).val = t.val / 8 * 1024 + (y 0).val; rw [e0]; omega)
  have g1 : ((cfg0.win 2).blk t).view.emb y 1 = (⟨t.val % 8 * 512 + (y 1).val, pc⟩ : Fin 4096) := Fin.ext (by
    show win0_2.index t (1 : Fin 2) * 512 + 1 * (y 1).val = t.val % 8 * 512 + (y 1).val; rw [e1]; omega)
  refine (congrArg o hx).trans (hb.trans ?_)
  unfold prod
  rw [g0, g1]

/-- Every index lies in the block of a point that writes back. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, hft, q0, q1⟩ := onto ⟨(i 0).val / 1024, by omega⟩ ⟨(i 1).val / 512, by omega⟩
  refine ⟨t, hft, ?_⟩
  show i ∈ ((View.whole main_v1).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 512 ≤ (i 1).val ∧ (i 1).val < win0_2.index t (1 : Fin 2) * 512 + 512; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel7Ideal.Product

namespace Cert.Reference7Ideal.Product

open Cert.Reference7Ideal Cert.Reference7Ideal.Gen

variable (a : Vec Ideal S4096x4096 .bf16) (b : Vec Ideal S4096x4096 .bf16)

/-- The plain product, element by element. -/
theorem host (i : Fin 4096) (j : Fin 4096) :
    (truncf .bf16 (transpose S4096x4096 [1, 0] (Host.dotGeneral dot_S4096x4096_S4096x4096_S4096x4096_0_0_1_1_n_n none (extf .f32 b bitsLt_bf16_f32) (extf .f32 a bitsLt_bf16_f32)) transposes_S4096x4096_S4096x4096_1_0) bitsLt_bf16_f32 : FVec Ideal S4096x4096 .bf16) (ix2 i j)
      = ∑ k : Fin 4096, b (ix2 k j) * a (ix2 k i) := by
  pointwise

theorem value (w : Vec Ideal S4096x4096 .bf16) (e : ∀ (i : Fin 4096) (j : Fin 4096), w (ix2 i j) = ∑ k : Fin 4096, b (ix2 k j) * a (ix2 k i)) :
    w = Cert.Kernel7Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel7Ideal.Product.prod
  exact Finset.sum_congr rfl fun k _ => mul_comm _ _

end Cert.Reference7Ideal.Product

namespace Cert.OutProjDw

/-- The two programs end with the same result. -/
theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => Cert.Kernel7Ideal.Product.prod (Cert.Kernel7Ideal.Product.A0 m c) (Cert.Kernel7Ideal.Product.A1 m c),
    Cert.Kernel7Ideal.Product.run m g, ?_⟩
  refine (θ_run _ _ _).mono (fun r h c => ⟨?_, (h c).2⟩) (Cert.Reference7Ideal.Value.run (F := Ideal) m' g')
  refine (h c).1.trans ((Cert.Reference7Ideal.Product.value _ _ _ (Cert.Reference7Ideal.Product.host _ _)).trans ?_)
  unfold Cert.Kernel7Ideal.Product.A0 Cert.Kernel7Ideal.Product.A1
  rw [(hag c).1, (hag c).2]

end Cert.OutProjDw

end
-- ==== Proof.OutProjDx.lean ====
/-
  The gradient of the output projection's input: the tiled kernel's result and the plain product's are the same sums.
-/
module

public import proofs.«01_k».proof.Defs
public import proofs.«01_k».proof.Proof.Gen.Kernel8Ideal.Value
public import proofs.«01_k».proof.Proof.Gen.Reference8Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel8Ideal.Product

open Cert.Kernel8Ideal Cert.Kernel8Ideal.Gen

/-- One element of the product of two blocks. -/
def dotAt (x0 : Vec Ideal S1024x4096 .bf16) (x1 : Vec Ideal S512x4096 .bf16) (i : Fin 1024) (j : Fin 512) : EReal :=
  ∑ k : Fin 4096, x0 (ix2 i k) * x1 (ix2 j k)

theorem dotAt_eq (x0 : Vec Ideal S1024x4096 .bf16) (x1 : Vec Ideal S512x4096 .bf16) (i : Fin 1024) (j : Fin 512) (a b : Fin 4096 → EReal)
    (h0 : ∀ k, x0 (ix2 i k) = a k) (h1 : ∀ k, x1 (ix2 j k) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S512x4096 .bf16) (i : Fin 1024) (j : Fin 512) :
    k0_pay1 x0 x1 (ix2 i j) = dotAt x0 x1 i j := by
  unfold dotAt
  pointwise [k0_pay1]

theorem out_at (x0 : Vec Ideal S1024x4096 .bf16) (x1 : Vec Ideal S512x4096 .bf16) (i : Fin 1024) (j : Fin 512) :
    out0_2 x0 x1 (ix2 i j) = dotAt x0 x1 i j := by
  have hz : (![0, 0] : Fin 2 → Nat) = fun _ => 0 := by decide
  unfold out0_2
  rw [View.canon_unit_zero (S := S1024x512) hz, View.ld_unit_zero (S := S1024x4096) hz, View.ld_unit_zero (S := S512x4096) hz]
  exact tile x0 x1 i j

/-- The product's elements. -/
def prod (a : Vec Ideal S4096x4096 .bf16) (b : Vec Ideal S4096x4096 .bf16) : Vec Ideal S4096x4096 .bf16 :=
  fun i => ∑ k : Fin 4096, a (ix2 (i 0) k) * b (ix2 (i 1) k)

variable (m : (ℓ : Loc nD τ sig) → Buf (Elt Ideal) ℓ) (c : Dev nD)

abbrev A0 : Vec Ideal S4096x4096 .bf16 := m ((c : Thread nD τ).loc main_arg0)
abbrev A1 : Vec Ideal S4096x4096 .bf16 := m ((c : Thread nD τ).loc main_arg1)

theorem idx0 : ∀ t : Fin grid0.N, win0_0.index t (0 : Fin 2) = t.val / 8 ∧ win0_0.index t (1 : Fin 2) = 0 := by decide +kernel

theorem idx1 : ∀ t : Fin grid0.N, win0_1.index t (0 : Fin 2) = t.val % 8 ∧ win0_1.index t (1 : Fin 2) = 0 := by decide +kernel

theorem idx2 : ∀ t : Fin grid0.N, win0_2.index t (0 : Fin 2) = t.val / 8 ∧ win0_2.index t (1 : Fin 2) = t.val % 8 := by decide +kernel

theorem onto : ∀ (p : Fin 4) (q : Fin 8), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_arg0 (ix2 ⟨(t.val / 8) * 1024 + r.val, p0⟩ k) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 8) * 1024 + r.val; rw [e0]; omega
  | ⟨1, _⟩ => show win0_0.index t (1 : Fin 2) * 4096 + 1 * k.val = k.val; rw [e1]; omega

theorem block1 (j : Fin 512) (k : Fin 4096) (p0) :
    ((cfg0.win 1).blk t).view.read (Elt Ideal) (W (Pipeline.arrRef spec0 1)) (ix2 j k) = W main_arg1 (ix2 ⟨(t.val % 8) * 512 + j.val, p0⟩ k) := by
  obtain ⟨e0, e1⟩ := idx1 t
  show W main_arg1 (((cfg0.win 1).blk t).view.emb (ix2 j k)) = _
  refine congrArg _ (funext fun a => Fin.ext ?_)
  match a with
  | ⟨0, _⟩ => show win0_1.index t (0 : Fin 2) * 512 + 1 * j.val = (t.val % 8) * 512 + j.val; rw [e0]; omega
  | ⟨1, _⟩ => show win0_1.index t (1 : Fin 2) * 4096 + 1 * k.val = k.val; rw [e1]; omega

end Blocks

theorem out_eq (x0 : Vec Ideal S1024x4096 .bf16) (x1 : Vec Ideal S512x4096 .bf16) (i : Fin 1024) (j : Fin 512) (a b : Fin 4096 → EReal)
    (h0 : ∀ k, x0 (ix2 i k) = a k) (h1 : ∀ k, x1 (ix2 j k) = b k) :
    out0_2 x0 x1 (ix2 i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1⟩ := idx2 t
  have ht : t.val < 32 := lt_of_lt_of_le t.isLt (by decide)
  funext y
  have hya : (y 0).val < 1024 := (y 0).isLt
  have hyb : (y 1).val < 512 := (y 1).isLt
  have p0 : t.val / 8 * 1024 + (y 0).val < 4096 := by omega
  have pc : t.val % 8 * 512 + (y 1).val < 4096 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (congrFun (V_main_arg0 m c) _)
  have r1 := fun k : Fin 4096 => (block1 (c := c) (V m c) t (y 1) k pc).trans (congrFun (V_main_arg1 m c) _)
  have hb := out_eq (iblk m c 0 t) (iblk m c 1 t) (y 0) (y 1) _ _ r0 r1
  generalize out0_2 (iblk m c 0 t) (iblk m c 1 t) = o at hb ⊢
  show o ((cfg0.win 2).xinj (grid0.coords t) y) = prod (A0 m c) (A1 m c) (((cfg0.win 2).blk t).view.emb y)
  have g0 : ((cfg0.win 2).blk t).view.emb y 0 = (⟨t.val / 8 * 1024 + (y 0).val, p0⟩ : Fin 4096) := Fin.ext (by
    show win0_2.index t (0 : Fin 2) * 1024 + 1 * (y 0).val = t.val / 8 * 1024 + (y 0).val; rw [e0]; omega)
  have g1 : ((cfg0.win 2).blk t).view.emb y 1 = (⟨t.val % 8 * 512 + (y 1).val, pc⟩ : Fin 4096) := Fin.ext (by
    show win0_2.index t (1 : Fin 2) * 512 + 1 * (y 1).val = t.val % 8 * 512 + (y 1).val; rw [e1]; omega)
  refine (congrArg o hx).trans (hb.trans ?_)
  unfold prod
  rw [g0, g1]

/-- Every index lies in the block of a point that writes back. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, hft, q0, q1⟩ := onto ⟨(i 0).val / 1024, by omega⟩ ⟨(i 1).val / 512, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 512 ≤ (i 1).val ∧ (i 1).val < win0_2.index t (1 : Fin 2) * 512 + 512; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel8Ideal.Product

namespace Cert.Reference8Ideal.Product

open Cert.Reference8Ideal Cert.Reference8Ideal.Gen

variable (a : Vec Ideal S4096x4096 .bf16) (b : Vec Ideal S4096x4096 .bf16)

/-- The plain product, element by element. -/
theorem host (i : Fin 4096) (j : Fin 4096) :
    (truncf .bf16 (Host.dotGeneral dot_S4096x4096_S4096x4096_S4096x4096_1_1_0_0_n_n none (extf .f32 a bitsLt_bf16_f32) (extf .f32 b bitsLt_bf16_f32)) bitsLt_bf16_f32 : FVec Ideal S4096x4096 .bf16) (ix2 i j)
      = ∑ k : Fin 4096, a (ix2 i k) * b (ix2 j k) := by
  pointwise

theorem value (w : Vec Ideal S4096x4096 .bf16) (e : ∀ (i : Fin 4096) (j : Fin 4096), w (ix2 i j) = ∑ k : Fin 4096, a (ix2 i k) * b (ix2 j k)) :
    w = Cert.Kernel8Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel8Ideal.Product.prod
  rfl

end Cert.Reference8Ideal.Product

namespace Cert.OutProjDx

/-- The two programs end with the same result. -/
theorem algebraic : Cert.algebraic_Kernel8Ideal_Reference8Ideal (hKernel8Ideal := Cert.Kernel8Ideal.Gen.facts)
    (hReference8Ideal := Cert.Reference8Ideal.Gen.facts) := by
  intro m g m' g' _ hag
  refine ⟨fun c => Cert.Kernel8Ideal.Product.prod (Cert.Kernel8Ideal.Product.A0 m c) (Cert.Kernel8Ideal.Product.A1 m c),
    Cert.Kernel8Ideal.Product.run m g, ?_⟩
  refine (θ_run _ _ _).mono (fun r h c => ⟨?_, (h c).2⟩) (Cert.Reference8Ideal.Value.run (F := Ideal) m' g')
  refine (h c).1.trans ((Cert.Reference8Ideal.Product.value _ _ _ (Cert.Reference8Ideal.Product.host _ _)).trans ?_)
  unfold Cert.Kernel8Ideal.Product.A0 Cert.Kernel8Ideal.Product.A1
  rw [(hag c).1, (hag c).2]

end Cert.OutProjDx

end
-- ==== Proof.InProjDx.lean ====
/-
  The gradient of the input projection's input: the tiled kernel's result and the plain product's are the same sums.
-/
module

public import proofs.«01_k».proof.Defs
public import proofs.«01_k».proof.Proof.Gen.Kernel9Ideal.Value
public import proofs.«01_k».proof.Proof.Gen.Reference9Ideal.Run
public import proofs.«01_k».proof.Proof.Sums
public import Idealize.ShloMosaic.Lib.Pointwise
public import Idealize.ShloMosaic.Lib.StableHlo.ReadAt

@[expose] public section

set_option maxRecDepth 65536

noncomputable section

open Idealize.ShloMosaic Idealize.ShloMosaic.TcCoe Idealize.SL.Sem
open scoped BigOperators

namespace Cert.Kernel9Ideal.Product

open Cert.Kernel9Ideal Cert.Kernel9Ideal.Gen

/-- One element of the product of two blocks. -/
def dotAt (x0 : Vec Ideal S1024x2432 .bf16) (x1 : Vec Ideal S1024x2432 .bf16) (i : Fin 1024) (j : Fin 1024) : EReal :=
  ∑ k : Fin 2432, x0 (ix2 i k) * x1 (ix2 j k)

theorem dotAt_eq (x0 : Vec Ideal S1024x2432 .bf16) (x1 : Vec Ideal S1024x2432 .bf16) (i : Fin 1024) (j : Fin 1024) (a b : Fin 2432 → EReal)
    (h0 : ∀ k, x0 (ix2 i k) = a k) (h1 : ∀ k, x1 (ix2 j k) = b k) : dotAt x0 x1 i j = ∑ k : Fin 2432, a k * b k := by
  unfold dotAt
  exact Finset.sum_congr rfl fun k _ => by rw [h0, h1]

theorem tile1 (x0 : Vec Ideal S1024x2432 .bf16) (x1 : Vec Ideal S1024x2432 .bf16) (i : Fin 1024) (j : Fin 1024) :
    k0_pay1 x0 x1 (ix2 i j) = dotAt x0 x1 i j := by
  unfold dotAt
  pointwise [k0_pay1]

theorem tile2 (s : Vec Ideal S1024x1024 .f32) (x0 : Vec Ideal S1024x2432 .bf16) (x1 : Vec Ideal S1024x2432 .bf16) (i : Fin 1024) (j : Fin 1024) :
    k0_pay2 s x0 x1 (ix2 i j) = s (ix2 i j) + dotAt x0 x1 i j := by
  unfold dotAt
  pointwise [k0_pay2]

theorem tile3 (s : Vec Ideal S1024x1024 .f32) (x0 : Vec Ideal S1024x2432 .bf16) (x1 : Vec Ideal S1024x2432 .bf16) (i : Fin 1024) (j : Fin 1024) :
    k0_pay3 s x0 x1 (ix2 i j) = s (ix2 i j) + dotAt x0 x1 i j := by
  unfold dotAt
  pointwise [k0_pay3]

/-- At the first step of a run the accumulator is set to the blocks' product. -/
theorem first (c : Dev nD) (i₀ : grid0.Coords) (a3 : Memref sig .tc .vmem S1024x2432 .bf16) (h3 : a3.IsWhole)
    (a4 : Memref sig .tc .vmem S1024x2432 .bf16) (h4 : a4.IsWhole) (a5 : Memref sig .tc .vmem S1024x1024 .f32) (h5 : a5.IsWhole) (a6 : Memref sig .tc .vmem S1024x1024 .f32) (h6 : a6.IsWhole)
    (hc0 : cond0_0 i₀) (hc1 : ¬cond0_1 i₀) (hc2 : ¬cond0_2 i₀)
    (x0 : Vec Ideal S1024x2432 .bf16) (x1 : Vec Ideal S1024x2432 .bf16) :
    sout0_A_0 c i₀ a3 h3 a4 h4 a5 h5 a6 h6 hc0 hc1 hc2 x0 x1 = k0_pay1 x0 x1 := by
  have hz : (![0, 0] : Fin 2 → Nat) = fun _ => 0 := by decide
  unfold sout0_A_0
  rw [View.read_writes_eq_canon _ _ _ (scover0_A_0 c i₀ a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S1024x2432) hz, View.ld_unit_zero (S := S1024x2432) hz, View.ld_unit_zero (S := S1024x1024) hz, shapeCast_self]

/-- At a middle step the blocks' product is added to the accumulator. -/
theorem middle (c : Dev nD) (i₀ : grid0.Coords) (a3 : Memref sig .tc .vmem S1024x2432 .bf16) (h3 : a3.IsWhole)
    (a4 : Memref sig .tc .vmem S1024x2432 .bf16) (h4 : a4.IsWhole) (a5 : Memref sig .tc .vmem S1024x1024 .f32) (h5 : a5.IsWhole) (a6 : Memref sig .tc .vmem S1024x1024 .f32) (h6 : a6.IsWhole)
    (hc0 : ¬cond0_0 i₀) (hc1 : cond0_1 i₀) (hc2 : ¬cond0_2 i₀)
    (x0 : Vec Ideal S1024x2432 .bf16) (x1 : Vec Ideal S1024x2432 .bf16) (s : Vec Ideal S1024x1024 .f32) :
    sout0_B_0 c i₀ a3 h3 a4 h4 a5 h5 a6 h6 hc0 hc1 hc2 x0 x1 s = k0_pay2 s x0 x1 := by
  have hz : (![0, 0] : Fin 2 → Nat) = fun _ => 0 := by decide
  unfold sout0_B_0
  rw [View.read_writes_eq_canon _ _ _ (scover0_B_0 c i₀ a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h6.read_unread, View.ld_unit_zero (S := S1024x2432) hz, View.ld_unit_zero (S := S1024x2432) hz, View.ld_unit_zero (S := S1024x1024) hz, shapeCast_self]

/-- At the last step the sum is stored to the result. -/
theorem last (c : Dev nD) (i₀ : grid0.Coords) (a3 : Memref sig .tc .vmem S1024x2432 .bf16) (h3 : a3.IsWhole)
    (a4 : Memref sig .tc .vmem S1024x2432 .bf16) (h4 : a4.IsWhole) (a5 : Memref sig .tc .vmem S1024x1024 .f32) (h5 : a5.IsWhole) (a6 : Memref sig .tc .vmem S1024x1024 .f32) (h6 : a6.IsWhole)
    (hc0 : ¬cond0_0 i₀) (hc1 : ¬cond0_1 i₀) (hc2 : cond0_2 i₀)
    (x0 : Vec Ideal S1024x2432 .bf16) (x1 : Vec Ideal S1024x2432 .bf16) (s : Vec Ideal S1024x1024 .f32) :
    out0_C_2 c i₀ a3 h3 a4 h4 a5 h5 a6 h6 hc0 hc1 hc2 x0 x1 s = k0_pay3 s x0 x1 := by
  have hz : (![0, 0] : Fin 2 → Nat) = fun _ => 0 := by decide
  unfold out0_C_2
  rw [View.read_writes_eq_canon _ _ _ (cover0_C_2 c i₀ a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x2432) hz, View.ld_unit_zero (S := S1024x2432) hz, View.ld_unit_zero (S := S1024x1024) hz, shapeCast_self]

/-- The product's elements. -/
def prod (a : Vec Ideal S4096x17024 .bf16) (b : Vec Ideal S4096x17024 .bf16) : Vec Ideal S4096x4096 .f32 :=
  fun i => ∑ k : Fin 17024, a (ix2 (i 0) k) * b (ix2 (i 1) k)

variable (m : (ℓ : Loc nD τ sig) → Buf (Elt Ideal) ℓ) (c : Dev nD)

abbrev A0 : Vec Ideal S4096x17024 .bf16 := m ((c : Thread nD τ).loc main_arg0)
abbrev A1 : Vec Ideal S4096x17024 .bf16 := m ((c : Thread nD τ).loc main_arg1)

theorem idx0 : ∀ t : Fin grid0.N, win0_0.index t (0 : Fin 2) = t.val / 28 ∧ win0_0.index t (1 : Fin 2) = t.val % 7 := by decide +kernel

theorem idx1 : ∀ t : Fin grid0.N, win0_1.index t (0 : Fin 2) = t.val / 7 % 4 ∧ win0_1.index t (1 : Fin 2) = t.val % 7 := by decide +kernel

theorem idx2 : ∀ t : Fin grid0.N, win0_2.index t (0 : Fin 2) = t.val / 28 ∧ win0_2.index t (1 : Fin 2) = t.val / 7 % 4 := by decide +kernel

theorem onto : ∀ (p : Fin 4) (q : Fin 4), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 2432) (p0) (p1) :
    ((cfg0.win 0).blk t).view.read (Elt Ideal) (W (Pipeline.arrRef spec0 0)) (ix2 r k) = W main_arg0 (ix2 ⟨(t.val / 28) * 1024 + r.val, p0⟩ ⟨(t.val % 7) * 2432 + k.val, p1⟩) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 28) * 1024 + r.val; rw [e0]; omega
  | ⟨1, _⟩ => show win0_0.index t (1 : Fin 2) * 2432 + 1 * k.val = (t.val % 7) * 2432 + k.val; rw [e1]; omega

theorem block1 (j : Fin 1024) (k : Fin 2432) (p0) (p1) :
    ((cfg0.win 1).blk t).view.read (Elt Ideal) (W (Pipeline.arrRef spec0 1)) (ix2 j k) = W main_arg1 (ix2 ⟨(t.val / 7 % 4) * 1024 + j.val, p0⟩ ⟨(t.val % 7) * 2432 + k.val, p1⟩) := by
  obtain ⟨e0, e1⟩ := idx1 t
  show W main_arg1 (((cfg0.win 1).blk t).view.emb (ix2 j k)) = _
  refine congrArg _ (funext fun a => Fin.ext ?_)
  match a with
  | ⟨0, _⟩ => show win0_1.index t (0 : Fin 2) * 1024 + 1 * j.val = (t.val / 7 % 4) * 1024 + j.val; rw [e0]; omega
  | ⟨1, _⟩ => show win0_1.index t (1 : Fin 2) * 2432 + 1 * k.val = (t.val % 7) * 2432 + k.val; rw [e1]; omega

end Blocks

theorem scratch_first (t : Fin cfg0.N) (h : t.val % 7 = 0) (i : Fin 1024) (j : Fin 1024) :
    (outsAt0 m c t.val t.isLt).2 (ix2 i j) = dotAt (iblk m c 0 t) (iblk m c 1 t) i j := by
  rw [outsAt0_A m c t h (fun h => by omega) (fun h => by omega)]
  dsimp only
  rw [first]
  exact tile1 _ _ i j

theorem scratch_next (t : Fin cfg0.N) (h : 1 ≤ t.val % 7 ∧ t.val % 7 ≤ 5) (i : Fin 1024) (j : Fin 1024) :
    (outsAt0 m c t.val t.isLt).2 (ix2 i j)
      = (outsAt0 m c (t.val - 1) (Nat.lt_of_le_of_lt (Nat.sub_le _ _) t.isLt)).2 (ix2 i j) + dotAt (iblk m c 0 t) (iblk m c 1 t) i j := by
  rw [outsAt0_B m c t (fun h => by omega) h (fun h => by omega)]
  dsimp only
  rw [middle]
  exact tile2 _ _ _ i j

theorem result_last (t : Fin cfg0.N) (h : t.val % 7 = 6) (i : Fin 1024) (j : Fin 1024) :
    (outsAt0 m c t.val t.isLt).1 (ix2 i j)
      = (outsAt0 m c (t.val - 1) (Nat.lt_of_le_of_lt (Nat.sub_le _ _) t.isLt)).2 (ix2 i j) + dotAt (iblk m c 0 t) (iblk m c 1 t) i j := by
  rw [outsAt0_C m c t (fun h => by omega) (fun h => by omega) h]
  dsimp only
  rw [last]
  exact tile3 _ _ _ i j

/-- After step `r` of a run the accumulator holds the sum of the first `r + 1` blocks' products. -/
theorem scratch (i : Fin 1024) (j : Fin 1024) (P : ℕ → EReal) (r : ℕ) (hr : r ≤ 5) (t : Fin cfg0.N) (h : t.val % 7 = r)
    (hP : ∀ t' : Fin cfg0.N, t'.val / 7 = t.val / 7 → dotAt (iblk m c 0 t') (iblk m c 1 t') i j = P (t'.val % 7)) :
    (outsAt0 m c t.val t.isLt).2 (ix2 i j) = ∑ s ∈ Finset.range (r + 1), P s := by
  induction r generalizing t with
  | zero => rw [scratch_first m c t h i j, hP t rfl, h, Finset.sum_range_one]
  | succ r ih =>
    rw [scratch_next m c t ⟨by omega, by omega⟩ i j, hP t rfl, Finset.sum_range_succ, h]
    have hp := ih (by omega) ⟨t.val - 1, Nat.lt_of_le_of_lt (Nat.sub_le _ _) t.isLt⟩ (by dsimp only; omega)
      (fun t' h' => hP t' (by dsimp only at h'; omega))
    exact congrArg (· + P (r + 1)) hp

/-- What the last step of a run stores. -/
theorem total (i : Fin 1024) (j : Fin 1024) (P : ℕ → EReal) (t : Fin cfg0.N) (h : t.val % 7 = 6)
    (hP : ∀ t' : Fin cfg0.N, t'.val / 7 = t.val / 7 → dotAt (iblk m c 0 t') (iblk m c 1 t') i j = P (t'.val % 7)) :
    (outsAt0 m c t.val t.isLt).1 (ix2 i j) = (∑ s ∈ Finset.range 7, P s) := by
  have hp := scratch m c i j P 5 (by omega) ⟨t.val - 1, Nat.lt_of_le_of_lt (Nat.sub_le _ _) t.isLt⟩ (by dsimp only; omega)
    (fun t' h' => hP t' (by dsimp only at h'; omega))
  rw [result_last m c t h i j, hP t rfl, h, Finset.sum_range_succ]
  exact congrArg (· + P 6) hp

/-- The place of index `k` of step `s` in the sum. -/
def pos (s : Fin 7) (k : Fin 2432) : Fin 17024 := ⟨s.val * 2432 + k.val, by omega⟩

/-- The last point of a run writes back its block of the product. -/
theorem flushed (t : Fin cfg0.N) (hf : (cfg0.win 2).flush t = true) :
    (dats m 0 c).flushed 2 t = ((cfg0.win 2).blk t).view.read (Elt Ideal) (prod (A0 m c) (A1 m c)) := by
  have hm : t.val % 7 = 6 := (flush0_2 t).mp hf
  rw [Value.flushed2]
  obtain ⟨e0, e1⟩ := idx2 t
  have ht : t.val < 112 := lt_of_lt_of_le t.isLt (by decide)
  funext y
  have hya : (y 0).val < 1024 := (y 0).isLt
  have hyb : (y 1).val < 1024 := (y 1).isLt
  have p0 : t.val / 28 * 1024 + (y 0).val < 4096 := by omega
  have pc : t.val / 7 % 4 * 1024 + (y 1).val < 4096 := by omega
  have hx : (cfg0.win 2).xinj (grid0.coords t) y = ix2 (y 0) (y 1) := by
    funext a; apply Fin.ext
    match a with
    | ⟨0, _⟩ => rfl
    | ⟨1, _⟩ => rfl
  have hP : ∀ t' : Fin cfg0.N, t'.val / 7 = t.val / 7 → dotAt (iblk m c 0 t') (iblk m c 1 t') (y 0) (y 1)
      = Sums.steps 7 (fun s : Fin 7 => ∑ k : Fin 2432, A0 m c (ix2 (⟨t.val / 28 * 1024 + (y 0).val, p0⟩ : Fin 4096) (pos s k)) * A1 m c (ix2 (⟨t.val / 7 % 4 * 1024 + (y 1).val, pc⟩ : Fin 4096) (pos s k))) (t'.val % 7) := by
    intro t' h'
    have ht' : t'.val < 112 := lt_of_lt_of_le t'.isLt (by decide)
    have q0 : (t'.val / 28) * 1024 + (y 0).val < 4096 := by omega
    have qc : (t'.val / 7 % 4) * 1024 + (y 1).val < 4096 := by omega
    have qk : ∀ k : Fin 2432, (t'.val % 7) * 2432 + k.val < 17024 := fun k => by omega
    have er : (⟨(t'.val / 28) * 1024 + (y 0).val, q0⟩ : Fin 4096) = (⟨t.val / 28 * 1024 + (y 0).val, p0⟩ : Fin 4096) := Fin.ext (by show (t'.val / 28) * 1024 + (y 0).val = t.val / 28 * 1024 + (y 0).val; omega)
    have ec : (⟨(t'.val / 7 % 4) * 1024 + (y 1).val, qc⟩ : Fin 4096) = (⟨t.val / 7 % 4 * 1024 + (y 1).val, pc⟩ : Fin 4096) := Fin.ext (by show (t'.val / 7 % 4) * 1024 + (y 1).val = t.val / 7 % 4 * 1024 + (y 1).val; omega)
    have r0 := fun k : Fin 2432 => (block0 (c := c) (V m c) t' (y 0) k q0 (qk k)).trans ((congrFun (V_main_arg0 m c) _).trans
      (congrArg (fun z => A0 m c (ix2 z (pos ⟨t'.val % 7, Nat.mod_lt _ (by decide)⟩ k))) er))
    have r1 := fun k : Fin 2432 => (block1 (c := c) (V m c) t' (y 1) k qc (qk k)).trans ((congrFun (V_main_arg1 m c) _).trans
      (congrArg (fun z => A1 m c (ix2 z (pos ⟨t'.val % 7, Nat.mod_lt _ (by decide)⟩ k))) ec))
    exact (dotAt_eq (iblk m c 0 t') (iblk m c 1 t') (y 0) (y 1) _ _ r0 r1).trans (Sums.steps_lt 7 (fun s : Fin 7 => ∑ k : Fin 2432, A0 m c (ix2 (⟨t.val / 28 * 1024 + (y 0).val, p0⟩ : Fin 4096) (pos s k)) * A1 m c (ix2 (⟨t.val / 7 % 4 * 1024 + (y 1).val, pc⟩ : Fin 4096) (pos s k))) ⟨t'.val % 7, Nat.mod_lt _ (by decide)⟩).symm
  have hb := total m c (y 0) (y 1) _ t hm hP
  generalize (outsAt0 m c t.val t.isLt).1 = o at hb ⊢
  show o ((cfg0.win 2).xinj (grid0.coords t) y) = prod (A0 m c) (A1 m c) (((cfg0.win 2).blk t).view.emb y)
  have g0 : ((cfg0.win 2).blk t).view.emb y 0 = (⟨t.val / 28 * 1024 + (y 0).val, p0⟩ : Fin 4096) := Fin.ext (by
    show win0_2.index t (0 : Fin 2) * 1024 + 1 * (y 0).val = t.val / 28 * 1024 + (y 0).val; rw [e0]; omega)
  have g1 : ((cfg0.win 2).blk t).view.emb y 1 = (⟨t.val / 7 % 4 * 1024 + (y 1).val, pc⟩ : Fin 4096) := Fin.ext (by
    show win0_2.index t (1 : Fin 2) * 1024 + 1 * (y 1).val = t.val / 7 % 4 * 1024 + (y 1).val; rw [e1]; omega)
  refine (congrArg o hx).trans (hb.trans ?_)
  unfold prod
  rw [g0, g1]
  exact (Sums.steps_sum _ _).trans (Fin.sum_mul_add_fin 7 2432 (fun k : Fin 17024 => A0 m c (ix2 (⟨t.val / 28 * 1024 + (y 0).val, p0⟩ : Fin 4096) k) * A1 m c (ix2 (⟨t.val / 7 % 4 * 1024 + (y 1).val, pc⟩ : Fin 4096) k)) (by decide))

/-- Every index lies in the block of a point that writes back. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, hft, q0, q1⟩ := onto ⟨(i 0).val / 1024, by omega⟩ ⟨(i 1).val / 1024, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 1024 ≤ (i 1).val ∧ (i 1).val < win0_2.index t (1 : Fin 2) * 1024 + 1024; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t hf) cover), (h c).2⟩)
    (Value.run_blocks m ρ)

end Cert.Kernel9Ideal.Product

namespace Cert.Reference9Ideal.Product

open Cert.Reference9Ideal Cert.Reference9Ideal.Gen

variable (a : Vec Ideal S4096x17024 .bf16) (b : Vec Ideal S4096x17024 .bf16)

/-- The plain product, element by element. -/
theorem host (i : Fin 4096) (j : Fin 4096) :
    (Host.dotGeneral dot_S4096x17024_S4096x17024_S4096x4096_1_1_0_0_n_n none (extf .f32 a bitsLt_bf16_f32) (extf .f32 b bitsLt_bf16_f32) : FVec Ideal S4096x4096 .f32) (ix2 i j)
      = ∑ k : Fin 17024, a (ix2 i k) * b (ix2 j k) := by
  pointwise

theorem value (w : Vec Ideal S4096x4096 .f32) (e : ∀ (i : Fin 4096) (j : Fin 4096), w (ix2 i j) = ∑ k : Fin 17024, a (ix2 i k) * b (ix2 j k)) :
    w = Cert.Kernel9Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel9Ideal.Product.prod
  rfl

end Cert.Reference9Ideal.Product

namespace Cert.InProjDx

/-- The two programs end with the same result. -/
theorem algebraic : Cert.algebraic_Kernel9Ideal_Reference9Ideal (hKernel9Ideal := Cert.Kernel9Ideal.Gen.facts)
    (hReference9Ideal := Cert.Reference9Ideal.Gen.facts) := by
  intro m g m' g' _ hag
  refine ⟨fun c => Cert.Kernel9Ideal.Product.prod (Cert.Kernel9Ideal.Product.A0 m c) (Cert.Kernel9Ideal.Product.A1 m c),
    Cert.Kernel9Ideal.Product.run m g, ?_⟩
  refine (θ_run _ _ _).mono (fun r h c => ⟨?_, (h c).2⟩) (Cert.Reference9Ideal.Value.run (F := Ideal) m' g')
  refine (h c).1.trans ((Cert.Reference9Ideal.Product.value _ _ _ (Cert.Reference9Ideal.Product.host _ _)).trans ?_)
  unfold Cert.Kernel9Ideal.Product.A0 Cert.Kernel9Ideal.Product.A1
  rw [(hag c).1, (hag c).2]

end Cert.InProjDx

end
-- ==== Proof.BranchADw.lean ====
/-
  The gradient of the first branch's output weights: the tiled kernel's result and the plain product's are the same sums.
-/
module

public import proofs.«01_k».proof.Defs
public import proofs.«01_k».proof.Proof.Gen.Kernel10Ideal.Value
public import proofs.«01_k».proof.Proof.Gen.Reference10Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel10Ideal.Product

open Cert.Kernel10Ideal Cert.Kernel10Ideal.Gen

/-- One element of the product of two blocks. -/
def dotAt (x0 : Vec Ideal S1024x4096 .bf16) (x1 : Vec Ideal S4096x512 .bf16) (i : Fin 1024) (j : Fin 512) : EReal :=
  ∑ k : Fin 4096, x0 (ix2 i k) * x1 (ix2 k j)

theorem dotAt_eq (x0 : Vec Ideal S1024x4096 .bf16) (x1 : Vec Ideal S4096x512 .bf16) (i : Fin 1024) (j : Fin 512) (a b : Fin 4096 → EReal)
    (h0 : ∀ k, x0 (ix2 i k) = a k) (h1 : ∀ k, x1 (ix2 k j) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S4096x512 .bf16) (u : Fin 1) (i : Fin 1024) (j : Fin 512) :
    k0_pay1 x0 x1 (ix3 u i j) = dotAt x0 x1 i j := by
  unfold dotAt
  pointwise [k0_pay1]

theorem out_at (x0 : Vec Ideal S1024x4096 .bf16) (x1 : Vec Ideal S4096x512 .bf16) (u : Fin 1) (i : Fin 1024) (j : Fin 512) :
    out0_2 x0 x1 (ix3 u i j) = dotAt x0 x1 i j := by
  have hz : (![0, 0] : Fin 2 → Nat) = fun _ => 0 := by decide
  have hz3 : (![0, 0, 0] : Fin 3 → Nat) = fun _ => 0 := by decide
  unfold out0_2
  rw [View.canon_unit_zero (S := S1x1024x512) hz3, View.ld_unit_zero (S := S1024x4096) hz, View.ld_unit_zero (S := S4096x512) hz]
  exact tile x0 x1 u i j

/-- The place of lane `l` of slot `s` when the slots lie one after the other. -/
def pos (s : Fin 4) (l : Fin 1024) : Fin 4096 := ⟨s.val * 1024 + l.val, by omega⟩

/-- The product's elements. -/
def prod (a : Vec Ideal S4096x2048 .bf16) (b : Vec Ideal S4096x4096 .bf16) : Vec Ideal S4x2048x1024 .bf16 :=
  fun i => ∑ k : Fin 4096, a (ix2 k (i 1)) * b (ix2 k (pos (i 0) (i 2)))

variable (m : (ℓ : Loc nD τ sig) → Buf (Elt Ideal) ℓ) (c : Dev nD)

abbrev A0 : Vec Ideal S4096x2048 .bf16 := m ((c : Thread nD τ).loc main_arg0)
abbrev A1 : Vec Ideal S4096x4096 .bf16 := m ((c : Thread nD τ).loc main_arg1)

theorem transposed (i : Fin 2048) (k : Fin 4096) : V m c main_v0 (ix2 i k) = A0 m c (ix2 k i) := by
  unfold V; after_reads_at

theorem idx0 : ∀ t : Fin grid0.N, win0_0.index t (0 : Fin 2) = t.val / 8 ∧ win0_0.index t (1 : Fin 2) = 0 := by decide +kernel

theorem idx1 : ∀ t : Fin grid0.N, win0_1.index t (0 : Fin 2) = 0 ∧ win0_1.index t (1 : Fin 2) = t.val % 8 := by decide +kernel

theorem idx2 : ∀ t : Fin grid0.N, win0_2.index t (0 : Fin 3) = t.val % 8 / 2 ∧ win0_2.index t (1 : Fin 3) = t.val / 8 ∧ win0_2.index t (2 : Fin 3) = t.val % 8 % 2 := by decide +kernel

theorem onto : ∀ (s : Fin 4) (p : Fin 2) (l : Fin 2), ∃ t : Fin cfg0.N, (cfg0.win 2).flush t = true ∧
    win0_2.index t (0 : Fin 3) = s.val ∧ win0_2.index t (1 : Fin 3) = p.val ∧ win0_2.index t (2 : Fin 3) = l.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_v0 (ix2 ⟨(t.val / 8) * 1024 + r.val, p0⟩ k) := by
  obtain ⟨e0, e1⟩ := idx0 t
  show W main_v0 (((cfg0.win 0).blk t).view.emb (ix2 r k)) = _
  refine congrArg _ (funext fun a => Fin.ext ?_)
  match a with
  | ⟨0, _⟩ => show win0_0.index t (0 : Fin 2) * 1024 + 1 * r.val = (t.val / 8) * 1024 + r.val; rw [e0]; omega
  | ⟨1, _⟩ => show win0_0.index t (1 : Fin 2) * 4096 + 1 * k.val = k.val; rw [e1]; omega

theorem block1 (k : Fin 4096) (j : Fin 512) (p1) :
    ((cfg0.win 1).blk t).view.read (Elt Ideal) (W (Pipeline.arrRef spec0 1)) (ix2 k j) = W main_arg1 (ix2 k ⟨(t.val % 8) * 512 + j.val, p1⟩) := by
  obtain ⟨e0, e1⟩ := idx1 t
  show W main_arg1 (((cfg0.win 1).blk t).view.emb (ix2 k j)) = _
  refine congrArg _ (funext fun a => Fin.ext ?_)
  match a with
  | ⟨0, _⟩ => show win0_1.index t (0 : Fin 2) * 4096 + 1 * k.val = k.val; rw [e0]; omega
  | ⟨1, _⟩ => show win0_1.index t (1 : Fin 2) * 512 + 1 * j.val = (t.val % 8) * 512 + j.val; rw [e1]; omega

end Blocks

theorem out_eq (x0 : Vec Ideal S1024x4096 .bf16) (x1 : Vec Ideal S4096x512 .bf16) (u : Fin 1) (i : Fin 1024) (j : Fin 512) (a b : Fin 4096 → EReal)
    (h0 : ∀ k, x0 (ix2 i k) = a k) (h1 : ∀ k, x1 (ix2 k j) = b k) :
    out0_2 x0 x1 (ix3 u i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1, e2⟩ := idx2 t
  have ht : t.val < 16 := lt_of_lt_of_le t.isLt (by decide)
  funext y
  have hya : (y 1).val < 1024 := (y 1).isLt
  have hyb : (y 2).val < 512 := (y 2).isLt
  have p0 : t.val / 8 * 1024 + (y 1).val < 2048 := by omega
  have pc : t.val % 8 * 512 + (y 2).val < 4096 := by omega
  have ps : t.val % 8 / 2 < 4 := by omega
  have pl : t.val % 8 % 2 * 512 + (y 2).val < 1024 := by omega
  have hx : (cfg0.win 2).xinj (grid0.coords t) y = ix3 (y 0) (y 1) (y 2) := by
    funext a; apply Fin.ext
    match a with
    | ⟨0, _⟩ => rfl
    | ⟨1, _⟩ => rfl
    | ⟨2, _⟩ => rfl
  have r0 := fun k : Fin 4096 => (block0 (c := c) (V m c) t (y 1) k p0).trans (transposed m c ⟨_, p0⟩ k)
  have r1 := fun k : Fin 4096 => ((block1 (c := c) (V m c) t k (y 2) pc).trans (congrFun (V_main_arg1 m c) _)).trans
    (congrArg (fun z => A1 m c (ix2 k z)) (Fin.ext (by show t.val % 8 * 512 + (y 2).val = t.val % 8 / 2 * 1024 + (t.val % 8 % 2 * 512 + (y 2).val); omega) :
      (⟨t.val % 8 * 512 + (y 2).val, pc⟩ : Fin 4096) = pos ⟨t.val % 8 / 2, ps⟩ ⟨t.val % 8 % 2 * 512 + (y 2).val, pl⟩))
  have hb := out_eq (iblk m c 0 t) (iblk m c 1 t) (y 0) (y 1) (y 2) _ _ r0 r1
  generalize out0_2 (iblk m c 0 t) (iblk m c 1 t) = o at hb ⊢
  show o ((cfg0.win 2).xinj (grid0.coords t) y) = prod (A0 m c) (A1 m c) (((cfg0.win 2).blk t).view.emb y)
  have hu : (y 0).val < 1 := (y 0).isLt
  have g0 : ((cfg0.win 2).blk t).view.emb y 0 = (⟨t.val % 8 / 2, ps⟩ : Fin 4) := Fin.ext (by
    show win0_2.index t (0 : Fin 3) * 1 + 1 * (y 0).val = t.val % 8 / 2; rw [e0]; omega)
  have g1 : ((cfg0.win 2).blk t).view.emb y 1 = (⟨t.val / 8 * 1024 + (y 1).val, p0⟩ : Fin 2048) := Fin.ext (by
    show win0_2.index t (1 : Fin 3) * 1024 + 1 * (y 1).val = t.val / 8 * 1024 + (y 1).val; rw [e1]; omega)
  have g2 : ((cfg0.win 2).blk t).view.emb y 2 = (⟨t.val % 8 % 2 * 512 + (y 2).val, pl⟩ : Fin 1024) := Fin.ext (by
    show win0_2.index t (2 : Fin 3) * 512 + 1 * (y 2).val = t.val % 8 % 2 * 512 + (y 2).val; rw [e2]; omega)
  refine (congrArg o hx).trans (hb.trans ?_)
  unfold prod
  rw [g0, g1, g2]

/-- Every index lies in the block of a point that writes back. -/
theorem cover (i : S4x2048x1024.Idx) : ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 1024 := (i 2).isLt
  obtain ⟨t, hft, q0, q1, q2⟩ := onto ⟨(i 0).val / 1, by omega⟩ ⟨(i 1).val / 1024, by omega⟩ ⟨(i 2).val / 512, by omega⟩
  refine ⟨t, hft, ?_⟩
  show i ∈ ((View.whole main_v1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [q0]; dsimp only; omega
  | ⟨1, _⟩ => show win0_2.index t (1 : Fin 3) * 1024 ≤ (i 1).val ∧ (i 1).val < win0_2.index t (1 : Fin 3) * 1024 + 1024; rw [q1]; dsimp only; omega
  | ⟨2, _⟩ => show win0_2.index t (2 : Fin 3) * 512 ≤ (i 2).val ∧ (i 2).val < win0_2.index t (2 : Fin 3) * 512 + 512; rw [q2]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel10Ideal.Product

namespace Cert.Reference10Ideal.Product

open Cert.Reference10Ideal Cert.Reference10Ideal.Gen

variable (a : Vec Ideal S4096x2048 .bf16) (b : Vec Ideal S4096x4096 .bf16)

/-- The plain product, element by element. -/
theorem host (s : Fin 4) (i : Fin 2048) (l : Fin 1024) :
    (truncf .bf16 (transpose S4x2048x1024 [0, 2, 1] (Host.dotGeneral dot_S4096x4x1024_S4096x2048_S4x1024x2048_0_0_12_1_n_n none (shapeCast _ (extf .f32 b bitsLt_bf16_f32) shapeCasts_S4096x4096_S4096x4x1024) (extf .f32 a bitsLt_bf16_f32)) transposes_S4x1024x2048_S4x2048x1024_0_2_1) bitsLt_bf16_f32 : FVec Ideal S4x2048x1024 .bf16) (ix3 s i l)
      = ∑ k : Fin 4096, b (ix2 k (Cert.Kernel10Ideal.Product.pos s l)) * a (ix2 k i) := by
  unfold Cert.Kernel10Ideal.Product.pos
  pointwise

theorem value (w : Vec Ideal S4x2048x1024 .bf16) (e : ∀ (s : Fin 4) (i : Fin 2048) (l : Fin 1024), w (ix3 s i l) = ∑ k : Fin 4096, b (ix2 k (Cert.Kernel10Ideal.Product.pos s l)) * a (ix2 k i)) :
    w = Cert.Kernel10Ideal.Product.prod a b := by
  funext i
  have hi : i = ix3 (i 0) (i 1) (i 2) := by
    funext d
    match d with
    | ⟨0, _⟩ => rfl
    | ⟨1, _⟩ => rfl
    | ⟨2, _⟩ => rfl
  refine (congrArg w hi).trans ((e (i 0) (i 1) (i 2)).trans ?_)
  unfold Cert.Kernel10Ideal.Product.prod
  exact Finset.sum_congr rfl fun k _ => mul_comm _ _

end Cert.Reference10Ideal.Product

namespace Cert.BranchADw

/-- The two programs end with the same result. -/
theorem algebraic : Cert.algebraic_Kernel10Ideal_Reference10Ideal (hKernel10Ideal := Cert.Kernel10Ideal.Gen.facts)
    (hReference10Ideal := Cert.Reference10Ideal.Gen.facts) := by
  intro m g m' g' _ hag
  refine ⟨fun c => Cert.Kernel10Ideal.Product.prod (Cert.Kernel10Ideal.Product.A0 m c) (Cert.Kernel10Ideal.Product.A1 m c),
    Cert.Kernel10Ideal.Product.run m g, ?_⟩
  refine (θ_run _ _ _).mono (fun r h c => ⟨?_, (h c).2⟩) (Cert.Reference10Ideal.Value.run (F := Ideal) m' g')
  refine (h c).1.trans ((Cert.Reference10Ideal.Product.value _ _ _ (Cert.Reference10Ideal.Product.host _ _)).trans ?_)
  unfold Cert.Kernel10Ideal.Product.A0 Cert.Kernel10Ideal.Product.A1
  rw [(hag c).1, (hag c).2]

end Cert.BranchADw

end
-- ==== Proof.BranchBDw.lean ====
/-
  The gradient of the second branch's output weights: the program is the first branch's under other names, and so is the claim.
-/
module

public import proofs.«01_k».proof.Defs
public import proofs.«01_k».proof.Proof.BranchADw
public import proofs.«01_k».proof.Proof.Gen.Kernel11Ideal.Frame
public import proofs.«01_k».proof.Proof.Gen.Reference11Ideal.Run

@[expose] public section

noncomputable section

open Idealize.ShloMosaic

namespace Cert.BranchBDw

attribute [local instance] Cert.Kernel10Ideal.Gen.facts Cert.Kernel11Ideal.Gen.facts

/-- The two programs' bodies are the same. -/
theorem bodies : Cert.Kernel11Ideal.defs₀ (F := Ideal) = Cert.Kernel10Ideal.defs₀ (F := Ideal) :=
  congrArg Defs.onTc (funext fun l => funext fun x => match l, x with
    | 0, (_, _) => rfl
    | ⟨_ + 1, h⟩, _ => absurd h (Nat.not_lt.2 (Nat.le_add_left _ _)))

theorem tables : Cert.Kernel11Ideal.defs (F := Ideal) = Cert.Kernel10Ideal.defs (F := Ideal) :=
  congrArg (Pipeline.defs Cert.Kernel10Ideal.pcfgs) bodies

/-- The two programs end with the same result. -/
theorem algebraic : Cert.algebraic_Kernel11Ideal_Reference11Ideal (hKernel11Ideal := Cert.Kernel11Ideal.Gen.facts)
    (hReference11Ideal := Cert.Reference11Ideal.Gen.facts) := by
  unfold Cert.algebraic_Kernel11Ideal_Reference11Ideal
  rw [tables]
  exact Cert.BranchADw.algebraic

end Cert.BranchBDw

end
-- ==== Proof.BranchADx.lean ====
/-
  The gradient of the first branch's attention output: the tiled kernel's result and the plain product's are the same sums.
-/
module

public import proofs.«01_k».proof.Defs
public import proofs.«01_k».proof.Proof.Gen.Kernel12Ideal.Value
public import proofs.«01_k».proof.Proof.Gen.Reference12Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel12Ideal.Product

open Cert.Kernel12Ideal Cert.Kernel12Ideal.Gen

/-- One element of the product of two blocks. -/
def dotAt (x0 : Vec Ideal S1024x1024 .bf16) (x1 : Vec Ideal S1x1024x1024 .bf16) (i : Fin 1024) (j : Fin 1024) : EReal :=
  ∑ k : Fin 1024, x0 (ix2 i k) * x1 (ix3 (0 : Fin 1) j k)

theorem dotAt_eq (x0 : Vec Ideal S1024x1024 .bf16) (x1 : Vec Ideal S1x1024x1024 .bf16) (i : Fin 1024) (j : Fin 1024) (a b : Fin 1024 → EReal)
    (h0 : ∀ k, x0 (ix2 i k) = a k) (h1 : ∀ k, x1 (ix3 (0 : Fin 1) j k) = b k) : dotAt x0 x1 i j = ∑ k : Fin 1024, a k * b k := by
  unfold dotAt
  exact Finset.sum_congr rfl fun k _ => by rw [h0, h1]

theorem tile1 (x0 : Vec Ideal S1024x1024 .bf16) (x1 : Vec Ideal S1x1024x1024 .bf16) (i : Fin 1024) (j : Fin 1024) :
    k0_pay1 x0 x1 (ix2 i j) = dotAt x0 x1 i j := by
  unfold dotAt
  pointwise [k0_pay1]

theorem tile2 (s : Vec Ideal S1024x1024 .f32) (x0 : Vec Ideal S1024x1024 .bf16) (x1 : Vec Ideal S1x1024x1024 .bf16) (i : Fin 1024) (j : Fin 1024) :
    k0_pay2 s x0 x1 (ix2 i j) = s (ix2 i j) + dotAt x0 x1 i j := by
  unfold dotAt
  pointwise [k0_pay2]

theorem tile3 (s : Vec Ideal S1024x1024 .f32) (x0 : Vec Ideal S1024x1024 .bf16) (x1 : Vec Ideal S1x1024x1024 .bf16) (i : Fin 1024) (j : Fin 1024) :
    k0_pay3 s x0 x1 (ix2 i j) = s (ix2 i j) + dotAt x0 x1 i j := by
  unfold dotAt
  pointwise [k0_pay3]

/-- At the first step of a run the accumulator is set to the blocks' product. -/
theorem first (c : Dev nD) (i₀ : grid0.Coords) (a3 : Memref sig .tc .vmem S1024x1024 .bf16) (h3 : a3.IsWhole)
    (a4 : Memref sig .tc .vmem S1x1024x1024 .bf16) (h4 : a4.IsWhole) (a5 : Memref sig .tc .vmem S1024x1024 .bf16) (h5 : a5.IsWhole) (a6 : Memref sig .tc .vmem S1024x1024 .f32) (h6 : a6.IsWhole)
    (hc0 : cond0_0 i₀) (hc1 : ¬cond0_1 i₀) (hc2 : ¬cond0_2 i₀)
    (x0 : Vec Ideal S1024x1024 .bf16) (x1 : Vec Ideal S1x1024x1024 .bf16) :
    sout0_A_0 c i₀ a3 h3 a4 h4 a5 h5 a6 h6 hc0 hc1 hc2 x0 x1 = k0_pay1 x0 x1 := by
  have hz : (![0, 0] : Fin 2 → Nat) = fun _ => 0 := by decide
  have hz3 : (![0, 0, 0] : Fin 3 → Nat) = fun _ => 0 := by decide
  unfold sout0_A_0
  rw [View.read_writes_eq_canon _ _ _ (scover0_A_0 c i₀ a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S1024x1024) hz, View.ld_unit_zero (S := S1x1024x1024) hz3, View.ld_unit_zero (S := S1024x1024) hz, shapeCast_self]

/-- At a middle step the blocks' product is added to the accumulator. -/
theorem middle (c : Dev nD) (i₀ : grid0.Coords) (a3 : Memref sig .tc .vmem S1024x1024 .bf16) (h3 : a3.IsWhole)
    (a4 : Memref sig .tc .vmem S1x1024x1024 .bf16) (h4 : a4.IsWhole) (a5 : Memref sig .tc .vmem S1024x1024 .bf16) (h5 : a5.IsWhole) (a6 : Memref sig .tc .vmem S1024x1024 .f32) (h6 : a6.IsWhole)
    (hc0 : ¬cond0_0 i₀) (hc1 : cond0_1 i₀) (hc2 : ¬cond0_2 i₀)
    (x0 : Vec Ideal S1024x1024 .bf16) (x1 : Vec Ideal S1x1024x1024 .bf16) (s : Vec Ideal S1024x1024 .f32) :
    sout0_B_0 c i₀ a3 h3 a4 h4 a5 h5 a6 h6 hc0 hc1 hc2 x0 x1 s = k0_pay2 s x0 x1 := by
  have hz : (![0, 0] : Fin 2 → Nat) = fun _ => 0 := by decide
  have hz3 : (![0, 0, 0] : Fin 3 → Nat) = fun _ => 0 := by decide
  unfold sout0_B_0
  rw [View.read_writes_eq_canon _ _ _ (scover0_B_0 c i₀ a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1x1024x1024) hz3, View.ld_unit_zero (S := S1024x1024) hz, shapeCast_self]

/-- At the last step the sum is stored to the result. -/
theorem last (c : Dev nD) (i₀ : grid0.Coords) (a3 : Memref sig .tc .vmem S1024x1024 .bf16) (h3 : a3.IsWhole)
    (a4 : Memref sig .tc .vmem S1x1024x1024 .bf16) (h4 : a4.IsWhole) (a5 : Memref sig .tc .vmem S1024x1024 .bf16) (h5 : a5.IsWhole) (a6 : Memref sig .tc .vmem S1024x1024 .f32) (h6 : a6.IsWhole)
    (hc0 : ¬cond0_0 i₀) (hc1 : ¬cond0_1 i₀) (hc2 : cond0_2 i₀)
    (x0 : Vec Ideal S1024x1024 .bf16) (x1 : Vec Ideal S1x1024x1024 .bf16) (s : Vec Ideal S1024x1024 .f32) :
    out0_C_2 c i₀ a3 h3 a4 h4 a5 h5 a6 h6 hc0 hc1 hc2 x0 x1 s = k0_pay3 s x0 x1 := by
  have hz : (![0, 0] : Fin 2 → Nat) = fun _ => 0 := by decide
  have hz3 : (![0, 0, 0] : Fin 3 → Nat) = fun _ => 0 := by decide
  unfold out0_C_2
  rw [View.read_writes_eq_canon _ _ _ (cover0_C_2 c i₀ a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1x1024x1024) hz3, View.ld_unit_zero (S := S1024x1024) hz, shapeCast_self]

/-- The place of lane `l` of slot `s` when the slots lie one after the other. -/
def pos (s : Fin 4) (l : Fin 1024) : Fin 4096 := ⟨s.val * 1024 + l.val, by omega⟩

/-- The product's elements. -/
def prod (a : Vec Ideal S4096x4096 .bf16) (b : Vec Ideal S4x2048x1024 .bf16) : Vec Ideal S4096x2048 .bf16 :=
  fun i => ∑ s : Fin 4, ∑ k : Fin 1024, a (ix2 (i 0) (pos s k)) * b (ix3 s (i 1) k)

variable (m : (ℓ : Loc nD τ sig) → Buf (Elt Ideal) ℓ) (c : Dev nD)

abbrev A0 : Vec Ideal S4096x4096 .bf16 := m ((c : Thread nD τ).loc main_arg0)
abbrev A1 : Vec Ideal S4x2048x1024 .bf16 := m ((c : Thread nD τ).loc main_arg1)

theorem idx0 : ∀ t : Fin grid0.N, win0_0.index t (0 : Fin 2) = t.val / 8 ∧ win0_0.index t (1 : Fin 2) = t.val % 4 := by decide +kernel

theorem idx1 : ∀ t : Fin grid0.N, win0_1.index t (0 : Fin 3) = t.val % 4 ∧ win0_1.index t (1 : Fin 3) = t.val / 4 % 2 ∧ win0_1.index t (2 : Fin 3) = 0 := by decide +kernel

theorem idx2 : ∀ t : Fin grid0.N, win0_2.index t (0 : Fin 2) = t.val / 8 ∧ win0_2.index t (1 : Fin 2) = t.val / 4 % 2 := by decide +kernel

theorem onto : ∀ (p : Fin 4) (q : Fin 2), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 1024) (p0) (p1) :
    ((cfg0.win 0).blk t).view.read (Elt Ideal) (W (Pipeline.arrRef spec0 0)) (ix2 r k) = W main_arg0 (ix2 ⟨(t.val / 8) * 1024 + r.val, p0⟩ ⟨(t.val % 4) * 1024 + k.val, p1⟩) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 8) * 1024 + r.val; rw [e0]; omega
  | ⟨1, _⟩ => show win0_0.index t (1 : Fin 2) * 1024 + 1 * k.val = (t.val % 4) * 1024 + k.val; rw [e1]; omega

theorem block1 (j : Fin 1024) (k : Fin 1024) (p0) (p1) :
    ((cfg0.win 1).blk t).view.read (Elt Ideal) (W (Pipeline.arrRef spec0 1)) (ix3 (0 : Fin 1) j k) = W main_arg1 (ix3 ⟨t.val % 4, p0⟩ ⟨(t.val / 4 % 2) * 1024 + j.val, p1⟩ k) := by
  obtain ⟨e0, e1, e2⟩ := idx1 t
  show W main_arg1 (((cfg0.win 1).blk t).view.emb (ix3 (0 : Fin 1) j k)) = _
  refine congrArg _ (funext fun a => Fin.ext ?_)
  match a with
  | ⟨0, _⟩ => show win0_1.index t (0 : Fin 3) * 1 + 1 * 0 = t.val % 4; rw [e0]; omega
  | ⟨1, _⟩ => show win0_1.index t (1 : Fin 3) * 1024 + 1 * j.val = (t.val / 4 % 2) * 1024 + j.val; rw [e1]; omega
  | ⟨2, _⟩ => show win0_1.index t (2 : Fin 3) * 1024 + 1 * k.val = k.val; rw [e2]; omega

end Blocks

theorem scratch_first (t : Fin cfg0.N) (h : t.val % 4 = 0) (i : Fin 1024) (j : Fin 1024) :
    (outsAt0 m c t.val t.isLt).2 (ix2 i j) = dotAt (iblk m c 0 t) (iblk m c 1 t) i j := by
  rw [outsAt0_A m c t h (fun h => by omega) (fun h => by omega)]
  dsimp only
  rw [first]
  exact tile1 _ _ i j

theorem scratch_next (t : Fin cfg0.N) (h : 1 ≤ t.val % 4 ∧ t.val % 4 ≤ 2) (i : Fin 1024) (j : Fin 1024) :
    (outsAt0 m c t.val t.isLt).2 (ix2 i j)
      = (outsAt0 m c (t.val - 1) (Nat.lt_of_le_of_lt (Nat.sub_le _ _) t.isLt)).2 (ix2 i j) + dotAt (iblk m c 0 t) (iblk m c 1 t) i j := by
  rw [outsAt0_B m c t (fun h => by omega) h (fun h => by omega)]
  dsimp only
  rw [middle]
  exact tile2 _ _ _ i j

theorem result_last (t : Fin cfg0.N) (h : t.val % 4 = 3) (i : Fin 1024) (j : Fin 1024) :
    (outsAt0 m c t.val t.isLt).1 (ix2 i j)
      = (outsAt0 m c (t.val - 1) (Nat.lt_of_le_of_lt (Nat.sub_le _ _) t.isLt)).2 (ix2 i j) + dotAt (iblk m c 0 t) (iblk m c 1 t) i j := by
  rw [outsAt0_C m c t (fun h => by omega) (fun h => by omega) h]
  dsimp only
  rw [last]
  exact tile3 _ _ _ i j

/-- After step `r` of a run the accumulator holds the sum of the first `r + 1` blocks' products. -/
theorem scratch (i : Fin 1024) (j : Fin 1024) (P : ℕ → EReal) (r : ℕ) (hr : r ≤ 2) (t : Fin cfg0.N) (h : t.val % 4 = r)
    (hP : ∀ t' : Fin cfg0.N, t'.val / 4 = t.val / 4 → dotAt (iblk m c 0 t') (iblk m c 1 t') i j = P (t'.val % 4)) :
    (outsAt0 m c t.val t.isLt).2 (ix2 i j) = ∑ s ∈ Finset.range (r + 1), P s := by
  induction r generalizing t with
  | zero => rw [scratch_first m c t h i j, hP t rfl, h, Finset.sum_range_one]
  | succ r ih =>
    rw [scratch_next m c t ⟨by omega, by omega⟩ i j, hP t rfl, Finset.sum_range_succ, h]
    have hp := ih (by omega) ⟨t.val - 1, Nat.lt_of_le_of_lt (Nat.sub_le _ _) t.isLt⟩ (by dsimp only; omega)
      (fun t' h' => hP t' (by dsimp only at h'; omega))
    exact congrArg (· + P (r + 1)) hp

/-- What the last step of a run stores. -/
theorem total (i : Fin 1024) (j : Fin 1024) (P : ℕ → EReal) (t : Fin cfg0.N) (h : t.val % 4 = 3)
    (hP : ∀ t' : Fin cfg0.N, t'.val / 4 = t.val / 4 → dotAt (iblk m c 0 t') (iblk m c 1 t') i j = P (t'.val % 4)) :
    (outsAt0 m c t.val t.isLt).1 (ix2 i j) = (∑ s ∈ Finset.range 4, P s) := by
  have hp := scratch m c i j P 2 (by omega) ⟨t.val - 1, Nat.lt_of_le_of_lt (Nat.sub_le _ _) t.isLt⟩ (by dsimp only; omega)
    (fun t' h' => hP t' (by dsimp only at h'; omega))
  rw [result_last m c t h i j, hP t rfl, h, Finset.sum_range_succ]
  exact congrArg (· + P 3) hp

/-- The last point of a run writes back its block of the product. -/
theorem flushed (t : Fin cfg0.N) (hf : (cfg0.win 2).flush t = true) :
    (dats m 0 c).flushed 2 t = ((cfg0.win 2).blk t).view.read (Elt Ideal) (prod (A0 m c) (A1 m c)) := by
  have hm : t.val % 4 = 3 := (flush0_2 t).mp hf
  rw [Value.flushed2]
  obtain ⟨e0, e1⟩ := idx2 t
  have ht : t.val < 32 := lt_of_lt_of_le t.isLt (by decide)
  funext y
  have hya : (y 0).val < 1024 := (y 0).isLt
  have hyb : (y 1).val < 1024 := (y 1).isLt
  have p0 : t.val / 8 * 1024 + (y 0).val < 4096 := by omega
  have pc : t.val / 4 % 2 * 1024 + (y 1).val < 2048 := by omega
  have hx : (cfg0.win 2).xinj (grid0.coords t) y = ix2 (y 0) (y 1) := by
    funext a; apply Fin.ext
    match a with
    | ⟨0, _⟩ => rfl
    | ⟨1, _⟩ => rfl
  have hP : ∀ t' : Fin cfg0.N, t'.val / 4 = t.val / 4 → dotAt (iblk m c 0 t') (iblk m c 1 t') (y 0) (y 1)
      = Sums.steps 4 (fun s : Fin 4 => ∑ k : Fin 1024, A0 m c (ix2 (⟨t.val / 8 * 1024 + (y 0).val, p0⟩ : Fin 4096) (pos s k)) * A1 m c (ix3 s (⟨t.val / 4 % 2 * 1024 + (y 1).val, pc⟩ : Fin 2048) k)) (t'.val % 4) := by
    intro t' h'
    have ht' : t'.val < 32 := lt_of_lt_of_le t'.isLt (by decide)
    have q0 : (t'.val / 8) * 1024 + (y 0).val < 4096 := by omega
    have qc : (t'.val / 4 % 2) * 1024 + (y 1).val < 2048 := by omega
    have qk : ∀ k : Fin 1024, (t'.val % 4) * 1024 + k.val < 4096 := fun k => by omega
    have er : (⟨(t'.val / 8) * 1024 + (y 0).val, q0⟩ : Fin 4096) = (⟨t.val / 8 * 1024 + (y 0).val, p0⟩ : Fin 4096) := Fin.ext (by show (t'.val / 8) * 1024 + (y 0).val = t.val / 8 * 1024 + (y 0).val; omega)
    have ec : (⟨(t'.val / 4 % 2) * 1024 + (y 1).val, qc⟩ : Fin 2048) = (⟨t.val / 4 % 2 * 1024 + (y 1).val, pc⟩ : Fin 2048) := Fin.ext (by show (t'.val / 4 % 2) * 1024 + (y 1).val = t.val / 4 % 2 * 1024 + (y 1).val; omega)
    have r0 := fun k : Fin 1024 => (block0 (c := c) (V m c) t' (y 0) k q0 (qk k)).trans ((congrFun (V_main_arg0 m c) _).trans
      (congrArg (fun z => A0 m c (ix2 z (pos ⟨t'.val % 4, Nat.mod_lt _ (by decide)⟩ k))) er))
    have r1 := fun k : Fin 1024 => (block1 (c := c) (V m c) t' (y 1) k (Nat.mod_lt _ (by decide)) qc).trans ((congrFun (V_main_arg1 m c) _).trans
      (congrArg (fun z => A1 m c (ix3 ⟨t'.val % 4, Nat.mod_lt _ (by decide)⟩ z k)) ec))
    exact (dotAt_eq (iblk m c 0 t') (iblk m c 1 t') (y 0) (y 1) _ _ r0 r1).trans (Sums.steps_lt 4 (fun s : Fin 4 => ∑ k : Fin 1024, A0 m c (ix2 (⟨t.val / 8 * 1024 + (y 0).val, p0⟩ : Fin 4096) (pos s k)) * A1 m c (ix3 s (⟨t.val / 4 % 2 * 1024 + (y 1).val, pc⟩ : Fin 2048) k)) ⟨t'.val % 4, Nat.mod_lt _ (by decide)⟩).symm
  have hb := total m c (y 0) (y 1) _ t hm hP
  generalize (outsAt0 m c t.val t.isLt).1 = o at hb ⊢
  show o ((cfg0.win 2).xinj (grid0.coords t) y) = prod (A0 m c) (A1 m c) (((cfg0.win 2).blk t).view.emb y)
  have g0 : ((cfg0.win 2).blk t).view.emb y 0 = (⟨t.val / 8 * 1024 + (y 0).val, p0⟩ : Fin 4096) := Fin.ext (by
    show win0_2.index t (0 : Fin 2) * 1024 + 1 * (y 0).val = t.val / 8 * 1024 + (y 0).val; rw [e0]; omega)
  have g1 : ((cfg0.win 2).blk t).view.emb y 1 = (⟨t.val / 4 % 2 * 1024 + (y 1).val, pc⟩ : Fin 2048) := Fin.ext (by
    show win0_2.index t (1 : Fin 2) * 1024 + 1 * (y 1).val = t.val / 4 % 2 * 1024 + (y 1).val; rw [e1]; omega)
  refine (congrArg o hx).trans (hb.trans ?_)
  unfold prod
  rw [g0, g1]
  exact Sums.steps_sum _ _

/-- Every index lies in the block of a point that writes back. -/
theorem cover (i : S4096x2048.Idx) : ∃ t : Fin cfg0.N, (cfg0.win 2).flush t = true ∧ i ∈ ((cfg0.win 2).blk t).view.set := by
  have hi0 : (i 0).val < 4096 := (i 0).isLt
  have hi1 : (i 1).val < 2048 := (i 1).isLt
  obtain ⟨t, hft, q0, q1⟩ := onto ⟨(i 0).val / 1024, by omega⟩ ⟨(i 1).val / 1024, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 1024 ≤ (i 1).val ∧ (i 1).val < win0_2.index t (1 : Fin 2) * 1024 + 1024; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t hf) cover), (h c).2⟩)
    (Value.run_blocks m ρ)

end Cert.Kernel12Ideal.Product

namespace Cert.Reference12Ideal.Product

open Cert.Reference12Ideal Cert.Reference12Ideal.Gen

variable (a : Vec Ideal S4096x4096 .bf16) (b : Vec Ideal S4x2048x1024 .bf16)

/-- The plain product, element by element. -/
theorem host (i : Fin 4096) (j : Fin 2048) :
    (truncf .bf16 (Host.dotGeneral dot_S4096x4x1024_S4x2048x1024_S4096x2048_12_02_0_1_n_n none (shapeCast _ (extf .f32 a bitsLt_bf16_f32) shapeCasts_S4096x4096_S4096x4x1024) (extf .f32 b bitsLt_bf16_f32)) bitsLt_bf16_f32 : FVec Ideal S4096x2048 .bf16) (ix2 i j)
      = ∑ s : Fin 4, ∑ k : Fin 1024, a (ix2 i (Cert.Kernel12Ideal.Product.pos s k)) * b (ix3 s j k) := by
  unfold Cert.Kernel12Ideal.Product.pos
  pointwise

theorem value (w : Vec Ideal S4096x2048 .bf16) (e : ∀ (i : Fin 4096) (j : Fin 2048), w (ix2 i j) = ∑ s : Fin 4, ∑ k : Fin 1024, a (ix2 i (Cert.Kernel12Ideal.Product.pos s k)) * b (ix3 s j k)) :
    w = Cert.Kernel12Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel12Ideal.Product.prod
  rfl

end Cert.Reference12Ideal.Product

namespace Cert.BranchADx

/-- The two programs end with the same result. -/
theorem algebraic : Cert.algebraic_Kernel12Ideal_Reference12Ideal (hKernel12Ideal := Cert.Kernel12Ideal.Gen.facts)
    (hReference12Ideal := Cert.Reference12Ideal.Gen.facts) := by
  intro m g m' g' _ hag
  refine ⟨fun c => Cert.Kernel12Ideal.Product.prod (Cert.Kernel12Ideal.Product.A0 m c) (Cert.Kernel12Ideal.Product.A1 m c),
    Cert.Kernel12Ideal.Product.run m g, ?_⟩
  refine (θ_run _ _ _).mono (fun r h c => ⟨?_, (h c).2⟩) (Cert.Reference12Ideal.Value.run (F := Ideal) m' g')
  refine (h c).1.trans ((Cert.Reference12Ideal.Product.value _ _ _ (Cert.Reference12Ideal.Product.host _ _)).trans ?_)
  unfold Cert.Kernel12Ideal.Product.A0 Cert.Kernel12Ideal.Product.A1
  rw [(hag c).1, (hag c).2]

end Cert.BranchADx

end
-- ==== Proof.BranchBDx.lean ====
/-
  The gradient of the second branch's attention output: the program is the first branch's under other names, and so is the claim.
-/
module

public import proofs.«01_k».proof.Defs
public import proofs.«01_k».proof.Proof.BranchADx
public import proofs.«01_k».proof.Proof.Gen.Kernel13Ideal.Frame
public import proofs.«01_k».proof.Proof.Gen.Reference13Ideal.Run

@[expose] public section

noncomputable section

open Idealize.ShloMosaic

namespace Cert.BranchBDx

attribute [local instance] Cert.Kernel12Ideal.Gen.facts Cert.Kernel13Ideal.Gen.facts

/-- The two programs' bodies are the same. -/
theorem bodies : Cert.Kernel13Ideal.defs₀ (F := Ideal) = Cert.Kernel12Ideal.defs₀ (F := Ideal) :=
  congrArg Defs.onTc (funext fun l => funext fun x => match l, x with
    | 0, (_, _) => rfl
    | ⟨_ + 1, h⟩, _ => absurd h (Nat.not_lt.2 (Nat.le_add_left _ _)))

theorem tables : Cert.Kernel13Ideal.defs (F := Ideal) = Cert.Kernel12Ideal.defs (F := Ideal) :=
  congrArg (Pipeline.defs Cert.Kernel12Ideal.pcfgs) bodies

/-- The two programs end with the same result. -/
theorem algebraic : Cert.algebraic_Kernel13Ideal_Reference13Ideal (hKernel13Ideal := Cert.Kernel13Ideal.Gen.facts)
    (hReference13Ideal := Cert.Reference13Ideal.Gen.facts) := by
  unfold Cert.algebraic_Kernel13Ideal_Reference13Ideal
  rw [tables]
  exact Cert.BranchADx.algebraic

end Cert.BranchBDx

end
-- ==== Proof.GateUp.lean ====
/-
  The gate and up products: the tiled kernel's result and the plain product's are the same sums.
-/
module

public import proofs.«01_k».proof.Defs
public import proofs.«01_k».proof.Proof.Gen.Kernel14Ideal.Value
public import proofs.«01_k».proof.Proof.Gen.Reference14Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel14Ideal.Product

open Cert.Kernel14Ideal Cert.Kernel14Ideal.Gen

/-- One element of the product of two blocks. -/
def dotAt (x0 : Vec Ideal S1024x4096 .bf16) (x1 : Vec Ideal S1x4096x1408 .bf16) (i : Fin 1024) (j : Fin 1408) : EReal :=
  ∑ k : Fin 4096, x0 (ix2 i k) * x1 (ix3 (0 : Fin 1) k j)

theorem dotAt_eq (x0 : Vec Ideal S1024x4096 .bf16) (x1 : Vec Ideal S1x4096x1408 .bf16) (i : Fin 1024) (j : Fin 1408) (a b : Fin 4096 → EReal)
    (h0 : ∀ k, x0 (ix2 i k) = a k) (h1 : ∀ k, x1 (ix3 (0 : Fin 1) k j) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S1x4096x1408 .bf16) (i : Fin 1024) (j : Fin 1408) :
    k0_pay1 x0 x1 (ix2 i j) = dotAt x0 x1 i j := by
  unfold dotAt
  pointwise [k0_pay1]

theorem out_at (x0 : Vec Ideal S1024x4096 .bf16) (x1 : Vec Ideal S1x4096x1408 .bf16) (i : Fin 1024) (j : Fin 1408) :
    out0_2 x0 x1 (ix2 i j) = dotAt x0 x1 i j := by
  have hz : (![0, 0] : Fin 2 → Nat) = fun _ => 0 := by decide
  have hz3 : (![0, 0, 0] : Fin 3 → Nat) = fun _ => 0 := by decide
  unfold out0_2
  rw [View.canon_unit_zero (S := S1024x1408) hz, View.ld_unit_zero (S := S1024x4096) hz, View.ld_unit_zero (S := S1x4096x1408) hz3]
  exact tile x0 x1 i j

/-- The slot a column lies in. -/
def slot (j : Fin 22528) : Fin 8 := ⟨j.val / 2816, by omega⟩

/-- A column's place in its slot. -/
def lane (j : Fin 22528) : Fin 2816 := ⟨j.val % 2816, by omega⟩

/-- The product's elements. -/
def prod (a : Vec Ideal S4096x4096 .bf16) (b : Vec Ideal S8x4096x2816 .bf16) : Vec Ideal S4096x22528 .bf16 :=
  fun i => ∑ k : Fin 4096, a (ix2 (i 0) k) * b (ix3 (slot (i 1)) k (lane (i 1)))

variable (m : (ℓ : Loc nD τ sig) → Buf (Elt Ideal) ℓ) (c : Dev nD)

abbrev A0 : Vec Ideal S4096x4096 .bf16 := m ((c : Thread nD τ).loc main_arg0)
abbrev A1 : Vec Ideal S8x4096x2816 .bf16 := m ((c : Thread nD τ).loc main_arg1)

theorem idx0 : ∀ t : Fin grid0.N, win0_0.index t (0 : Fin 2) = t.val / 16 ∧ win0_0.index t (1 : Fin 2) = 0 := by decide +kernel

theorem idx1 : ∀ t : Fin grid0.N, win0_1.index t (0 : Fin 3) = t.val % 16 / 2 ∧ win0_1.index t (1 : Fin 3) = 0 ∧ win0_1.index t (2 : Fin 3) = t.val % 16 % 2 := by decide +kernel

theorem idx2 : ∀ t : Fin grid0.N, win0_2.index t (0 : Fin 2) = t.val / 16 ∧ win0_2.index t (1 : Fin 2) = t.val % 16 := by decide +kernel

theorem onto : ∀ (p : Fin 4) (q : Fin 16), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_arg0 (ix2 ⟨(t.val / 16) * 1024 + r.val, p0⟩ k) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 16) * 1024 + r.val; rw [e0]; omega
  | ⟨1, _⟩ => show win0_0.index t (1 : Fin 2) * 4096 + 1 * k.val = k.val; rw [e1]; omega

theorem block1 (k : Fin 4096) (j : Fin 1408) (p0) (p2) :
    ((cfg0.win 1).blk t).view.read (Elt Ideal) (W (Pipeline.arrRef spec0 1)) (ix3 (0 : Fin 1) k j) = W main_arg1 (ix3 ⟨t.val % 16 / 2, p0⟩ k ⟨(t.val % 16 % 2) * 1408 + j.val, p2⟩) := by
  obtain ⟨e0, e1, e2⟩ := idx1 t
  show W main_arg1 (((cfg0.win 1).blk t).view.emb (ix3 (0 : Fin 1) k j)) = _
  refine congrArg _ (funext fun a => Fin.ext ?_)
  match a with
  | ⟨0, _⟩ => show win0_1.index t (0 : Fin 3) * 1 + 1 * 0 = t.val % 16 / 2; rw [e0]; omega
  | ⟨1, _⟩ => show win0_1.index t (1 : Fin 3) * 4096 + 1 * k.val = k.val; rw [e1]; omega
  | ⟨2, _⟩ => show win0_1.index t (2 : Fin 3) * 1408 + 1 * j.val = (t.val % 16 % 2) * 1408 + j.val; rw [e2]; omega

end Blocks

theorem out_eq (x0 : Vec Ideal S1024x4096 .bf16) (x1 : Vec Ideal S1x4096x1408 .bf16) (i : Fin 1024) (j : Fin 1408) (a b : Fin 4096 → EReal)
    (h0 : ∀ k, x0 (ix2 i k) = a k) (h1 : ∀ k, x1 (ix3 (0 : Fin 1) k j) = b k) :
    out0_2 x0 x1 (ix2 i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1⟩ := idx2 t
  have ht : t.val < 64 := lt_of_lt_of_le t.isLt (by decide)
  funext y
  have hya : (y 0).val < 1024 := (y 0).isLt
  have hyb : (y 1).val < 1408 := (y 1).isLt
  have p0 : t.val / 16 * 1024 + (y 0).val < 4096 := by omega
  have pc : t.val % 16 * 1408 + (y 1).val < 22528 := by omega
  have pq : t.val % 16 / 2 < 8 := by omega
  have pb : (t.val % 16 % 2) * 1408 + (y 1).val < 2816 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (congrFun (V_main_arg0 m c) _)
  have r1 := fun k : Fin 4096 => ((block1 (c := c) (V m c) t k (y 1) pq pb).trans (congrFun (V_main_arg1 m c) _)).trans
    (congrArg₂ (fun s l => A1 m c (ix3 s k l)) (Fin.ext (by show t.val % 16 / 2 = (t.val % 16 * 1408 + (y 1).val) / 2816; omega) : (⟨t.val % 16 / 2, pq⟩ : Fin 8) = slot (⟨t.val % 16 * 1408 + (y 1).val, pc⟩ : Fin 22528))
      (Fin.ext (by show (t.val % 16 % 2) * 1408 + (y 1).val = (t.val % 16 * 1408 + (y 1).val) % 2816; omega) : (⟨(t.val % 16 % 2) * 1408 + (y 1).val, pb⟩ : Fin 2816) = lane (⟨t.val % 16 * 1408 + (y 1).val, pc⟩ : Fin 22528)))
  have hb := out_eq (iblk m c 0 t) (iblk m c 1 t) (y 0) (y 1) _ _ r0 r1
  generalize out0_2 (iblk m c 0 t) (iblk m c 1 t) = o at hb ⊢
  show o ((cfg0.win 2).xinj (grid0.coords t) y) = prod (A0 m c) (A1 m c) (((cfg0.win 2).blk t).view.emb y)
  have g0 : ((cfg0.win 2).blk t).view.emb y 0 = (⟨t.val / 16 * 1024 + (y 0).val, p0⟩ : Fin 4096) := Fin.ext (by
    show win0_2.index t (0 : Fin 2) * 1024 + 1 * (y 0).val = t.val / 16 * 1024 + (y 0).val; rw [e0]; omega)
  have g1 : ((cfg0.win 2).blk t).view.emb y 1 = (⟨t.val % 16 * 1408 + (y 1).val, pc⟩ : Fin 22528) := Fin.ext (by
    show win0_2.index t (1 : Fin 2) * 1408 + 1 * (y 1).val = t.val % 16 * 1408 + (y 1).val; rw [e1]; omega)
  refine (congrArg o hx).trans (hb.trans ?_)
  unfold prod
  rw [g0, g1]

/-- Every index lies in the block of a point that writes back. -/
theorem cover (i : S4096x22528.Idx) : ∃ t : Fin cfg0.N, (cfg0.win 2).flush t = true ∧ i ∈ ((cfg0.win 2).blk t).view.set := by
  have hi0 : (i 0).val < 4096 := (i 0).isLt
  have hi1 : (i 1).val < 22528 := (i 1).isLt
  obtain ⟨t, hft, q0, q1⟩ := onto ⟨(i 0).val / 1024, by omega⟩ ⟨(i 1).val / 1408, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 1408 ≤ (i 1).val ∧ (i 1).val < win0_2.index t (1 : Fin 2) * 1408 + 1408; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel14Ideal.Product

namespace Cert.Reference14Ideal.Product

open Cert.Reference14Ideal Cert.Reference14Ideal.Gen

variable (a : Vec Ideal S4096x4096 .bf16) (b : Vec Ideal S8x4096x2816 .bf16)

/-- The plain product, element by element. -/
theorem host (i : Fin 4096) (j : Fin 22528) :
    (truncf .bf16 (shapeCast _ (Host.dotGeneral dot_S4096x4096_S8x4096x2816_S4096x8x2816_1_1_0_02_n_n none (extf .f32 a bitsLt_bf16_f32) (extf .f32 b bitsLt_bf16_f32)) shapeCasts_S4096x8x2816_S4096x22528) bitsLt_bf16_f32 : FVec Ideal S4096x22528 .bf16) (ix2 i j)
      = ∑ k : Fin 4096, a (ix2 i k) * b (ix3 (Cert.Kernel14Ideal.Product.slot j) k (Cert.Kernel14Ideal.Product.lane j)) := by
  unfold Cert.Kernel14Ideal.Product.slot Cert.Kernel14Ideal.Product.lane
  pointwise

theorem value (w : Vec Ideal S4096x22528 .bf16) (e : ∀ (i : Fin 4096) (j : Fin 22528), w (ix2 i j) = ∑ k : Fin 4096, a (ix2 i k) * b (ix3 (Cert.Kernel14Ideal.Product.slot j) k (Cert.Kernel14Ideal.Product.lane j))) :
    w = Cert.Kernel14Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel14Ideal.Product.prod
  rfl

end Cert.Reference14Ideal.Product

namespace Cert.GateUp

/-- The two programs end with the same result. -/
theorem algebraic : Cert.algebraic_Kernel14Ideal_Reference14Ideal (hKernel14Ideal := Cert.Kernel14Ideal.Gen.facts)
    (hReference14Ideal := Cert.Reference14Ideal.Gen.facts) := by
  intro m g m' g' _ hag
  refine ⟨fun c => Cert.Kernel14Ideal.Product.prod (Cert.Kernel14Ideal.Product.A0 m c) (Cert.Kernel14Ideal.Product.A1 m c),
    Cert.Kernel14Ideal.Product.run m g, ?_⟩
  refine (θ_run _ _ _).mono (fun r h c => ⟨?_, (h c).2⟩) (Cert.Reference14Ideal.Value.run (F := Ideal) m' g')
  refine (h c).1.trans ((Cert.Reference14Ideal.Product.value _ _ _ (Cert.Reference14Ideal.Product.host _ _)).trans ?_)
  unfold Cert.Kernel14Ideal.Product.A0 Cert.Kernel14Ideal.Product.A1
  rw [(hag c).1, (hag c).2]

end Cert.GateUp

end
-- ==== Proof.Down.lean ====
/-
  The down projection with the residual: the tiled kernel's result and the plain product's are the same sums.
-/
module

public import proofs.«01_k».proof.Defs
public import proofs.«01_k».proof.Proof.Gen.Kernel15Ideal.Value
public import proofs.«01_k».proof.Proof.Gen.Reference15Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel15Ideal.Product

open Cert.Kernel15Ideal Cert.Kernel15Ideal.Gen

/-- One element of the product of two blocks. -/
def dotAt (x0 : Vec Ideal S1024x5632 .bf16) (x1 : Vec Ideal S5632x512 .bf16) (i : Fin 1024) (j : Fin 512) : EReal :=
  ∑ k : Fin 5632, x0 (ix2 i k) * x1 (ix2 k j)

theorem dotAt_eq (x0 : Vec Ideal S1024x5632 .bf16) (x1 : Vec Ideal S5632x512 .bf16) (i : Fin 1024) (j : Fin 512) (a b : Fin 5632 → EReal)
    (h0 : ∀ k, x0 (ix2 i k) = a k) (h1 : ∀ k, x1 (ix2 k j) = b k) : dotAt x0 x1 i j = ∑ k : Fin 5632, a k * b k := by
  unfold dotAt
  exact Finset.sum_congr rfl fun k _ => by rw [h0, h1]

theorem tile1 (x0 : Vec Ideal S1024x5632 .bf16) (x1 : Vec Ideal S5632x512 .bf16) (i : Fin 1024) (j : Fin 512) :
    k0_pay1 x0 x1 (ix2 i j) = dotAt x0 x1 i j := by
  unfold dotAt
  pointwise [k0_pay1]

theorem tile3 (s : Vec Ideal S1024x512 .f32) (x0 : Vec Ideal S1024x5632 .bf16) (x1 : Vec Ideal S5632x512 .bf16) (x2 : Vec Ideal S1024x512 .f32) (i : Fin 1024) (j : Fin 512) :
    k0_pay3 s x0 x1 x2 (ix2 i j) = s (ix2 i j) + dotAt x0 x1 i j + x2 (ix2 i j) := by
  unfold dotAt
  pointwise [k0_pay3]

/-- At the first step of a run the accumulator is set to the blocks' product. -/
theorem first (c : Dev nD) (i₀ : grid0.Coords) (a3 : Memref sig .tc .vmem S1024x5632 .bf16) (h3 : a3.IsWhole)
    (a4 : Memref sig .tc .vmem S5632x512 .bf16) (h4 : a4.IsWhole) (a5 : Memref sig .tc .vmem S1024x512 .f32) (h5 : a5.IsWhole) (a6 : Memref sig .tc .vmem S1024x512 .f32) (h6 : a6.IsWhole) (a7 : Memref sig .tc .vmem S1024x512 .f32) (h7 : a7.IsWhole)
    (hc0 : cond0_0 i₀) (hc1 : ¬cond0_1 i₀) (hc2 : ¬cond0_2 i₀)
    (x0 : Vec Ideal S1024x5632 .bf16) (x1 : Vec Ideal S5632x512 .bf16) (x2 : Vec Ideal S1024x512 .f32) :
    sout0_A_0 c i₀ a3 h3 a4 h4 a5 h5 a6 h6 a7 h7 hc0 hc1 hc2 x0 x1 x2 = k0_pay1 x0 x1 := by
  have hz : (![0, 0] : Fin 2 → Nat) = fun _ => 0 := by decide
  unfold sout0_A_0
  rw [View.read_writes_eq_canon _ _ _ (scover0_A_0 c i₀ a3 h3 a4 h4 a5 h5 a6 h6 a7 h7 hc0 hc1 hc2 x0 x1 x2)]
  unfold kernelRun0_A
  dsimp only
  sl_unfold_words
  rw [View.canon_unit_zero hz]
  simp only [View.readAt_eq_ld, h3.read_unread, h4.read_unread, h5.read_unread, h7.read_unread, View.ld_unit_zero (S := S1024x5632) hz, View.ld_unit_zero (S := S5632x512) hz, View.ld_unit_zero (S := S1024x512) hz, shapeCast_self]

/-- At the last step the sum is stored to the result. -/
theorem last (c : Dev nD) (i₀ : grid0.Coords) (a3 : Memref sig .tc .vmem S1024x5632 .bf16) (h3 : a3.IsWhole)
    (a4 : Memref sig .tc .vmem S5632x512 .bf16) (h4 : a4.IsWhole) (a5 : Memref sig .tc .vmem S1024x512 .f32) (h5 : a5.IsWhole) (a6 : Memref sig .tc .vmem S1024x512 .f32) (h6 : a6.IsWhole) (a7 : Memref sig .tc .vmem S1024x512 .f32) (h7 : a7.IsWhole)
    (hc0 : ¬cond0_0 i₀) (hc1 : ¬cond0_1 i₀) (hc2 : cond0_2 i₀)
    (x0 : Vec Ideal S1024x5632 .bf16) (x1 : Vec Ideal S5632x512 .bf16) (x2 : Vec Ideal S1024x512 .f32) (s : Vec Ideal S1024x512 .f32) :
    out0_B_3 c i₀ a3 h3 a4 h4 a5 h5 a6 h6 a7 h7 hc0 hc1 hc2 x0 x1 x2 s = k0_pay3 s x0 x1 x2 := by
  have hz : (![0, 0] : Fin 2 → Nat) = fun _ => 0 := by decide
  unfold out0_B_3
  rw [View.read_writes_eq_canon _ _ _ (cover0_B_3 c i₀ a3 h3 a4 h4 a5 h5 a6 h6 a7 h7 hc0 hc1 hc2 x0 x1 x2 s)]
  unfold kernelRun0_B
  dsimp only
  sl_unfold_words
  rw [View.canon_unit_zero hz]
  simp only [View.readAt_eq_ld, h3.read_unread, h4.read_unread, h5.read_unread, h7.read_unread, View.ld_unit_zero (S := S1024x5632) hz, View.ld_unit_zero (S := S5632x512) hz, View.ld_unit_zero (S := S1024x512) hz, shapeCast_self]

/-- The product's elements. -/
def prod (a : Vec Ideal S4096x11264 .bf16) (b : Vec Ideal S11264x4096 .bf16) (r : Vec Ideal S4096x4096 .f32) : Vec Ideal S4096x4096 .f32 :=
  fun i => (∑ k : Fin 11264, a (ix2 (i 0) k) * b (ix2 k (i 1))) + r (ix2 (i 0) (i 1))

variable (m : (ℓ : Loc nD τ sig) → Buf (Elt Ideal) ℓ) (c : Dev nD)

abbrev A0 : Vec Ideal S4096x11264 .bf16 := m ((c : Thread nD τ).loc main_arg0)
abbrev A1 : Vec Ideal S11264x4096 .bf16 := m ((c : Thread nD τ).loc main_arg1)

abbrev A2 : Vec Ideal S4096x4096 .f32 := m ((c : Thread nD τ).loc main_arg2)

theorem idx0 : ∀ t : Fin grid0.N, win0_0.index t (0 : Fin 2) = t.val / 16 ∧ win0_0.index t (1 : Fin 2) = t.val % 2 := by decide +kernel

theorem idx1 : ∀ t : Fin grid0.N, win0_1.index t (0 : Fin 2) = t.val % 2 ∧ win0_1.index t (1 : Fin 2) = t.val / 2 % 8 := by decide +kernel

theorem idx2 : ∀ t : Fin grid0.N, win0_2.index t (0 : Fin 2) = t.val / 16 ∧ win0_2.index t (1 : Fin 2) = t.val / 2 % 8 := by decide +kernel

theorem idx3 : ∀ t : Fin grid0.N, win0_3.index t (0 : Fin 2) = t.val / 16 ∧ win0_3.index t (1 : Fin 2) = t.val / 2 % 8 := by decide +kernel

theorem onto : ∀ (p : Fin 4) (q : Fin 8), ∃ t : Fin cfg0.N, (cfg0.win 3).flush t = true ∧
    win0_3.index t (0 : Fin 2) = p.val ∧ win0_3.index t (1 : Fin 2) = q.val := by decide +kernel

section Blocks

variable {c}
variable (W : (b : Ref sig .tc) → Buf (Elt Ideal) ((c : Thread nD τ).loc b)) (t : Fin cfg0.N)

theorem block0 (r : Fin 1024) (k : Fin 5632) (p0) (p1) :
    ((cfg0.win 0).blk t).view.read (Elt Ideal) (W (Pipeline.arrRef spec0 0)) (ix2 r k) = W main_arg0 (ix2 ⟨(t.val / 16) * 1024 + r.val, p0⟩ ⟨(t.val % 2) * 5632 + k.val, p1⟩) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 16) * 1024 + r.val; rw [e0]; omega
  | ⟨1, _⟩ => show win0_0.index t (1 : Fin 2) * 5632 + 1 * k.val = (t.val % 2) * 5632 + k.val; rw [e1]; omega

theorem block1 (k : Fin 5632) (j : Fin 512) (p0) (p1) :
    ((cfg0.win 1).blk t).view.read (Elt Ideal) (W (Pipeline.arrRef spec0 1)) (ix2 k j) = W main_arg1 (ix2 ⟨(t.val % 2) * 5632 + k.val, p0⟩ ⟨(t.val / 2 % 8) * 512 + j.val, p1⟩) := by
  obtain ⟨e0, e1⟩ := idx1 t
  show W main_arg1 (((cfg0.win 1).blk t).view.emb (ix2 k j)) = _
  refine congrArg _ (funext fun a => Fin.ext ?_)
  match a with
  | ⟨0, _⟩ => show win0_1.index t (0 : Fin 2) * 5632 + 1 * k.val = (t.val % 2) * 5632 + k.val; rw [e0]; omega
  | ⟨1, _⟩ => show win0_1.index t (1 : Fin 2) * 512 + 1 * j.val = (t.val / 2 % 8) * 512 + j.val; rw [e1]; omega

theorem block2 (r : Fin 1024) (j : Fin 512) (p0) (p1) :
    ((cfg0.win 2).blk t).view.read (Elt Ideal) (W (Pipeline.arrRef spec0 2)) (ix2 r j) = W main_arg2 (ix2 ⟨(t.val / 16) * 1024 + r.val, p0⟩ ⟨(t.val / 2 % 8) * 512 + j.val, p1⟩) := by
  obtain ⟨e0, e1⟩ := idx2 t
  show W main_arg2 (((cfg0.win 2).blk t).view.emb (ix2 r j)) = _
  refine congrArg _ (funext fun a => Fin.ext ?_)
  match a with
  | ⟨0, _⟩ => show win0_2.index t (0 : Fin 2) * 1024 + 1 * r.val = (t.val / 16) * 1024 + r.val; rw [e0]; omega
  | ⟨1, _⟩ => show win0_2.index t (1 : Fin 2) * 512 + 1 * j.val = (t.val / 2 % 8) * 512 + j.val; rw [e1]; omega

end Blocks

theorem scratch_first (t : Fin cfg0.N) (h : t.val % 2 = 0) (i : Fin 1024) (j : Fin 512) :
    (outsAt0 m c t.val t.isLt).2 (ix2 i j) = dotAt (iblk m c 0 t) (iblk m c 1 t) i j := by
  rw [outsAt0_A m c t h (fun h => by omega)]
  dsimp only
  rw [first]
  exact tile1 _ _ i j

theorem result_last (t : Fin cfg0.N) (h : t.val % 2 = 1) (i : Fin 1024) (j : Fin 512) :
    (outsAt0 m c t.val t.isLt).1 (ix2 i j)
      = (outsAt0 m c (t.val - 1) (Nat.lt_of_le_of_lt (Nat.sub_le _ _) t.isLt)).2 (ix2 i j) + dotAt (iblk m c 0 t) (iblk m c 1 t) i j + (iblk m c 2 t : Vec Ideal S1024x512 .f32) (ix2 i j) := by
  rw [outsAt0_B m c t (fun h => by omega) h]
  dsimp only
  rw [last]
  exact tile3 _ _ _ _ i j

/-- After step `r` of a run the accumulator holds the sum of the first `r + 1` blocks' products. -/
theorem scratch (i : Fin 1024) (j : Fin 512) (P : ℕ → EReal) (r : ℕ) (hr : r ≤ 0) (t : Fin cfg0.N) (h : t.val % 2 = r)
    (hP : ∀ t' : Fin cfg0.N, t'.val / 2 = t.val / 2 → dotAt (iblk m c 0 t') (iblk m c 1 t') i j = P (t'.val % 2)) :
    (outsAt0 m c t.val t.isLt).2 (ix2 i j) = ∑ s ∈ Finset.range (r + 1), P s := by
  induction r generalizing t with
  | zero => rw [scratch_first m c t h i j, hP t rfl, h, Finset.sum_range_one]
  | succ r ih => omega

/-- What the last step of a run stores. -/
theorem total (i : Fin 1024) (j : Fin 512) (P : ℕ → EReal) (t : Fin cfg0.N) (h : t.val % 2 = 1)
    (hP : ∀ t' : Fin cfg0.N, t'.val / 2 = t.val / 2 → dotAt (iblk m c 0 t') (iblk m c 1 t') i j = P (t'.val % 2)) :
    (outsAt0 m c t.val t.isLt).1 (ix2 i j) = (∑ s ∈ Finset.range 2, P s) + (iblk m c 2 t : Vec Ideal S1024x512 .f32) (ix2 i j) := by
  have hp := scratch m c i j P 0 (by omega) ⟨t.val - 1, Nat.lt_of_le_of_lt (Nat.sub_le _ _) t.isLt⟩ (by dsimp only; omega)
    (fun t' h' => hP t' (by dsimp only at h'; omega))
  rw [result_last m c t h i j, hP t rfl, h, Finset.sum_range_succ]
  exact congrArg (· + P 1 + (iblk m c 2 t : Vec Ideal S1024x512 .f32) (ix2 i j)) hp

/-- The place of index `k` of step `s` in the sum. -/
def pos (s : Fin 2) (k : Fin 5632) : Fin 11264 := ⟨s.val * 5632 + k.val, by omega⟩

/-- The last point of a run writes back its block of the product. -/
theorem flushed (t : Fin cfg0.N) (hf : (cfg0.win 3).flush t = true) :
    (dats m 0 c).flushed 3 t = ((cfg0.win 3).blk t).view.read (Elt Ideal) (prod (A0 m c) (A1 m c) (A2 m c)) := by
  have hm : t.val % 2 = 1 := (flush0_3 t).mp hf
  rw [Value.flushed3]
  obtain ⟨e0, e1⟩ := idx3 t
  have ht : t.val < 64 := lt_of_lt_of_le t.isLt (by decide)
  funext y
  have hya : (y 0).val < 1024 := (y 0).isLt
  have hyb : (y 1).val < 512 := (y 1).isLt
  have p0 : t.val / 16 * 1024 + (y 0).val < 4096 := by omega
  have pc : t.val / 2 % 8 * 512 + (y 1).val < 4096 := by omega
  have hx : (cfg0.win 3).xinj (grid0.coords t) y = ix2 (y 0) (y 1) := by
    funext a; apply Fin.ext
    match a with
    | ⟨0, _⟩ => rfl
    | ⟨1, _⟩ => rfl
  have hP : ∀ t' : Fin cfg0.N, t'.val / 2 = t.val / 2 → dotAt (iblk m c 0 t') (iblk m c 1 t') (y 0) (y 1)
      = Sums.steps 2 (fun s : Fin 2 => ∑ k : Fin 5632, A0 m c (ix2 (⟨t.val / 16 * 1024 + (y 0).val, p0⟩ : Fin 4096) (pos s k)) * A1 m c (ix2 (pos s k) (⟨t.val / 2 % 8 * 512 + (y 1).val, pc⟩ : Fin 4096))) (t'.val % 2) := by
    intro t' h'
    have ht' : t'.val < 64 := lt_of_lt_of_le t'.isLt (by decide)
    have q0 : (t'.val / 16) * 1024 + (y 0).val < 4096 := by omega
    have qc : (t'.val / 2 % 8) * 512 + (y 1).val < 4096 := by omega
    have qk : ∀ k : Fin 5632, (t'.val % 2) * 5632 + k.val < 11264 := fun k => by omega
    have er : (⟨(t'.val / 16) * 1024 + (y 0).val, q0⟩ : Fin 4096) = (⟨t.val / 16 * 1024 + (y 0).val, p0⟩ : Fin 4096) := Fin.ext (by show (t'.val / 16) * 1024 + (y 0).val = t.val / 16 * 1024 + (y 0).val; omega)
    have ec : (⟨(t'.val / 2 % 8) * 512 + (y 1).val, qc⟩ : Fin 4096) = (⟨t.val / 2 % 8 * 512 + (y 1).val, pc⟩ : Fin 4096) := Fin.ext (by show (t'.val / 2 % 8) * 512 + (y 1).val = t.val / 2 % 8 * 512 + (y 1).val; omega)
    have r0 := fun k : Fin 5632 => (block0 (c := c) (V m c) t' (y 0) k q0 (qk k)).trans ((congrFun (V_main_arg0 m c) _).trans
      (congrArg (fun z => A0 m c (ix2 z (pos ⟨t'.val % 2, Nat.mod_lt _ (by decide)⟩ k))) er))
    have r1 := fun k : Fin 5632 => (block1 (c := c) (V m c) t' k (y 1) (qk k) qc).trans ((congrFun (V_main_arg1 m c) _).trans
      (congrArg (fun z => A1 m c (ix2 (pos ⟨t'.val % 2, Nat.mod_lt _ (by decide)⟩ k) z)) ec))
    exact (dotAt_eq (iblk m c 0 t') (iblk m c 1 t') (y 0) (y 1) _ _ r0 r1).trans (Sums.steps_lt 2 (fun s : Fin 2 => ∑ k : Fin 5632, A0 m c (ix2 (⟨t.val / 16 * 1024 + (y 0).val, p0⟩ : Fin 4096) (pos s k)) * A1 m c (ix2 (pos s k) (⟨t.val / 2 % 8 * 512 + (y 1).val, pc⟩ : Fin 4096))) ⟨t'.val % 2, Nat.mod_lt _ (by decide)⟩).symm
  have hb := total m c (y 0) (y 1) _ t hm hP
  have r2 := (block2 (c := c) (V m c) t (y 0) (y 1) p0 pc).trans (congrFun (V_main_arg2 m c) _)
  generalize (outsAt0 m c t.val t.isLt).1 = o at hb ⊢
  show o ((cfg0.win 3).xinj (grid0.coords t) y) = prod (A0 m c) (A1 m c) (A2 m c) (((cfg0.win 3).blk t).view.emb y)
  have g0 : ((cfg0.win 3).blk t).view.emb y 0 = (⟨t.val / 16 * 1024 + (y 0).val, p0⟩ : Fin 4096) := Fin.ext (by
    show win0_3.index t (0 : Fin 2) * 1024 + 1 * (y 0).val = t.val / 16 * 1024 + (y 0).val; rw [e0]; omega)
  have g1 : ((cfg0.win 3).blk t).view.emb y 1 = (⟨t.val / 2 % 8 * 512 + (y 1).val, pc⟩ : Fin 4096) := Fin.ext (by
    show win0_3.index t (1 : Fin 2) * 512 + 1 * (y 1).val = t.val / 2 % 8 * 512 + (y 1).val; rw [e1]; omega)
  refine (congrArg o hx).trans (hb.trans ?_)
  unfold prod
  rw [g0, g1]
  exact congrArg₂ (· + ·) ((Sums.steps_sum _ _).trans (Fin.sum_mul_add_fin 2 5632 (fun k : Fin 11264 => A0 m c (ix2 (⟨t.val / 16 * 1024 + (y 0).val, p0⟩ : Fin 4096) k) * A1 m c (ix2 k (⟨t.val / 2 % 8 * 512 + (y 1).val, pc⟩ : Fin 4096))) (by decide))) r2

/-- Every index lies in the block of a point that writes back. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, hft, q0, q1⟩ := onto ⟨(i 0).val / 1024, by omega⟩ ⟨(i 1).val / 512, by omega⟩
  refine ⟨t, hft, ?_⟩
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [q0]; dsimp only; omega
  | ⟨1, _⟩ => show win0_3.index t (1 : Fin 2) * 512 ≤ (i 1).val ∧ (i 1).val < win0_3.index t (1 : Fin 2) * 512 + 512; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t hf => flushed m c t hf) cover), (h c).2⟩)
    (Value.run_blocks m ρ)

end Cert.Kernel15Ideal.Product

namespace Cert.Reference15Ideal.Product

open Cert.Reference15Ideal Cert.Reference15Ideal.Gen

variable (a : Vec Ideal S4096x11264 .bf16) (b : Vec Ideal S11264x4096 .bf16) (r : Vec Ideal S4096x4096 .f32)

/-- The plain product, element by element. -/
theorem host (i : Fin 4096) (j : Fin 4096) :
    (addf r (Host.dotGeneral dot_S4096x11264_S11264x4096_S4096x4096_1_0_0_1_n_n none (extf .f32 a bitsLt_bf16_f32) (extf .f32 b bitsLt_bf16_f32)) : FVec Ideal S4096x4096 .f32) (ix2 i j)
      = r (ix2 i j) + ∑ k : Fin 11264, a (ix2 i k) * b (ix2 k j) := by
  pointwise

theorem value (w : Vec Ideal S4096x4096 .f32) (e : ∀ (i : Fin 4096) (j : Fin 4096), w (ix2 i j) = r (ix2 i j) + ∑ k : Fin 11264, a (ix2 i k) * b (ix2 k j)) :
    w = Cert.Kernel15Ideal.Product.prod a b r := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel15Ideal.Product.prod
  exact add_comm _ _

end Cert.Reference15Ideal.Product

namespace Cert.Down

/-- The two programs end with the same result. -/
theorem algebraic : Cert.algebraic_Kernel15Ideal_Reference15Ideal (hKernel15Ideal := Cert.Kernel15Ideal.Gen.facts)
    (hReference15Ideal := Cert.Reference15Ideal.Gen.facts) := by
  intro m g m' g' _ hag
  refine ⟨fun c => Cert.Kernel15Ideal.Product.prod (Cert.Kernel15Ideal.Product.A0 m c) (Cert.Kernel15Ideal.Product.A1 m c) (Cert.Kernel15Ideal.Product.A2 m c),
    Cert.Kernel15Ideal.Product.run m g, ?_⟩
  refine (θ_run _ _ _).mono (fun r h c => ⟨?_, (h c).2⟩) (Cert.Reference15Ideal.Value.run (F := Ideal) m' g')
  refine (h c).1.trans ((Cert.Reference15Ideal.Product.value _ _ _ _ (Cert.Reference15Ideal.Product.host _ _ _)).trans ?_)
  unfold Cert.Kernel15Ideal.Product.A0 Cert.Kernel15Ideal.Product.A1 Cert.Kernel15Ideal.Product.A2
  rw [(hag c).1, (hag c).2.1, (hag c).2.2]

end Cert.Down

end
-- ==== Proof.ProjQkv.lean ====
/-
  The input projection's query, key and value columns: the tiled kernel's result and the plain product's are the same sums.
-/
module

public import proofs.«01_k».proof.Defs
public import proofs.«01_k».proof.Proof.Gen.Kernel16Ideal.Value
public import proofs.«01_k».proof.Proof.Gen.Reference16Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel16Ideal.Product

open Cert.Kernel16Ideal Cert.Kernel16Ideal.Gen

/-- One element of the product of two blocks. -/
def dotAt (x0 : Vec Ideal S1024x4096 .bf16) (x1 : Vec Ideal S4096x512 .bf16) (i : Fin 1024) (j : Fin 512) : EReal :=
  ∑ k : Fin 4096, x0 (ix2 i k) * x1 (ix2 k j)

theorem dotAt_eq (x0 : Vec Ideal S1024x4096 .bf16) (x1 : Vec Ideal S4096x512 .bf16) (i : Fin 1024) (j : Fin 512) (a b : Fin 4096 → EReal)
    (h0 : ∀ k, x0 (ix2 i k) = a k) (h1 : ∀ k, x1 (ix2 k j) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S4096x512 .bf16) (i : Fin 1024) (j : Fin 512) :
    k0_pay1 x0 x1 (ix2 i j) = dotAt x0 x1 i j := by
  unfold dotAt
  pointwise [k0_pay1]

theorem out_at (c : Dev nD) (i₀ : grid0.Coords) (a3 : Memref sig .tc .vmem S1024x4096 .bf16) (h3 : a3.IsWhole)
    (a4 : Memref sig .tc .vmem S4096x512 .bf16) (h4 : a4.IsWhole) (a5 : Memref sig .tc .vmem S1024x512 .bf16) (h5 : a5.IsWhole)
    (x0 : Vec Ideal S1024x4096 .bf16) (x1 : Vec Ideal S4096x512 .bf16) (i : Fin 1024) (j : Fin 512) :
    out0_A_2 c i₀ a3 h3 a4 h4 a5 h5 x0 x1 (ix2 i j) = dotAt x0 x1 i j := by
  have hz : (![0, 0] : Fin 2 → Nat) = fun _ => 0 := by decide
  have e : out0_A_2 c i₀ a3 h3 a4 h4 a5 h5 x0 x1 = k0_pay1 x0 x1 := by
    unfold out0_A_2
    rw [View.read_writes_eq_canon _ _ _ (cover0_A_2 c i₀ a3 h3 a4 h4 a5 h5 x0 x1)]
    unfold kernelRun0_A
    dsimp only
    sl_unfold_words
    rw [View.canon_unit_zero hz]
    simp only [View.readAt_eq_ld, h3.read_unread, h4.read_unread, View.ld_unit_zero (S := S1024x4096) hz, View.ld_unit_zero (S := S4096x512) hz, shapeCast_self]
  rw [e]
  exact tile x0 x1 i j

/-- The weights' column that a result's column comes from. -/
def col (j : Fin 8704) : Fin 17024 := ⟨0 + j.val, by omega⟩

/-- The product's elements. -/
def prod (a : Vec Ideal S4096x4096 .bf16) (b : Vec Ideal S4096x17024 .bf16) : Vec Ideal S4096x8704 .bf16 :=
  fun i => ∑ k : Fin 4096, a (ix2 (i 0) k) * b (ix2 k (col (i 1)))

variable (m : (ℓ : Loc nD τ sig) → Buf (Elt Ideal) ℓ) (c : Dev nD)

abbrev A0 : Vec Ideal S4096x4096 .bf16 := m ((c : Thread nD τ).loc main_arg0)
abbrev A1 : Vec Ideal S4096x17024 .bf16 := m ((c : Thread nD τ).loc main_arg1)

theorem idx0 : ∀ t : Fin grid0.N, win0_0.index t (0 : Fin 2) = t.val / 17 ∧ win0_0.index t (1 : Fin 2) = 0 := by decide +kernel

theorem idx1 : ∀ t : Fin grid0.N, win0_1.index t (0 : Fin 2) = 0 ∧ win0_1.index t (1 : Fin 2) = t.val % 17 := by decide +kernel

theorem idx2 : ∀ t : Fin grid0.N, win0_2.index t (0 : Fin 2) = t.val / 17 ∧ win0_2.index t (1 : Fin 2) = t.val % 17 := by decide +kernel

theorem onto : ∀ (p : Fin 4) (q : Fin 17), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_arg0 (ix2 ⟨(t.val / 17) * 1024 + r.val, p0⟩ k) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 17) * 1024 + r.val; rw [e0]; omega
  | ⟨1, _⟩ => show win0_0.index t (1 : Fin 2) * 4096 + 1 * k.val = k.val; rw [e1]; omega

theorem block1 (z : ((cfg0.win 1).xblock (cfg0.grid.coords t)).Idx) (k : Fin 4096) (j : Fin 512)
    (hk : (z (0 : Fin 2)).val = k.val) (hj : (z (1 : Fin 2)).val = j.val) (p1) :
    ((cfg0.win 1).blk t).view.read (Elt Ideal) (W (Pipeline.arrRef spec0 1)) z = W main_arg1 (ix2 k ⟨(t.val % 17) * 512 + j.val, p1⟩) := by
  obtain ⟨e0, e1⟩ := idx1 t
  show W main_arg1 (((cfg0.win 1).blk t).view.emb z) = _
  refine congrArg _ (funext fun a => Fin.ext ?_)
  match a with
  | ⟨0, _⟩ => show win0_1.index t (0 : Fin 2) * 4096 + 1 * (z (0 : Fin 2)).val = k.val; rw [e0, hk]; omega
  | ⟨1, _⟩ => show win0_1.index t (1 : Fin 2) * 512 + 1 * (z (1 : Fin 2)).val = (t.val % 17) * 512 + j.val; rw [e1, hj]; omega

end Blocks

/-- The weights' block lies inside the array, so the staged block is the array's. -/
theorem staged (t : Fin cfg0.N) (k : Fin 4096) (j : Fin 512) (p1) : X0_1 m c t (ix2 k j) = V m c main_arg1 (ix2 k ⟨(t.val % 17) * 512 + j.val, p1⟩) := by
  unfold X0_1 Pipeline.Window.fill
  rw [dif_pos (moved0_1 t (ix2 k j))]
  exact block1 (c := c) (V m c) t _ k j rfl rfl p1

theorem out_eq (c : Dev nD) (t : Fin cfg0.N) (x0 : Vec Ideal S1024x4096 .bf16) (x1 : Vec Ideal S4096x512 .bf16) (i : Fin 1024) (j : Fin 512) (a b : Fin 4096 → EReal)
    (h0 : ∀ k, x0 (ix2 i k) = a k) (h1 : ∀ k, x1 (ix2 k j) = b k) :
    out0_A_2 c (grid0.coords t) (ms0_0 t) (hs0_0 t) (ms0_1 t) (hs0_1 t) (ms0_2 t) (hs0_2 t) x0 x1 (ix2 i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2_A]
  obtain ⟨e0, e1⟩ := idx2 t
  have ht : t.val < 68 := lt_of_lt_of_le t.isLt (by decide)
  funext y
  have hya : (y 0).val < 1024 := (y 0).isLt
  have hyb : (y 1).val < 512 := (y 1).isLt
  have p0 : t.val / 17 * 1024 + (y 0).val < 4096 := by omega
  have pc : t.val % 17 * 512 + (y 1).val < 8704 := by omega
  have pb : (t.val % 17) * 512 + (y 1).val < 17024 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (congrFun (V_main_arg0 m c) _)
  have r1 := fun k : Fin 4096 => ((staged m c t k (y 1) pb).trans (congrFun (V_main_arg1 m c) _)).trans
    (congrArg (fun z => A1 m c (ix2 k z)) (Fin.ext (by show (t.val % 17) * 512 + (y 1).val = 0 + (t.val % 17 * 512 + (y 1).val); omega) : (⟨(t.val % 17) * 512 + (y 1).val, pb⟩ : Fin 17024) = col (⟨t.val % 17 * 512 + (y 1).val, pc⟩ : Fin 8704)))
  have hb := out_eq c t (iblk m c 0 t) (X0_1 m c t) (y 0) (y 1) _ _ r0 r1
  generalize out0_A_2 c (grid0.coords t) (ms0_0 t) (hs0_0 t) (ms0_1 t) (hs0_1 t) (ms0_2 t) (hs0_2 t) (iblk m c 0 t) (X0_1 m c t) = o at hb ⊢
  show o ((cfg0.win 2).xinj (grid0.coords t) y) = prod (A0 m c) (A1 m c) (((cfg0.win 2).blk t).view.emb y)
  have g0 : ((cfg0.win 2).blk t).view.emb y 0 = (⟨t.val / 17 * 1024 + (y 0).val, p0⟩ : Fin 4096) := Fin.ext (by
    show win0_2.index t (0 : Fin 2) * 1024 + 1 * (y 0).val = t.val / 17 * 1024 + (y 0).val; rw [e0]; omega)
  have g1 : ((cfg0.win 2).blk t).view.emb y 1 = (⟨t.val % 17 * 512 + (y 1).val, pc⟩ : Fin 8704) := Fin.ext (by
    show win0_2.index t (1 : Fin 2) * 512 + 1 * (y 1).val = t.val % 17 * 512 + (y 1).val; rw [e1]; omega)
  refine (congrArg o hx).trans (hb.trans ?_)
  unfold prod
  rw [g0, g1]

/-- Every index lies in the block of a point that writes back. -/
theorem cover (i : S4096x8704.Idx) : ∃ t : Fin cfg0.N, (cfg0.win 2).flush t = true ∧ i ∈ ((cfg0.win 2).blk t).view.set := by
  have hi0 : (i 0).val < 4096 := (i 0).isLt
  have hi1 : (i 1).val < 8704 := (i 1).isLt
  obtain ⟨t, hft, q0, q1⟩ := onto ⟨(i 0).val / 1024, by omega⟩ ⟨(i 1).val / 512, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 512 ≤ (i 1).val ∧ (i 1).val < win0_2.index t (1 : Fin 2) * 512 + 512; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel16Ideal.Product

namespace Cert.Reference16Ideal.Product

open Cert.Reference16Ideal Cert.Reference16Ideal.Gen

variable (a : Vec Ideal S4096x4096 .bf16) (b : Vec Ideal S4096x17024 .bf16)

/-- The plain product, element by element. -/
theorem host (i : Fin 4096) (j : Fin 8704) :
    (truncf .bf16 (extractStridedSlice S4096x8704 ![0, 0] (Host.dotGeneral dot_S4096x4096_S4096x17024_S4096x17024_1_0_0_1_n_n none (extf .f32 a bitsLt_bf16_f32) (extf .f32 b bitsLt_bf16_f32)) slices_S4096x17024_S4096x8704_0_0) bitsLt_bf16_f32 : FVec Ideal S4096x8704 .bf16) (ix2 i j)
      = ∑ k : Fin 4096, a (ix2 i k) * b (ix2 k (Cert.Kernel16Ideal.Product.col j)) := by
  unfold Cert.Kernel16Ideal.Product.col
  pointwise

theorem value (w : Vec Ideal S4096x8704 .bf16) (e : ∀ (i : Fin 4096) (j : Fin 8704), w (ix2 i j) = ∑ k : Fin 4096, a (ix2 i k) * b (ix2 k (Cert.Kernel16Ideal.Product.col j))) :
    w = Cert.Kernel16Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel16Ideal.Product.prod
  rfl

end Cert.Reference16Ideal.Product

namespace Cert.ProjQkv

/-- The two programs end with the same result. -/
theorem algebraic : Cert.algebraic_Kernel16Ideal_Reference16Ideal (hKernel16Ideal := Cert.Kernel16Ideal.Gen.facts)
    (hReference16Ideal := Cert.Reference16Ideal.Gen.facts) := by
  intro m g m' g' _ hag
  refine ⟨fun c => Cert.Kernel16Ideal.Product.prod (Cert.Kernel16Ideal.Product.A0 m c) (Cert.Kernel16Ideal.Product.A1 m c),
    Cert.Kernel16Ideal.Product.run m g, ?_⟩
  refine (θ_run _ _ _).mono (fun r h c => ⟨?_, (h c).2⟩) (Cert.Reference16Ideal.Value.run (F := Ideal) m' g')
  refine (h c).1.trans ((Cert.Reference16Ideal.Product.value _ _ _ (Cert.Reference16Ideal.Product.host _ _)).trans ?_)
  unfold Cert.Kernel16Ideal.Product.A0 Cert.Kernel16Ideal.Product.A1
  rw [(hag c).1, (hag c).2]

end Cert.ProjQkv

end
-- ==== Proof.ProjGates.lean ====
/-
  The input projection's gate columns: the tiled kernel's result and the plain product's are the same sums.
-/
module

public import proofs.«01_k».proof.Defs
public import proofs.«01_k».proof.Proof.Gen.Kernel17Ideal.Value
public import proofs.«01_k».proof.Proof.Gen.Reference17Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel17Ideal.Product

open Cert.Kernel17Ideal Cert.Kernel17Ideal.Gen

/-- One element of the product of two blocks. -/
def dotAt (x0 : Vec Ideal S1024x4096 .bf16) (x1 : Vec Ideal S4096x512 .bf16) (i : Fin 1024) (j : Fin 512) : EReal :=
  ∑ k : Fin 4096, x0 (ix2 i k) * x1 (ix2 k j)

theorem dotAt_eq (x0 : Vec Ideal S1024x4096 .bf16) (x1 : Vec Ideal S4096x512 .bf16) (i : Fin 1024) (j : Fin 512) (a b : Fin 4096 → EReal)
    (h0 : ∀ k, x0 (ix2 i k) = a k) (h1 : ∀ k, x1 (ix2 k j) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S4096x512 .bf16) (i : Fin 1024) (j : Fin 512) :
    k0_pay1 x0 x1 (ix2 i j) = dotAt x0 x1 i j := by
  unfold dotAt
  pointwise [k0_pay1]

theorem out_at (c : Dev nD) (i₀ : grid0.Coords) (a3 : Memref sig .tc .vmem S1024x4096 .bf16) (h3 : a3.IsWhole)
    (a4 : Memref sig .tc .vmem S4096x512 .bf16) (h4 : a4.IsWhole) (a5 : Memref sig .tc .vmem S1024x512 .f32) (h5 : a5.IsWhole)
    (x0 : Vec Ideal S1024x4096 .bf16) (x1 : Vec Ideal S4096x512 .bf16) (i : Fin 1024) (j : Fin 512) :
    out0_A_2 c i₀ a3 h3 a4 h4 a5 h5 x0 x1 (ix2 i j) = dotAt x0 x1 i j := by
  have hz : (![0, 0] : Fin 2 → Nat) = fun _ => 0 := by decide
  have e : out0_A_2 c i₀ a3 h3 a4 h4 a5 h5 x0 x1 = k0_pay1 x0 x1 := by
    unfold out0_A_2
    rw [View.read_writes_eq_canon _ _ _ (cover0_A_2 c i₀ a3 h3 a4 h4 a5 h5 x0 x1)]
    unfold kernelRun0_A
    dsimp only
    sl_unfold_words
    rw [View.canon_unit_zero hz]
    simp only [View.readAt_eq_ld, h3.read_unread, h4.read_unread, View.ld_unit_zero (S := S1024x4096) hz, View.ld_unit_zero (S := S4096x512) hz, shapeCast_self]
  rw [e]
  exact tile x0 x1 i j

/-- The weights' column that a result's column comes from. -/
def col (j : Fin 8192) : Fin 17024 := ⟨8704 + j.val, by omega⟩

/-- The product's elements. -/
def prod (a : Vec Ideal S4096x4096 .bf16) (b : Vec Ideal S4096x17024 .bf16) : Vec Ideal S4096x8192 .f32 :=
  fun i => ∑ k : Fin 4096, a (ix2 (i 0) k) * b (ix2 k (col (i 1)))

variable (m : (ℓ : Loc nD τ sig) → Buf (Elt Ideal) ℓ) (c : Dev nD)

abbrev A0 : Vec Ideal S4096x4096 .bf16 := m ((c : Thread nD τ).loc main_arg0)
abbrev A1 : Vec Ideal S4096x17024 .bf16 := m ((c : Thread nD τ).loc main_arg1)

theorem idx0 : ∀ t : Fin grid0.N, win0_0.index t (0 : Fin 2) = t.val / 16 ∧ win0_0.index t (1 : Fin 2) = 0 := by decide +kernel

theorem idx1 : ∀ t : Fin grid0.N, win0_1.index t (0 : Fin 2) = 0 ∧ win0_1.index t (1 : Fin 2) = t.val % 16 + 17 := by decide +kernel

theorem idx2 : ∀ t : Fin grid0.N, win0_2.index t (0 : Fin 2) = t.val / 16 ∧ win0_2.index t (1 : Fin 2) = t.val % 16 := by decide +kernel

theorem onto : ∀ (p : Fin 4) (q : Fin 16), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_arg0 (ix2 ⟨(t.val / 16) * 1024 + r.val, p0⟩ k) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 16) * 1024 + r.val; rw [e0]; omega
  | ⟨1, _⟩ => show win0_0.index t (1 : Fin 2) * 4096 + 1 * k.val = k.val; rw [e1]; omega

theorem block1 (z : ((cfg0.win 1).xblock (cfg0.grid.coords t)).Idx) (k : Fin 4096) (j : Fin 512)
    (hk : (z (0 : Fin 2)).val = k.val) (hj : (z (1 : Fin 2)).val = j.val) (p1) :
    ((cfg0.win 1).blk t).view.read (Elt Ideal) (W (Pipeline.arrRef spec0 1)) z = W main_arg1 (ix2 k ⟨(t.val % 16 + 17) * 512 + j.val, p1⟩) := by
  obtain ⟨e0, e1⟩ := idx1 t
  show W main_arg1 (((cfg0.win 1).blk t).view.emb z) = _
  refine congrArg _ (funext fun a => Fin.ext ?_)
  match a with
  | ⟨0, _⟩ => show win0_1.index t (0 : Fin 2) * 4096 + 1 * (z (0 : Fin 2)).val = k.val; rw [e0, hk]; omega
  | ⟨1, _⟩ => show win0_1.index t (1 : Fin 2) * 512 + 1 * (z (1 : Fin 2)).val = (t.val % 16 + 17) * 512 + j.val; rw [e1, hj]; omega

end Blocks

/-- The weights' block lies inside the array, so the staged block is the array's. -/
theorem staged (t : Fin cfg0.N) (k : Fin 4096) (j : Fin 512) (p1) : X0_1 m c t (ix2 k j) = V m c main_arg1 (ix2 k ⟨(t.val % 16 + 17) * 512 + j.val, p1⟩) := by
  unfold X0_1 Pipeline.Window.fill
  rw [dif_pos (moved0_1 t (ix2 k j))]
  exact block1 (c := c) (V m c) t _ k j rfl rfl p1

theorem out_eq (c : Dev nD) (t : Fin cfg0.N) (x0 : Vec Ideal S1024x4096 .bf16) (x1 : Vec Ideal S4096x512 .bf16) (i : Fin 1024) (j : Fin 512) (a b : Fin 4096 → EReal)
    (h0 : ∀ k, x0 (ix2 i k) = a k) (h1 : ∀ k, x1 (ix2 k j) = b k) :
    out0_A_2 c (grid0.coords t) (ms0_0 t) (hs0_0 t) (ms0_1 t) (hs0_1 t) (ms0_2 t) (hs0_2 t) x0 x1 (ix2 i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2_A]
  obtain ⟨e0, e1⟩ := idx2 t
  have ht : t.val < 64 := lt_of_lt_of_le t.isLt (by decide)
  funext y
  have hya : (y 0).val < 1024 := (y 0).isLt
  have hyb : (y 1).val < 512 := (y 1).isLt
  have p0 : t.val / 16 * 1024 + (y 0).val < 4096 := by omega
  have pc : t.val % 16 * 512 + (y 1).val < 8192 := by omega
  have pb : (t.val % 16 + 17) * 512 + (y 1).val < 17024 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (congrFun (V_main_arg0 m c) _)
  have r1 := fun k : Fin 4096 => ((staged m c t k (y 1) pb).trans (congrFun (V_main_arg1 m c) _)).trans
    (congrArg (fun z => A1 m c (ix2 k z)) (Fin.ext (by show (t.val % 16 + 17) * 512 + (y 1).val = 8704 + (t.val % 16 * 512 + (y 1).val); omega) : (⟨(t.val % 16 + 17) * 512 + (y 1).val, pb⟩ : Fin 17024) = col (⟨t.val % 16 * 512 + (y 1).val, pc⟩ : Fin 8192)))
  have hb := out_eq c t (iblk m c 0 t) (X0_1 m c t) (y 0) (y 1) _ _ r0 r1
  generalize out0_A_2 c (grid0.coords t) (ms0_0 t) (hs0_0 t) (ms0_1 t) (hs0_1 t) (ms0_2 t) (hs0_2 t) (iblk m c 0 t) (X0_1 m c t) = o at hb ⊢
  show o ((cfg0.win 2).xinj (grid0.coords t) y) = prod (A0 m c) (A1 m c) (((cfg0.win 2).blk t).view.emb y)
  have g0 : ((cfg0.win 2).blk t).view.emb y 0 = (⟨t.val / 16 * 1024 + (y 0).val, p0⟩ : Fin 4096) := Fin.ext (by
    show win0_2.index t (0 : Fin 2) * 1024 + 1 * (y 0).val = t.val / 16 * 1024 + (y 0).val; rw [e0]; omega)
  have g1 : ((cfg0.win 2).blk t).view.emb y 1 = (⟨t.val % 16 * 512 + (y 1).val, pc⟩ : Fin 8192) := Fin.ext (by
    show win0_2.index t (1 : Fin 2) * 512 + 1 * (y 1).val = t.val % 16 * 512 + (y 1).val; rw [e1]; omega)
  refine (congrArg o hx).trans (hb.trans ?_)
  unfold prod
  rw [g0, g1]

/-- Every index lies in the block of a point that writes back. -/
theorem cover (i : S4096x8192.Idx) : ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, hft, q0, q1⟩ := onto ⟨(i 0).val / 1024, by omega⟩ ⟨(i 1).val / 512, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 512 ≤ (i 1).val ∧ (i 1).val < win0_2.index t (1 : Fin 2) * 512 + 512; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel17Ideal.Product

namespace Cert.Reference17Ideal.Product

open Cert.Reference17Ideal Cert.Reference17Ideal.Gen

variable (a : Vec Ideal S4096x4096 .bf16) (b : Vec Ideal S4096x17024 .bf16)

/-- The plain product, element by element. -/
theorem host (i : Fin 4096) (j : Fin 8192) :
    (extractStridedSlice S4096x8192 ![0, 8704] (Host.dotGeneral dot_S4096x4096_S4096x17024_S4096x17024_1_0_0_1_n_n none (extf .f32 a bitsLt_bf16_f32) (extf .f32 b bitsLt_bf16_f32)) slices_S4096x17024_S4096x8192_0_8704 : FVec Ideal S4096x8192 .f32) (ix2 i j)
      = ∑ k : Fin 4096, a (ix2 i k) * b (ix2 k (Cert.Kernel17Ideal.Product.col j)) := by
  unfold Cert.Kernel17Ideal.Product.col
  pointwise

theorem value (w : Vec Ideal S4096x8192 .f32) (e : ∀ (i : Fin 4096) (j : Fin 8192), w (ix2 i j) = ∑ k : Fin 4096, a (ix2 i k) * b (ix2 k (Cert.Kernel17Ideal.Product.col j))) :
    w = Cert.Kernel17Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel17Ideal.Product.prod
  rfl

end Cert.Reference17Ideal.Product

namespace Cert.ProjGates

/-- The two programs end with the same result. -/
theorem algebraic : Cert.algebraic_Kernel17Ideal_Reference17Ideal (hKernel17Ideal := Cert.Kernel17Ideal.Gen.facts)
    (hReference17Ideal := Cert.Reference17Ideal.Gen.facts) := by
  intro m g m' g' _ hag
  refine ⟨fun c => Cert.Kernel17Ideal.Product.prod (Cert.Kernel17Ideal.Product.A0 m c) (Cert.Kernel17Ideal.Product.A1 m c),
    Cert.Kernel17Ideal.Product.run m g, ?_⟩
  refine (θ_run _ _ _).mono (fun r h c => ⟨?_, (h c).2⟩) (Cert.Reference17Ideal.Value.run (F := Ideal) m' g')
  refine (h c).1.trans ((Cert.Reference17Ideal.Product.value _ _ _ (Cert.Reference17Ideal.Product.host _ _)).trans ?_)
  unfold Cert.Kernel17Ideal.Product.A0 Cert.Kernel17Ideal.Product.A1
  rw [(hag c).1, (hag c).2]

end Cert.ProjGates

end
-- ==== Proof.OutProj.lean ====
/-
  The output projection with the residual: the tiled kernel's result and the plain product's are the same sums.
-/
module

public import proofs.«01_k».proof.Defs
public import proofs.«01_k».proof.Proof.Gen.Kernel18Ideal.Value
public import proofs.«01_k».proof.Proof.Gen.Reference18Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel18Ideal.Product

open Cert.Kernel18Ideal Cert.Kernel18Ideal.Gen

/-- One element of the product of two blocks. -/
def dotAt (x0 : Vec Ideal S1024x4096 .bf16) (x1 : Vec Ideal S4096x512 .bf16) (i : Fin 1024) (j : Fin 512) : EReal :=
  ∑ k : Fin 4096, x0 (ix2 i k) * x1 (ix2 k j)

theorem dotAt_eq (x0 : Vec Ideal S1024x4096 .bf16) (x1 : Vec Ideal S4096x512 .bf16) (i : Fin 1024) (j : Fin 512) (a b : Fin 4096 → EReal)
    (h0 : ∀ k, x0 (ix2 i k) = a k) (h1 : ∀ k, x1 (ix2 k j) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S4096x512 .bf16) (x2 : Vec Ideal S1024x512 .f32) (i : Fin 1024) (j : Fin 512) :
    k0_pay1 x0 x1 x2 (ix2 i j) = dotAt x0 x1 i j + x2 (ix2 i j) := by
  unfold dotAt
  pointwise [k0_pay1]

theorem out_at (x0 : Vec Ideal S1024x4096 .bf16) (x1 : Vec Ideal S4096x512 .bf16) (x2 : Vec Ideal S1024x512 .f32) (i : Fin 1024) (j : Fin 512) :
    out0_3 x0 x1 x2 (ix2 i j) = dotAt x0 x1 i j + x2 (ix2 i j) := by
  have hz : (![0, 0] : Fin 2 → Nat) = fun _ => 0 := by decide
  unfold out0_3
  rw [View.canon_unit_zero (S := S1024x512) hz, View.ld_unit_zero (S := S1024x4096) hz, View.ld_unit_zero (S := S4096x512) hz, View.ld_unit_zero (S := S1024x512) hz]
  exact tile x0 x1 x2 i j

/-- The product's elements. -/
def prod (a : Vec Ideal S4096x4096 .bf16) (b : Vec Ideal S4096x4096 .bf16) (r : Vec Ideal S4096x4096 .f32) : Vec Ideal S4096x4096 .f32 :=
  fun i => (∑ k : Fin 4096, a (ix2 (i 0) k) * b (ix2 k (i 1))) + r (ix2 (i 0) (i 1))

variable (m : (ℓ : Loc nD τ sig) → Buf (Elt Ideal) ℓ) (c : Dev nD)

abbrev A0 : Vec Ideal S4096x4096 .bf16 := m ((c : Thread nD τ).loc main_arg0)
abbrev A1 : Vec Ideal S4096x4096 .bf16 := m ((c : Thread nD τ).loc main_arg1)

abbrev A2 : Vec Ideal S4096x4096 .f32 := m ((c : Thread nD τ).loc main_arg2)

theorem idx0 : ∀ t : Fin grid0.N, win0_0.index t (0 : Fin 2) = t.val / 8 ∧ win0_0.index t (1 : Fin 2) = 0 := by decide +kernel

theorem idx1 : ∀ t : Fin grid0.N, win0_1.index t (0 : Fin 2) = 0 ∧ win0_1.index t (1 : Fin 2) = t.val % 8 := by decide +kernel

theorem idx2 : ∀ t : Fin grid0.N, win0_2.index t (0 : Fin 2) = t.val / 8 ∧ win0_2.index t (1 : Fin 2) = t.val % 8 := by decide +kernel

theorem idx3 : ∀ t : Fin grid0.N, win0_3.index t (0 : Fin 2) = t.val / 8 ∧ win0_3.index t (1 : Fin 2) = t.val % 8 := by decide +kernel

theorem onto : ∀ (p : Fin 4) (q : Fin 8), ∃ t : Fin cfg0.N, (cfg0.win 3).flush t = true ∧
    win0_3.index t (0 : Fin 2) = p.val ∧ win0_3.index t (1 : Fin 2) = q.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_arg0 (ix2 ⟨(t.val / 8) * 1024 + r.val, p0⟩ k) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 8) * 1024 + r.val; rw [e0]; omega
  | ⟨1, _⟩ => show win0_0.index t (1 : Fin 2) * 4096 + 1 * k.val = k.val; rw [e1]; omega

theorem block1 (k : Fin 4096) (j : Fin 512) (p1) :
    ((cfg0.win 1).blk t).view.read (Elt Ideal) (W (Pipeline.arrRef spec0 1)) (ix2 k j) = W main_arg1 (ix2 k ⟨(t.val % 8) * 512 + j.val, p1⟩) := by
  obtain ⟨e0, e1⟩ := idx1 t
  show W main_arg1 (((cfg0.win 1).blk t).view.emb (ix2 k j)) = _
  refine congrArg _ (funext fun a => Fin.ext ?_)
  match a with
  | ⟨0, _⟩ => show win0_1.index t (0 : Fin 2) * 4096 + 1 * k.val = k.val; rw [e0]; omega
  | ⟨1, _⟩ => show win0_1.index t (1 : Fin 2) * 512 + 1 * j.val = (t.val % 8) * 512 + j.val; rw [e1]; omega

theorem block2 (r : Fin 1024) (j : Fin 512) (p0) (p1) :
    ((cfg0.win 2).blk t).view.read (Elt Ideal) (W (Pipeline.arrRef spec0 2)) (ix2 r j) = W main_arg2 (ix2 ⟨(t.val / 8) * 1024 + r.val, p0⟩ ⟨(t.val % 8) * 512 + j.val, p1⟩) := by
  obtain ⟨e0, e1⟩ := idx2 t
  show W main_arg2 (((cfg0.win 2).blk t).view.emb (ix2 r j)) = _
  refine congrArg _ (funext fun a => Fin.ext ?_)
  match a with
  | ⟨0, _⟩ => show win0_2.index t (0 : Fin 2) * 1024 + 1 * r.val = (t.val / 8) * 1024 + r.val; rw [e0]; omega
  | ⟨1, _⟩ => show win0_2.index t (1 : Fin 2) * 512 + 1 * j.val = (t.val % 8) * 512 + j.val; rw [e1]; omega

end Blocks

theorem out_eq (x0 : Vec Ideal S1024x4096 .bf16) (x1 : Vec Ideal S4096x512 .bf16) (x2 : Vec Ideal S1024x512 .f32) (i : Fin 1024) (j : Fin 512) (a b : Fin 4096 → EReal)
    (h0 : ∀ k, x0 (ix2 i k) = a k) (h1 : ∀ k, x1 (ix2 k j) = b k) (rr : EReal) (h2 : x2 (ix2 i j) = rr) :
    out0_3 x0 x1 x2 (ix2 i j) = (∑ k : Fin 4096, a k * b k) + rr := by
  rw [out_at, dotAt_eq x0 x1 i j a b h0 h1, h2]

/-- A grid point writes back its block of the product. -/
theorem flushed (t : Fin cfg0.N) :
    (dats m 0 c).flushed 3 t = ((cfg0.win 3).blk t).view.read (Elt Ideal) (prod (A0 m c) (A1 m c) (A2 m c)) := by
  rw [Value.flushed3]
  obtain ⟨e0, e1⟩ := idx3 t
  have ht : t.val < 32 := lt_of_lt_of_le t.isLt (by decide)
  funext y
  have hya : (y 0).val < 1024 := (y 0).isLt
  have hyb : (y 1).val < 512 := (y 1).isLt
  have p0 : t.val / 8 * 1024 + (y 0).val < 4096 := by omega
  have pc : t.val % 8 * 512 + (y 1).val < 4096 := by omega
  have hx : (cfg0.win 3).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (congrFun (V_main_arg0 m c) _)
  have r1 := fun k : Fin 4096 => (block1 (c := c) (V m c) t k (y 1) pc).trans (congrFun (V_main_arg1 m c) _)
  have r2 := (block2 (c := c) (V m c) t (y 0) (y 1) p0 pc).trans (congrFun (V_main_arg2 m c) _)
  have hb := out_eq (iblk m c 0 t) (iblk m c 1 t) (iblk m c 2 t) (y 0) (y 1) _ _ r0 r1 _ r2
  generalize out0_3 (iblk m c 0 t) (iblk m c 1 t) (iblk m c 2 t) = o at hb ⊢
  show o ((cfg0.win 3).xinj (grid0.coords t) y) = prod (A0 m c) (A1 m c) (A2 m c) (((cfg0.win 3).blk t).view.emb y)
  have g0 : ((cfg0.win 3).blk t).view.emb y 0 = (⟨t.val / 8 * 1024 + (y 0).val, p0⟩ : Fin 4096) := Fin.ext (by
    show win0_3.index t (0 : Fin 2) * 1024 + 1 * (y 0).val = t.val / 8 * 1024 + (y 0).val; rw [e0]; omega)
  have g1 : ((cfg0.win 3).blk t).view.emb y 1 = (⟨t.val % 8 * 512 + (y 1).val, pc⟩ : Fin 4096) := Fin.ext (by
    show win0_3.index t (1 : Fin 2) * 512 + 1 * (y 1).val = t.val % 8 * 512 + (y 1).val; rw [e1]; omega)
  refine (congrArg o hx).trans (hb.trans ?_)
  unfold prod
  rw [g0, g1]

/-- Every index lies in the block of a point that writes back. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, hft, q0, q1⟩ := onto ⟨(i 0).val / 1024, by omega⟩ ⟨(i 1).val / 512, by omega⟩
  refine ⟨t, hft, ?_⟩
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [q0]; dsimp only; omega
  | ⟨1, _⟩ => show win0_3.index t (1 : Fin 2) * 512 ≤ (i 1).val ∧ (i 1).val < win0_3.index t (1 : Fin 2) * 512 + 512; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t hf => flushed m c t) cover), (h c).2⟩)
    (Value.run_blocks m ρ)

end Cert.Kernel18Ideal.Product

namespace Cert.Reference18Ideal.Product

open Cert.Reference18Ideal Cert.Reference18Ideal.Gen

variable (a : Vec Ideal S4096x4096 .bf16) (b : Vec Ideal S4096x4096 .bf16) (r : Vec Ideal S4096x4096 .f32)

/-- The plain product, element by element. -/
theorem host (i : Fin 4096) (j : Fin 4096) :
    (addf r (Host.dotGeneral dot_S4096x4096_S4096x4096_S4096x4096_1_0_0_1_n_n none (extf .f32 a bitsLt_bf16_f32) (extf .f32 b bitsLt_bf16_f32)) : FVec Ideal S4096x4096 .f32) (ix2 i j)
      = r (ix2 i j) + ∑ k : Fin 4096, a (ix2 i k) * b (ix2 k j) := by
  pointwise

theorem value (w : Vec Ideal S4096x4096 .f32) (e : ∀ (i : Fin 4096) (j : Fin 4096), w (ix2 i j) = r (ix2 i j) + ∑ k : Fin 4096, a (ix2 i k) * b (ix2 k j)) :
    w = Cert.Kernel18Ideal.Product.prod a b r := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel18Ideal.Product.prod
  exact add_comm _ _

end Cert.Reference18Ideal.Product

namespace Cert.OutProj

/-- The two programs end with the same result. -/
theorem algebraic : Cert.algebraic_Kernel18Ideal_Reference18Ideal (hKernel18Ideal := Cert.Kernel18Ideal.Gen.facts)
    (hReference18Ideal := Cert.Reference18Ideal.Gen.facts) := by
  intro m g m' g' _ hag
  refine ⟨fun c => Cert.Kernel18Ideal.Product.prod (Cert.Kernel18Ideal.Product.A0 m c) (Cert.Kernel18Ideal.Product.A1 m c) (Cert.Kernel18Ideal.Product.A2 m c),
    Cert.Kernel18Ideal.Product.run m g, ?_⟩
  refine (θ_run _ _ _).mono (fun r h c => ⟨?_, (h c).2⟩) (Cert.Reference18Ideal.Value.run (F := Ideal) m' g')
  refine (h c).1.trans ((Cert.Reference18Ideal.Product.value _ _ _ _ (Cert.Reference18Ideal.Product.host _ _ _)).trans ?_)
  unfold Cert.Kernel18Ideal.Product.A0 Cert.Kernel18Ideal.Product.A1 Cert.Kernel18Ideal.Product.A2
  rw [(hag c).1, (hag c).2.1, (hag c).2.2]

end Cert.OutProj

end
-- ==== Proof.BranchA.lean ====
/-
  The first branch's output product: the tiled kernel's result and the plain product's are the same sums.
-/
module

public import proofs.«01_k».proof.Defs
public import proofs.«01_k».proof.Proof.Gen.Kernel19Ideal.Value
public import proofs.«01_k».proof.Proof.Gen.Reference19Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel19Ideal.Product

open Cert.Kernel19Ideal Cert.Kernel19Ideal.Gen

/-- One element of the product of two blocks. -/
def dotAt (x0 : Vec Ideal S1024x2048 .bf16) (x1 : Vec Ideal S1x2048x512 .bf16) (i : Fin 1024) (j : Fin 512) : EReal :=
  ∑ k : Fin 2048, x0 (ix2 i k) * x1 (ix3 (0 : Fin 1) k j)

theorem dotAt_eq (x0 : Vec Ideal S1024x2048 .bf16) (x1 : Vec Ideal S1x2048x512 .bf16) (i : Fin 1024) (j : Fin 512) (a b : Fin 2048 → EReal)
    (h0 : ∀ k, x0 (ix2 i k) = a k) (h1 : ∀ k, x1 (ix3 (0 : Fin 1) k j) = b k) : dotAt x0 x1 i j = ∑ k : Fin 2048, a k * b k := by
  unfold dotAt
  exact Finset.sum_congr rfl fun k _ => by rw [h0, h1]

/-- What one grid point's program stores, element by element. -/
theorem tile (x0 : Vec Ideal S1024x2048 .bf16) (x1 : Vec Ideal S1x2048x512 .bf16) (i : Fin 1024) (j : Fin 512) :
    k0_pay1 x0 x1 (ix2 i j) = dotAt x0 x1 i j := by
  unfold dotAt
  pointwise [k0_pay1]

theorem out_at (x0 : Vec Ideal S1024x2048 .bf16) (x1 : Vec Ideal S1x2048x512 .bf16) (i : Fin 1024) (j : Fin 512) :
    out0_2 x0 x1 (ix2 i j) = dotAt x0 x1 i j := by
  have hz : (![0, 0] : Fin 2 → Nat) = fun _ => 0 := by decide
  have hz3 : (![0, 0, 0] : Fin 3 → Nat) = fun _ => 0 := by decide
  unfold out0_2
  rw [View.canon_unit_zero (S := S1024x512) hz, View.ld_unit_zero (S := S1024x2048) hz, View.ld_unit_zero (S := S1x2048x512) hz3]
  exact tile x0 x1 i j

/-- The slot a column lies in. -/
def slot (j : Fin 4096) : Fin 4 := ⟨j.val / 1024, by omega⟩

/-- A column's place in its slot. -/
def lane (j : Fin 4096) : Fin 1024 := ⟨j.val % 1024, by omega⟩

/-- The product's elements. -/
def prod (a : Vec Ideal S4096x2048 .bf16) (b : Vec Ideal S4x2048x1024 .bf16) : Vec Ideal S4096x4096 .f32 :=
  fun i => ∑ k : Fin 2048, a (ix2 (i 0) k) * b (ix3 (slot (i 1)) k (lane (i 1)))

variable (m : (ℓ : Loc nD τ sig) → Buf (Elt Ideal) ℓ) (c : Dev nD)

abbrev A0 : Vec Ideal S4096x2048 .bf16 := m ((c : Thread nD τ).loc main_arg0)
abbrev A1 : Vec Ideal S4x2048x1024 .bf16 := m ((c : Thread nD τ).loc main_arg1)

theorem idx0 : ∀ t : Fin grid0.N, win0_0.index t (0 : Fin 2) = t.val / 8 ∧ win0_0.index t (1 : Fin 2) = 0 := by decide +kernel

theorem idx1 : ∀ t : Fin grid0.N, win0_1.index t (0 : Fin 3) = t.val % 8 / 2 ∧ win0_1.index t (1 : Fin 3) = 0 ∧ win0_1.index t (2 : Fin 3) = t.val % 8 % 2 := by decide +kernel

theorem idx2 : ∀ t : Fin grid0.N, win0_2.index t (0 : Fin 2) = t.val / 8 ∧ win0_2.index t (1 : Fin 2) = t.val % 8 := by decide +kernel

theorem onto : ∀ (p : Fin 4) (q : Fin 8), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 2048) (p0) :
    ((cfg0.win 0).blk t).view.read (Elt Ideal) (W (Pipeline.arrRef spec0 0)) (ix2 r k) = W main_arg0 (ix2 ⟨(t.val / 8) * 1024 + r.val, p0⟩ k) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 8) * 1024 + r.val; rw [e0]; omega
  | ⟨1, _⟩ => show win0_0.index t (1 : Fin 2) * 2048 + 1 * k.val = k.val; rw [e1]; omega

theorem block1 (k : Fin 2048) (j : Fin 512) (p0) (p2) :
    ((cfg0.win 1).blk t).view.read (Elt Ideal) (W (Pipeline.arrRef spec0 1)) (ix3 (0 : Fin 1) k j) = W main_arg1 (ix3 ⟨t.val % 8 / 2, p0⟩ k ⟨(t.val % 8 % 2) * 512 + j.val, p2⟩) := by
  obtain ⟨e0, e1, e2⟩ := idx1 t
  show W main_arg1 (((cfg0.win 1).blk t).view.emb (ix3 (0 : Fin 1) k j)) = _
  refine congrArg _ (funext fun a => Fin.ext ?_)
  match a with
  | ⟨0, _⟩ => show win0_1.index t (0 : Fin 3) * 1 + 1 * 0 = t.val % 8 / 2; rw [e0]; omega
  | ⟨1, _⟩ => show win0_1.index t (1 : Fin 3) * 2048 + 1 * k.val = k.val; rw [e1]; omega
  | ⟨2, _⟩ => show win0_1.index t (2 : Fin 3) * 512 + 1 * j.val = (t.val % 8 % 2) * 512 + j.val; rw [e2]; omega

end Blocks

theorem out_eq (x0 : Vec Ideal S1024x2048 .bf16) (x1 : Vec Ideal S1x2048x512 .bf16) (i : Fin 1024) (j : Fin 512) (a b : Fin 2048 → EReal)
    (h0 : ∀ k, x0 (ix2 i k) = a k) (h1 : ∀ k, x1 (ix3 (0 : Fin 1) k j) = b k) :
    out0_2 x0 x1 (ix2 i j) = ∑ k : Fin 2048, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1⟩ := idx2 t
  have ht : t.val < 32 := lt_of_lt_of_le t.isLt (by decide)
  funext y
  have hya : (y 0).val < 1024 := (y 0).isLt
  have hyb : (y 1).val < 512 := (y 1).isLt
  have p0 : t.val / 8 * 1024 + (y 0).val < 4096 := by omega
  have pc : t.val % 8 * 512 + (y 1).val < 4096 := by omega
  have pq : t.val % 8 / 2 < 4 := by omega
  have pb : (t.val % 8 % 2) * 512 + (y 1).val < 1024 := by omega
  have hx : (cfg0.win 2).xinj (grid0.coords t) y = ix2 (y 0) (y 1) := by
    funext a; apply Fin.ext
    match a with
    | ⟨0, _⟩ => rfl
    | ⟨1, _⟩ => rfl
  have r0 := fun k : Fin 2048 => (block0 (c := c) (V m c) t (y 0) k p0).trans (congrFun (V_main_arg0 m c) _)
  have r1 := fun k : Fin 2048 => ((block1 (c := c) (V m c) t k (y 1) pq pb).trans (congrFun (V_main_arg1 m c) _)).trans
    (congrArg₂ (fun s l => A1 m c (ix3 s k l)) (Fin.ext (by show t.val % 8 / 2 = (t.val % 8 * 512 + (y 1).val) / 1024; omega) : (⟨t.val % 8 / 2, pq⟩ : Fin 4) = slot (⟨t.val % 8 * 512 + (y 1).val, pc⟩ : Fin 4096))
      (Fin.ext (by show (t.val % 8 % 2) * 512 + (y 1).val = (t.val % 8 * 512 + (y 1).val) % 1024; omega) : (⟨(t.val % 8 % 2) * 512 + (y 1).val, pb⟩ : Fin 1024) = lane (⟨t.val % 8 * 512 + (y 1).val, pc⟩ : Fin 4096)))
  have hb := out_eq (iblk m c 0 t) (iblk m c 1 t) (y 0) (y 1) _ _ r0 r1
  generalize out0_2 (iblk m c 0 t) (iblk m c 1 t) = o at hb ⊢
  show o ((cfg0.win 2).xinj (grid0.coords t) y) = prod (A0 m c) (A1 m c) (((cfg0.win 2).blk t).view.emb y)
  have g0 : ((cfg0.win 2).blk t).view.emb y 0 = (⟨t.val / 8 * 1024 + (y 0).val, p0⟩ : Fin 4096) := Fin.ext (by
    show win0_2.index t (0 : Fin 2) * 1024 + 1 * (y 0).val = t.val / 8 * 1024 + (y 0).val; rw [e0]; omega)
  have g1 : ((cfg0.win 2).blk t).view.emb y 1 = (⟨t.val % 8 * 512 + (y 1).val, pc⟩ : Fin 4096) := Fin.ext (by
    show win0_2.index t (1 : Fin 2) * 512 + 1 * (y 1).val = t.val % 8 * 512 + (y 1).val; rw [e1]; omega)
  refine (congrArg o hx).trans (hb.trans ?_)
  unfold prod
  rw [g0, g1]

/-- Every index lies in the block of a point that writes back. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, hft, q0, q1⟩ := onto ⟨(i 0).val / 1024, by omega⟩ ⟨(i 1).val / 512, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 512 ≤ (i 1).val ∧ (i 1).val < win0_2.index t (1 : Fin 2) * 512 + 512; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel19Ideal.Product

namespace Cert.Reference19Ideal.Product

open Cert.Reference19Ideal Cert.Reference19Ideal.Gen

variable (a : Vec Ideal S4096x2048 .bf16) (b : Vec Ideal S4x2048x1024 .bf16)

/-- The plain product, element by element. -/
theorem host (i : Fin 4096) (j : Fin 4096) :
    (shapeCast _ (Host.dotGeneral dot_S4096x2048_S4x2048x1024_S4096x4x1024_1_1_0_02_n_n none (extf .f32 a bitsLt_bf16_f32) (extf .f32 b bitsLt_bf16_f32)) shapeCasts_S4096x4x1024_S4096x4096 : FVec Ideal S4096x4096 .f32) (ix2 i j)
      = ∑ k : Fin 2048, a (ix2 i k) * b (ix3 (Cert.Kernel19Ideal.Product.slot j) k (Cert.Kernel19Ideal.Product.lane j)) := by
  unfold Cert.Kernel19Ideal.Product.slot Cert.Kernel19Ideal.Product.lane
  pointwise

theorem value (w : Vec Ideal S4096x4096 .f32) (e : ∀ (i : Fin 4096) (j : Fin 4096), w (ix2 i j) = ∑ k : Fin 2048, a (ix2 i k) * b (ix3 (Cert.Kernel19Ideal.Product.slot j) k (Cert.Kernel19Ideal.Product.lane j))) :
    w = Cert.Kernel19Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel19Ideal.Product.prod
  rfl

end Cert.Reference19Ideal.Product

namespace Cert.BranchA

/-- The two programs end with the same result. -/
theorem algebraic : Cert.algebraic_Kernel19Ideal_Reference19Ideal (hKernel19Ideal := Cert.Kernel19Ideal.Gen.facts)
    (hReference19Ideal := Cert.Reference19Ideal.Gen.facts) := by
  intro m g m' g' _ hag
  refine ⟨fun c => Cert.Kernel19Ideal.Product.prod (Cert.Kernel19Ideal.Product.A0 m c) (Cert.Kernel19Ideal.Product.A1 m c),
    Cert.Kernel19Ideal.Product.run m g, ?_⟩
  refine (θ_run _ _ _).mono (fun r h c => ⟨?_, (h c).2⟩) (Cert.Reference19Ideal.Value.run (F := Ideal) m' g')
  refine (h c).1.trans ((Cert.Reference19Ideal.Product.value _ _ _ (Cert.Reference19Ideal.Product.host _ _)).trans ?_)
  unfold Cert.Kernel19Ideal.Product.A0 Cert.Kernel19Ideal.Product.A1
  rw [(hag c).1, (hag c).2]

end Cert.BranchA

end
-- ==== Proof.BranchB.lean ====
/-
  The second branch's output product: the program is the first branch's under other names, and so is the claim.
-/
module

public import proofs.«01_k».proof.Defs
public import proofs.«01_k».proof.Proof.BranchA
public import proofs.«01_k».proof.Proof.Gen.Kernel20Ideal.Frame
public import proofs.«01_k».proof.Proof.Gen.Reference20Ideal.Run

@[expose] public section

noncomputable section

open Idealize.ShloMosaic

namespace Cert.BranchB

attribute [local instance] Cert.Kernel19Ideal.Gen.facts Cert.Kernel20Ideal.Gen.facts

/-- The two programs' bodies are the same. -/
theorem bodies : Cert.Kernel20Ideal.defs₀ (F := Ideal) = Cert.Kernel19Ideal.defs₀ (F := Ideal) :=
  congrArg Defs.onTc (funext fun l => funext fun x => match l, x with
    | 0, (_, _) => rfl
    | ⟨_ + 1, h⟩, _ => absurd h (Nat.not_lt.2 (Nat.le_add_left _ _)))

theorem tables : Cert.Kernel20Ideal.defs (F := Ideal) = Cert.Kernel19Ideal.defs (F := Ideal) :=
  congrArg (Pipeline.defs Cert.Kernel19Ideal.pcfgs) bodies

/-- The two programs end with the same result. -/
theorem algebraic : Cert.algebraic_Kernel20Ideal_Reference20Ideal (hKernel20Ideal := Cert.Kernel20Ideal.Gen.facts)
    (hReference20Ideal := Cert.Reference20Ideal.Gen.facts) := by
  unfold Cert.algebraic_Kernel20Ideal_Reference20Ideal
  rw [tables]
  exact Cert.BranchA.algebraic

end Cert.BranchB

end
-- ==== Proof.ProjForget.lean ====
/-
  The input projection's forget columns: the tiled kernel's result and the plain product's are the same sums.
-/
module

public import proofs.«01_k».proof.Defs
public import proofs.«01_k».proof.Proof.Gen.Kernel21Ideal.Value
public import proofs.«01_k».proof.Proof.Gen.Reference21Ideal.Run
public import proofs.«01_k».proof.Proof.Sums
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel21Ideal.Product

open Cert.Kernel21Ideal Cert.Kernel21Ideal.Gen

/-- One element of the product of two blocks. -/
def dotAt (x0 : Vec Ideal S1024x4096 .bf16) (x1 : Vec Ideal S4096x128 .bf16) (i : Fin 1024) (j : Fin 128) : EReal :=
  ∑ k : Fin 4096, x0 (ix2 i k) * x1 (ix2 k j)

theorem dotAt_eq (x0 : Vec Ideal S1024x4096 .bf16) (x1 : Vec Ideal S4096x128 .bf16) (i : Fin 1024) (j : Fin 128) (a b : Fin 4096 → EReal)
    (h0 : ∀ k, x0 (ix2 i k) = a k) (h1 : ∀ k, x1 (ix2 k j) = b k) : dotAt x0 x1 i j = ∑ k : Fin 4096, a k * b k := by
  unfold dotAt
  exact Finset.sum_congr rfl fun k _ => by rw [h0, h1]

/-- What one grid point's program stores, element by element. -/
theorem tile (x0 : Vec Ideal S1024x4096 .bf16) (x1 : Vec Ideal S4096x128 .bf16) (i : Fin 1024) (j : Fin 128) :
    k0_pay1 x0 x1 (ix2 i j) = dotAt x0 x1 i j := by
  unfold dotAt
  pointwise [k0_pay1]

theorem out_at (x0 : Vec Ideal S1024x4096 .bf16) (x1 : Vec Ideal S4096x128 .bf16) (i : Fin 1024) (j : Fin 128) :
    out0_2 x0 x1 (ix2 i j) = dotAt x0 x1 i j := by
  have hz : (![0, 0] : Fin 2 → Nat) = fun _ => 0 := by decide
  unfold out0_2
  rw [View.canon_unit_zero (S := S1024x128) hz, View.ld_unit_zero (S := S1024x4096) hz, View.ld_unit_zero (S := S4096x128) hz]
  exact tile x0 x1 i j

/-- The weights' column that a result's column comes from. -/
def col (j : Fin 128) : Fin 17024 := ⟨16896 + j.val, by omega⟩

/-- The product's elements. -/
def prod (a : Vec Ideal S4096x4096 .bf16) (b : Vec Ideal S4096x17024 .bf16) : Vec Ideal S4096x128 .f32 :=
  fun i => ∑ k : Fin 4096, a (ix2 (i 0) k) * b (ix2 k (col (i 1)))

variable (m : (ℓ : Loc nD τ sig) → Buf (Elt Ideal) ℓ) (c : Dev nD)

abbrev A0 : Vec Ideal S4096x4096 .bf16 := m ((c : Thread nD τ).loc main_arg0)
abbrev A1 : Vec Ideal S4096x17024 .bf16 := m ((c : Thread nD τ).loc main_arg1)

theorem idx0 : ∀ t : Fin grid0.N, win0_0.index t (0 : Fin 2) = t.val / 1 ∧ win0_0.index t (1 : Fin 2) = 0 := by decide +kernel

theorem idx1 : ∀ t : Fin grid0.N, win0_1.index t (0 : Fin 2) = 0 ∧ win0_1.index t (1 : Fin 2) = 132 := by decide +kernel

theorem idx2 : ∀ t : Fin grid0.N, win0_2.index t (0 : Fin 2) = t.val / 1 ∧ win0_2.index t (1 : Fin 2) = 0 := by decide +kernel

theorem onto : ∀ (p : Fin 4) (q : Fin 1), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 1024) (k : Fin 4096) (p0) :
    ((cfg0.win 0).blk t).view.read (Elt Ideal) (W (Pipeline.arrRef spec0 0)) (ix2 r k) = W main_arg0 (ix2 ⟨(t.val / 1) * 1024 + r.val, p0⟩ k) := by
  obtain ⟨e0, e1⟩ := idx0 t
  show W main_arg0 (((cfg0.win 0).blk t).view.emb (ix2 r k)) = _
  refine congrArg _ (funext fun a => Fin.ext ?_)
  match a with
  | ⟨0, _⟩ => show win0_0.index t (0 : Fin 2) * 1024 + 1 * r.val = (t.val / 1) * 1024 + r.val; rw [e0]; omega
  | ⟨1, _⟩ => show win0_0.index t (1 : Fin 2) * 4096 + 1 * k.val = k.val; rw [e1]; omega

theorem block1 (k : Fin 4096) (j : Fin 128) (p1) :
    ((cfg0.win 1).blk t).view.read (Elt Ideal) (W (Pipeline.arrRef spec0 1)) (ix2 k j) = W main_arg1 (ix2 k ⟨16896 + j.val, p1⟩) := by
  obtain ⟨e0, e1⟩ := idx1 t
  show W main_arg1 (((cfg0.win 1).blk t).view.emb (ix2 k j)) = _
  refine congrArg _ (funext fun a => Fin.ext ?_)
  match a with
  | ⟨0, _⟩ => show win0_1.index t (0 : Fin 2) * 4096 + 1 * k.val = k.val; rw [e0]; omega
  | ⟨1, _⟩ => show win0_1.index t (1 : Fin 2) * 128 + 1 * j.val = 16896 + j.val; rw [e1]; omega

end Blocks

theorem out_eq (x0 : Vec Ideal S1024x4096 .bf16) (x1 : Vec Ideal S4096x128 .bf16) (i : Fin 1024) (j : Fin 128) (a b : Fin 4096 → EReal)
    (h0 : ∀ k, x0 (ix2 i k) = a k) (h1 : ∀ k, x1 (ix2 k j) = b k) :
    out0_2 x0 x1 (ix2 i j) = ∑ k : Fin 4096, a k * b k := by
  rw [out_at, dotAt_eq x0 x1 i j a b h0 h1]

/-- A grid point writes back its block of the product. -/
theorem flushed (t : Fin cfg0.N) :
    (dats m 0 c).flushed 2 t = ((cfg0.win 2).blk t).view.read (Elt Ideal) (prod (A0 m c) (A1 m c)) := by
  rw [Value.flushed2]
  obtain ⟨e0, e1⟩ := idx2 t
  have ht : t.val < 4 := lt_of_lt_of_le t.isLt (by decide)
  funext y
  have hya : (y 0).val < 1024 := (y 0).isLt
  have hyb : (y 1).val < 128 := (y 1).isLt
  have p0 : t.val / 1 * 1024 + (y 0).val < 4096 := by omega
  have pc : (y 1).val < 128 := by omega
  have pb : 16896 + (y 1).val < 17024 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (congrFun (V_main_arg0 m c) _)
  have r1 := fun k : Fin 4096 => ((block1 (c := c) (V m c) t k (y 1) pb).trans (congrFun (V_main_arg1 m c) _)).trans
    (congrArg (fun z => A1 m c (ix2 k z)) (Fin.ext (by show 16896 + (y 1).val = 16896 + ((y 1).val); omega) : (⟨16896 + (y 1).val, pb⟩ : Fin 17024) = col (⟨(y 1).val, pc⟩ : Fin 128)))
  have hb := out_eq (iblk m c 0 t) (iblk m c 1 t) (y 0) (y 1) _ _ r0 r1
  generalize out0_2 (iblk m c 0 t) (iblk m c 1 t) = o at hb ⊢
  show o ((cfg0.win 2).xinj (grid0.coords t) y) = prod (A0 m c) (A1 m c) (((cfg0.win 2).blk t).view.emb y)
  have g0 : ((cfg0.win 2).blk t).view.emb y 0 = (⟨t.val / 1 * 1024 + (y 0).val, p0⟩ : Fin 4096) := Fin.ext (by
    show win0_2.index t (0 : Fin 2) * 1024 + 1 * (y 0).val = t.val / 1 * 1024 + (y 0).val; rw [e0]; omega)
  have g1 : ((cfg0.win 2).blk t).view.emb y 1 = (⟨(y 1).val, pc⟩ : Fin 128) := Fin.ext (by
    show win0_2.index t (1 : Fin 2) * 128 + 1 * (y 1).val = (y 1).val; rw [e1]; omega)
  refine (congrArg o hx).trans (hb.trans ?_)
  unfold prod
  rw [g0, g1]

/-- Every index lies in the block of a point that writes back. -/
theorem cover (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  obtain ⟨t, hft, q0, q1⟩ := onto ⟨(i 0).val / 1024, by omega⟩ ⟨(i 1).val / 128, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [q0]; dsimp only; omega
  | ⟨1, _⟩ => show win0_2.index t (1 : Fin 2) * 128 ≤ (i 1).val ∧ (i 1).val < win0_2.index t (1 : Fin 2) * 128 + 128; rw [q1]; dsimp only; omega

/-- The kernel ends with the product, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = prod (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel21Ideal.Product

namespace Cert.Reference21Ideal.Product

open Cert.Reference21Ideal Cert.Reference21Ideal.Gen

variable (a : Vec Ideal S4096x4096 .bf16) (b : Vec Ideal S4096x17024 .bf16)

/-- The plain product, element by element. -/
theorem host (i : Fin 4096) (j : Fin 128) :
    (extractStridedSlice S4096x128 ![0, 16896] (Host.dotGeneral dot_S4096x4096_S4096x17024_S4096x17024_1_0_0_1_n_n none (extf .f32 a bitsLt_bf16_f32) (extf .f32 b bitsLt_bf16_f32)) slices_S4096x17024_S4096x128_0_16896 : FVec Ideal S4096x128 .f32) (ix2 i j)
      = ∑ k : Fin 4096, a (ix2 i k) * b (ix2 k (Cert.Kernel21Ideal.Product.col j)) := by
  unfold Cert.Kernel21Ideal.Product.col
  pointwise

theorem value (w : Vec Ideal S4096x128 .f32) (e : ∀ (i : Fin 4096) (j : Fin 128), w (ix2 i j) = ∑ k : Fin 4096, a (ix2 i k) * b (ix2 k (Cert.Kernel21Ideal.Product.col j))) :
    w = Cert.Kernel21Ideal.Product.prod a b := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel21Ideal.Product.prod
  rfl

end Cert.Reference21Ideal.Product

namespace Cert.ProjForget

/-- The two programs end with the same result. -/
theorem algebraic : Cert.algebraic_Kernel21Ideal_Reference21Ideal (hKernel21Ideal := Cert.Kernel21Ideal.Gen.facts)
    (hReference21Ideal := Cert.Reference21Ideal.Gen.facts) := by
  intro m g m' g' _ hag
  refine ⟨fun c => Cert.Kernel21Ideal.Product.prod (Cert.Kernel21Ideal.Product.A0 m c) (Cert.Kernel21Ideal.Product.A1 m c),
    Cert.Kernel21Ideal.Product.run m g, ?_⟩
  refine (θ_run _ _ _).mono (fun r h c => ⟨?_, (h c).2⟩) (Cert.Reference21Ideal.Value.run (F := Ideal) m' g')
  refine (h c).1.trans ((Cert.Reference21Ideal.Product.value _ _ _ (Cert.Reference21Ideal.Product.host _ _)).trans ?_)
  unfold Cert.Kernel21Ideal.Product.A0 Cert.Kernel21Ideal.Product.A1
  rw [(hag c).1, (hag c).2]

end Cert.ProjForget

end
-- ==== Proof.GateBwd.lean ====
/-
  The gradient of the branch gates: the tiled kernel and the derivative of the plain lines have the same elements.
-/
module

public import proofs.«01_k».proof.Defs
public import proofs.«01_k».proof.Proof.Gen.Kernel22Ideal.Value
public import proofs.«01_k».proof.Proof.Gen.Reference22Ideal.Run
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel22Ideal.Gates

open Cert.Kernel22Ideal Cert.Kernel22Ideal.Gen

/-- The number one, as the programs write it. -/
def one : EReal := Ideal.ofBits .f32 0x3F800000#32

/-- The logistic function. -/
def sg (x : EReal) : EReal := Ideal.div one (one + Ideal.exp (-x))

/-- The column of the gates' array that holds branch a's gate, and the one that holds branch b's. -/
def colA (j : Fin 4096) : Fin 8192 := ⟨j.val, by omega⟩
def colB (j : Fin 4096) : Fin 8192 := ⟨4096 + j.val, by omega⟩

section Points

variable (x0 : Vec Ideal S256x1024 .bf16) (x1 : Vec Ideal S256x1024 .f32) (x2 : Vec Ideal S256x1024 .f32) (x3 : Vec Ideal S256x1024 .f32) (x4 : Vec Ideal S256x1024 .f32) (i : Fin 256) (j : Fin 1024)

/-- Branch a's cotangent. -/
def f5 (s0 s1 s2 s3 s4 : EReal) : EReal := s0 * sg s3

def g5 (a0 : Vec Ideal S4096x4096 .bf16) (a1 : Vec Ideal S4096x4096 .f32) (a2 : Vec Ideal S4096x4096 .f32) (a3 : Vec Ideal S4096x8192 .f32) : Vec Ideal S4096x4096 .bf16 :=
  fun i => f5 (a0 (ix2 (i 0) (i 1))) (a1 (ix2 (i 0) (i 1))) (a2 (ix2 (i 0) (i 1))) (a3 (ix2 (i 0) (colA (i 1)))) (a3 (ix2 (i 0) (colB (i 1))))

theorem out5_at :
    out0_5 x0 x1 x2 x3 x4 (ix2 i j) = f5 (x0 (ix2 i j)) (x1 (ix2 i j)) (x2 (ix2 i j)) (x3 (ix2 i j)) (x4 (ix2 i j)) := by
  have hz : (![0, 0] : Fin 2 → Nat) = fun _ => 0 := by decide
  unfold out0_5 f5 sg one
  rw [View.canon_unit_zero (S := S256x1024) hz]
  simp only [View.ld_unit_zero (S := S256x1024) hz]
  pointwise [k0_pay5, k0_pay2, k0_pay3]
  simp only [sub_eq_add_neg, zero_add]

theorem out5_eq (s0 s1 s2 s3 s4 : EReal)
    (h0 : x0 (ix2 i j) = s0) (h1 : x1 (ix2 i j) = s1) (h2 : x2 (ix2 i j) = s2) (h3 : x3 (ix2 i j) = s3) (h4 : x4 (ix2 i j) = s4) :
    out0_5 x0 x1 x2 x3 x4 (ix2 i j) = f5 s0 s1 s2 s3 s4 := by
  rw [out5_at, h0, h1, h2, h3, h4]

/-- Branch b's cotangent. -/
def f6 (s0 s1 s2 s3 s4 : EReal) : EReal := s0 * sg s4

def g6 (a0 : Vec Ideal S4096x4096 .bf16) (a1 : Vec Ideal S4096x4096 .f32) (a2 : Vec Ideal S4096x4096 .f32) (a3 : Vec Ideal S4096x8192 .f32) : Vec Ideal S4096x4096 .bf16 :=
  fun i => f6 (a0 (ix2 (i 0) (i 1))) (a1 (ix2 (i 0) (i 1))) (a2 (ix2 (i 0) (i 1))) (a3 (ix2 (i 0) (colA (i 1)))) (a3 (ix2 (i 0) (colB (i 1))))

theorem out6_at :
    out0_6 x0 x1 x2 x3 x4 (ix2 i j) = f6 (x0 (ix2 i j)) (x1 (ix2 i j)) (x2 (ix2 i j)) (x3 (ix2 i j)) (x4 (ix2 i j)) := by
  have hz : (![0, 0] : Fin 2 → Nat) = fun _ => 0 := by decide
  unfold out0_6 f6 sg one
  rw [View.canon_unit_zero (S := S256x1024) hz]
  simp only [View.ld_unit_zero (S := S256x1024) hz]
  pointwise [k0_pay6, k0_pay2, k0_pay4]
  simp only [sub_eq_add_neg, zero_add]

theorem out6_eq (s0 s1 s2 s3 s4 : EReal)
    (h0 : x0 (ix2 i j) = s0) (h1 : x1 (ix2 i j) = s1) (h2 : x2 (ix2 i j) = s2) (h3 : x3 (ix2 i j) = s3) (h4 : x4 (ix2 i j) = s4) :
    out0_6 x0 x1 x2 x3 x4 (ix2 i j) = f6 s0 s1 s2 s3 s4 := by
  rw [out6_at, h0, h1, h2, h3, h4]

/-- The cotangent of branch a's gate. -/
def f7 (s0 s1 s2 s3 s4 : EReal) : EReal := s0 * s1 * sg s3 * (one - sg s3)

def g7 (a0 : Vec Ideal S4096x4096 .bf16) (a1 : Vec Ideal S4096x4096 .f32) (a2 : Vec Ideal S4096x4096 .f32) (a3 : Vec Ideal S4096x8192 .f32) : Vec Ideal S4096x4096 .bf16 :=
  fun i => f7 (a0 (ix2 (i 0) (i 1))) (a1 (ix2 (i 0) (i 1))) (a2 (ix2 (i 0) (i 1))) (a3 (ix2 (i 0) (colA (i 1)))) (a3 (ix2 (i 0) (colB (i 1))))

theorem out7_at :
    out0_7 x0 x1 x2 x3 x4 (ix2 i j) = f7 (x0 (ix2 i j)) (x1 (ix2 i j)) (x2 (ix2 i j)) (x3 (ix2 i j)) (x4 (ix2 i j)) := by
  have hz : (![0, 0] : Fin 2 → Nat) = fun _ => 0 := by decide
  unfold out0_7 f7 sg one
  rw [View.canon_unit_zero (S := S256x1024) hz]
  simp only [View.ld_unit_zero (S := S256x1024) hz]
  pointwise [k0_pay7, k0_pay2, k0_pay3]
  simp only [sub_eq_add_neg, zero_add]

theorem out7_eq (s0 s1 s2 s3 s4 : EReal)
    (h0 : x0 (ix2 i j) = s0) (h1 : x1 (ix2 i j) = s1) (h2 : x2 (ix2 i j) = s2) (h3 : x3 (ix2 i j) = s3) (h4 : x4 (ix2 i j) = s4) :
    out0_7 x0 x1 x2 x3 x4 (ix2 i j) = f7 s0 s1 s2 s3 s4 := by
  rw [out7_at, h0, h1, h2, h3, h4]

/-- The cotangent of branch b's gate. -/
def f8 (s0 s1 s2 s3 s4 : EReal) : EReal := s0 * s2 * sg s4 * (one - sg s4)

def g8 (a0 : Vec Ideal S4096x4096 .bf16) (a1 : Vec Ideal S4096x4096 .f32) (a2 : Vec Ideal S4096x4096 .f32) (a3 : Vec Ideal S4096x8192 .f32) : Vec Ideal S4096x4096 .bf16 :=
  fun i => f8 (a0 (ix2 (i 0) (i 1))) (a1 (ix2 (i 0) (i 1))) (a2 (ix2 (i 0) (i 1))) (a3 (ix2 (i 0) (colA (i 1)))) (a3 (ix2 (i 0) (colB (i 1))))

theorem out8_at :
    out0_8 x0 x1 x2 x3 x4 (ix2 i j) = f8 (x0 (ix2 i j)) (x1 (ix2 i j)) (x2 (ix2 i j)) (x3 (ix2 i j)) (x4 (ix2 i j)) := by
  have hz : (![0, 0] : Fin 2 → Nat) = fun _ => 0 := by decide
  unfold out0_8 f8 sg one
  rw [View.canon_unit_zero (S := S256x1024) hz]
  simp only [View.ld_unit_zero (S := S256x1024) hz]
  pointwise [k0_pay1, k0_pay2, k0_pay4]
  simp only [sub_eq_add_neg, zero_add]

theorem out8_eq (s0 s1 s2 s3 s4 : EReal)
    (h0 : x0 (ix2 i j) = s0) (h1 : x1 (ix2 i j) = s1) (h2 : x2 (ix2 i j) = s2) (h3 : x3 (ix2 i j) = s3) (h4 : x4 (ix2 i j) = s4) :
    out0_8 x0 x1 x2 x3 x4 (ix2 i j) = f8 s0 s1 s2 s3 s4 := by
  rw [out8_at, h0, h1, h2, h3, h4]

end Points

variable (m : (ℓ : Loc nD τ sig) → Buf (Elt Ideal) ℓ) (c : Dev nD)

abbrev A0 : Vec Ideal S4096x4096 .bf16 := m ((c : Thread nD τ).loc main_arg0)
abbrev A1 : Vec Ideal S4096x4096 .f32 := m ((c : Thread nD τ).loc main_arg1)
abbrev A2 : Vec Ideal S4096x4096 .f32 := m ((c : Thread nD τ).loc main_arg2)
abbrev A3 : Vec Ideal S4096x8192 .f32 := m ((c : Thread nD τ).loc main_arg3)

theorem idx0 : ∀ t : Fin grid0.N, win0_0.index t (0 : Fin 2) = t.val / 4 ∧ win0_0.index t (1 : Fin 2) = t.val % 4 := by decide +kernel

theorem idx1 : ∀ t : Fin grid0.N, win0_1.index t (0 : Fin 2) = t.val / 4 ∧ win0_1.index t (1 : Fin 2) = t.val % 4 := by decide +kernel

theorem idx2 : ∀ t : Fin grid0.N, win0_2.index t (0 : Fin 2) = t.val / 4 ∧ win0_2.index t (1 : Fin 2) = t.val % 4 := by decide +kernel

theorem idx3 : ∀ t : Fin grid0.N, win0_3.index t (0 : Fin 2) = t.val / 4 ∧ win0_3.index t (1 : Fin 2) = t.val % 4 := by decide +kernel

theorem idx4 : ∀ t : Fin grid0.N, win0_4.index t (0 : Fin 2) = t.val / 4 ∧ win0_4.index t (1 : Fin 2) = t.val % 4 + 4 := by decide +kernel

theorem idx5 : ∀ t : Fin grid0.N, win0_5.index t (0 : Fin 2) = t.val / 4 ∧ win0_5.index t (1 : Fin 2) = t.val % 4 := by decide +kernel

theorem idx6 : ∀ t : Fin grid0.N, win0_6.index t (0 : Fin 2) = t.val / 4 ∧ win0_6.index t (1 : Fin 2) = t.val % 4 := by decide +kernel

theorem idx7 : ∀ t : Fin grid0.N, win0_7.index t (0 : Fin 2) = t.val / 4 ∧ win0_7.index t (1 : Fin 2) = t.val % 4 := by decide +kernel

theorem idx8 : ∀ t : Fin grid0.N, win0_8.index t (0 : Fin 2) = t.val / 4 ∧ win0_8.index t (1 : Fin 2) = t.val % 4 := by decide +kernel

theorem onto5 : ∀ (p : Fin 16) (q : Fin 4), ∃ t : Fin cfg0.N, (cfg0.win 5).flush t = true ∧
    win0_5.index t (0 : Fin 2) = p.val ∧ win0_5.index t (1 : Fin 2) = q.val := by decide +kernel

theorem onto6 : ∀ (p : Fin 16) (q : Fin 4), ∃ t : Fin cfg0.N, (cfg0.win 6).flush t = true ∧
    win0_6.index t (0 : Fin 2) = p.val ∧ win0_6.index t (1 : Fin 2) = q.val := by decide +kernel

theorem onto7 : ∀ (p : Fin 16) (q : Fin 4), ∃ t : Fin cfg0.N, (cfg0.win 7).flush t = true ∧
    win0_7.index t (0 : Fin 2) = p.val ∧ win0_7.index t (1 : Fin 2) = q.val := by decide +kernel

theorem onto8 : ∀ (p : Fin 16) (q : Fin 4), ∃ t : Fin cfg0.N, (cfg0.win 8).flush t = true ∧
    win0_8.index t (0 : Fin 2) = p.val ∧ win0_8.index t (1 : Fin 2) = q.val := by decide +kernel

section Blocks

variable {c}
variable (W : (b : Ref sig .tc) → Buf (Elt Ideal) ((c : Thread nD τ).loc b)) (t : Fin cfg0.N)

theorem block0 (r : Fin 256) (l : Fin 1024) (p0) (p1) :
    ((cfg0.win 0).blk t).view.read (Elt Ideal) (W (Pipeline.arrRef spec0 0)) (ix2 r l)
      = W main_arg0 (ix2 ⟨t.val / 4 * 256 + r.val, p0⟩ (⟨t.val % 4 * 1024 + l.val, p1⟩)) := by
  obtain ⟨e0, e1⟩ := idx0 t
  show W main_arg0 (((cfg0.win 0).blk t).view.emb (ix2 r l)) = _
  refine congrArg _ (funext fun a => Fin.ext ?_)
  match a with
  | ⟨0, _⟩ => show win0_0.index t (0 : Fin 2) * 256 + 1 * r.val = t.val / 4 * 256 + r.val; rw [e0]; omega
  | ⟨1, _⟩ => show win0_0.index t (1 : Fin 2) * 1024 + 1 * l.val = t.val % 4 * 1024 + l.val; rw [e1]; omega

theorem block1 (r : Fin 256) (l : Fin 1024) (p0) (p1) :
    ((cfg0.win 1).blk t).view.read (Elt Ideal) (W (Pipeline.arrRef spec0 1)) (ix2 r l)
      = W main_arg1 (ix2 ⟨t.val / 4 * 256 + r.val, p0⟩ (⟨t.val % 4 * 1024 + l.val, p1⟩)) := by
  obtain ⟨e0, e1⟩ := idx1 t
  show W main_arg1 (((cfg0.win 1).blk t).view.emb (ix2 r l)) = _
  refine congrArg _ (funext fun a => Fin.ext ?_)
  match a with
  | ⟨0, _⟩ => show win0_1.index t (0 : Fin 2) * 256 + 1 * r.val = t.val / 4 * 256 + r.val; rw [e0]; omega
  | ⟨1, _⟩ => show win0_1.index t (1 : Fin 2) * 1024 + 1 * l.val = t.val % 4 * 1024 + l.val; rw [e1]; omega

theorem block2 (r : Fin 256) (l : Fin 1024) (p0) (p1) :
    ((cfg0.win 2).blk t).view.read (Elt Ideal) (W (Pipeline.arrRef spec0 2)) (ix2 r l)
      = W main_arg2 (ix2 ⟨t.val / 4 * 256 + r.val, p0⟩ (⟨t.val % 4 * 1024 + l.val, p1⟩)) := by
  obtain ⟨e0, e1⟩ := idx2 t
  show W main_arg2 (((cfg0.win 2).blk t).view.emb (ix2 r l)) = _
  refine congrArg _ (funext fun a => Fin.ext ?_)
  match a with
  | ⟨0, _⟩ => show win0_2.index t (0 : Fin 2) * 256 + 1 * r.val = t.val / 4 * 256 + r.val; rw [e0]; omega
  | ⟨1, _⟩ => show win0_2.index t (1 : Fin 2) * 1024 + 1 * l.val = t.val % 4 * 1024 + l.val; rw [e1]; omega

theorem block3 (r : Fin 256) (l : Fin 1024) (p0) (p1) :
    ((cfg0.win 3).blk t).view.read (Elt Ideal) (W (Pipeline.arrRef spec0 3)) (ix2 r l)
      = W main_arg3 (ix2 ⟨t.val / 4 * 256 + r.val, p0⟩ (colA ⟨t.val % 4 * 1024 + l.val, p1⟩)) := by
  obtain ⟨e0, e1⟩ := idx3 t
  show W main_arg3 (((cfg0.win 3).blk t).view.emb (ix2 r l)) = _
  refine congrArg _ (funext fun a => Fin.ext ?_)
  match a with
  | ⟨0, _⟩ => show win0_3.index t (0 : Fin 2) * 256 + 1 * r.val = t.val / 4 * 256 + r.val; rw [e0]; omega
  | ⟨1, _⟩ => show win0_3.index t (1 : Fin 2) * 1024 + 1 * l.val = t.val % 4 * 1024 + l.val; rw [e1]; omega

theorem block4 (r : Fin 256) (l : Fin 1024) (p0) (p1) :
    ((cfg0.win 4).blk t).view.read (Elt Ideal) (W (Pipeline.arrRef spec0 4)) (ix2 r l)
      = W main_arg3 (ix2 ⟨t.val / 4 * 256 + r.val, p0⟩ (colB ⟨t.val % 4 * 1024 + l.val, p1⟩)) := by
  obtain ⟨e0, e1⟩ := idx4 t
  show W main_arg3 (((cfg0.win 4).blk t).view.emb (ix2 r l)) = _
  refine congrArg _ (funext fun a => Fin.ext ?_)
  match a with
  | ⟨0, _⟩ => show win0_4.index t (0 : Fin 2) * 256 + 1 * r.val = t.val / 4 * 256 + r.val; rw [e0]; omega
  | ⟨1, _⟩ => show win0_4.index t (1 : Fin 2) * 1024 + 1 * l.val = 4096 + (t.val % 4 * 1024 + l.val); rw [e1]; omega

end Blocks

/-- A grid point writes back its block of the result. -/
theorem flushed5 (t : Fin cfg0.N) :
    (dats m 0 c).flushed 5 t = ((cfg0.win 5).blk t).view.read (Elt Ideal) (g5 (A0 m c) (A1 m c) (A2 m c) (A3 m c)) := by
  rw [Value.flushed5]
  obtain ⟨e0, e1⟩ := idx5 t
  have ht : t.val < 64 := lt_of_lt_of_le t.isLt (by decide)
  funext y
  have hya : (y 0).val < 256 := (y 0).isLt
  have hyb : (y 1).val < 1024 := (y 1).isLt
  have p0 : t.val / 4 * 256 + (y 0).val < 4096 := by omega
  have pc : t.val % 4 * 1024 + (y 1).val < 4096 := by omega
  have hx : (cfg0.win 5).xinj (grid0.coords t) y = ix2 (y 0) (y 1) := by
    funext a; apply Fin.ext
    match a with
    | ⟨0, _⟩ => rfl
    | ⟨1, _⟩ => rfl
  have r0 := (block0 (c := c) (V m c) t (y 0) (y 1) p0 pc).trans (congrFun (V_main_arg0 m c) _)
  have r1 := (block1 (c := c) (V m c) t (y 0) (y 1) p0 pc).trans (congrFun (V_main_arg1 m c) _)
  have r2 := (block2 (c := c) (V m c) t (y 0) (y 1) p0 pc).trans (congrFun (V_main_arg2 m c) _)
  have r3 := (block3 (c := c) (V m c) t (y 0) (y 1) p0 pc).trans (congrFun (V_main_arg3 m c) _)
  have r4 := (block4 (c := c) (V m c) t (y 0) (y 1) p0 pc).trans (congrFun (V_main_arg3 m c) _)
  have hb := out5_eq (iblk m c 0 t) (iblk m c 1 t) (iblk m c 2 t) (iblk m c 3 t) (iblk m c 4 t) (y 0) (y 1) _ _ _ _ _ r0 r1 r2 r3 r4
  generalize out0_5 (iblk m c 0 t) (iblk m c 1 t) (iblk m c 2 t) (iblk m c 3 t) (iblk m c 4 t) = o at hb ⊢
  show o ((cfg0.win 5).xinj (grid0.coords t) y) = g5 (A0 m c) (A1 m c) (A2 m c) (A3 m c) (((cfg0.win 5).blk t).view.emb y)
  have g0 : ((cfg0.win 5).blk t).view.emb y 0 = (⟨t.val / 4 * 256 + (y 0).val, p0⟩ : Fin 4096) := Fin.ext (by
    show win0_5.index t (0 : Fin 2) * 256 + 1 * (y 0).val = t.val / 4 * 256 + (y 0).val; rw [e0]; omega)
  have g1 : ((cfg0.win 5).blk t).view.emb y 1 = (⟨t.val % 4 * 1024 + (y 1).val, pc⟩ : Fin 4096) := Fin.ext (by
    show win0_5.index t (1 : Fin 2) * 1024 + 1 * (y 1).val = t.val % 4 * 1024 + (y 1).val; rw [e1]; omega)
  refine (congrArg o hx).trans (hb.trans ?_)
  unfold g5
  rw [g0, g1]

/-- Every index lies in the block of a point that writes back. -/
theorem cover5 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, hft, q0, q1⟩ := onto5 ⟨(i 0).val / 256, by omega⟩ ⟨(i 1).val / 1024, by omega⟩
  refine ⟨t, hft, ?_⟩
  show i ∈ ((View.whole main_v0_0).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; rw [q0]; dsimp only; omega
  | ⟨1, _⟩ => show win0_5.index t (1 : Fin 2) * 1024 ≤ (i 1).val ∧ (i 1).val < win0_5.index t (1 : Fin 2) * 1024 + 1024; rw [q1]; dsimp only; omega

/-- A grid point writes back its block of the result. -/
theorem flushed6 (t : Fin cfg0.N) :
    (dats m 0 c).flushed 6 t = ((cfg0.win 6).blk t).view.read (Elt Ideal) (g6 (A0 m c) (A1 m c) (A2 m c) (A3 m c)) := by
  rw [Value.flushed6]
  obtain ⟨e0, e1⟩ := idx6 t
  have ht : t.val < 64 := lt_of_lt_of_le t.isLt (by decide)
  funext y
  have hya : (y 0).val < 256 := (y 0).isLt
  have hyb : (y 1).val < 1024 := (y 1).isLt
  have p0 : t.val / 4 * 256 + (y 0).val < 4096 := by omega
  have pc : t.val % 4 * 1024 + (y 1).val < 4096 := by omega
  have hx : (cfg0.win 6).xinj (grid0.coords t) y = ix2 (y 0) (y 1) := by
    funext a; apply Fin.ext
    match a with
    | ⟨0, _⟩ => rfl
    | ⟨1, _⟩ => rfl
  have r0 := (block0 (c := c) (V m c) t (y 0) (y 1) p0 pc).trans (congrFun (V_main_arg0 m c) _)
  have r1 := (block1 (c := c) (V m c) t (y 0) (y 1) p0 pc).trans (congrFun (V_main_arg1 m c) _)
  have r2 := (block2 (c := c) (V m c) t (y 0) (y 1) p0 pc).trans (congrFun (V_main_arg2 m c) _)
  have r3 := (block3 (c := c) (V m c) t (y 0) (y 1) p0 pc).trans (congrFun (V_main_arg3 m c) _)
  have r4 := (block4 (c := c) (V m c) t (y 0) (y 1) p0 pc).trans (congrFun (V_main_arg3 m c) _)
  have hb := out6_eq (iblk m c 0 t) (iblk m c 1 t) (iblk m c 2 t) (iblk m c 3 t) (iblk m c 4 t) (y 0) (y 1) _ _ _ _ _ r0 r1 r2 r3 r4
  generalize out0_6 (iblk m c 0 t) (iblk m c 1 t) (iblk m c 2 t) (iblk m c 3 t) (iblk m c 4 t) = o at hb ⊢
  show o ((cfg0.win 6).xinj (grid0.coords t) y) = g6 (A0 m c) (A1 m c) (A2 m c) (A3 m c) (((cfg0.win 6).blk t).view.emb y)
  have g0 : ((cfg0.win 6).blk t).view.emb y 0 = (⟨t.val / 4 * 256 + (y 0).val, p0⟩ : Fin 4096) := Fin.ext (by
    show win0_6.index t (0 : Fin 2) * 256 + 1 * (y 0).val = t.val / 4 * 256 + (y 0).val; rw [e0]; omega)
  have g1 : ((cfg0.win 6).blk t).view.emb y 1 = (⟨t.val % 4 * 1024 + (y 1).val, pc⟩ : Fin 4096) := Fin.ext (by
    show win0_6.index t (1 : Fin 2) * 1024 + 1 * (y 1).val = t.val % 4 * 1024 + (y 1).val; rw [e1]; omega)
  refine (congrArg o hx).trans (hb.trans ?_)
  unfold g6
  rw [g0, g1]

/-- Every index lies in the block of a point that writes back. -/
theorem cover6 (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, hft, q0, q1⟩ := onto6 ⟨(i 0).val / 256, by omega⟩ ⟨(i 1).val / 1024, by omega⟩
  refine ⟨t, hft, ?_⟩
  show i ∈ ((View.whole main_v0_1).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; rw [q0]; dsimp only; omega
  | ⟨1, _⟩ => show win0_6.index t (1 : Fin 2) * 1024 ≤ (i 1).val ∧ (i 1).val < win0_6.index t (1 : Fin 2) * 1024 + 1024; rw [q1]; dsimp only; omega

/-- A grid point writes back its block of the result. -/
theorem flushed7 (t : Fin cfg0.N) :
    (dats m 0 c).flushed 7 t = ((cfg0.win 7).blk t).view.read (Elt Ideal) (g7 (A0 m c) (A1 m c) (A2 m c) (A3 m c)) := by
  rw [Value.flushed7]
  obtain ⟨e0, e1⟩ := idx7 t
  have ht : t.val < 64 := lt_of_lt_of_le t.isLt (by decide)
  funext y
  have hya : (y 0).val < 256 := (y 0).isLt
  have hyb : (y 1).val < 1024 := (y 1).isLt
  have p0 : t.val / 4 * 256 + (y 0).val < 4096 := by omega
  have pc : t.val % 4 * 1024 + (y 1).val < 4096 := by omega
  have hx : (cfg0.win 7).xinj (grid0.coords t) y = ix2 (y 0) (y 1) := by
    funext a; apply Fin.ext
    match a with
    | ⟨0, _⟩ => rfl
    | ⟨1, _⟩ => rfl
  have r0 := (block0 (c := c) (V m c) t (y 0) (y 1) p0 pc).trans (congrFun (V_main_arg0 m c) _)
  have r1 := (block1 (c := c) (V m c) t (y 0) (y 1) p0 pc).trans (congrFun (V_main_arg1 m c) _)
  have r2 := (block2 (c := c) (V m c) t (y 0) (y 1) p0 pc).trans (congrFun (V_main_arg2 m c) _)
  have r3 := (block3 (c := c) (V m c) t (y 0) (y 1) p0 pc).trans (congrFun (V_main_arg3 m c) _)
  have r4 := (block4 (c := c) (V m c) t (y 0) (y 1) p0 pc).trans (congrFun (V_main_arg3 m c) _)
  have hb := out7_eq (iblk m c 0 t) (iblk m c 1 t) (iblk m c 2 t) (iblk m c 3 t) (iblk m c 4 t) (y 0) (y 1) _ _ _ _ _ r0 r1 r2 r3 r4
  generalize out0_7 (iblk m c 0 t) (iblk m c 1 t) (iblk m c 2 t) (iblk m c 3 t) (iblk m c 4 t) = o at hb ⊢
  show o ((cfg0.win 7).xinj (grid0.coords t) y) = g7 (A0 m c) (A1 m c) (A2 m c) (A3 m c) (((cfg0.win 7).blk t).view.emb y)
  have g0 : ((cfg0.win 7).blk t).view.emb y 0 = (⟨t.val / 4 * 256 + (y 0).val, p0⟩ : Fin 4096) := Fin.ext (by
    show win0_7.index t (0 : Fin 2) * 256 + 1 * (y 0).val = t.val / 4 * 256 + (y 0).val; rw [e0]; omega)
  have g1 : ((cfg0.win 7).blk t).view.emb y 1 = (⟨t.val % 4 * 1024 + (y 1).val, pc⟩ : Fin 4096) := Fin.ext (by
    show win0_7.index t (1 : Fin 2) * 1024 + 1 * (y 1).val = t.val % 4 * 1024 + (y 1).val; rw [e1]; omega)
  refine (congrArg o hx).trans (hb.trans ?_)
  unfold g7
  rw [g0, g1]

/-- Every index lies in the block of a point that writes back. -/
theorem cover7 (i : S4096x4096.Idx) : ∃ t : Fin cfg0.N, (cfg0.win 7).flush t = true ∧ i ∈ ((cfg0.win 7).blk t).view.set := by
  have hi0 : (i 0).val < 4096 := (i 0).isLt
  have hi1 : (i 1).val < 4096 := (i 1).isLt
  obtain ⟨t, hft, q0, q1⟩ := onto7 ⟨(i 0).val / 256, by omega⟩ ⟨(i 1).val / 1024, by omega⟩
  refine ⟨t, hft, ?_⟩
  show i ∈ ((View.whole main_v0_2).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; rw [q0]; dsimp only; omega
  | ⟨1, _⟩ => show win0_7.index t (1 : Fin 2) * 1024 ≤ (i 1).val ∧ (i 1).val < win0_7.index t (1 : Fin 2) * 1024 + 1024; rw [q1]; dsimp only; omega

/-- A grid point writes back its block of the result. -/
theorem flushed8 (t : Fin cfg0.N) :
    (dats m 0 c).flushed 8 t = ((cfg0.win 8).blk t).view.read (Elt Ideal) (g8 (A0 m c) (A1 m c) (A2 m c) (A3 m c)) := by
  rw [Value.flushed8]
  obtain ⟨e0, e1⟩ := idx8 t
  have ht : t.val < 64 := lt_of_lt_of_le t.isLt (by decide)
  funext y
  have hya : (y 0).val < 256 := (y 0).isLt
  have hyb : (y 1).val < 1024 := (y 1).isLt
  have p0 : t.val / 4 * 256 + (y 0).val < 4096 := by omega
  have pc : t.val % 4 * 1024 + (y 1).val < 4096 := by omega
  have hx : (cfg0.win 8).xinj (grid0.coords t) y = ix2 (y 0) (y 1) := by
    funext a; apply Fin.ext
    match a with
    | ⟨0, _⟩ => rfl
    | ⟨1, _⟩ => rfl
  have r0 := (block0 (c := c) (V m c) t (y 0) (y 1) p0 pc).trans (congrFun (V_main_arg0 m c) _)
  have r1 := (block1 (c := c) (V m c) t (y 0) (y 1) p0 pc).trans (congrFun (V_main_arg1 m c) _)
  have r2 := (block2 (c := c) (V m c) t (y 0) (y 1) p0 pc).trans (congrFun (V_main_arg2 m c) _)
  have r3 := (block3 (c := c) (V m c) t (y 0) (y 1) p0 pc).trans (congrFun (V_main_arg3 m c) _)
  have r4 := (block4 (c := c) (V m c) t (y 0) (y 1) p0 pc).trans (congrFun (V_main_arg3 m c) _)
  have hb := out8_eq (iblk m c 0 t) (iblk m c 1 t) (iblk m c 2 t) (iblk m c 3 t) (iblk m c 4 t) (y 0) (y 1) _ _ _ _ _ r0 r1 r2 r3 r4
  generalize out0_8 (iblk m c 0 t) (iblk m c 1 t) (iblk m c 2 t) (iblk m c 3 t) (iblk m c 4 t) = o at hb ⊢
  show o ((cfg0.win 8).xinj (grid0.coords t) y) = g8 (A0 m c) (A1 m c) (A2 m c) (A3 m c) (((cfg0.win 8).blk t).view.emb y)
  have g0 : ((cfg0.win 8).blk t).view.emb y 0 = (⟨t.val / 4 * 256 + (y 0).val, p0⟩ : Fin 4096) := Fin.ext (by
    show win0_8.index t (0 : Fin 2) * 256 + 1 * (y 0).val = t.val / 4 * 256 + (y 0).val; rw [e0]; omega)
  have g1 : ((cfg0.win 8).blk t).view.emb y 1 = (⟨t.val % 4 * 1024 + (y 1).val, pc⟩ : Fin 4096) := Fin.ext (by
    show win0_8.index t (1 : Fin 2) * 1024 + 1 * (y 1).val = t.val % 4 * 1024 + (y 1).val; rw [e1]; omega)
  refine (congrArg o hx).trans (hb.trans ?_)
  unfold g8
  rw [g0, g1]

/-- Every index lies in the block of a point that writes back. -/
theorem cover8 (i : S4096x4096.Idx) : ∃ t : Fin cfg0.N, (cfg0.win 8).flush t = true ∧ i ∈ ((cfg0.win 8).blk t).view.set := by
  have hi0 : (i 0).val < 4096 := (i 0).isLt
  have hi1 : (i 1).val < 4096 := (i 1).isLt
  obtain ⟨t, hft, q0, q1⟩ := onto8 ⟨(i 0).val / 256, by omega⟩ ⟨(i 1).val / 1024, by omega⟩
  refine ⟨t, hft, ?_⟩
  show i ∈ ((View.whole main_v0_3).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + 256; rw [q0]; dsimp only; omega
  | ⟨1, _⟩ => show win0_8.index t (1 : Fin 2) * 1024 ≤ (i 1).val ∧ (i 1).val < win0_8.index t (1 : Fin 2) * 1024 + 1024; rw [q1]; dsimp only; omega

/-- The kernel ends with the results, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = g5 (A0 m c) (A1 m c) (A2 m c) (A3 m c)
      ∧ r.2.mem ((c : Thread nD τ).loc main_v0_1) = g6 (A0 m c) (A1 m c) (A2 m c) (A3 m c)
      ∧ r.2.mem ((c : Thread nD τ).loc main_v0_2) = g7 (A0 m c) (A1 m c) (A2 m c) (A3 m c)
      ∧ r.2.mem ((c : Thread nD τ).loc main_v0_3) = g8 (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 5 _ (fun t hf => flushed5 m c t) cover5), (h c).2.1.trans ((dats m 0 c).arrAt_eq_of_cover 6 _ (fun t hf => flushed6 m c t) cover6), (h c).2.2.1.trans ((dats m 0 c).arrAt_eq_of_cover 7 _ (fun t hf => flushed7 m c t) cover7), (h c).2.2.2.1.trans ((dats m 0 c).arrAt_eq_of_cover 8 _ (fun t hf => flushed8 m c t) cover8), (h c).2.2.2.2⟩)
    (Value.run_blocks m ρ)

end Cert.Kernel22Ideal.Gates

namespace Cert.Reference22Ideal.Gates

open Cert.Reference22Ideal Cert.Reference22Ideal.Gen
open Cert.Kernel22Ideal.Gates (f5 f6 f7 f8 sg one colA colB)

/-- An array is known by its elements. -/
theorem whole (w g : Vec Ideal S4096x4096 .bf16) (e : ∀ (i : Fin 4096) (j : Fin 4096), w (ix2 i j) = g (ix2 i j)) : w = g := by
  funext i
  have hi : i = ix2 (i 0) (i 1) := by
    funext d
    match d with
    | ⟨0, _⟩ => rfl
    | ⟨1, _⟩ => rfl
  rw [hi]
  exact e (i 0) (i 1)

variable (a0 : Vec Ideal S4096x4096 .bf16) (a1 : Vec Ideal S4096x4096 .f32) (a2 : Vec Ideal S4096x4096 .f32) (a3 : Vec Ideal S4096x8192 .f32)

/-- The reference's result, element by element. -/
theorem host5 (i : Fin 4096) (j : Fin 4096) :
    (truncf .bf16 (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 0] a3 slices_S4096x8192_S4096x4096_0_0))))) (extf .f32 a0 bitsLt_bf16_f32)) bitsLt_bf16_f32 : FVec Ideal S4096x4096 .bf16) (ix2 i j)
      = f5 (a0 (ix2 i j)) (a1 (ix2 i j)) (a2 (ix2 i j)) (a3 (ix2 i (colA j))) (a3 (ix2 i (colB j))) := by
  simp only [f5, sg, one, colA, colB]
  pointwise
  exact mul_comm _ _

theorem value5 (w : Vec Ideal S4096x4096 .bf16) (e : ∀ (i : Fin 4096) (j : Fin 4096), w (ix2 i j) = f5 (a0 (ix2 i j)) (a1 (ix2 i j)) (a2 (ix2 i j)) (a3 (ix2 i (colA j))) (a3 (ix2 i (colB j)))) :
    w = Cert.Kernel22Ideal.Gates.g5 a0 a1 a2 a3 :=
  whole w _ e

/-- The reference's result, element by element. -/
theorem host6 (i : Fin 4096) (j : Fin 4096) :
    (truncf .bf16 (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 4096] a3 slices_S4096x8192_S4096x4096_0_4096))))) (extf .f32 a0 bitsLt_bf16_f32)) bitsLt_bf16_f32 : FVec Ideal S4096x4096 .bf16) (ix2 i j)
      = f6 (a0 (ix2 i j)) (a1 (ix2 i j)) (a2 (ix2 i j)) (a3 (ix2 i (colA j))) (a3 (ix2 i (colB j))) := by
  simp only [f6, sg, one, colA, colB]
  pointwise
  exact mul_comm _ _

theorem value6 (w : Vec Ideal S4096x4096 .bf16) (e : ∀ (i : Fin 4096) (j : Fin 4096), w (ix2 i j) = f6 (a0 (ix2 i j)) (a1 (ix2 i j)) (a2 (ix2 i j)) (a3 (ix2 i (colA j))) (a3 (ix2 i (colB j)))) :
    w = Cert.Kernel22Ideal.Gates.g6 a0 a1 a2 a3 :=
  whole w _ e

/-- The reference's result, element by element. -/
theorem host7 (i : Fin 4096) (j : Fin 4096) :
    (truncf .bf16 (mulf (mulf (extf .f32 a0 bitsLt_bf16_f32) a1) (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 0] a3 slices_S4096x8192_S4096x4096_0_0))))) (subf (broadcastInDim S4096x4096 ![] bcast_S_S4096x4096 (constant S_ .f32 0x3F800000#32)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 0] a3 slices_S4096x8192_S4096x4096_0_0)))))))) bitsLt_bf16_f32 : FVec Ideal S4096x4096 .bf16) (ix2 i j)
      = f7 (a0 (ix2 i j)) (a1 (ix2 i j)) (a2 (ix2 i j)) (a3 (ix2 i (colA j))) (a3 (ix2 i (colB j))) := by
  simp only [f7, sg, one, colA, colB]
  pointwise
  exact (mul_assoc _ _ _).symm

theorem value7 (w : Vec Ideal S4096x4096 .bf16) (e : ∀ (i : Fin 4096) (j : Fin 4096), w (ix2 i j) = f7 (a0 (ix2 i j)) (a1 (ix2 i j)) (a2 (ix2 i j)) (a3 (ix2 i (colA j))) (a3 (ix2 i (colB j)))) :
    w = Cert.Kernel22Ideal.Gates.g7 a0 a1 a2 a3 :=
  whole w _ e

/-- The reference's result, element by element. -/
theorem host8 (i : Fin 4096) (j : Fin 4096) :
    (truncf .bf16 (mulf (mulf (extf .f32 a0 bitsLt_bf16_f32) a2) (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 4096] a3 slices_S4096x8192_S4096x4096_0_4096))))) (subf (broadcastInDim S4096x4096 ![] bcast_S_S4096x4096 (constant S_ .f32 0x3F800000#32)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 4096] a3 slices_S4096x8192_S4096x4096_0_4096)))))))) bitsLt_bf16_f32 : FVec Ideal S4096x4096 .bf16) (ix2 i j)
      = f8 (a0 (ix2 i j)) (a1 (ix2 i j)) (a2 (ix2 i j)) (a3 (ix2 i (colA j))) (a3 (ix2 i (colB j))) := by
  simp only [f8, sg, one, colA, colB]
  pointwise
  exact (mul_assoc _ _ _).symm

theorem value8 (w : Vec Ideal S4096x4096 .bf16) (e : ∀ (i : Fin 4096) (j : Fin 4096), w (ix2 i j) = f8 (a0 (ix2 i j)) (a1 (ix2 i j)) (a2 (ix2 i j)) (a3 (ix2 i (colA j))) (a3 (ix2 i (colB j)))) :
    w = Cert.Kernel22Ideal.Gates.g8 a0 a1 a2 a3 :=
  whole w _ e

end Cert.Reference22Ideal.Gates

namespace Cert.GateBwd

/-- The two programs end with the same results. -/
theorem algebraic : Cert.algebraic_Kernel22Ideal_Reference22Ideal (hKernel22Ideal := Cert.Kernel22Ideal.Gen.facts)
    (hReference22Ideal := Cert.Reference22Ideal.Gen.facts) := by
  intro m g m' g' _ hag
  refine ⟨fun c => Cert.Kernel22Ideal.Gates.g5 (Cert.Kernel22Ideal.Gates.A0 m c) (Cert.Kernel22Ideal.Gates.A1 m c) (Cert.Kernel22Ideal.Gates.A2 m c) (Cert.Kernel22Ideal.Gates.A3 m c), fun c => Cert.Kernel22Ideal.Gates.g6 (Cert.Kernel22Ideal.Gates.A0 m c) (Cert.Kernel22Ideal.Gates.A1 m c) (Cert.Kernel22Ideal.Gates.A2 m c) (Cert.Kernel22Ideal.Gates.A3 m c), fun c => Cert.Kernel22Ideal.Gates.g7 (Cert.Kernel22Ideal.Gates.A0 m c) (Cert.Kernel22Ideal.Gates.A1 m c) (Cert.Kernel22Ideal.Gates.A2 m c) (Cert.Kernel22Ideal.Gates.A3 m c), fun c => Cert.Kernel22Ideal.Gates.g8 (Cert.Kernel22Ideal.Gates.A0 m c) (Cert.Kernel22Ideal.Gates.A1 m c) (Cert.Kernel22Ideal.Gates.A2 m c) (Cert.Kernel22Ideal.Gates.A3 m c),
    Cert.Kernel22Ideal.Gates.run m g, ?_⟩
  refine (θ_run _ _ _).mono (fun r h c => ⟨?_, ?_, ?_, ?_, (h c).2.2.2.2⟩) (Cert.Reference22Ideal.Value.run (F := Ideal) m' g')
  · refine (h c).1.trans ((Cert.Reference22Ideal.Gates.value5 (m' (c.tc.loc Cert.Reference22Ideal.main_arg0)) (m' (c.tc.loc Cert.Reference22Ideal.main_arg1)) (m' (c.tc.loc Cert.Reference22Ideal.main_arg2)) (m' (c.tc.loc Cert.Reference22Ideal.main_arg3)) _ (Cert.Reference22Ideal.Gates.host5 (m' (c.tc.loc Cert.Reference22Ideal.main_arg0)) (m' (c.tc.loc Cert.Reference22Ideal.main_arg1)) (m' (c.tc.loc Cert.Reference22Ideal.main_arg2)) (m' (c.tc.loc Cert.Reference22Ideal.main_arg3)))).trans ?_)
    unfold Cert.Kernel22Ideal.Gates.A0 Cert.Kernel22Ideal.Gates.A1 Cert.Kernel22Ideal.Gates.A2 Cert.Kernel22Ideal.Gates.A3
    rw [(hag c).1, (hag c).2.1, (hag c).2.2.1, (hag c).2.2.2]
  · refine (h c).2.1.trans ((Cert.Reference22Ideal.Gates.value6 (m' (c.tc.loc Cert.Reference22Ideal.main_arg0)) (m' (c.tc.loc Cert.Reference22Ideal.main_arg1)) (m' (c.tc.loc Cert.Reference22Ideal.main_arg2)) (m' (c.tc.loc Cert.Reference22Ideal.main_arg3)) _ (Cert.Reference22Ideal.Gates.host6 (m' (c.tc.loc Cert.Reference22Ideal.main_arg0)) (m' (c.tc.loc Cert.Reference22Ideal.main_arg1)) (m' (c.tc.loc Cert.Reference22Ideal.main_arg2)) (m' (c.tc.loc Cert.Reference22Ideal.main_arg3)))).trans ?_)
    unfold Cert.Kernel22Ideal.Gates.A0 Cert.Kernel22Ideal.Gates.A1 Cert.Kernel22Ideal.Gates.A2 Cert.Kernel22Ideal.Gates.A3
    rw [(hag c).1, (hag c).2.1, (hag c).2.2.1, (hag c).2.2.2]
  · refine (h c).2.2.1.trans ((Cert.Reference22Ideal.Gates.value7 (m' (c.tc.loc Cert.Reference22Ideal.main_arg0)) (m' (c.tc.loc Cert.Reference22Ideal.main_arg1)) (m' (c.tc.loc Cert.Reference22Ideal.main_arg2)) (m' (c.tc.loc Cert.Reference22Ideal.main_arg3)) _ (Cert.Reference22Ideal.Gates.host7 (m' (c.tc.loc Cert.Reference22Ideal.main_arg0)) (m' (c.tc.loc Cert.Reference22Ideal.main_arg1)) (m' (c.tc.loc Cert.Reference22Ideal.main_arg2)) (m' (c.tc.loc Cert.Reference22Ideal.main_arg3)))).trans ?_)
    unfold Cert.Kernel22Ideal.Gates.A0 Cert.Kernel22Ideal.Gates.A1 Cert.Kernel22Ideal.Gates.A2 Cert.Kernel22Ideal.Gates.A3
    rw [(hag c).1, (hag c).2.1, (hag c).2.2.1, (hag c).2.2.2]
  · refine (h c).2.2.2.1.trans ((Cert.Reference22Ideal.Gates.value8 (m' (c.tc.loc Cert.Reference22Ideal.main_arg0)) (m' (c.tc.loc Cert.Reference22Ideal.main_arg1)) (m' (c.tc.loc Cert.Reference22Ideal.main_arg2)) (m' (c.tc.loc Cert.Reference22Ideal.main_arg3)) _ (Cert.Reference22Ideal.Gates.host8 (m' (c.tc.loc Cert.Reference22Ideal.main_arg0)) (m' (c.tc.loc Cert.Reference22Ideal.main_arg1)) (m' (c.tc.loc Cert.Reference22Ideal.main_arg2)) (m' (c.tc.loc Cert.Reference22Ideal.main_arg3)))).trans ?_)
    unfold Cert.Kernel22Ideal.Gates.A0 Cert.Kernel22Ideal.Gates.A1 Cert.Kernel22Ideal.Gates.A2 Cert.Kernel22Ideal.Gates.A3
    rw [(hag c).1, (hag c).2.1, (hag c).2.2.1, (hag c).2.2.2]

end Cert.GateBwd

end
-- ==== Proof.FiniteSwiglu.lean ====
/-
  The precondition of the SwiGLU gradient read back: no element of an argument is infinite.
-/
module

public import proofs.«01_k».proof.Pre_finite_swiglu
public import Idealize.ShloMosaic.Lib.Pointwise
public import Idealize.ShloMosaic.Lib.ReduceAll

@[expose] public section

noncomputable section

open Idealize.ShloMosaic

namespace Cert.Pre_finite_swiglu

/-- The shape relations of the precondition's operations. -/
theorem facts : Facts where
  bitsLt_bf16_f32 := by decide
  bcast_S_S4096x11264 := by decide
  reducesTo_S4096x11264_S_d0_1 := by decide
  h_S_ := by decide
  bcast_S_S4096x22528 := by decide
  reducesTo_S4096x22528_S_d0_1 := by decide

instance : Subsingleton S_.Idx := ⟨fun a b => funext fun d => d.elim0⟩

theorem inf_top : Ideal.ofBits .f32 0x7F800000#32 = (⊤ : EReal) := by simp [Ideal.ofBits, Ideal.ieee]

/-- An element whose absolute value is below infinity is a real number. -/
theorem finite_of_abs (a : EReal) (h : Ideal.cmp .olt (max a (-a)) (Ideal.ofBits .f32 0x7F800000#32) = 1#1) : a ≠ ⊤ ∧ a ≠ ⊥ := by
  rw [inf_top] at h
  constructor
  · rintro rfl; revert h; simp [Ideal.cmp]
  · rintro rfl; revert h; simp [Ideal.cmp]

theorem elements {s : Shape} (x : FVec Ideal s .f32) (hb : S_.BroadcastsInDim s (![] : Fin 0 → Fin s.rank)) {axes : List (Fin s.rank)}
    (hr : s.ReducesTo axes S_) (hS : 0 < S_.numel) (j : S_.Idx)
    (e : Host.reduce IntOp.andi (cmpf .olt (Host.absf x) (broadcastInDim s ![] hb (constant S_ .f32 0x7F800000#32)))
      (constantI S_ 1 1#1) hr hS j = 1#1) (i : s.Idx) : x i ≠ (⊤ : EReal) ∧ x i ≠ (⊥ : EReal) :=
  finite_of_abs (x i) (Host.reduce_andi_all _ _ _ _ j e i)

/-- Where the precondition holds, both arguments hold real numbers. -/
theorem reals (a0 : FVec Ideal S4096x11264 .bf16) (a1 : FVec Ideal S4096x22528 .bf16)
    (h : letI := facts; fn (F := Ideal) a0 a1 = fun _ => 1#1) :
    (∀ i, a0 i ≠ (⊤ : EReal) ∧ a0 i ≠ (⊥ : EReal)) ∧ (∀ i, a1 i ≠ (⊤ : EReal) ∧ a1 i ≠ (⊥ : EReal)) := by
  letI := facts
  have e := congrFun h (Shape.Idx.first facts.h_S_)
  unfold fn at e
  obtain ⟨e0, e1⟩ := IntOp.andi_eq_one.1 e
  exact ⟨fun i => elements (extf .f32 a0 facts.bitsLt_bf16_f32) _ _ _ _ e0 i,
    fun i => elements (extf .f32 a1 facts.bitsLt_bf16_f32) _ _ _ _ e1 i⟩

end Cert.Pre_finite_swiglu

end
-- ==== Proof.SwigluBwd.lean ====
/-
  The gradient of SwiGLU: the tiled kernel and the differentiated lines have the same elements.
-/
module

public import proofs.«01_k».proof.Defs
public import proofs.«01_k».proof.Proof.Gen.Kernel23Ideal.Value
public import proofs.«01_k».proof.Proof.Gen.Reference23Ideal.Run
public import proofs.«01_k».proof.Proof.Coe
public import proofs.«01_k».proof.Proof.FiniteSwiglu
public import Idealize.ShloMosaic.Lib.IdealHost
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel23Ideal.Swiglu

open Cert.Kernel23Ideal Cert.Kernel23Ideal.Gen

/-- The number one, as the programs write it. -/
def one : EReal := Ideal.ofBits .f32 0x3F800000#32

/-- The logistic function. -/
def sg (x : EReal) : EReal := Ideal.div one (one + Ideal.exp (-x))

/-- The gradient at the gate and at the up value, of the hidden gradient `d`, the gate `g` and the up value `u`. -/
def dG (d g u : EReal) : EReal := d * u * sg g * (one + g * (one - sg g))
def dU (d g : EReal) : EReal := d * g * sg g

/-- The gate's gradient as the chain rule gives it. -/
def chain (d g u : EReal) : EReal := d * u * sg g + g * (d * u) * (sg g * (one - sg g))

theorem one_coe : one = ((1 : ℝ) : EReal) := by
  unfold one
  rw [Ideal.ofBits_one_f32]
  rfl

/-- At a real number the logistic function is real. -/
theorem sg_real (r : ℝ) : ∃ s : ℝ, sg (r : EReal) = (s : EReal) := by
  have h : (1 : ℝ) + Real.exp (-r) ≠ 0 := by positivity
  refine ⟨1 / (1 + Real.exp (-r)), ?_⟩
  rw [← Cert.Coe.div_coe _ _ h]
  unfold sg
  rw [one_coe, EReal.coe_add]
  rfl

/-- At real numbers the two forms of the gate's gradient agree. -/
theorem chain_eq (d g u : EReal) (hd : d ≠ ⊤ ∧ d ≠ ⊥) (hg : g ≠ ⊤ ∧ g ≠ ⊥) (hu : u ≠ ⊤ ∧ u ≠ ⊥) : chain d g u = dG d g u := by
  obtain ⟨d, rfl⟩ := Cert.Coe.coe_of_abs_lt d hd.1 hd.2
  obtain ⟨g, rfl⟩ := Cert.Coe.coe_of_abs_lt g hg.1 hg.2
  obtain ⟨u, rfl⟩ := Cert.Coe.coe_of_abs_lt u hu.1 hu.2
  obtain ⟨s, hs⟩ := sg_real g
  unfold chain dG
  rw [hs, one_coe]
  simp only [← EReal.coe_mul, ← EReal.coe_sub, ← EReal.coe_add]
  congr 1
  ring

/-- A slot of a block: its gate's columns, then its up columns; `md` is a column's place in its half. -/
def lo (l : Fin 2816) : Fin 5632 := ⟨l.val, by omega⟩
def hi (l : Fin 2816) : Fin 5632 := ⟨2816 + l.val, by omega⟩
def md (l : Fin 5632) : Fin 2816 := ⟨l.val % 2816, by omega⟩

/-- The columns of the whole array that hold the gate and the up value of a hidden column, and the hidden column of a
    column. -/
def gcol (j : Fin 11264) : Fin 22528 := ⟨j.val / 2816 * 5632 + j.val % 2816, by omega⟩
def ucol (j : Fin 11264) : Fin 22528 := ⟨j.val / 2816 * 5632 + (2816 + j.val % 2816), by omega⟩
def hcol (j : Fin 22528) : Fin 11264 := ⟨j.val / 5632 * 2816 + j.val % 2816, by omega⟩

/-- A block of the gradient, of the block of the hidden gradient and the block of the gates and up values. -/
def blockGrad (x0 : Vec Ideal S128x2816 .bf16) (x1 : Vec Ideal S128x5632 .bf16) : Vec Ideal S128x5632 .bf16 := fun y =>
  if (y 1).val < 2816 then dG (x0 (ix2 (y 0) (md (y 1)))) (x1 (ix2 (y 0) (lo (md (y 1))))) (x1 (ix2 (y 0) (hi (md (y 1)))))
  else dU (x0 (ix2 (y 0) (md (y 1)))) (x1 (ix2 (y 0) (lo (md (y 1)))))

theorem gate_at (x0 : Vec Ideal S128x2816 .bf16) (x1 : Vec Ideal S128x5632 .bf16) (i : Fin 128) (l : Fin 2816) :
    k0_pay4 (View.ld x1 r0_0) (View.ld x1 r0_1) (View.ld x0 r0_2) (ix2 i l)
      = dG (x0 (ix2 i l)) (x1 (ix2 i (lo l))) (x1 (ix2 i (hi l))) := by
  have hz : (![0, 0] : Fin 2 → Nat) = fun _ => 0 := by decide
  have e2 : View.ld x0 r0_2 = x0 := View.ld_unit_zero (S := S128x2816) hz _ x0
  rw [e2]
  unfold dG sg one lo hi
  simp only [View.ld_unit]
  pointwise [k0_pay4, k0_pay3, k0_pay2, k0_pay1]
  simp only [sub_eq_add_neg, zero_add]

theorem up_at (x0 : Vec Ideal S128x2816 .bf16) (x1 : Vec Ideal S128x5632 .bf16) (i : Fin 128) (l : Fin 2816) :
    k0_pay5 (View.ld x1 r0_0) (View.ld x0 r0_2) (ix2 i l) = dU (x0 (ix2 i l)) (x1 (ix2 i (lo l))) := by
  have hz : (![0, 0] : Fin 2 → Nat) = fun _ => 0 := by decide
  have e2 : View.ld x0 r0_2 = x0 := View.ld_unit_zero (S := S128x2816) hz _ x0
  rw [e2]
  unfold dU sg one lo
  simp only [View.ld_unit]
  pointwise [k0_pay5, k0_pay3, k0_pay2, k0_pay1]
  simp only [sub_eq_add_neg, zero_add]

theorem ix_eta (x : S128x2816.Idx) : x = ix2 (x 0) (x 1) := by
  funext a
  match a with
  | ⟨0, _⟩ => rfl
  | ⟨1, _⟩ => rfl

/-- The two stores of a grid point leave the block of the gradient. -/
theorem out_at (x0 : Vec Ideal S128x2816 .bf16) (x1 : Vec Ideal S128x5632 .bf16) : out0_2 x0 x1 = blockGrad x0 x1 := by
  funext y
  unfold out0_2
  refine View.canon_apply_of_pieces (blockGrad x0 x1) _ ?_ y (cover0_2 _ _ y)
  intro p hp x
  simp only [List.mem_cons, List.not_mem_nil, or_false] at hp
  rcases hp with rfl | rfl
  · have h1 : (x 1).val < 2816 := (x 1).isLt
    have f0 : r0_1.emb x 0 = (x 0 : Fin 128) := Fin.ext (by show 0 + 1 * (x 0).val = (x 0).val; omega)
    have f1 : r0_1.emb x 1 = (hi (x 1) : Fin 5632) := Fin.ext (by show 2816 + 1 * (x 1).val = 2816 + (x 1).val; omega)
    have fm : md (hi (x 1)) = x 1 := Fin.ext (by show (2816 + (x 1).val) % 2816 = (x 1).val; omega)
    refine ((congrArg _ (ix_eta x)).trans (up_at x0 x1 (x 0) (x 1))).trans ?_
    unfold blockGrad
    rw [f0, f1, fm, if_neg (by show ¬ 2816 + (x 1).val < 2816; omega)]
  · have h1 : (x 1).val < 2816 := (x 1).isLt
    have f0 : r0_0.emb x 0 = (x 0 : Fin 128) := Fin.ext (by show 0 + 1 * (x 0).val = (x 0).val; omega)
    have f1 : r0_0.emb x 1 = (lo (x 1) : Fin 5632) := Fin.ext (by show 0 + 1 * (x 1).val = (x 1).val; omega)
    have fm : md (lo (x 1)) = x 1 := Fin.ext (by show (x 1).val % 2816 = (x 1).val; omega)
    refine ((congrArg _ (ix_eta x)).trans (gate_at x0 x1 (x 0) (x 1))).trans ?_
    unfold blockGrad
    rw [f0, f1, fm, if_pos (by show (x 1).val < 2816; omega)]

theorem out_eq (x0 : Vec Ideal S128x2816 .bf16) (x1 : Vec Ideal S128x5632 .bf16) (i : Fin 128) (l : Fin 5632) (s0 s1 s2 : EReal)
    (h0 : x0 (ix2 i (md l)) = s0) (h1 : x1 (ix2 i (lo (md l))) = s1) (h2 : x1 (ix2 i (hi (md l))) = s2) :
    out0_2 x0 x1 (ix2 i l) = if l.val < 2816 then dG s0 s1 s2 else dU s0 s1 := by
  rw [out_at, ← h0, ← h1, ← h2]
  unfold blockGrad
  rfl

/-- The gradient of the gates and up values. -/
def grad (d : Vec Ideal S4096x11264 .bf16) (a : Vec Ideal S4096x22528 .bf16) : Vec Ideal S4096x22528 .bf16 := fun i =>
  if (i 1).val % 5632 < 2816 then dG (d (ix2 (i 0) (hcol (i 1)))) (a (ix2 (i 0) (gcol (hcol (i 1))))) (a (ix2 (i 0) (ucol (hcol (i 1)))))
  else dU (d (ix2 (i 0) (hcol (i 1)))) (a (ix2 (i 0) (gcol (hcol (i 1)))))

variable (m : (ℓ : Loc nD τ sig) → Buf (Elt Ideal) ℓ) (c : Dev nD)

abbrev A0 : Vec Ideal S4096x11264 .bf16 := m ((c : Thread nD τ).loc main_arg0)
abbrev A1 : Vec Ideal S4096x22528 .bf16 := m ((c : Thread nD τ).loc main_arg1)

theorem idx0 : ∀ t : Fin grid0.N, win0_0.index t (0 : Fin 2) = t.val / 4 ∧ win0_0.index t (1 : Fin 2) = t.val % 4 := by decide +kernel

theorem idx1 : ∀ t : Fin grid0.N, win0_1.index t (0 : Fin 2) = t.val / 4 ∧ win0_1.index t (1 : Fin 2) = t.val % 4 := by decide +kernel

theorem idx2 : ∀ t : Fin grid0.N, win0_2.index t (0 : Fin 2) = t.val / 4 ∧ win0_2.index t (1 : Fin 2) = t.val % 4 := by decide +kernel

theorem onto : ∀ (p : Fin 32) (q : Fin 4), ∃ t : Fin cfg0.N, (cfg0.win 2).flush t = true ∧
    win0_2.index t (0 : Fin 2) = p.val ∧ win0_2.index t (1 : Fin 2) = q.val := by decide +kernel

section Blocks

variable {c}
variable (W : (b : Ref sig .tc) → Buf (Elt Ideal) ((c : Thread nD τ).loc b)) (t : Fin cfg0.N)

theorem block0 (r : Fin 128) (l : Fin 2816) (q : Fin 11264) (hq : q.val = t.val % 4 * 2816 + l.val) (p0) :
    ((cfg0.win 0).blk t).view.read (Elt Ideal) (W (Pipeline.arrRef spec0 0)) (ix2 r l)
      = W main_arg0 (ix2 ⟨t.val / 4 * 128 + r.val, p0⟩ q) := by
  obtain ⟨e0, e1⟩ := idx0 t
  show W main_arg0 (((cfg0.win 0).blk t).view.emb (ix2 r l)) = _
  refine congrArg _ (funext fun a => Fin.ext ?_)
  match a with
  | ⟨0, _⟩ => show win0_0.index t (0 : Fin 2) * 128 + 1 * r.val = t.val / 4 * 128 + r.val; rw [e0]; omega
  | ⟨1, _⟩ => show win0_0.index t (1 : Fin 2) * 2816 + 1 * l.val = q.val; rw [e1, hq]; omega

theorem block1 (r : Fin 128) (l : Fin 5632) (q : Fin 22528) (hq : q.val = t.val % 4 * 5632 + l.val) (p0) :
    ((cfg0.win 1).blk t).view.read (Elt Ideal) (W (Pipeline.arrRef spec0 1)) (ix2 r l)
      = W main_arg1 (ix2 ⟨t.val / 4 * 128 + r.val, p0⟩ q) := by
  obtain ⟨e0, e1⟩ := idx1 t
  show W main_arg1 (((cfg0.win 1).blk t).view.emb (ix2 r l)) = _
  refine congrArg _ (funext fun a => Fin.ext ?_)
  match a with
  | ⟨0, _⟩ => show win0_1.index t (0 : Fin 2) * 128 + 1 * r.val = t.val / 4 * 128 + r.val; rw [e0]; omega
  | ⟨1, _⟩ => show win0_1.index t (1 : Fin 2) * 5632 + 1 * l.val = q.val; rw [e1, hq]; omega

end Blocks

/-- A grid point writes back its block of the gradient. -/
theorem flushed (t : Fin cfg0.N) :
    (dats m 0 c).flushed 2 t = ((cfg0.win 2).blk t).view.read (Elt Ideal) (grad (A0 m c) (A1 m c)) := by
  rw [Value.flushed2]
  obtain ⟨e0, e1⟩ := idx2 t
  have ht : t.val < 128 := lt_of_lt_of_le t.isLt (by decide)
  funext y
  have hya : (y 0).val < 128 := (y 0).isLt
  have hyb : (y 1).val < 5632 := (y 1).isLt
  have p0 : t.val / 4 * 128 + (y 0).val < 4096 := by omega
  have pc : t.val % 4 * 5632 + (y 1).val < 22528 := by omega
  have hx : (cfg0.win 2).xinj (grid0.coords t) y = ix2 (y 0) (y 1) := by
    funext a; apply Fin.ext
    match a with
    | ⟨0, _⟩ => rfl
    | ⟨1, _⟩ => rfl
  have hh : (t.val % 4 * 5632 + (y 1).val) / 5632 * 2816 + (t.val % 4 * 5632 + (y 1).val) % 2816 = t.val % 4 * 2816 + (y 1).val % 2816 := by omega
  have r0 := (block0 (c := c) (V m c) t (y 0) (md (y 1)) (hcol ⟨t.val % 4 * 5632 + (y 1).val, pc⟩) hh p0).trans (congrFun (V_main_arg0 m c) _)
  have r1 := (block1 (c := c) (V m c) t (y 0) (lo (md (y 1))) (gcol (hcol ⟨t.val % 4 * 5632 + (y 1).val, pc⟩))
    (by show ((t.val % 4 * 5632 + (y 1).val) / 5632 * 2816 + (t.val % 4 * 5632 + (y 1).val) % 2816) / 2816 * 5632
            + ((t.val % 4 * 5632 + (y 1).val) / 5632 * 2816 + (t.val % 4 * 5632 + (y 1).val) % 2816) % 2816 = t.val % 4 * 5632 + (y 1).val % 2816
        rw [hh]; omega)
    p0).trans (congrFun (V_main_arg1 m c) _)
  have r2 := (block1 (c := c) (V m c) t (y 0) (hi (md (y 1))) (ucol (hcol ⟨t.val % 4 * 5632 + (y 1).val, pc⟩))
    (by show ((t.val % 4 * 5632 + (y 1).val) / 5632 * 2816 + (t.val % 4 * 5632 + (y 1).val) % 2816) / 2816 * 5632
            + (2816 + ((t.val % 4 * 5632 + (y 1).val) / 5632 * 2816 + (t.val % 4 * 5632 + (y 1).val) % 2816) % 2816) = t.val % 4 * 5632 + (2816 + (y 1).val % 2816)
        rw [hh]; omega)
    p0).trans (congrFun (V_main_arg1 m c) _)
  have hb := out_eq (iblk m c 0 t) (iblk m c 1 t) (y 0) (y 1) _ _ _ r0 r1 r2
  generalize out0_2 (iblk m c 0 t) (iblk m c 1 t) = o at hb ⊢
  show o ((cfg0.win 2).xinj (grid0.coords t) y) = grad (A0 m c) (A1 m c) (((cfg0.win 2).blk t).view.emb y)
  have g0 : ((cfg0.win 2).blk t).view.emb y 0 = (⟨t.val / 4 * 128 + (y 0).val, p0⟩ : Fin 4096) := Fin.ext (by
    show win0_2.index t (0 : Fin 2) * 128 + 1 * (y 0).val = t.val / 4 * 128 + (y 0).val; rw [e0]; omega)
  have g1 : ((cfg0.win 2).blk t).view.emb y 1 = (⟨t.val % 4 * 5632 + (y 1).val, pc⟩ : Fin 22528) := Fin.ext (by
    show win0_2.index t (1 : Fin 2) * 5632 + 1 * (y 1).val = t.val % 4 * 5632 + (y 1).val; rw [e1]; omega)
  refine (congrArg o hx).trans (hb.trans ?_)
  unfold grad
  rw [g0, g1]
  refine if_congr ?_ rfl rfl
  show (y 1).val < 2816 ↔ (t.val % 4 * 5632 + (y 1).val) % 5632 < 2816
  omega

/-- Every index lies in the block of a point that writes back. -/
theorem cover (i : S4096x22528.Idx) : ∃ t : Fin cfg0.N, (cfg0.win 2).flush t = true ∧ i ∈ ((cfg0.win 2).blk t).view.set := by
  have hi0 : (i 0).val < 4096 := (i 0).isLt
  have hi1 : (i 1).val < 22528 := (i 1).isLt
  obtain ⟨t, hft, q0, q1⟩ := onto ⟨(i 0).val / 128, by omega⟩ ⟨(i 1).val / 5632, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 128 ≤ (i 0).val ∧ (i 0).val < win0_2.index t (0 : Fin 2) * 128 + 128; rw [q0]; dsimp only; omega
  | ⟨1, _⟩ => show win0_2.index t (1 : Fin 2) * 5632 ≤ (i 1).val ∧ (i 1).val < win0_2.index t (1 : Fin 2) * 5632 + 5632; rw [q1]; dsimp only; omega

/-- The kernel ends with the gradient, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = grad (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel23Ideal.Swiglu

namespace Cert.Reference23Ideal.Swiglu

open Cert.Reference23Ideal Cert.Reference23Ideal.Gen
open Cert.Kernel23Ideal.Swiglu (dG dU chain chain_eq sg one gcol ucol hcol grad)

/-- The reference's result at a gate's column and at an up column. -/
theorem host_gate (d : Vec Ideal S4096x11264 .bf16) (a : Vec Ideal S4096x22528 .bf16) (i : Fin 4096) (j : Fin 11264) :
    (truncf .bf16 (shapeCast _ (addf (pad S4096x4x2x2816 ![0, 0, 1, 0] ![0, 0, 0, 0] ![0, 0, 0, 0] (broadcastInDim S4096x4x1x2816 ![0, 1, 3] bcast_S4096x4x2816_S4096x4x1x2816_0_1_3 (mulf (mulf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816) (Host.divf (broadcastInDim S4096x4x2816 ![] bcast_S_S4096x4x2816 (constant S_ .f32 0x3F800000#32)) (addf (broadcastInDim S4096x4x2816 ![] bcast_S_S4096x4x2816 (constant S_ .f32 0x3F800000#32)) (Host.exp (Host.negf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816)))))) (shapeCast _ (extf .f32 d bitsLt_bf16_f32) shapeCasts_S4096x11264_S4096x4x2816))) (constant S_ .f32 0x00000000#32) pads_S4096x4x1x2816_S4096x4x2x2816_000_000_100_000 h_S_) (pad S4096x4x2x2816 ![0, 0, 0, 0] ![0, 0, 1, 0] ![0, 0, 0, 0] (broadcastInDim S4096x4x1x2816 ![0, 1, 3] bcast_S4096x4x2816_S4096x4x1x2816_0_1_3 (addf (mulf (mulf (shapeCast _ (extf .f32 d bitsLt_bf16_f32) shapeCasts_S4096x11264_S4096x4x2816) (shapeCast _ (extractStridedSlice S4096x4x1x2816 ![0, 0, 1, 0] (shapeCast _ (extf .f32 a bitsLt_bf16_f32) shapeCasts_S4096x22528_S4096x4x2x2816) slices_S4096x4x2x2816_S4096x4x1x2816_0_0_1_0) shapeCasts_S4096x4x1x2816_S4096x4x2816)) (Host.divf (broadcastInDim S4096x4x2816 ![] bcast_S_S4096x4x2816 (constant S_ .f32 0x3F800000#32)) (addf (broadcastInDim S4096x4x2816 ![] bcast_S_S4096x4x2816 (constant S_ .f32 0x3F800000#32)) (Host.exp (Host.negf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816)))))) (mulf (mulf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816) (mulf (shapeCast _ (extf .f32 d bitsLt_bf16_f32) shapeCasts_S4096x11264_S4096x4x2816) (shapeCast _ (extractStridedSlice S4096x4x1x2816 ![0, 0, 1, 0] (shapeCast _ (extf .f32 a bitsLt_bf16_f32) shapeCasts_S4096x22528_S4096x4x2x2816) slices_S4096x4x2x2816_S4096x4x1x2816_0_0_1_0) shapeCasts_S4096x4x1x2816_S4096x4x2816))) (mulf (Host.divf (broadcastInDim S4096x4x2816 ![] bcast_S_S4096x4x2816 (constant S_ .f32 0x3F800000#32)) (addf (broadcastInDim S4096x4x2816 ![] bcast_S_S4096x4x2816 (constant S_ .f32 0x3F800000#32)) (Host.exp (Host.negf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816))))) (subf (broadcastInDim S4096x4x2816 ![] bcast_S_S4096x4x2816 (constant S_ .f32 0x3F800000#32)) (Host.divf (broadcastInDim S4096x4x2816 ![] bcast_S_S4096x4x2816 (constant S_ .f32 0x3F800000#32)) (addf (broadcastInDim S4096x4x2816 ![] bcast_S_S4096x4x2816 (constant S_ .f32 0x3F800000#32)) (Host.exp (Host.negf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816)))))))))) (constant S_ .f32 0x00000000#32) pads_S4096x4x1x2816_S4096x4x2x2816_000_000_010_000 h_S_)) shapeCasts_S4096x4x2x2816_S4096x22528) bitsLt_bf16_f32 : FVec Ideal S4096x22528 .bf16) (ix2 i (gcol j)) = chain (d (ix2 i j)) (a (ix2 i (gcol j))) (a (ix2 i (ucol j))) := by
  have h0 : (j.val / 2816 * 5632 + j.val % 2816) / 5632 = j.val / 2816 := by omega
  have h1 : (j.val / 2816 * 5632 + j.val % 2816) / 2816 % 2 = 0 := by omega
  have h2 : (j.val / 2816 * 5632 + j.val % 2816) % 2816 = j.val % 2816 := by omega
  simp only [chain, sg, one, gcol, ucol]
  pointwise
  rw [dif_neg (by omega), dif_pos (by omega), zero_add]
  simp only [h0, h2, Nat.add_assoc]

theorem host_up (d : Vec Ideal S4096x11264 .bf16) (a : Vec Ideal S4096x22528 .bf16) (i : Fin 4096) (j : Fin 11264) :
    (truncf .bf16 (shapeCast _ (addf (pad S4096x4x2x2816 ![0, 0, 1, 0] ![0, 0, 0, 0] ![0, 0, 0, 0] (broadcastInDim S4096x4x1x2816 ![0, 1, 3] bcast_S4096x4x2816_S4096x4x1x2816_0_1_3 (mulf (mulf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816) (Host.divf (broadcastInDim S4096x4x2816 ![] bcast_S_S4096x4x2816 (constant S_ .f32 0x3F800000#32)) (addf (broadcastInDim S4096x4x2816 ![] bcast_S_S4096x4x2816 (constant S_ .f32 0x3F800000#32)) (Host.exp (Host.negf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816)))))) (shapeCast _ (extf .f32 d bitsLt_bf16_f32) shapeCasts_S4096x11264_S4096x4x2816))) (constant S_ .f32 0x00000000#32) pads_S4096x4x1x2816_S4096x4x2x2816_000_000_100_000 h_S_) (pad S4096x4x2x2816 ![0, 0, 0, 0] ![0, 0, 1, 0] ![0, 0, 0, 0] (broadcastInDim S4096x4x1x2816 ![0, 1, 3] bcast_S4096x4x2816_S4096x4x1x2816_0_1_3 (addf (mulf (mulf (shapeCast _ (extf .f32 d bitsLt_bf16_f32) shapeCasts_S4096x11264_S4096x4x2816) (shapeCast _ (extractStridedSlice S4096x4x1x2816 ![0, 0, 1, 0] (shapeCast _ (extf .f32 a bitsLt_bf16_f32) shapeCasts_S4096x22528_S4096x4x2x2816) slices_S4096x4x2x2816_S4096x4x1x2816_0_0_1_0) shapeCasts_S4096x4x1x2816_S4096x4x2816)) (Host.divf (broadcastInDim S4096x4x2816 ![] bcast_S_S4096x4x2816 (constant S_ .f32 0x3F800000#32)) (addf (broadcastInDim S4096x4x2816 ![] bcast_S_S4096x4x2816 (constant S_ .f32 0x3F800000#32)) (Host.exp (Host.negf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816)))))) (mulf (mulf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816) (mulf (shapeCast _ (extf .f32 d bitsLt_bf16_f32) shapeCasts_S4096x11264_S4096x4x2816) (shapeCast _ (extractStridedSlice S4096x4x1x2816 ![0, 0, 1, 0] (shapeCast _ (extf .f32 a bitsLt_bf16_f32) shapeCasts_S4096x22528_S4096x4x2x2816) slices_S4096x4x2x2816_S4096x4x1x2816_0_0_1_0) shapeCasts_S4096x4x1x2816_S4096x4x2816))) (mulf (Host.divf (broadcastInDim S4096x4x2816 ![] bcast_S_S4096x4x2816 (constant S_ .f32 0x3F800000#32)) (addf (broadcastInDim S4096x4x2816 ![] bcast_S_S4096x4x2816 (constant S_ .f32 0x3F800000#32)) (Host.exp (Host.negf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816))))) (subf (broadcastInDim S4096x4x2816 ![] bcast_S_S4096x4x2816 (constant S_ .f32 0x3F800000#32)) (Host.divf (broadcastInDim S4096x4x2816 ![] bcast_S_S4096x4x2816 (constant S_ .f32 0x3F800000#32)) (addf (broadcastInDim S4096x4x2816 ![] bcast_S_S4096x4x2816 (constant S_ .f32 0x3F800000#32)) (Host.exp (Host.negf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816)))))))))) (constant S_ .f32 0x00000000#32) pads_S4096x4x1x2816_S4096x4x2x2816_000_000_010_000 h_S_)) shapeCasts_S4096x4x2x2816_S4096x22528) bitsLt_bf16_f32 : FVec Ideal S4096x22528 .bf16) (ix2 i (ucol j)) = dU (d (ix2 i j)) (a (ix2 i (gcol j))) := by
  have h0 : (j.val / 2816 * 5632 + (2816 + j.val % 2816)) / 5632 = j.val / 2816 := by omega
  have h1 : (j.val / 2816 * 5632 + (2816 + j.val % 2816)) / 2816 % 2 = 1 := by omega
  have h2 : (j.val / 2816 * 5632 + (2816 + j.val % 2816)) % 2816 = j.val % 2816 := by omega
  simp only [dU, sg, one, gcol, ucol]
  pointwise
  rw [dif_pos (by omega), dif_neg (by omega), add_zero]
  simp only [h0, h2, Nat.add_assoc]
  rw [mul_comm, mul_assoc]

theorem value (d : Vec Ideal S4096x11264 .bf16) (a : Vec Ideal S4096x22528 .bf16) (w : Vec Ideal S4096x22528 .bf16)
    (hd : ∀ i, d i ≠ (⊤ : EReal) ∧ d i ≠ (⊥ : EReal)) (ha : ∀ i, a i ≠ (⊤ : EReal) ∧ a i ≠ (⊥ : EReal))
    (eg : ∀ (i : Fin 4096) (j : Fin 11264), w (ix2 i (gcol j)) = chain (d (ix2 i j)) (a (ix2 i (gcol j))) (a (ix2 i (ucol j))))
    (eu : ∀ (i : Fin 4096) (j : Fin 11264), w (ix2 i (ucol j)) = dU (d (ix2 i j)) (a (ix2 i (gcol j)))) : w = grad d a := by
  funext i
  have hi : i = ix2 (i 0) (i 1) := by
    funext d
    match d with
    | ⟨0, _⟩ => rfl
    | ⟨1, _⟩ => rfl
  have h1 : (i 1).val < 22528 := (i 1).isLt
  unfold grad
  by_cases hj : (i 1).val % 5632 < 2816
  · have e : (i 1 : Fin 22528) = gcol (hcol (i 1)) := Fin.ext (by
      show (i 1).val = ((i 1).val / 5632 * 2816 + (i 1).val % 2816) / 2816 * 5632 + ((i 1).val / 5632 * 2816 + (i 1).val % 2816) % 2816; omega)
    rw [if_pos hj, ← chain_eq _ _ _ (hd _) (ha _) (ha _), ← eg (i 0) (hcol (i 1))]
    exact congrArg w (hi.trans (congrArg (ix2 (i 0)) e))
  · have e : (i 1 : Fin 22528) = ucol (hcol (i 1)) := Fin.ext (by
      show (i 1).val = ((i 1).val / 5632 * 2816 + (i 1).val % 2816) / 2816 * 5632 + (2816 + ((i 1).val / 5632 * 2816 + (i 1).val % 2816) % 2816); omega)
    rw [if_neg hj, ← eu (i 0) (hcol (i 1))]
    exact congrArg w (hi.trans (congrArg (ix2 (i 0)) e))

end Cert.Reference23Ideal.Swiglu

namespace Cert.SwigluBwd

/-- Where the arguments hold no infinity the two programs end with the same result. -/
theorem algebraic : Cert.algebraic_Kernel23Ideal_Reference23Ideal_pre_finite_swiglu (hKernel23Ideal := Cert.Kernel23Ideal.Gen.facts)
    (hReference23Ideal := Cert.Reference23Ideal.Gen.facts) (hPre_finite_swiglu := Cert.Pre_finite_swiglu.facts) := by
  intro m g m' g' hpre hag
  refine ⟨fun c => Cert.Kernel23Ideal.Swiglu.grad (Cert.Kernel23Ideal.Swiglu.A0 m c) (Cert.Kernel23Ideal.Swiglu.A1 m c),
    Cert.Kernel23Ideal.Swiglu.run m g, ?_⟩
  refine (θ_run _ _ _).mono (fun r h c => ⟨?_, (h c).2⟩) (Cert.Reference23Ideal.Value.run (F := Ideal) m' g')
  have hr := Cert.Pre_finite_swiglu.reals _ _ (hpre c)
  rw [← (hag c).1, ← (hag c).2] at hr
  refine (h c).1.trans ((Cert.Reference23Ideal.Swiglu.value _ _ _ hr.1 hr.2 (Cert.Reference23Ideal.Swiglu.host_gate _ _)
    (Cert.Reference23Ideal.Swiglu.host_up _ _)).trans ?_)
  unfold Cert.Kernel23Ideal.Swiglu.A0 Cert.Kernel23Ideal.Swiglu.A1
  rw [(hag c).1, (hag c).2]

end Cert.SwigluBwd

end
-- ==== Proof.GateFwd.lean ====
/-
  The merge of the two branches by their gates: the tiled kernel and the plain lines have the same elements.
-/
module

public import proofs.«01_k».proof.Defs
public import proofs.«01_k».proof.Proof.Gen.Kernel24Ideal.Value
public import proofs.«01_k».proof.Proof.Gen.Reference24Ideal.Run
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel24Ideal.Gates

open Cert.Kernel24Ideal Cert.Kernel24Ideal.Gen

/-- The number one, as the programs write it. -/
def one : EReal := Ideal.ofBits .f32 0x3F800000#32

/-- The logistic function. -/
def sg (x : EReal) : EReal := Ideal.div one (one + Ideal.exp (-x))

/-- The column of the gates' array that holds branch a's gate, and the one that holds branch b's. -/
def colA (j : Fin 4096) : Fin 8192 := ⟨j.val, by omega⟩
def colB (j : Fin 4096) : Fin 8192 := ⟨4096 + j.val, by omega⟩

/-- The merged branches. -/
def f4 (s0 s1 s2 s3 : EReal) : EReal := sg s2 * s0 + sg s3 * s1

def g4 (a0 : Vec Ideal S4096x4096 .f32) (a1 : Vec Ideal S4096x4096 .f32) (a2 : Vec Ideal S4096x8192 .f32) : Vec Ideal S4096x4096 .bf16 :=
  fun i => f4 (a0 (ix2 (i 0) (i 1))) (a1 (ix2 (i 0) (i 1))) (a2 (ix2 (i 0) (colA (i 1)))) (a2 (ix2 (i 0) (colB (i 1))))

theorem out4_at (x0 : Vec Ideal S256x1024 .f32) (x1 : Vec Ideal S256x1024 .f32) (x2 : Vec Ideal S256x1024 .f32) (x3 : Vec Ideal S256x1024 .f32) (i : Fin 256) (j : Fin 1024) :
    out0_4 x0 x1 x2 x3 (ix2 i j) = f4 (x0 (ix2 i j)) (x1 (ix2 i j)) (x2 (ix2 i j)) (x3 (ix2 i j)) := by
  have hz : (![0, 0] : Fin 2 → Nat) = fun _ => 0 := by decide
  unfold out0_4 f4 sg one
  rw [View.canon_unit_zero (S := S256x1024) hz]
  simp only [View.ld_unit_zero (S := S256x1024) hz]
  pointwise [k0_pay1]
  simp only [sub_eq_add_neg, zero_add]

theorem out4_eq (x0 : Vec Ideal S256x1024 .f32) (x1 : Vec Ideal S256x1024 .f32) (x2 : Vec Ideal S256x1024 .f32) (x3 : Vec Ideal S256x1024 .f32) (i : Fin 256) (j : Fin 1024) (s0 s1 s2 s3 : EReal)
    (h0 : x0 (ix2 i j) = s0) (h1 : x1 (ix2 i j) = s1) (h2 : x2 (ix2 i j) = s2) (h3 : x3 (ix2 i j) = s3) :
    out0_4 x0 x1 x2 x3 (ix2 i j) = f4 s0 s1 s2 s3 := by
  rw [out4_at, h0, h1, h2, h3]

variable (m : (ℓ : Loc nD τ sig) → Buf (Elt Ideal) ℓ) (c : Dev nD)

abbrev A0 : Vec Ideal S4096x4096 .f32 := m ((c : Thread nD τ).loc main_arg0)
abbrev A1 : Vec Ideal S4096x4096 .f32 := m ((c : Thread nD τ).loc main_arg1)
abbrev A2 : Vec Ideal S4096x8192 .f32 := m ((c : Thread nD τ).loc main_arg2)

theorem idx0 : ∀ t : Fin grid0.N, win0_0.index t (0 : Fin 2) = t.val / 4 ∧ win0_0.index t (1 : Fin 2) = t.val % 4 := by decide +kernel

theorem idx1 : ∀ t : Fin grid0.N, win0_1.index t (0 : Fin 2) = t.val / 4 ∧ win0_1.index t (1 : Fin 2) = t.val % 4 := by decide +kernel

theorem idx2 : ∀ t : Fin grid0.N, win0_2.index t (0 : Fin 2) = t.val / 4 ∧ win0_2.index t (1 : Fin 2) = t.val % 4 := by decide +kernel

theorem idx3 : ∀ t : Fin grid0.N, win0_3.index t (0 : Fin 2) = t.val / 4 ∧ win0_3.index t (1 : Fin 2) = t.val % 4 + 4 := by decide +kernel

theorem idx4 : ∀ t : Fin grid0.N, win0_4.index t (0 : Fin 2) = t.val / 4 ∧ win0_4.index t (1 : Fin 2) = t.val % 4 := by decide +kernel

theorem onto4 : ∀ (p : Fin 16) (q : Fin 4), ∃ t : Fin cfg0.N, (cfg0.win 4).flush t = true ∧
    win0_4.index t (0 : Fin 2) = p.val ∧ win0_4.index t (1 : Fin 2) = q.val := by decide +kernel

section Blocks

variable {c}
variable (W : (b : Ref sig .tc) → Buf (Elt Ideal) ((c : Thread nD τ).loc b)) (t : Fin cfg0.N)

theorem block0 (r : Fin 256) (l : Fin 1024) (p0) (p1) :
    ((cfg0.win 0).blk t).view.read (Elt Ideal) (W (Pipeline.arrRef spec0 0)) (ix2 r l)
      = W main_arg0 (ix2 ⟨t.val / 4 * 256 + r.val, p0⟩ (⟨t.val % 4 * 1024 + l.val, p1⟩)) := by
  obtain ⟨e0, e1⟩ := idx0 t
  show W main_arg0 (((cfg0.win 0).blk t).view.emb (ix2 r l)) = _
  refine congrArg _ (funext fun a => Fin.ext ?_)
  match a with
  | ⟨0, _⟩ => show win0_0.index t (0 : Fin 2) * 256 + 1 * r.val = t.val / 4 * 256 + r.val; rw [e0]; omega
  | ⟨1, _⟩ => show win0_0.index t (1 : Fin 2) * 1024 + 1 * l.val = t.val % 4 * 1024 + l.val; rw [e1]; omega

theorem block1 (r : Fin 256) (l : Fin 1024) (p0) (p1) :
    ((cfg0.win 1).blk t).view.read (Elt Ideal) (W (Pipeline.arrRef spec0 1)) (ix2 r l)
      = W main_arg1 (ix2 ⟨t.val / 4 * 256 + r.val, p0⟩ (⟨t.val % 4 * 1024 + l.val, p1⟩)) := by
  obtain ⟨e0, e1⟩ := idx1 t
  show W main_arg1 (((cfg0.win 1).blk t).view.emb (ix2 r l)) = _
  refine congrArg _ (funext fun a => Fin.ext ?_)
  match a with
  | ⟨0, _⟩ => show win0_1.index t (0 : Fin 2) * 256 + 1 * r.val = t.val / 4 * 256 + r.val; rw [e0]; omega
  | ⟨1, _⟩ => show win0_1.index t (1 : Fin 2) * 1024 + 1 * l.val = t.val % 4 * 1024 + l.val; rw [e1]; omega

theorem block2 (r : Fin 256) (l : Fin 1024) (p0) (p1) :
    ((cfg0.win 2).blk t).view.read (Elt Ideal) (W (Pipeline.arrRef spec0 2)) (ix2 r l)
      = W main_arg2 (ix2 ⟨t.val / 4 * 256 + r.val, p0⟩ (colA ⟨t.val % 4 * 1024 + l.val, p1⟩)) := by
  obtain ⟨e0, e1⟩ := idx2 t
  show W main_arg2 (((cfg0.win 2).blk t).view.emb (ix2 r l)) = _
  refine congrArg _ (funext fun a => Fin.ext ?_)
  match a with
  | ⟨0, _⟩ => show win0_2.index t (0 : Fin 2) * 256 + 1 * r.val = t.val / 4 * 256 + r.val; rw [e0]; omega
  | ⟨1, _⟩ => show win0_2.index t (1 : Fin 2) * 1024 + 1 * l.val = t.val % 4 * 1024 + l.val; rw [e1]; omega

theorem block3 (r : Fin 256) (l : Fin 1024) (p0) (p1) :
    ((cfg0.win 3).blk t).view.read (Elt Ideal) (W (Pipeline.arrRef spec0 3)) (ix2 r l)
      = W main_arg2 (ix2 ⟨t.val / 4 * 256 + r.val, p0⟩ (colB ⟨t.val % 4 * 1024 + l.val, p1⟩)) := by
  obtain ⟨e0, e1⟩ := idx3 t
  show W main_arg2 (((cfg0.win 3).blk t).view.emb (ix2 r l)) = _
  refine congrArg _ (funext fun a => Fin.ext ?_)
  match a with
  | ⟨0, _⟩ => show win0_3.index t (0 : Fin 2) * 256 + 1 * r.val = t.val / 4 * 256 + r.val; rw [e0]; omega
  | ⟨1, _⟩ => show win0_3.index t (1 : Fin 2) * 1024 + 1 * l.val = 4096 + (t.val % 4 * 1024 + l.val); rw [e1]; omega

end Blocks

/-- A grid point writes back its block of the result. -/
theorem flushed4 (t : Fin cfg0.N) :
    (dats m 0 c).flushed 4 t = ((cfg0.win 4).blk t).view.read (Elt Ideal) (g4 (A0 m c) (A1 m c) (A2 m c)) := by
  rw [Value.flushed4]
  obtain ⟨e0, e1⟩ := idx4 t
  have ht : t.val < 64 := lt_of_lt_of_le t.isLt (by decide)
  funext y
  have hya : (y 0).val < 256 := (y 0).isLt
  have hyb : (y 1).val < 1024 := (y 1).isLt
  have p0 : t.val / 4 * 256 + (y 0).val < 4096 := by omega
  have pc : t.val % 4 * 1024 + (y 1).val < 4096 := by omega
  have hx : (cfg0.win 4).xinj (grid0.coords t) y = ix2 (y 0) (y 1) := by
    funext a; apply Fin.ext
    match a with
    | ⟨0, _⟩ => rfl
    | ⟨1, _⟩ => rfl
  have r0 := (block0 (c := c) (V m c) t (y 0) (y 1) p0 pc).trans (congrFun (V_main_arg0 m c) _)
  have r1 := (block1 (c := c) (V m c) t (y 0) (y 1) p0 pc).trans (congrFun (V_main_arg1 m c) _)
  have r2 := (block2 (c := c) (V m c) t (y 0) (y 1) p0 pc).trans (congrFun (V_main_arg2 m c) _)
  have r3 := (block3 (c := c) (V m c) t (y 0) (y 1) p0 pc).trans (congrFun (V_main_arg2 m c) _)
  have hb := out4_eq (iblk m c 0 t) (iblk m c 1 t) (iblk m c 2 t) (iblk m c 3 t) (y 0) (y 1) _ _ _ _ r0 r1 r2 r3
  generalize out0_4 (iblk m c 0 t) (iblk m c 1 t) (iblk m c 2 t) (iblk m c 3 t) = o at hb ⊢
  show o ((cfg0.win 4).xinj (grid0.coords t) y) = g4 (A0 m c) (A1 m c) (A2 m c) (((cfg0.win 4).blk t).view.emb y)
  have g0 : ((cfg0.win 4).blk t).view.emb y 0 = (⟨t.val / 4 * 256 + (y 0).val, p0⟩ : Fin 4096) := Fin.ext (by
    show win0_4.index t (0 : Fin 2) * 256 + 1 * (y 0).val = t.val / 4 * 256 + (y 0).val; rw [e0]; omega)
  have g1 : ((cfg0.win 4).blk t).view.emb y 1 = (⟨t.val % 4 * 1024 + (y 1).val, pc⟩ : Fin 4096) := Fin.ext (by
    show win0_4.index t (1 : Fin 2) * 1024 + 1 * (y 1).val = t.val % 4 * 1024 + (y 1).val; rw [e1]; omega)
  refine (congrArg o hx).trans (hb.trans ?_)
  unfold g4
  rw [g0, g1]

/-- Every index lies in the block of a point that writes back. -/
theorem cover4 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, hft, q0, q1⟩ := onto4 ⟨(i 0).val / 256, by omega⟩ ⟨(i 1).val / 1024, by omega⟩
  refine ⟨t, hft, ?_⟩
  show i ∈ ((View.whole main_v0).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; rw [q0]; dsimp only; omega
  | ⟨1, _⟩ => show win0_4.index t (1 : Fin 2) * 1024 ≤ (i 1).val ∧ (i 1).val < win0_4.index t (1 : Fin 2) * 1024 + 1024; rw [q1]; dsimp only; omega

/-- The kernel ends with the results, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = g4 (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 4 _ (fun t hf => flushed4 m c t) cover4), (h c).2⟩)
    (Value.run_blocks m ρ)

end Cert.Kernel24Ideal.Gates

namespace Cert.Reference24Ideal.Gates

open Cert.Reference24Ideal Cert.Reference24Ideal.Gen
open Cert.Kernel24Ideal.Gates (f4 sg one colA colB)

/-- The reference's result, element by element. -/
theorem host4 (a0 : Vec Ideal S4096x4096 .f32) (a1 : Vec Ideal S4096x4096 .f32) (a2 : Vec Ideal S4096x8192 .f32) (i : Fin 4096) (j : Fin 4096) :
    (truncf .bf16 (addf (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 0] a2 slices_S4096x8192_S4096x4096_0_0))))) a0) (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![0, 4096] a2 slices_S4096x8192_S4096x4096_0_4096))))) a1)) bitsLt_bf16_f32 : FVec Ideal S4096x4096 .bf16) (ix2 i j)
      = f4 (a0 (ix2 (i) (j))) (a1 (ix2 (i) (j))) (a2 (ix2 (i) (colA (j)))) (a2 (ix2 (i) (colB (j)))) := by
  simp only [f4, sg, one, colA, colB]
  pointwise

theorem value4 (a0 : Vec Ideal S4096x4096 .f32) (a1 : Vec Ideal S4096x4096 .f32) (a2 : Vec Ideal S4096x8192 .f32) (w : Vec Ideal S4096x4096 .bf16) (e : ∀ (i : Fin 4096) (j : Fin 4096), w (ix2 i j) = f4 (a0 (ix2 (i) (j))) (a1 (ix2 (i) (j))) (a2 (ix2 (i) (colA (j)))) (a2 (ix2 (i) (colB (j))))) :
    w = Cert.Kernel24Ideal.Gates.g4 a0 a1 a2 := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel24Ideal.Gates.g4
  rfl

end Cert.Reference24Ideal.Gates

namespace Cert.GateFwd

/-- The two programs end with the same results. -/
theorem algebraic : Cert.algebraic_Kernel24Ideal_Reference24Ideal (hKernel24Ideal := Cert.Kernel24Ideal.Gen.facts)
    (hReference24Ideal := Cert.Reference24Ideal.Gen.facts) := by
  intro m g m' g' _ hag
  refine ⟨fun c => Cert.Kernel24Ideal.Gates.g4 (Cert.Kernel24Ideal.Gates.A0 m c) (Cert.Kernel24Ideal.Gates.A1 m c) (Cert.Kernel24Ideal.Gates.A2 m c),
    Cert.Kernel24Ideal.Gates.run m g, ?_⟩
  refine (θ_run _ _ _).mono (fun r h c => ⟨?_, (h c).2⟩) (Cert.Reference24Ideal.Value.run (F := Ideal) m' g')
  · refine (h c).1.trans ((Cert.Reference24Ideal.Gates.value4 (m' (c.tc.loc Cert.Reference24Ideal.main_arg0)) (m' (c.tc.loc Cert.Reference24Ideal.main_arg1)) (m' (c.tc.loc Cert.Reference24Ideal.main_arg2)) _ (Cert.Reference24Ideal.Gates.host4 (m' (c.tc.loc Cert.Reference24Ideal.main_arg0)) (m' (c.tc.loc Cert.Reference24Ideal.main_arg1)) (m' (c.tc.loc Cert.Reference24Ideal.main_arg2)))).trans ?_)
    unfold Cert.Kernel24Ideal.Gates.A0 Cert.Kernel24Ideal.Gates.A1 Cert.Kernel24Ideal.Gates.A2
    rw [(hag c).1, (hag c).2.1, (hag c).2.2]

end Cert.GateFwd

end
-- ==== Proof.SwigluFwd.lean ====
/-
  SwiGLU: the tiled kernel and the plain lines have the same elements.
-/
module

public import proofs.«01_k».proof.Defs
public import proofs.«01_k».proof.Proof.Gen.Kernel25Ideal.Value
public import proofs.«01_k».proof.Proof.Gen.Reference25Ideal.Run
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel25Ideal.Swiglu

open Cert.Kernel25Ideal Cert.Kernel25Ideal.Gen

/-- The number one, as the programs write it. -/
def one : EReal := Ideal.ofBits .f32 0x3F800000#32

/-- The logistic function. -/
def sg (x : EReal) : EReal := Ideal.div one (one + Ideal.exp (-x))

/-- The hidden value of a gate and an up value. -/
def hid (g u : EReal) : EReal := g * sg g * u

/-- A slot of a block: its gate's columns, then its up columns. -/
def lo (l : Fin 2816) : Fin 5632 := ⟨l.val, by omega⟩
def hi (l : Fin 2816) : Fin 5632 := ⟨2816 + l.val, by omega⟩

/-- The columns of the whole array that hold the gate and the up value of a hidden column. -/
def gcol (j : Fin 11264) : Fin 22528 := ⟨j.val / 2816 * 5632 + j.val % 2816, by omega⟩
def ucol (j : Fin 11264) : Fin 22528 := ⟨j.val / 2816 * 5632 + (2816 + j.val % 2816), by omega⟩

theorem out_at (x0 : Vec Ideal S128x5632 .bf16) (i : Fin 128) (l : Fin 2816) :
    out0_1 x0 (ix2 i l) = hid (x0 (ix2 i (lo l))) (x0 (ix2 i (hi l))) := by
  have hz : (![0, 0] : Fin 2 → Nat) = fun _ => 0 := by decide
  unfold out0_1 hid sg one lo hi
  rw [View.canon_unit_zero (S := S128x2816) hz]
  simp only [View.ld_unit]
  pointwise [k0_pay1]
  simp only [sub_eq_add_neg, zero_add]

theorem out_eq (x0 : Vec Ideal S128x5632 .bf16) (i : Fin 128) (l : Fin 2816) (s0 s1 : EReal)
    (h0 : x0 (ix2 i (lo l)) = s0) (h1 : x0 (ix2 i (hi l)) = s1) : out0_1 x0 (ix2 i l) = hid s0 s1 := by
  rw [out_at, h0, h1]

/-- The hidden array. -/
def hidden (a : Vec Ideal S4096x22528 .bf16) : Vec Ideal S4096x11264 .bf16 :=
  fun i => hid (a (ix2 (i 0) (gcol (i 1)))) (a (ix2 (i 0) (ucol (i 1))))

variable (m : (ℓ : Loc nD τ sig) → Buf (Elt Ideal) ℓ) (c : Dev nD)

abbrev A0 : Vec Ideal S4096x22528 .bf16 := m ((c : Thread nD τ).loc main_arg0)

theorem idx0 : ∀ t : Fin grid0.N, win0_0.index t (0 : Fin 2) = t.val / 4 ∧ win0_0.index t (1 : Fin 2) = t.val % 4 := by decide +kernel

theorem idx1 : ∀ t : Fin grid0.N, win0_1.index t (0 : Fin 2) = t.val / 4 ∧ win0_1.index t (1 : Fin 2) = t.val % 4 := by decide +kernel

theorem onto : ∀ (p : Fin 32) (q : Fin 4), ∃ t : Fin cfg0.N, (cfg0.win 1).flush t = true ∧
    win0_1.index t (0 : Fin 2) = p.val ∧ win0_1.index t (1 : Fin 2) = q.val := by decide +kernel

section Blocks

variable {c}
variable (W : (b : Ref sig .tc) → Buf (Elt Ideal) ((c : Thread nD τ).loc b)) (t : Fin cfg0.N)

theorem block0 (r : Fin 128) (l : Fin 5632) (q : Fin 22528) (hq : q.val = t.val % 4 * 5632 + l.val) (p0) :
    ((cfg0.win 0).blk t).view.read (Elt Ideal) (W (Pipeline.arrRef spec0 0)) (ix2 r l)
      = W main_arg0 (ix2 ⟨t.val / 4 * 128 + r.val, p0⟩ q) := by
  obtain ⟨e0, e1⟩ := idx0 t
  show W main_arg0 (((cfg0.win 0).blk t).view.emb (ix2 r l)) = _
  refine congrArg _ (funext fun a => Fin.ext ?_)
  match a with
  | ⟨0, _⟩ => show win0_0.index t (0 : Fin 2) * 128 + 1 * r.val = t.val / 4 * 128 + r.val; rw [e0]; omega
  | ⟨1, _⟩ => show win0_0.index t (1 : Fin 2) * 5632 + 1 * l.val = q.val; rw [e1, hq]; omega

end Blocks

/-- A grid point writes back its block of the result. -/
theorem flushed (t : Fin cfg0.N) :
    (dats m 0 c).flushed 1 t = ((cfg0.win 1).blk t).view.read (Elt Ideal) (hidden (A0 m c)) := by
  rw [Value.flushed1]
  obtain ⟨e0, e1⟩ := idx1 t
  have ht : t.val < 128 := lt_of_lt_of_le t.isLt (by decide)
  funext y
  have hya : (y 0).val < 128 := (y 0).isLt
  have hyb : (y 1).val < 2816 := (y 1).isLt
  have p0 : t.val / 4 * 128 + (y 0).val < 4096 := by omega
  have pc : t.val % 4 * 2816 + (y 1).val < 11264 := by omega
  have hx : (cfg0.win 1).xinj (grid0.coords t) y = ix2 (y 0) (y 1) := by
    funext a; apply Fin.ext
    match a with
    | ⟨0, _⟩ => rfl
    | ⟨1, _⟩ => rfl
  have r0 := (block0 (c := c) (V m c) t (y 0) (lo (y 1)) (gcol ⟨t.val % 4 * 2816 + (y 1).val, pc⟩)
    (by show (t.val % 4 * 2816 + (y 1).val) / 2816 * 5632 + (t.val % 4 * 2816 + (y 1).val) % 2816 = t.val % 4 * 5632 + (y 1).val; omega)
    p0).trans (congrFun (V_main_arg0 m c) _)
  have r1 := (block0 (c := c) (V m c) t (y 0) (hi (y 1)) (ucol ⟨t.val % 4 * 2816 + (y 1).val, pc⟩)
    (by show (t.val % 4 * 2816 + (y 1).val) / 2816 * 5632 + (2816 + (t.val % 4 * 2816 + (y 1).val) % 2816) = t.val % 4 * 5632 + (2816 + (y 1).val); omega)
    p0).trans (congrFun (V_main_arg0 m c) _)
  have hb := out_eq (iblk m c 0 t) (y 0) (y 1) _ _ r0 r1
  generalize out0_1 (iblk m c 0 t) = o at hb ⊢
  show o ((cfg0.win 1).xinj (grid0.coords t) y) = hidden (A0 m c) (((cfg0.win 1).blk t).view.emb y)
  have g0 : ((cfg0.win 1).blk t).view.emb y 0 = (⟨t.val / 4 * 128 + (y 0).val, p0⟩ : Fin 4096) := Fin.ext (by
    show win0_1.index t (0 : Fin 2) * 128 + 1 * (y 0).val = t.val / 4 * 128 + (y 0).val; rw [e0]; omega)
  have g1 : ((cfg0.win 1).blk t).view.emb y 1 = (⟨t.val % 4 * 2816 + (y 1).val, pc⟩ : Fin 11264) := Fin.ext (by
    show win0_1.index t (1 : Fin 2) * 2816 + 1 * (y 1).val = t.val % 4 * 2816 + (y 1).val; rw [e1]; omega)
  refine (congrArg o hx).trans (hb.trans ?_)
  unfold hidden
  rw [g0, g1]

/-- Every index lies in the block of a point that writes back. -/
theorem cover (i : S4096x11264.Idx) : ∃ t : Fin cfg0.N, (cfg0.win 1).flush t = true ∧ i ∈ ((cfg0.win 1).blk t).view.set := by
  have hi0 : (i 0).val < 4096 := (i 0).isLt
  have hi1 : (i 1).val < 11264 := (i 1).isLt
  obtain ⟨t, hft, q0, q1⟩ := onto ⟨(i 0).val / 128, by omega⟩ ⟨(i 1).val / 2816, by omega⟩
  refine ⟨t, hft, ?_⟩
  show i ∈ ((View.whole main_v0).slice (win0_1.rect t)).set
  rw [View.set_slice_whole, Rect.mem_set_unit]
  intro a
  match a with
  | ⟨0, _⟩ => show win0_1.index t (0 : Fin 2) * 128 ≤ (i 0).val ∧ (i 0).val < win0_1.index t (0 : Fin 2) * 128 + 128; rw [q0]; dsimp only; omega
  | ⟨1, _⟩ => show win0_1.index t (1 : Fin 2) * 2816 ≤ (i 1).val ∧ (i 1).val < win0_1.index t (1 : Fin 2) * 2816 + 2816; rw [q1]; dsimp only; omega

/-- The kernel ends with the hidden array, its argument unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = hidden (A0 m c)
      ∧ r.2.mem ((c : Thread nD τ).loc main_arg0) = m ((c : Thread nD τ).loc main_arg0) :=
  (θ_run defs _ _).mono (fun r h c => ⟨(h c).1.trans ((dats m 0 c).arrAt_eq_of_cover 1 _ (fun t hf => flushed m c t) cover), (h c).2⟩)
    (Value.run_blocks m ρ)

end Cert.Kernel25Ideal.Swiglu

namespace Cert.Reference25Ideal.Swiglu

open Cert.Reference25Ideal Cert.Reference25Ideal.Gen
open Cert.Kernel25Ideal.Swiglu (hid sg one gcol ucol)

/-- The reference's result, element by element. -/
theorem host (a : Vec Ideal S4096x22528 .bf16) (i : Fin 4096) (j : Fin 11264) :
    (truncf .bf16 (shapeCast _ (mulf (mulf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816) (Host.divf (broadcastInDim S4096x4x2816 ![] bcast_S_S4096x4x2816 (constant S_ .f32 0x3F800000#32)) (addf (broadcastInDim S4096x4x2816 ![] bcast_S_S4096x4x2816 (constant S_ .f32 0x3F800000#32)) (Host.exp (Host.negf (shapeCast _ (extractStridedSlice S4096x4x1x2816 ![0, 0, 0, 0] (shapeCast _ (extf .f32 a bitsLt_bf16_f32) shapeCasts_S4096x22528_S4096x4x2x2816) slices_S4096x4x2x2816_S4096x4x1x2816_0_0_0_0) shapeCasts_S4096x4x1x2816_S4096x4x2816)))))) (shapeCast _ (extractStridedSlice S4096x4x1x2816 ![0, 0, 1, 0] (shapeCast _ (extf .f32 a bitsLt_bf16_f32) shapeCasts_S4096x22528_S4096x4x2x2816) slices_S4096x4x2x2816_S4096x4x1x2816_0_0_1_0) shapeCasts_S4096x4x1x2816_S4096x4x2816)) shapeCasts_S4096x4x2816_S4096x11264) bitsLt_bf16_f32 : FVec Ideal S4096x11264 .bf16) (ix2 i j) = hid (a (ix2 i (gcol j))) (a (ix2 i (ucol j))) := by
  simp only [hid, sg, one, gcol, ucol]
  pointwise
  simp only [Nat.add_assoc]

theorem value (a : Vec Ideal S4096x22528 .bf16) (w : Vec Ideal S4096x11264 .bf16)
    (e : ∀ (i : Fin 4096) (j : Fin 11264), w (ix2 i j) = hid (a (ix2 i (gcol j))) (a (ix2 i (ucol j)))) :
    w = Cert.Kernel25Ideal.Swiglu.hidden a := by
  funext i
  have hi : i = ix2 (i 0) (i 1) := by
    funext d
    match d with
    | ⟨0, _⟩ => rfl
    | ⟨1, _⟩ => rfl
  refine (congrArg w hi).trans ((e (i 0) (i 1)).trans ?_)
  unfold Cert.Kernel25Ideal.Swiglu.hidden
  rfl

end Cert.Reference25Ideal.Swiglu

namespace Cert.SwigluFwd

/-- The two programs end with the same result. -/
theorem algebraic : Cert.algebraic_Kernel25Ideal_Reference25Ideal (hKernel25Ideal := Cert.Kernel25Ideal.Gen.facts)
    (hReference25Ideal := Cert.Reference25Ideal.Gen.facts) := by
  intro m g m' g' _ hag
  refine ⟨fun c => Cert.Kernel25Ideal.Swiglu.hidden (Cert.Kernel25Ideal.Swiglu.A0 m c), Cert.Kernel25Ideal.Swiglu.run m g, ?_⟩
  refine (θ_run _ _ _).mono (fun r h c => ⟨?_, (h c).2⟩) (Cert.Reference25Ideal.Value.run (F := Ideal) m' g')
  refine (h c).1.trans ((Cert.Reference25Ideal.Swiglu.value _ _ (Cert.Reference25Ideal.Swiglu.host _)).trans ?_)
  unfold Cert.Kernel25Ideal.Swiglu.A0
  rw [hag c]

end Cert.SwigluFwd

end
-- ==== Proof.RmsNorm.lean ====
/-
  The root-mean-square norm and its gradient, for one row of extended real numbers: two ways to write the gradient agree at
  every row, infinities included.
-/
module

public import Idealize.ShloMosaic.Lib.Pointwise
public import proofs.«01_k».proof.Proof.Coe

@[expose] public section

noncomputable section

namespace Cert.RmsNorm

open Idealize.ShloMosaic
open scoped BigOperators

/-- The row's length, the term that keeps the root from zero, and minus one half, as the programs write them. -/
def len : EReal := Ideal.ofBits .f32 0x45800000#32
def eps : EReal := Ideal.ofBits .f32 0x358637BD#32
def mhalf : EReal := Ideal.ofBits .f32 0xBF000000#32

theorem len_coe : len = ((4096 : ℝ) : EReal) := by
  have h : (4096 : ℝ) = 8388608 * 2 ^ (139 - 127 - 23 : ℤ) := by norm_num
  rw [h]
  simp [len, Ideal.ofBits, Ideal.ieee, -EReal.coe_mul]

theorem eps_coe : ∃ e : ℝ, 0 < e ∧ eps = (e : EReal) := by
  refine ⟨8796093 * 2 ^ (107 - 127 - 23 : ℤ), by positivity, ?_⟩
  simp [eps, Ideal.ofBits, Ideal.ieee, -EReal.coe_mul]

theorem mhalf_coe : mhalf = ((-1 / 2 : ℝ) : EReal) := by
  have h : (-1 / 2 : ℝ) = -(8388608 * 2 ^ (126 - 127 - 23 : ℤ)) := by norm_num
  rw [h]
  simp [mhalf, Ideal.ofBits, Ideal.ieee, -EReal.coe_mul, -EReal.coe_neg]

/-- The mean square plus `eps`, and its reciprocal root, from the row's sum of squares. -/
def ms (s : EReal) : EReal := Ideal.div s len + eps
def rs (s : EReal) : EReal := Ideal.rsqrt (ms s)

variable (h x g : Fin 4096 → EReal)

/-- A row's sum of squares. -/
def sumSq : EReal := ∑ k : Fin 4096, x k * x k

/-- The gradient with the norm's factor taken out, and the gradient by the chain rule through the mean square. -/
def dx (j : Fin 4096) : EReal :=
  rs (sumSq x) * (h j * g j - x j * rs (sumSq x) * Ideal.div (∑ k : Fin 4096, h k * g k * (x k * rs (sumSq x))) len)

def dk : EReal := Ideal.div ((∑ k : Fin 4096, x k * (h k * g k)) * (mhalf * Ideal.div (rs (sumSq x)) (ms (sumSq x)))) len

def dxChain (j : Fin 4096) : EReal := h j * g j * rs (sumSq x) + (x j * dk h x g + dk h x g * x j)

theorem mul_self_nonneg (a : EReal) : 0 ≤ a * a := by
  rcases le_total 0 a with h | h
  · exact mul_nonneg h h
  · rw [← neg_mul_neg]
    have h' : 0 ≤ -a := by rwa [EReal.neg_nonneg]
    exact mul_nonneg h' h'

theorem sumSq_nonneg : 0 ≤ sumSq x := Finset.sum_nonneg fun k _ => mul_self_nonneg (x k)

/-- A factor that is real and not negative comes out of a sum. -/
theorem sum_mul_coe {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- At a row without infinities the reciprocal root is a positive real number, whose square is the reciprocal. -/
theorem rs_real (s : ℝ) (hs : 0 ≤ s) : ∃ v r : ℝ, ms (s : EReal) = (v : EReal) ∧ rs (s : EReal) = (r : EReal) ∧ 0 < v ∧ 0 < r ∧ r * r * v = 1 := by
  obtain ⟨e, he, ee⟩ := eps_coe
  have hv : 0 < s / 4096 + e := by positivity
  have hm : ms (s : EReal) = ((s / 4096 + e : ℝ) : EReal) := by
    unfold ms
    rw [len_coe, ee, Cert.Coe.div_coe _ _ (by norm_num), EReal.coe_add]
  refine ⟨s / 4096 + e, (Real.sqrt (s / 4096 + e))⁻¹, hm, ?_, hv, inv_pos.2 (Real.sqrt_pos.2 hv), ?_⟩
  · unfold rs
    rw [hm, Ideal.rsqrt_coe, if_neg (not_lt.2 hv.le), if_neg hv.ne']
  · rw [← mul_inv, Real.mul_self_sqrt hv.le, inv_mul_cancel₀ hv.ne']

theorem ms_top : ms ⊤ = ⊤ := by
  obtain ⟨e, he, ee⟩ := eps_coe
  unfold ms Ideal.div
  rw [len_coe, ee, if_neg (by norm_num), ← EReal.coe_inv, EReal.top_mul_coe_of_pos (by norm_num)]
  simp

theorem rs_top : rs ⊤ = 0 := by
  unfold rs
  rw [ms_top]
  rfl

theorem div_len (a : EReal) : Ideal.div a len = a * ((1 / 4096 : ℝ) : EReal) := by
  unfold Ideal.div
  rw [len_coe, if_neg (by norm_num), ← EReal.coe_inv, one_div]

/-- The two forms of the gradient agree. -/
theorem dx_eq (j : Fin 4096) : dxChain h x g j = dx h x g j := by
  unfold dxChain dx dk
  have hq := sumSq_nonneg x
  generalize sumSq x = s at hq
  by_cases hs : s = ⊤
  · subst hs
    have h0 : Ideal.div 0 ⊤ = 0 := by unfold Ideal.div; simp
    simp only [rs_top, ms_top, h0, div_len, mul_zero, zero_mul, add_zero]
  · have hb : s ≠ ⊥ := fun h => by rw [h] at hq; simp at hq
    obtain ⟨s, rfl⟩ := Cert.Coe.coe_of_abs_lt s hs hb
    obtain ⟨v, r, ev, er, hv, hr, hrv⟩ := rs_real s (by exact_mod_cast hq)
    have hW : ∑ k : Fin 4096, h k * g k * (x k * (r : EReal)) = (∑ k : Fin 4096, x k * (h k * g k)) * (r : EReal) := by
      rw [sum_mul_coe _ _ r hr.le]
      exact Finset.sum_congr rfl fun k _ => by rw [← mul_assoc, mul_comm (h k * g k)]
    rw [ev, er, hW, mhalf_coe, Cert.Coe.div_coe _ _ hv.ne', div_len, div_len]
    generalize ∑ k : Fin 4096, x k * (h k * g k) = W
    generalize h j * g j = w
    generalize x j = y
    have e1 : y * (W * (((-1 / 2 : ℝ) : EReal) * ((r / v : ℝ) : EReal)) * ((1 / 4096 : ℝ) : EReal))
        = y * W * ((-(r * r * r / 4096) / 2 : ℝ) : EReal) := by
      have : (-(r * r * r / 4096) / 2 : ℝ) = -1 / 2 * (r / v) * (1 / 4096) := by
        have hd : r / v = r * r * r := by
          rw [div_eq_iff hv.ne']
          linear_combination (-r) * hrv
        rw [hd]
        ring
      rw [this, EReal.coe_mul, EReal.coe_mul]
      simp only [mul_assoc]
    have e2 : W * (((-1 / 2 : ℝ) : EReal) * ((r / v : ℝ) : EReal)) * ((1 / 4096 : ℝ) : EReal) * y
        = y * W * ((-(r * r * r / 4096) / 2 : ℝ) : EReal) := by rw [mul_comm, e1]
    have e3 : y * (r : EReal) * (W * (r : EReal) * ((1 / 4096 : ℝ) : EReal)) * (r : EReal) = y * W * ((r * r * r / 4096 : ℝ) : EReal) := by
      have : (r * r * r / 4096 : ℝ) = r * r * r * (1 / 4096) := by ring
      rw [this, EReal.coe_mul, EReal.coe_mul, EReal.coe_mul]
      ac_rfl
    have e4 : ∀ q : EReal, ∀ b : ℝ, q * ((-b / 2 : ℝ) : EReal) + q * ((-b / 2 : ℝ) : EReal) = -(q * (b : EReal)) := by
      intro q b
      have h2 := EReal.right_distrib_of_nonneg (a := 1) (b := 1) (c := q * ((-b / 2 : ℝ) : EReal)) (by norm_num) (by norm_num)
      rw [one_mul] at h2
      rw [← h2, ← mul_neg, ← EReal.coe_neg]
      have h3 : ((1 : EReal) + 1) = ((2 : ℝ) : EReal) := by rw [show (2 : ℝ) = 1 + 1 by norm_num, EReal.coe_add, EReal.coe_one]
      rw [h3, mul_left_comm, ← EReal.coe_mul]
      congr 2
      ring
    rw [e1, e2, e4, sub_eq_add_neg, EReal.left_distrib_of_nonneg_of_ne_top (by exact_mod_cast hr.le) (EReal.coe_ne_top r), mul_comm w,
      mul_neg, mul_comm (r : EReal) (y * (r : EReal) * _), e3]

/-- A sum over `a * b` places, run by run. -/
theorem sum_runs {a b : ℕ} (n : ℕ) (hn : n = a * b) (f : Fin n → EReal) (pl : ∀ (p : Fin a) (q : Fin b), p.val * b + q.val < n) :
    ∑ i : Fin n, f i = ∑ p : Fin a, ∑ q : Fin b, f ⟨p.val * b + q.val, pl p q⟩ := by
  subst hn
  rw [← Fintype.sum_prod_type' (f := fun (p : Fin a) (q : Fin b) => f ⟨p.val * b + q.val, pl p q⟩)]
  refine (Fintype.sum_equiv finProdFinEquiv _ _ fun z => ?_).symm
  refine congrArg f (Fin.ext ?_)
  show z.1.val * b + z.2.val = z.2.val + b * z.1.val
  ring

end Cert.RmsNorm

end
-- ==== Proof.NormBwd.lean ====
/-
  The gradient of the root-mean-square norm: the tiled kernel and the plain lines have the same elements.
-/
module

public import proofs.«01_k».proof.Defs
public import proofs.«01_k».proof.Proof.RmsNorm
public import proofs.«01_k».proof.Proof.Sums
public import proofs.«01_k».proof.Proof.Gen.Kernel26Ideal.Value
public import proofs.«01_k».proof.Proof.Gen.Reference26Ideal.Run
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel26Ideal.Norm

open Cert.Kernel26Ideal Cert.Kernel26Ideal.Gen
open Cert.RmsNorm (rs ms len eps mhalf sumSq dx dk dxChain)

/-- Row `i` of a block. -/
abbrev row (x : Vec Ideal S256x4096 .f32) (i : Fin 256) : Fin 4096 → EReal := fun k => x (ix2 i k)

theorem tile6 (x0 x1 : Vec Ideal S256x4096 .f32) (x2 : Vec Ideal S1x4096 .f32) (x3 : Vec Ideal S256x4096 .f32) (i : Fin 256) (j : Fin 4096) :
    k0_pay6 x0 x1 x2 x3 (ix2 i j) = dx (row x0 i) (row x1 i) (fun k => x2 (ix2 (0 : Fin 1) k)) j + x3 (ix2 i j) := by
  unfold dx rs ms len eps sumSq row
  pointwise [k0_pay6, k0_pay4, k0_pay3]

theorem tile7 (x0 x1 : Vec Ideal S256x4096 .f32) (x2 : Vec Ideal S1x4096 .f32) (x3 : Vec Ideal S256x4096 .f32) (i : Fin 256) (j : Fin 4096) :
    k0_pay7 x0 x1 x2 x3 (ix2 i j) = dx (row x0 i) (row x1 i) (fun k => x2 (ix2 (0 : Fin 1) k)) j + x3 (ix2 i j) := by
  rw [← tile6]
  rfl

/-- One row's term of the gain's gradient. -/
def gAt (x0 x1 : Vec Ideal S256x4096 .f32) (i : Fin 256) (j : Fin 4096) : EReal :=
  x0 (ix2 i j) * (x1 (ix2 i j) * rs (sumSq (row x1 i)))

theorem tile5 (x0 x1 : Vec Ideal S256x4096 .f32) (i : Fin 256) (j : Fin 4096) : k0_pay5 x0 x1 (ix2 i j) = gAt x0 x1 i j := by
  unfold gAt rs ms len eps sumSq row
  pointwise [k0_pay5, k0_pay4, k0_pay3]

/-- Row `u` of the rows that go to running sum `s`. -/
def at8 (u : Fin 32) (s : Fin 8) : Fin 256 := ⟨u.val * 8 + s.val, by omega⟩

theorem tile1 (v : FVec Ideal S256x4096 .f32) (s : Vec Ideal S8x4096 .f32) (i : Fin 8) (j : Fin 4096) :
    k0_pay1 v s (ix2 i j) = s (ix2 i j) + ∑ u : Fin 32, v (ix2 (at8 u i) j) := by
  unfold at8
  pointwise [k0_pay1]

theorem tile2 (s : Vec Ideal S8x4096 .f32) (j : Fin 4096) : k0_pay2 s (ix2 (0 : Fin 1) j) = ∑ i : Fin 8, s (ix2 i j) := by
  pointwise [k0_pay2]

theorem tile8 (i : Fin 8) (j : Fin 4096) : (k0_pay8 : FVec Ideal S8x4096 .f32) (ix2 i j) = (0 : EReal) := by
  pointwise [k0_pay8]

section Leaves

theorem hz : (![0, 0] : Fin 2 → Nat) = fun _ => 0 := by decide

variable (c : Dev nD) (i₀ : grid0.Coords)
  (a1 : Memref sig .tc .vmem S256x4096 .f32) (h1 : a1.IsWhole)
  (a2 : Memref sig .tc .vmem S256x4096 .f32) (h2 : a2.IsWhole)
  (a3 : Memref sig .tc .vmem S1x4096 .f32) (h3 : a3.IsWhole)
  (a4 : Memref sig .tc .vmem S256x4096 .f32) (h4 : a4.IsWhole)
  (a5 : Memref sig .tc .vmem S256x4096 .f32) (h5 : a5.IsWhole)
  (a6 : Memref sig .tc .vmem S256x4096 .bf16) (h6 : a6.IsWhole)
  (a7 : Memref sig .tc .vmem S1x4096 .f32) (h7 : a7.IsWhole)
  (a8 : Memref sig .tc .vmem S8x4096 .f32) (h8 : a8.IsWhole)

/-- The rows of the gradient at the first point. -/
theorem dx_first
    (hc0 : cond0_0 i₀) (hc1 : ¬cond0_1 i₀)
    (x0 x1 : Vec Ideal S256x4096 .f32) (x2 : Vec Ideal S1x4096 .f32) (x3 : Vec Ideal S256x4096 .f32) :
    out0_A_4 c i₀ a1 h1 a2 h2 a3 h3 a4 h4 a5 h5 a6 h6 a7 h7 a8 h8 hc0 hc1 x0 x1 x2 x3 = k0_pay6 x0 x1 x2 x3 := by
  unfold out0_A_4
  rw [View.read_writes_eq_canon _ _ _ (cover0_A_4 c i₀ a1 h1 a2 h2 a3 h3 a4 h4 a5 h5 a6 h6 a7 h7 a8 h8 hc0 hc1 x0 x1 x2 x3)]
  unfold kernelRun0_A
  dsimp only
  sl_unfold_words
  rw [View.canon_unit_zero hz]
  simp only [View.readAt_eq_ld, h1.read_unread, h2.read_unread, h3.read_unread, h4.read_unread, h8.read_unread,
    View.ld_unit_zero (S := S256x4096) hz, View.ld_unit_zero (S := S1x4096) hz, View.ld_unit_zero (S := S8x4096) hz, shapeCast_self]

/-- The same rows in half the bits. -/
theorem dxb_first
    (hc0 : cond0_0 i₀) (hc1 : ¬cond0_1 i₀)
    (x0 x1 : Vec Ideal S256x4096 .f32) (x2 : Vec Ideal S1x4096 .f32) (x3 : Vec Ideal S256x4096 .f32) :
    out0_A_5 c i₀ a1 h1 a2 h2 a3 h3 a4 h4 a5 h5 a6 h6 a7 h7 a8 h8 hc0 hc1 x0 x1 x2 x3 = k0_pay7 x0 x1 x2 x3 := by
  unfold out0_A_5
  rw [View.read_writes_eq_canon _ _ _ (cover0_A_5 c i₀ a1 h1 a2 h2 a3 h3 a4 h4 a5 h5 a6 h6 a7 h7 a8 h8 hc0 hc1 x0 x1 x2 x3)]
  unfold kernelRun0_A
  dsimp only
  sl_unfold_words
  rw [View.canon_unit_zero hz]
  simp only [View.readAt_eq_ld, h1.read_unread, h2.read_unread, h3.read_unread, h4.read_unread, h8.read_unread,
    View.ld_unit_zero (S := S256x4096) hz, View.ld_unit_zero (S := S1x4096) hz, View.ld_unit_zero (S := S8x4096) hz, shapeCast_self]

/-- The first point sets the eight running sums to its rows' sums. -/
theorem sum_first
    (hc0 : cond0_0 i₀) (hc1 : ¬cond0_1 i₀)
    (x0 x1 : Vec Ideal S256x4096 .f32) (x2 : Vec Ideal S1x4096 .f32) (x3 : Vec Ideal S256x4096 .f32) :
    sout0_A_0 c i₀ a1 h1 a2 h2 a3 h3 a4 h4 a5 h5 a6 h6 a7 h7 a8 h8 hc0 hc1 x0 x1 x2 x3 = k0_pay1 (k0_pay5 x0 x1) (k0_pay8 (F := Ideal)) := by
  unfold sout0_A_0
  rw [View.read_writes_eq_canon _ _ _ (scover0_A_0 c i₀ a1 h1 a2 h2 a3 h3 a4 h4 a5 h5 a6 h6 a7 h7 a8 h8 hc0 hc1 x0 x1 x2 x3)]
  unfold kernelRun0_A
  dsimp only
  sl_unfold_words
  rw [View.canon_cons_unit_zero (S := S8x4096) hz, View.readCov_unit_zero (S := S8x4096) _ hz]
  simp only [View.readAt_eq_ld, h1.read_unread, h2.read_unread, h3.read_unread, h4.read_unread, h8.read_unread,
    View.ld_unit_zero (S := S256x4096) hz, View.ld_unit_zero (S := S1x4096) hz, View.ld_unit_zero (S := S8x4096) hz, shapeCast_self]

/-- The rows of the gradient at a middle point. -/
theorem dx_middle
    (hc0 : ¬cond0_0 i₀) (hc1 : ¬cond0_1 i₀)
    (x0 x1 : Vec Ideal S256x4096 .f32) (x2 : Vec Ideal S1x4096 .f32) (x3 : Vec Ideal S256x4096 .f32) (s : Vec Ideal S8x4096 .f32) :
    out0_B_4 c i₀ a1 h1 a2 h2 a3 h3 a4 h4 a5 h5 a6 h6 a7 h7 a8 h8 hc0 hc1 x0 x1 x2 x3 s = k0_pay6 x0 x1 x2 x3 := by
  unfold out0_B_4
  rw [View.read_writes_eq_canon _ _ _ (cover0_B_4 c i₀ a1 h1 a2 h2 a3 h3 a4 h4 a5 h5 a6 h6 a7 h7 a8 h8 hc0 hc1 x0 x1 x2 x3 s)]
  unfold kernelRun0_B
  dsimp only
  sl_unfold_words
  rw [View.canon_unit_zero hz]
  simp only [View.readAt_eq_ld, h1.read_unread, h2.read_unread, h3.read_unread, h4.read_unread, h8.read_unread,
    View.ld_unit_zero (S := S256x4096) hz, View.ld_unit_zero (S := S1x4096) hz, View.ld_unit_zero (S := S8x4096) hz, shapeCast_self]

/-- The same rows in half the bits. -/
theorem dxb_middle
    (hc0 : ¬cond0_0 i₀) (hc1 : ¬cond0_1 i₀)
    (x0 x1 : Vec Ideal S256x4096 .f32) (x2 : Vec Ideal S1x4096 .f32) (x3 : Vec Ideal S256x4096 .f32) (s : Vec Ideal S8x4096 .f32) :
    out0_B_5 c i₀ a1 h1 a2 h2 a3 h3 a4 h4 a5 h5 a6 h6 a7 h7 a8 h8 hc0 hc1 x0 x1 x2 x3 s = k0_pay7 x0 x1 x2 x3 := by
  unfold out0_B_5
  rw [View.read_writes_eq_canon _ _ _ (cover0_B_5 c i₀ a1 h1 a2 h2 a3 h3 a4 h4 a5 h5 a6 h6 a7 h7 a8 h8 hc0 hc1 x0 x1 x2 x3 s)]
  unfold kernelRun0_B
  dsimp only
  sl_unfold_words
  rw [View.canon_unit_zero hz]
  simp only [View.readAt_eq_ld, h1.read_unread, h2.read_unread, h3.read_unread, h4.read_unread, h8.read_unread,
    View.ld_unit_zero (S := S256x4096) hz, View.ld_unit_zero (S := S1x4096) hz, View.ld_unit_zero (S := S8x4096) hz, shapeCast_self]

/-- A middle point adds its rows to the eight running sums. -/
theorem sum_middle
    (hc0 : ¬cond0_0 i₀) (hc1 : ¬cond0_1 i₀)
    (x0 x1 : Vec Ideal S256x4096 .f32) (x2 : Vec Ideal S1x4096 .f32) (x3 : Vec Ideal S256x4096 .f32) (s : Vec Ideal S8x4096 .f32) :
    sout0_B_0 c i₀ a1 h1 a2 h2 a3 h3 a4 h4 a5 h5 a6 h6 a7 h7 a8 h8 hc0 hc1 x0 x1 x2 x3 s = k0_pay1 (k0_pay5 x0 x1) s := by
  unfold sout0_B_0
  rw [View.read_writes_eq_canon _ _ _ (scover0_B_0 c i₀ a1 h1 a2 h2 a3 h3 a4 h4 a5 h5 a6 h6 a7 h7 a8 h8 hc0 hc1 x0 x1 x2 x3 s)]
  unfold kernelRun0_B
  dsimp only
  sl_unfold_words
  rw [View.canon_unit_zero hz]
  simp only [View.readAt_eq_ld, h1.read_unread, h2.read_unread, h3.read_unread, h4.read_unread, h8.read_unread,
    View.ld_unit_zero (S := S256x4096) hz, View.ld_unit_zero (S := S1x4096) hz, View.ld_unit_zero (S := S8x4096) hz, shapeCast_self]

/-- The rows of the gradient at the last point. -/
theorem dx_last
    (hc0 : ¬cond0_0 i₀) (hc1 : cond0_1 i₀)
    (x0 x1 : Vec Ideal S256x4096 .f32) (x2 : Vec Ideal S1x4096 .f32) (x3 : Vec Ideal S256x4096 .f32) (s : Vec Ideal S8x4096 .f32) :
    out0_C_4 c i₀ a1 h1 a2 h2 a3 h3 a4 h4 a5 h5 a6 h6 a7 h7 a8 h8 hc0 hc1 x0 x1 x2 x3 s = k0_pay6 x0 x1 x2 x3 := by
  unfold out0_C_4
  rw [View.read_writes_eq_canon _ _ _ (cover0_C_4 c i₀ a1 h1 a2 h2 a3 h3 a4 h4 a5 h5 a6 h6 a7 h7 a8 h8 hc0 hc1 x0 x1 x2 x3 s)]
  unfold kernelRun0_C
  dsimp only
  sl_unfold_words
  rw [View.canon_unit_zero hz]
  simp only [View.readAt_eq_ld, h1.read_unread, h2.read_unread, h3.read_unread, h4.read_unread, h8.read_unread,
    View.ld_unit_zero (S := S256x4096) hz, View.ld_unit_zero (S := S1x4096) hz, View.ld_unit_zero (S := S8x4096) hz, shapeCast_self]

/-- The same rows in half the bits. -/
theorem dxb_last
    (hc0 : ¬cond0_0 i₀) (hc1 : cond0_1 i₀)
    (x0 x1 : Vec Ideal S256x4096 .f32) (x2 : Vec Ideal S1x4096 .f32) (x3 : Vec Ideal S256x4096 .f32) (s : Vec Ideal S8x4096 .f32) :
    out0_C_5 c i₀ a1 h1 a2 h2 a3 h3 a4 h4 a5 h5 a6 h6 a7 h7 a8 h8 hc0 hc1 x0 x1 x2 x3 s = k0_pay7 x0 x1 x2 x3 := by
  unfold out0_C_5
  rw [View.read_writes_eq_canon _ _ _ (cover0_C_5 c i₀ a1 h1 a2 h2 a3 h3 a4 h4 a5 h5 a6 h6 a7 h7 a8 h8 hc0 hc1 x0 x1 x2 x3 s)]
  unfold kernelRun0_C
  dsimp only
  sl_unfold_words
  rw [View.canon_unit_zero hz]
  simp only [View.readAt_eq_ld, h1.read_unread, h2.read_unread, h3.read_unread, h4.read_unread, h8.read_unread,
    View.ld_unit_zero (S := S256x4096) hz, View.ld_unit_zero (S := S1x4096) hz, View.ld_unit_zero (S := S8x4096) hz, shapeCast_self]

/-- The last point adds its rows and stores the total. -/
theorem dg_last
    (hc0 : ¬cond0_0 i₀) (hc1 : cond0_1 i₀)
    (x0 x1 : Vec Ideal S256x4096 .f32) (x2 : Vec Ideal S1x4096 .f32) (x3 : Vec Ideal S256x4096 .f32) (s : Vec Ideal S8x4096 .f32) :
    out0_C_6 c i₀ a1 h1 a2 h2 a3 h3 a4 h4 a5 h5 a6 h6 a7 h7 a8 h8 hc0 hc1 x0 x1 x2 x3 s = k0_pay2 (k0_pay1 (k0_pay5 x0 x1) s) := by
  unfold out0_C_6
  rw [View.read_writes_eq_canon _ _ _ (cover0_C_6 c i₀ a1 h1 a2 h2 a3 h3 a4 h4 a5 h5 a6 h6 a7 h7 a8 h8 hc0 hc1 x0 x1 x2 x3 s)]
  unfold kernelRun0_C
  dsimp only
  sl_unfold_words
  rw [View.canon_unit_zero hz, View.readCov_unit_zero (S := S8x4096) _ hz]
  simp only [View.readAt_eq_ld, h1.read_unread, h2.read_unread, h3.read_unread, h4.read_unread, h8.read_unread,
    View.ld_unit_zero (S := S256x4096) hz, View.ld_unit_zero (S := S1x4096) hz, View.ld_unit_zero (S := S8x4096) hz, shapeCast_self]

end Leaves

theorem k0_pay6_eq (x0 x1 : Vec Ideal S256x4096 .f32) (x2 : Vec Ideal S1x4096 .f32) (x3 : Vec Ideal S256x4096 .f32) (i : Fin 256) (j : Fin 4096)
    (h x g : Fin 4096 → EReal) (d : EReal) (e0 : ∀ k, x0 (ix2 i k) = h k) (e1 : ∀ k, x1 (ix2 i k) = x k)
    (e2 : ∀ k, x2 (ix2 (0 : Fin 1) k) = g k) (e3 : x3 (ix2 i j) = d) : k0_pay6 x0 x1 x2 x3 (ix2 i j) = dx h x g j + d := by
  rw [tile6, e3, show row x0 i = h from funext e0, show row x1 i = x from funext e1, show (fun k => x2 (ix2 (0 : Fin 1) k)) = g from funext e2]

theorem k0_pay7_eq (x0 x1 : Vec Ideal S256x4096 .f32) (x2 : Vec Ideal S1x4096 .f32) (x3 : Vec Ideal S256x4096 .f32) (i : Fin 256) (j : Fin 4096)
    (h x g : Fin 4096 → EReal) (d : EReal) (e0 : ∀ k, x0 (ix2 i k) = h k) (e1 : ∀ k, x1 (ix2 i k) = x k)
    (e2 : ∀ k, x2 (ix2 (0 : Fin 1) k) = g k) (e3 : x3 (ix2 i j) = d) : k0_pay7 x0 x1 x2 x3 (ix2 i j) = dx h x g j + d := by
  rw [tile7, e3, show row x0 i = h from funext e0, show row x1 i = x from funext e1, show (fun k => x2 (ix2 (0 : Fin 1) k)) = g from funext e2]

theorem gAt_eq (x0 x1 : Vec Ideal S256x4096 .f32) (i : Fin 256) (j : Fin 4096) (h x : Fin 4096 → EReal)
    (e0 : ∀ k, x0 (ix2 i k) = h k) (e1 : ∀ k, x1 (ix2 i k) = x k) : gAt x0 x1 i j = h j * (x j * rs (sumSq x)) := by
  unfold gAt
  rw [e0, e1, show row x1 i = x from funext e1]

/-- Row `r` of an array. -/
abbrev rowOf (a : Vec Ideal S4096x4096 .f32) (r : Fin 4096) : Fin 4096 → EReal := fun k => a (ix2 r k)

/-- The gradient of the norm's argument plus what arrives past it, in whole and in half the bits, and the gain's gradient. -/
def grad (h x : Vec Ideal S4096x4096 .f32) (g : Vec Ideal S1x4096 .f32) (d : Vec Ideal S4096x4096 .f32) : Vec Ideal S4096x4096 .f32 :=
  fun i => dx (rowOf h (i 0)) (rowOf x (i 0)) (fun k => g (ix2 (0 : Fin 1) k)) (i 1) + d (ix2 (i 0) (i 1))

def gradB (h x : Vec Ideal S4096x4096 .f32) (g : Vec Ideal S1x4096 .f32) (d : Vec Ideal S4096x4096 .f32) : Vec Ideal S4096x4096 .bf16 :=
  fun i => dx (rowOf h (i 0)) (rowOf x (i 0)) (fun k => g (ix2 (0 : Fin 1) k)) (i 1) + d (ix2 (i 0) (i 1))

def term (h x : Vec Ideal S4096x4096 .f32) (j : Fin 4096) (r : Fin 4096) : EReal := rowOf h r j * (rowOf x r j * rs (sumSq (rowOf x r)))

def gain (h x : Vec Ideal S4096x4096 .f32) : Vec Ideal S1x4096 .f32 := fun i => ∑ r : Fin 4096, term h x (i 1) r

variable (m : (ℓ : Loc nD τ sig) → Buf (Elt Ideal) ℓ) (c : Dev nD)

abbrev A0 : Vec Ideal S4096x4096 .f32 := m ((c : Thread nD τ).loc main_arg0)
abbrev A1 : Vec Ideal S4096x4096 .f32 := m ((c : Thread nD τ).loc main_arg1)
abbrev A2 : Vec Ideal S1x4096 .f32 := m ((c : Thread nD τ).loc main_arg2)
abbrev A3 : Vec Ideal S4096x4096 .f32 := m ((c : Thread nD τ).loc main_arg3)

theorem idx0 : ∀ t : Fin grid0.N, win0_0.index t (0 : Fin 2) = t.val ∧ win0_0.index t (1 : Fin 2) = 0 := by decide +kernel

theorem idx1 : ∀ t : Fin grid0.N, win0_1.index t (0 : Fin 2) = t.val ∧ win0_1.index t (1 : Fin 2) = 0 := by decide +kernel

theorem idx2 : ∀ t : Fin grid0.N, win0_2.index t (0 : Fin 2) = 0 ∧ win0_2.index t (1 : Fin 2) = 0 := by decide +kernel

theorem idx3 : ∀ t : Fin grid0.N, win0_3.index t (0 : Fin 2) = t.val ∧ win0_3.index t (1 : Fin 2) = 0 := by decide +kernel

theorem idx4 : ∀ t : Fin grid0.N, win0_4.index t (0 : Fin 2) = t.val ∧ win0_4.index t (1 : Fin 2) = 0 := by decide +kernel

theorem idx5 : ∀ t : Fin grid0.N, win0_5.index t (0 : Fin 2) = t.val ∧ win0_5.index t (1 : Fin 2) = 0 := by decide +kernel

theorem idx6 : ∀ t : Fin grid0.N, win0_6.index t (0 : Fin 2) = 0 ∧ win0_6.index t (1 : Fin 2) = 0 := by decide +kernel

theorem onto4 : ∀ p : Fin 16, ∃ t : Fin cfg0.N, (cfg0.win 4).flush t = true ∧
    win0_4.index t (0 : Fin 2) = p.val ∧ win0_4.index t (1 : Fin 2) = 0 := by decide +kernel

theorem onto5 : ∀ p : Fin 16, ∃ t : Fin cfg0.N, (cfg0.win 5).flush t = true ∧
    win0_5.index t (0 : Fin 2) = p.val ∧ win0_5.index t (1 : Fin 2) = 0 := by decide +kernel

section Blocks

variable {c}
variable (W : (b : Ref sig .tc) → Buf (Elt Ideal) ((c : Thread nD τ).loc b)) (t : Fin cfg0.N)

theorem block0 (r : Fin 256) (l : Fin 4096) (p0) :
    ((cfg0.win 0).blk t).view.read (Elt Ideal) (W (Pipeline.arrRef spec0 0)) (ix2 r l) = W main_arg0 (ix2 ⟨t.val * 256 + r.val, p0⟩ l) := by
  obtain ⟨e0, e1⟩ := idx0 t
  show W main_arg0 (((cfg0.win 0).blk t).view.emb (ix2 r l)) = _
  refine congrArg _ (funext fun a => Fin.ext ?_)
  match a with
  | ⟨0, _⟩ => show win0_0.index t (0 : Fin 2) * 256 + 1 * r.val = t.val * 256 + r.val; rw [e0]; omega
  | ⟨1, _⟩ => show win0_0.index t (1 : Fin 2) * 4096 + 1 * l.val = l.val; rw [e1]; omega

theorem block1 (r : Fin 256) (l : Fin 4096) (p0) :
    ((cfg0.win 1).blk t).view.read (Elt Ideal) (W (Pipeline.arrRef spec0 1)) (ix2 r l) = W main_arg1 (ix2 ⟨t.val * 256 + r.val, p0⟩ l) := by
  obtain ⟨e0, e1⟩ := idx1 t
  show W main_arg1 (((cfg0.win 1).blk t).view.emb (ix2 r l)) = _
  refine congrArg _ (funext fun a => Fin.ext ?_)
  match a with
  | ⟨0, _⟩ => show win0_1.index t (0 : Fin 2) * 256 + 1 * r.val = t.val * 256 + r.val; rw [e0]; omega
  | ⟨1, _⟩ => show win0_1.index t (1 : Fin 2) * 4096 + 1 * l.val = l.val; rw [e1]; omega

theorem block2 (l : Fin 4096) :
    ((cfg0.win 2).blk t).view.read (Elt Ideal) (W (Pipeline.arrRef spec0 2)) (ix2 (0 : Fin 1) l) = W main_arg2 (ix2 (0 : Fin 1) l) := by
  obtain ⟨e0, e1⟩ := idx2 t
  show W main_arg2 (((cfg0.win 2).blk t).view.emb (ix2 (0 : Fin 1) l)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 4096 + 1 * l.val = l.val; rw [e1]; omega

theorem block3 (r : Fin 256) (l : Fin 4096) (p0) :
    ((cfg0.win 3).blk t).view.read (Elt Ideal) (W (Pipeline.arrRef spec0 3)) (ix2 r l) = W main_arg3 (ix2 ⟨t.val * 256 + r.val, p0⟩ l) := by
  obtain ⟨e0, e1⟩ := idx3 t
  show W main_arg3 (((cfg0.win 3).blk t).view.emb (ix2 r l)) = _
  refine congrArg _ (funext fun a => Fin.ext ?_)
  match a with
  | ⟨0, _⟩ => show win0_3.index t (0 : Fin 2) * 256 + 1 * r.val = t.val * 256 + r.val; rw [e0]; omega
  | ⟨1, _⟩ => show win0_3.index t (1 : Fin 2) * 4096 + 1 * l.val = l.val; rw [e1]; omega

end Blocks

theorem read0 (t : Fin cfg0.N) (r : Fin 256) (l : Fin 4096) (p0) : iblk m c 0 t (ix2 r l) = A0 m c (ix2 ⟨t.val * 256 + r.val, p0⟩ l) :=
  (block0 (c := c) (V m c) t r l p0).trans (congrFun (V_main_arg0 m c) _)

theorem read1 (t : Fin cfg0.N) (r : Fin 256) (l : Fin 4096) (p0) : iblk m c 1 t (ix2 r l) = A1 m c (ix2 ⟨t.val * 256 + r.val, p0⟩ l) :=
  (block1 (c := c) (V m c) t r l p0).trans (congrFun (V_main_arg1 m c) _)

theorem read2 (t : Fin cfg0.N) (l : Fin 4096) : iblk m c 2 t (ix2 (0 : Fin 1) l) = A2 m c (ix2 (0 : Fin 1) l) :=
  (block2 (c := c) (V m c) t l).trans (congrFun (V_main_arg2 m c) _)

theorem read3 (t : Fin cfg0.N) (r : Fin 256) (l : Fin 4096) (p0) : iblk m c 3 t (ix2 r l) = A3 m c (ix2 ⟨t.val * 256 + r.val, p0⟩ l) :=
  (block3 (c := c) (V m c) t r l p0).trans (congrFun (V_main_arg3 m c) _)

theorem stored4 (t : Fin cfg0.N) : (outsAt0 m c t.val t.isLt).1 = k0_pay6 (iblk m c 0 t) (iblk m c 1 t) (iblk m c 2 t) (iblk m c 3 t) := by
  have ht : t.val < 16 := lt_of_lt_of_le t.isLt (by decide)
  by_cases h0 : t.val % 16 = 0
  · rw [outsAt0_A m c t h0 (by omega)]
    dsimp only
    rw [dx_first]
  · by_cases h1 : t.val % 16 = 15
    · rw [outsAt0_C m c t h0 h1]
      dsimp only
      rw [dx_last]
    · rw [outsAt0_B m c t h0 h1]
      dsimp only
      rw [dx_middle]

/-- A point writes back its rows of the gradient. -/
theorem flushed4 (t : Fin cfg0.N) :
    (dats m 0 c).flushed 4 t = ((cfg0.win 4).blk t).view.read (Elt Ideal) (grad (A0 m c) (A1 m c) (A2 m c) (A3 m c)) := by
  rw [Value.flushed4, stored4]
  obtain ⟨e0, e1⟩ := idx4 t
  have ht : t.val < 16 := lt_of_lt_of_le t.isLt (by decide)
  funext y
  have hya : (y 0).val < 256 := (y 0).isLt
  have p0 : t.val * 256 + (y 0).val < 4096 := by omega
  have hx : (cfg0.win 4).xinj (grid0.coords t) y = ix2 (y 0) (y 1) := by
    funext a; apply Fin.ext
    match a with
    | ⟨0, _⟩ => rfl
    | ⟨1, _⟩ => rfl
  have hb := k0_pay6_eq (iblk m c 0 t) (iblk m c 1 t) (iblk m c 2 t) (iblk m c 3 t) (y 0) (y 1) _ _ _ _
    (fun k => read0 m c t (y 0) k p0) (fun k => read1 m c t (y 0) k p0) (fun k => read2 m c t k) (read3 m c t (y 0) (y 1) p0)
  generalize k0_pay6 (iblk m c 0 t) (iblk m c 1 t) (iblk m c 2 t) (iblk m c 3 t) = o at hb ⊢
  show o ((cfg0.win 4).xinj (grid0.coords t) y) = grad (A0 m c) (A1 m c) (A2 m c) (A3 m c) (((cfg0.win 4).blk t).view.emb y)
  have g0 : ((cfg0.win 4).blk t).view.emb y 0 = (⟨t.val * 256 + (y 0).val, p0⟩ : Fin 4096) := Fin.ext (by
    show win0_4.index t (0 : Fin 2) * 256 + 1 * (y 0).val = t.val * 256 + (y 0).val; rw [e0]; omega)
  have g1 : ((cfg0.win 4).blk t).view.emb y 1 = y 1 := Fin.ext (by
    show win0_4.index t (1 : Fin 2) * 4096 + 1 * (y 1).val = (y 1).val; rw [e1]; omega)
  refine (congrArg o hx).trans (hb.trans ?_)
  unfold grad rowOf
  rw [g0, g1]

/-- Every index lies in the block of a point that writes back. -/
theorem cover4 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, hft, q0, q1⟩ := onto4 ⟨(i 0).val / 256, by omega⟩
  refine ⟨t, hft, ?_⟩
  show i ∈ ((View.whole main_v0_0).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; rw [q0]; dsimp only; omega
  | ⟨1, _⟩ => show win0_4.index t (1 : Fin 2) * 4096 ≤ (i 1).val ∧ (i 1).val < win0_4.index t (1 : Fin 2) * 4096 + 4096; rw [q1]; dsimp only; omega

theorem stored5 (t : Fin cfg0.N) : (outsAt0 m c t.val t.isLt).2.1 = k0_pay7 (iblk m c 0 t) (iblk m c 1 t) (iblk m c 2 t) (iblk m c 3 t) := by
  have ht : t.val < 16 := lt_of_lt_of_le t.isLt (by decide)
  by_cases h0 : t.val % 16 = 0
  · rw [outsAt0_A m c t h0 (by omega)]
    dsimp only
    rw [dxb_first]
  · by_cases h1 : t.val % 16 = 15
    · rw [outsAt0_C m c t h0 h1]
      dsimp only
      rw [dxb_last]
    · rw [outsAt0_B m c t h0 h1]
      dsimp only
      rw [dxb_middle]

/-- A point writes back its rows of the gradient in half the bits. -/
theorem flushed5 (t : Fin cfg0.N) :
    (dats m 0 c).flushed 5 t = ((cfg0.win 5).blk t).view.read (Elt Ideal) (gradB (A0 m c) (A1 m c) (A2 m c) (A3 m c)) := by
  rw [Value.flushed5, stored5]
  obtain ⟨e0, e1⟩ := idx5 t
  have ht : t.val < 16 := lt_of_lt_of_le t.isLt (by decide)
  funext y
  have hya : (y 0).val < 256 := (y 0).isLt
  have p0 : t.val * 256 + (y 0).val < 4096 := by omega
  have hx : (cfg0.win 5).xinj (grid0.coords t) y = ix2 (y 0) (y 1) := by
    funext a; apply Fin.ext
    match a with
    | ⟨0, _⟩ => rfl
    | ⟨1, _⟩ => rfl
  have hb := k0_pay7_eq (iblk m c 0 t) (iblk m c 1 t) (iblk m c 2 t) (iblk m c 3 t) (y 0) (y 1) _ _ _ _
    (fun k => read0 m c t (y 0) k p0) (fun k => read1 m c t (y 0) k p0) (fun k => read2 m c t k) (read3 m c t (y 0) (y 1) p0)
  generalize k0_pay7 (iblk m c 0 t) (iblk m c 1 t) (iblk m c 2 t) (iblk m c 3 t) = o at hb ⊢
  show o ((cfg0.win 5).xinj (grid0.coords t) y) = gradB (A0 m c) (A1 m c) (A2 m c) (A3 m c) (((cfg0.win 5).blk t).view.emb y)
  have g0 : ((cfg0.win 5).blk t).view.emb y 0 = (⟨t.val * 256 + (y 0).val, p0⟩ : Fin 4096) := Fin.ext (by
    show win0_5.index t (0 : Fin 2) * 256 + 1 * (y 0).val = t.val * 256 + (y 0).val; rw [e0]; omega)
  have g1 : ((cfg0.win 5).blk t).view.emb y 1 = y 1 := Fin.ext (by
    show win0_5.index t (1 : Fin 2) * 4096 + 1 * (y 1).val = (y 1).val; rw [e1]; omega)
  refine (congrArg o hx).trans (hb.trans ?_)
  unfold gradB rowOf
  rw [g0, g1]

/-- Every index lies in the block of a point that writes back. -/
theorem cover5 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, hft, q0, q1⟩ := onto5 ⟨(i 0).val / 256, by omega⟩
  refine ⟨t, hft, ?_⟩
  show i ∈ ((View.whole main_v0_1).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; rw [q0]; dsimp only; omega
  | ⟨1, _⟩ => show win0_5.index t (1 : Fin 2) * 4096 ≤ (i 1).val ∧ (i 1).val < win0_5.index t (1 : Fin 2) * 4096 + 4096; rw [q1]; dsimp only; omega

/-- What point `t` adds to running sum `i`. -/
def added (t : Fin cfg0.N) (i : Fin 8) (j : Fin 4096) : EReal := ∑ u : Fin 32, gAt (iblk m c 0 t) (iblk m c 1 t) (at8 u i) j

/-- The terms of the gain's gradient at the rows of point `t` that go to running sum `i`. -/
def part (h x : Vec Ideal S4096x4096 .f32) (i : Fin 8) (j : Fin 4096) (t : Fin 16) : EReal :=
  ∑ u : Fin 32, term h x j ⟨t.val * 256 + (u.val * 8 + i.val), by omega⟩

theorem added_eq (t : Fin cfg0.N) (ht : t.val < 16) (i : Fin 8) (j : Fin 4096) :
    added m c t i j = Sums.steps 16 (part (A0 m c) (A1 m c) i j) t.val := by
  refine Eq.trans ?_ (Sums.steps_lt 16 (part (A0 m c) (A1 m c) i j) ⟨t.val, ht⟩).symm
  unfold added part
  refine Finset.sum_congr rfl fun u _ => ?_
  have p0 : t.val * 256 + (at8 u i).val < 4096 := by have := (at8 u i).isLt; omega
  exact gAt_eq (iblk m c 0 t) (iblk m c 1 t) (at8 u i) j _ _ (fun k => read0 m c t (at8 u i) k p0) (fun k => read1 m c t (at8 u i) k p0)

theorem sums_first (t : Fin cfg0.N) (h : t.val % 16 = 0) (i : Fin 8) (j : Fin 4096) :
    (outsAt0 m c t.val t.isLt).2.2.2 (ix2 i j) = added m c t i j := by
  rw [outsAt0_A m c t h (by omega)]
  dsimp only
  rw [sum_first, tile1, tile8, zero_add]
  exact Finset.sum_congr rfl fun u _ => tile5 _ _ _ _

theorem sums_next (t : Fin cfg0.N) (h0 : ¬t.val % 16 = 0) (h1 : ¬t.val % 16 = 15) (i : Fin 8) (j : Fin 4096) :
    (outsAt0 m c t.val t.isLt).2.2.2 (ix2 i j)
      = (outsAt0 m c (t.val - 1) (Nat.lt_of_le_of_lt (Nat.sub_le _ _) t.isLt)).2.2.2 (ix2 i j) + added m c t i j := by
  rw [outsAt0_B m c t h0 h1]
  dsimp only
  rw [sum_middle, tile1]
  exact congrArg _ (Finset.sum_congr rfl fun u _ => tile5 _ _ _ _)

theorem result_last (t : Fin cfg0.N) (h : t.val % 16 = 15) (j : Fin 4096) :
    (outsAt0 m c t.val t.isLt).2.2.1 (ix2 (0 : Fin 1) j)
      = ∑ i : Fin 8, ((outsAt0 m c (t.val - 1) (Nat.lt_of_le_of_lt (Nat.sub_le _ _) t.isLt)).2.2.2 (ix2 i j) + added m c t i j) := by
  rw [outsAt0_C m c t (by omega) h]
  dsimp only
  rw [dg_last, tile2]
  refine Finset.sum_congr rfl fun i _ => ?_
  rw [tile1]
  exact congrArg _ (Finset.sum_congr rfl fun u _ => tile5 _ _ _ _)

/-- After point `r` a running sum holds the terms of the first `r + 1` points. -/
theorem sums (i : Fin 8) (j : Fin 4096) (r : ℕ) (hr : r ≤ 14) (t : Fin cfg0.N) (h : t.val = r) :
    (outsAt0 m c t.val t.isLt).2.2.2 (ix2 i j) = ∑ s ∈ Finset.range (r + 1), Sums.steps 16 (part (A0 m c) (A1 m c) i j) s := by
  induction r generalizing t with
  | zero => rw [sums_first m c t (by omega) i j, added_eq m c t (by omega), h, Finset.sum_range_one]
  | succ r ih =>
    rw [sums_next m c t (by omega) (by omega) i j, added_eq m c t (by omega), Finset.sum_range_succ]
    have hp := ih (by omega) ⟨t.val - 1, Nat.lt_of_le_of_lt (Nat.sub_le _ _) t.isLt⟩ (by dsimp only; omega)
    exact congrArg₂ (· + ·) hp (congrArg (Sums.steps 16 (part (A0 m c) (A1 m c) i j)) h)

/-- What the last point stores: the gain's gradient. -/
theorem total (j : Fin 4096) (t : Fin cfg0.N) (h : t.val = 15) :
    (outsAt0 m c t.val t.isLt).2.2.1 (ix2 (0 : Fin 1) j) = ∑ r : Fin 4096, term (A0 m c) (A1 m c) j r := by
  rw [result_last m c t (by omega) j]
  have hs : ∀ i : Fin 8, (outsAt0 m c (t.val - 1) (Nat.lt_of_le_of_lt (Nat.sub_le _ _) t.isLt)).2.2.2 (ix2 i j) + added m c t i j
      = ∑ s : Fin 16, part (A0 m c) (A1 m c) i j s := by
    intro i
    have hp := sums m c i j 14 (le_refl _) ⟨t.val - 1, Nat.lt_of_le_of_lt (Nat.sub_le _ _) t.isLt⟩ (by dsimp only; omega)
    rw [added_eq m c t (by omega), ← Sums.steps_sum, Finset.sum_range_succ]
    exact congrArg₂ (· + ·) hp (congrArg (Sums.steps 16 (part (A0 m c) (A1 m c) i j)) h)
  rw [Finset.sum_congr rfl fun i _ => hs i, Cert.RmsNorm.sum_runs (a := 16) (b := 256) 4096 rfl _ (fun p q => by omega), Finset.sum_comm]
  refine Finset.sum_congr rfl fun s _ => ?_
  rw [Cert.RmsNorm.sum_runs (a := 32) (b := 8) 256 rfl _ (fun p q => by omega), Finset.sum_comm]
  rfl

/-- The last point writes back the gain's gradient. -/
theorem flushed6 (t : Fin cfg0.N) (hf : (cfg0.win 6).flush t = true) :
    (dats m 0 c).flushed 6 t = ((cfg0.win 6).blk t).view.read (Elt Ideal) (gain (A0 m c) (A1 m c)) := by
  have hm : t.val % 16 = 15 := (flush0_6 t).mp hf
  have ht : t.val < 16 := lt_of_lt_of_le t.isLt (by decide)
  rw [Value.flushed6]
  obtain ⟨e0, e1⟩ := idx6 t
  funext y
  have hya : (y 0).val < 1 := (y 0).isLt
  have hx : (cfg0.win 6).xinj (grid0.coords t) y = ix2 (0 : Fin 1) (y 1) := by
    funext a; apply Fin.ext
    match a with
    | ⟨0, _⟩ => show (y 0).val = 0; omega
    | ⟨1, _⟩ => rfl
  have hb := total m c (y 1) t (by omega)
  generalize (outsAt0 m c t.val t.isLt).2.2.1 = o at hb ⊢
  show o ((cfg0.win 6).xinj (grid0.coords t) y) = gain (A0 m c) (A1 m c) (((cfg0.win 6).blk t).view.emb y)
  have g1 : ((cfg0.win 6).blk t).view.emb y 1 = y 1 := Fin.ext (by
    show win0_6.index t (1 : Fin 2) * 4096 + 1 * (y 1).val = (y 1).val; rw [e1]; omega)
  refine (congrArg o hx).trans (hb.trans ?_)
  unfold gain
  rw [g1]

theorem cover6 (i : S1x4096.Idx) : ∃ t : Fin cfg0.N, (cfg0.win 6).flush t = true ∧ i ∈ ((cfg0.win 6).blk t).view.set := by
  have hi0 : (i 0).val < 1 := (i 0).isLt
  have hi1 : (i 1).val < 4096 := (i 1).isLt
  have h15 : (15 : ℕ) < cfg0.N := by decide
  refine ⟨⟨15, h15⟩, (flush0_6 ⟨15, h15⟩).mpr rfl, ?_⟩
  obtain ⟨q0, q1⟩ := idx6 ⟨15, h15⟩
  show i ∈ ((View.whole main_v0_2).slice (win0_6.rect ⟨15, h15⟩)).set
  rw [View.set_slice_whole, Rect.mem_set_unit]
  intro a
  match a with
  | ⟨0, _⟩ => show win0_6.index ⟨15, h15⟩ (0 : Fin 2) * 1 ≤ (i 0).val ∧ (i 0).val < win0_6.index ⟨15, h15⟩ (0 : Fin 2) * 1 + 1; rw [q0]; omega
  | ⟨1, _⟩ => show win0_6.index ⟨15, h15⟩ (1 : Fin 2) * 4096 ≤ (i 1).val ∧ (i 1).val < win0_6.index ⟨15, h15⟩ (1 : Fin 2) * 4096 + 4096; rw [q1]; omega

/-- The kernel ends with the gradients, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = grad (A0 m c) (A1 m c) (A2 m c) (A3 m c)
      ∧ r.2.mem ((c : Thread nD τ).loc main_v0_1) = gradB (A0 m c) (A1 m c) (A2 m c) (A3 m c)
      ∧ r.2.mem ((c : Thread nD τ).loc main_v0_2) = gain (A0 m c) (A1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t hf => flushed4 m c t) cover4),
      (h c).2.1.trans ((dats m 0 c).arrAt_eq_of_cover 5 _ (fun t hf => flushed5 m c t) cover5),
      (h c).2.2.1.trans ((dats m 0 c).arrAt_eq_of_cover 6 _ (fun t hf => flushed6 m c t hf) cover6), (h c).2.2.2⟩)
    (Value.run_blocks m ρ)

end Cert.Kernel26Ideal.Norm

namespace Cert.Reference26Ideal.Norm

open Cert.Reference26Ideal Cert.Reference26Ideal.Gen
open Cert.RmsNorm (rs ms len eps mhalf sumSq dx dk dxChain dx_eq)
open Cert.Kernel26Ideal.Norm (rowOf term grad gradB gain)

/-- The sum of the argument's gradient and what arrives past it, as the reference writes it. -/
def plain (a0 a1 : FVec Ideal S4096x4096 .f32) (a2 : FVec Ideal S1x4096 .f32) (a3 : FVec Ideal S4096x4096 .f32) : FVec Ideal S4096x4096 .f32 :=
  addf (addf (addf (mulf (mulf a0 (broadcastInDim S4096x4096 ![0, 1] bcast_S1x4096_S4096x4096_0_1 a2)) (broadcastInDim S4096x4096 ![0, 1] bcast_S4096x1_S4096x4096_0_1 (Host.rsqrt (addf (Host.divf (broadcastInDim S4096x1 ![0] bcast_S4096_S4096x1_0 (Host.reduceAdd (mulf a1 a1) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (mulf a1 (broadcastInDim S4096x4096 ![0] bcast_S4096_S4096x4096_0 (Host.reduceAdd (Host.divf (mulf (shapeCast _ (Host.reduceAdd (mulf a1 (mulf a0 (broadcastInDim S4096x4096 ![0, 1] bcast_S1x4096_S4096x4096_0_1 a2))) (constant S_ .f32 0x00000000#32) reducesTo_S4096x4096_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a1 a1) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))) (addf (Host.divf (broadcastInDim S4096x1 ![0] bcast_S4096_S4096x1_0 (Host.reduceAdd (mulf a1 a1) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x1 ![] bcast_S_S4096x1 (constant S_ .f32 0x45800000#32))) (constant S_ .f32 0x00000000#32) reducesTo_S4096x1_S4096_d1 h_S_)))) (mulf (broadcastInDim S4096x4096 ![0] bcast_S4096_S4096x4096_0 (Host.reduceAdd (Host.divf (mulf (shapeCast _ (Host.reduceAdd (mulf a1 (mulf a0 (broadcastInDim S4096x4096 ![0, 1] bcast_S1x4096_S4096x4096_0_1 a2))) (constant S_ .f32 0x00000000#32) reducesTo_S4096x4096_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a1 a1) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))) (addf (Host.divf (broadcastInDim S4096x1 ![0] bcast_S4096_S4096x1_0 (Host.reduceAdd (mulf a1 a1) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x1 ![] bcast_S_S4096x1 (constant S_ .f32 0x45800000#32))) (constant S_ .f32 0x00000000#32) reducesTo_S4096x1_S4096_d1 h_S_)) a1)) a3

theorem plain_at (a0 a1 : FVec Ideal S4096x4096 .f32) (a2 : FVec Ideal S1x4096 .f32) (a3 : FVec Ideal S4096x4096 .f32) (i j : Fin 4096) :
    plain a0 a1 a2 a3 (ix2 i j)
      = dxChain (rowOf a0 i) (rowOf a1 i) (fun k => a2 (ix2 (0 : Fin 1) k)) j + a3 (ix2 i j) := by
  unfold plain dxChain dk rs ms len eps mhalf sumSq rowOf
  pointwise
  simp only [add_assoc, Finset.sum_const, Finset.card_univ, Fintype.card_fin, one_smul]

theorem plain_eq (a0 a1 : FVec Ideal S4096x4096 .f32) (a2 : FVec Ideal S1x4096 .f32) (a3 : FVec Ideal S4096x4096 .f32) : plain a0 a1 a2 a3 = grad a0 a1 a2 a3 := by
  funext i
  have hi : i = ix2 (i 0) (i 1) := by
    funext d
    match d with
    | ⟨0, _⟩ => rfl
    | ⟨1, _⟩ => rfl
  refine (congrArg (plain a0 a1 a2 a3) hi).trans ((plain_at a0 a1 a2 a3 (i 0) (i 1)).trans ?_)
  exact congrArg (· + a3 (ix2 (i 0) (i 1))) (dx_eq _ _ _ _)

theorem plainB_eq (a0 a1 : FVec Ideal S4096x4096 .f32) (a2 : FVec Ideal S1x4096 .f32) (a3 : FVec Ideal S4096x4096 .f32) : (truncf .bf16 (plain a0 a1 a2 a3) bitsLt_bf16_f32 : FVec Ideal S4096x4096 .bf16) = gradB a0 a1 a2 a3 := by
  rw [plain_eq]
  rfl

/-- The gain's gradient as the reference writes it. -/
def plainGain (a0 a1 : FVec Ideal S4096x4096 .f32) : FVec Ideal S1x4096 .f32 :=
  shapeCast _ (Host.reduceAdd (mulf (mulf a1 (broadcastInDim S4096x4096 ![0, 1] bcast_S4096x1_S4096x4096_0_1 (Host.rsqrt (addf (Host.divf (broadcastInDim S4096x1 ![0] bcast_S4096_S4096x1_0 (Host.reduceAdd (mulf a1 a1) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) a0) (constant S_ .f32 0x00000000#32) reducesTo_S4096x4096_S4096_d0 h_S_) shapeCasts_S4096_S1x4096

theorem plainGain_at (a0 a1 : FVec Ideal S4096x4096 .f32) (j : Fin 4096) :
    plainGain a0 a1 (ix2 (0 : Fin 1) j) = ∑ r : Fin 4096, a1 (ix2 r j) * rs (sumSq (rowOf a1 r)) * a0 (ix2 r j) := by
  unfold plainGain rs ms len eps sumSq rowOf
  pointwise

theorem plainGain_eq (a0 a1 : FVec Ideal S4096x4096 .f32) : plainGain a0 a1 = gain a0 a1 := by
  funext i
  have hi : i = ix2 (0 : Fin 1) (i 1) := by
    funext d
    match d with
    | ⟨0, _⟩ => exact Fin.ext (by have h : (i 0).val < 1 := (i 0).isLt; show (i 0).val = 0; omega)
    | ⟨1, _⟩ => rfl
  refine (congrArg (plainGain a0 a1) hi).trans ((plainGain_at a0 a1 (i 1)).trans ?_)
  unfold gain term
  exact Finset.sum_congr rfl fun r _ => mul_comm _ _

variable (m : (ℓ : Loc nD τ sig) → Buf (Elt Ideal) ℓ) (c : Dev nD)

abbrev B0 : FVec Ideal S4096x4096 .f32 := m ((c.tc : Thread nD τ).loc main_arg0)
abbrev B1 : FVec Ideal S4096x4096 .f32 := m ((c.tc : Thread nD τ).loc main_arg1)
abbrev B2 : FVec Ideal S1x4096 .f32 := m ((c.tc : Thread nD τ).loc main_arg2)
abbrev B3 : FVec Ideal S4096x4096 .f32 := m ((c.tc : Thread nD τ).loc main_arg3)

/-- The reference ends with the gradients, its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v34) = grad (B0 m c) (B1 m c) (B2 m c) (B3 m c)
      ∧ r.2.mem ((c.tc : Thread nD τ).loc main_v36) = gradB (B0 m c) (B1 m c) (B2 m c) (B3 m c)
      ∧ r.2.mem ((c.tc : Thread nD τ).loc main_v17) = gain (B0 m c) (B1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (Cert.Reference26Ideal.Value.run (F := Ideal) m ρ)
  obtain ⟨h1, h2, h3, h4⟩ := h c
  refine ⟨?_, ?_, ?_, h4⟩
  · rw [h1, ← plain_eq]
    unfold plain
    rfl
  · rw [h2, ← plainB_eq]
    unfold plain
    rfl
  · rw [h3, ← plainGain_eq]
    unfold plainGain
    rfl

end Cert.Reference26Ideal.Norm

namespace Cert.NormBwd

open Cert.Kernel26Ideal.Norm

/-- The two programs end with the same results. -/
theorem algebraic : Cert.algebraic_Kernel26Ideal_Reference26Ideal (hKernel26Ideal := Cert.Kernel26Ideal.Gen.facts)
    (hReference26Ideal := Cert.Reference26Ideal.Gen.facts) := by
  intro m g m' g' _ hag
  refine ⟨fun c => grad (A0 m c) (A1 m c) (A2 m c) (A3 m c), fun c => gradB (A0 m c) (A1 m c) (A2 m c) (A3 m c),
    fun c => gain (A0 m c) (A1 m c), run m g, ?_⟩
  refine (θ_run _ _ _).mono (fun r h c => ?_) (Cert.Reference26Ideal.Norm.run m' g')
  obtain ⟨h1, h2, h3, h4⟩ := h c
  obtain ⟨e0, e1, e2, e3⟩ := hag c
  refine ⟨h1.trans ?_, h2.trans ?_, h3.trans ?_, h4⟩ <;>
  · dsimp only [A0, A1, A2, A3, Cert.Reference26Ideal.Norm.B0, Cert.Reference26Ideal.Norm.B1, Cert.Reference26Ideal.Norm.B2, Cert.Reference26Ideal.Norm.B3]
    rw [e0, e1]
    try rw [e2, e3]

end Cert.NormBwd

end
-- ==== Proof.NormFwd.lean ====
/-
  The root-mean-square norm: the tiled kernel and the plain lines have the same elements.
-/
module

public import proofs.«01_k».proof.Defs
public import proofs.«01_k».proof.Proof.RmsNorm
public import proofs.«01_k».proof.Proof.Gen.Kernel27Ideal.Value
public import proofs.«01_k».proof.Proof.Gen.Reference27Ideal.Run
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.Kernel27Ideal.Norm

open Cert.Kernel27Ideal Cert.Kernel27Ideal.Gen
open Cert.RmsNorm (rs ms len eps)

/-- The normed array. -/
def normed (a : Vec Ideal S4096x4096 .f32) (g : Vec Ideal S1x4096 .f32) : Vec Ideal S4096x4096 .bf16 :=
  fun i => a (ix2 (i 0) (i 1)) * rs (∑ k : Fin 4096, a (ix2 (i 0) k) * a (ix2 (i 0) k)) * g (ix2 (0 : Fin 1) (i 1))

theorem out_at (x0 : Vec Ideal S256x4096 .f32) (x1 : Vec Ideal S1x4096 .f32) (i : Fin 256) (j : Fin 4096) :
    out0_2 x0 x1 (ix2 i j) = x0 (ix2 i j) * rs (∑ k : Fin 4096, x0 (ix2 i k) * x0 (ix2 i k)) * x1 (ix2 (0 : Fin 1) j) := by
  have hz : (![0, 0] : Fin 2 → Nat) = fun _ => 0 := by decide
  unfold out0_2 rs ms len eps
  rw [View.canon_unit_zero (S := S256x4096) hz, View.ld_unit_zero (S := S256x4096) hz, View.ld_unit_zero (S := S1x4096) hz]
  pointwise [k0_pay1]

theorem out_eq (x0 : Vec Ideal S256x4096 .f32) (x1 : Vec Ideal S1x4096 .f32) (i : Fin 256) (j : Fin 4096) (a : Fin 4096 → EReal) (g : EReal)
    (h0 : ∀ k, x0 (ix2 i k) = a k) (h1 : x1 (ix2 (0 : Fin 1) j) = g) :
    out0_2 x0 x1 (ix2 i j) = a j * rs (∑ k : Fin 4096, a k * a k) * g := by
  rw [out_at, h0, h1]
  simp only [h0]

variable (m : (ℓ : Loc nD τ sig) → Buf (Elt Ideal) ℓ) (c : Dev nD)

abbrev A0 : Vec Ideal S4096x4096 .f32 := m ((c : Thread nD τ).loc main_arg0)
abbrev A1 : Vec Ideal S1x4096 .f32 := m ((c : Thread nD τ).loc main_arg1)

theorem idx0 : ∀ t : Fin grid0.N, win0_0.index t (0 : Fin 2) = t.val ∧ win0_0.index t (1 : Fin 2) = 0 := by decide +kernel

theorem idx1 : ∀ t : Fin grid0.N, win0_1.index t (0 : Fin 2) = 0 ∧ win0_1.index t (1 : Fin 2) = 0 := by decide +kernel

theorem idx2 : ∀ t : Fin grid0.N, win0_2.index t (0 : Fin 2) = t.val ∧ win0_2.index t (1 : Fin 2) = 0 := by decide +kernel

theorem onto : ∀ p : Fin 16, ∃ t : Fin cfg0.N, (cfg0.win 2).flush t = true ∧
    win0_2.index t (0 : Fin 2) = p.val ∧ win0_2.index t (1 : Fin 2) = 0 := by decide +kernel

section Blocks

variable {c}
variable (W : (b : Ref sig .tc) → Buf (Elt Ideal) ((c : Thread nD τ).loc b)) (t : Fin cfg0.N)

theorem block0 (r : Fin 256) (l : Fin 4096) (p0) :
    ((cfg0.win 0).blk t).view.read (Elt Ideal) (W (Pipeline.arrRef spec0 0)) (ix2 r l) = W main_arg0 (ix2 ⟨t.val * 256 + r.val, p0⟩ l) := by
  obtain ⟨e0, e1⟩ := idx0 t
  show W main_arg0 (((cfg0.win 0).blk t).view.emb (ix2 r l)) = _
  refine congrArg _ (funext fun a => Fin.ext ?_)
  match a with
  | ⟨0, _⟩ => show win0_0.index t (0 : Fin 2) * 256 + 1 * r.val = t.val * 256 + r.val; rw [e0]; omega
  | ⟨1, _⟩ => show win0_0.index t (1 : Fin 2) * 4096 + 1 * l.val = l.val; rw [e1]; omega

theorem block1 (l : Fin 4096) :
    ((cfg0.win 1).blk t).view.read (Elt Ideal) (W (Pipeline.arrRef spec0 1)) (ix2 (0 : Fin 1) l) = W main_arg1 (ix2 (0 : Fin 1) l) := by
  obtain ⟨e0, e1⟩ := idx1 t
  show W main_arg1 (((cfg0.win 1).blk t).view.emb (ix2 (0 : Fin 1) l)) = _
  refine congrArg _ (funext fun a => Fin.ext ?_)
  match a with
  | ⟨0, _⟩ => show win0_1.index t (0 : Fin 2) * 1 + 1 * 0 = 0; rw [e0]
  | ⟨1, _⟩ => show win0_1.index t (1 : Fin 2) * 4096 + 1 * l.val = l.val; rw [e1]; omega

end Blocks

/-- A grid point writes back its rows of the result. -/
theorem flushed (t : Fin cfg0.N) :
    (dats m 0 c).flushed 2 t = ((cfg0.win 2).blk t).view.read (Elt Ideal) (normed (A0 m c) (A1 m c)) := by
  rw [Value.flushed2]
  obtain ⟨e0, e1⟩ := idx2 t
  have ht : t.val < 16 := lt_of_lt_of_le t.isLt (by decide)
  funext y
  have hya : (y 0).val < 256 := (y 0).isLt
  have p0 : t.val * 256 + (y 0).val < 4096 := by omega
  have hx : (cfg0.win 2).xinj (grid0.coords t) y = ix2 (y 0) (y 1) := by
    funext a; apply Fin.ext
    match a with
    | ⟨0, _⟩ => rfl
    | ⟨1, _⟩ => rfl
  have r0 := fun k : Fin 4096 => (block0 (c := c) (V m c) t (y 0) k p0).trans (congrFun (V_main_arg0 m c) _)
  have r1 := (block1 (c := c) (V m c) t (y 1)).trans (congrFun (V_main_arg1 m c) _)
  have hb := out_eq (iblk m c 0 t) (iblk m c 1 t) (y 0) (y 1) _ _ r0 r1
  generalize out0_2 (iblk m c 0 t) (iblk m c 1 t) = o at hb ⊢
  show o ((cfg0.win 2).xinj (grid0.coords t) y) = normed (A0 m c) (A1 m c) (((cfg0.win 2).blk t).view.emb y)
  have g0 : ((cfg0.win 2).blk t).view.emb y 0 = (⟨t.val * 256 + (y 0).val, p0⟩ : Fin 4096) := Fin.ext (by
    show win0_2.index t (0 : Fin 2) * 256 + 1 * (y 0).val = t.val * 256 + (y 0).val; rw [e0]; omega)
  have g1 : ((cfg0.win 2).blk t).view.emb y 1 = y 1 := Fin.ext (by
    show win0_2.index t (1 : Fin 2) * 4096 + 1 * (y 1).val = (y 1).val; rw [e1]; omega)
  refine (congrArg o hx).trans (hb.trans ?_)
  unfold normed
  rw [g0, g1]

/-- Every index lies in the block of a point that writes back. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, hft, q0, q1⟩ := onto ⟨(i 0).val / 256, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 256 ≤ (i 0).val ∧ (i 0).val < win0_2.index t (0 : Fin 2) * 256 + 256; rw [q0]; dsimp only; omega
  | ⟨1, _⟩ => show win0_2.index t (1 : Fin 2) * 4096 ≤ (i 1).val ∧ (i 1).val < win0_2.index t (1 : Fin 2) * 4096 + 4096; rw [q1]; dsimp only; omega

/-- The kernel ends with the normed array, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = normed (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel27Ideal.Norm

namespace Cert.Reference27Ideal.Norm

open Cert.Reference27Ideal Cert.Reference27Ideal.Gen
open Cert.RmsNorm (rs ms len eps)

/-- The reference's result, element by element. -/
theorem host (a0 : Vec Ideal S4096x4096 .f32) (a1 : Vec Ideal S1x4096 .f32) (i : Fin 4096) (j : Fin 4096) :
    (truncf .bf16 (mulf (mulf a0 (broadcastInDim S4096x4096 ![0, 1] bcast_S4096x1_S4096x4096_0_1 (Host.rsqrt (addf (Host.divf (broadcastInDim S4096x1 ![0] bcast_S4096_S4096x1_0 (Host.reduceAdd (mulf a0 a0) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x4096 ![0, 1] bcast_S1x4096_S4096x4096_0_1 a1)) bitsLt_bf16_f32 : FVec Ideal S4096x4096 .bf16) (ix2 i j)
      = a0 (ix2 i j) * rs (∑ k : Fin 4096, a0 (ix2 i k) * a0 (ix2 i k)) * a1 (ix2 (0 : Fin 1) j) := by
  unfold rs ms len eps
  pointwise

theorem value (a0 : Vec Ideal S4096x4096 .f32) (a1 : Vec Ideal S1x4096 .f32) (w : Vec Ideal S4096x4096 .bf16)
    (e : ∀ (i : Fin 4096) (j : Fin 4096), w (ix2 i j) = a0 (ix2 i j) * rs (∑ k : Fin 4096, a0 (ix2 i k) * a0 (ix2 i k)) * a1 (ix2 (0 : Fin 1) j)) :
    w = Cert.Kernel27Ideal.Norm.normed a0 a1 := by
  funext i
  have hi : i = ix2 (i 0) (i 1) := by
    funext d
    match d with
    | ⟨0, _⟩ => rfl
    | ⟨1, _⟩ => rfl
  exact (congrArg w hi).trans (e (i 0) (i 1))

end Cert.Reference27Ideal.Norm

namespace Cert.NormFwd

/-- The two programs end with the same result. -/
theorem algebraic : Cert.algebraic_Kernel27Ideal_Reference27Ideal (hKernel27Ideal := Cert.Kernel27Ideal.Gen.facts)
    (hReference27Ideal := Cert.Reference27Ideal.Gen.facts) := by
  intro m g m' g' _ hag
  refine ⟨fun c => Cert.Kernel27Ideal.Norm.normed (Cert.Kernel27Ideal.Norm.A0 m c) (Cert.Kernel27Ideal.Norm.A1 m c),
    Cert.Kernel27Ideal.Norm.run m g, ?_⟩
  refine (θ_run _ _ _).mono (fun r h c => ⟨?_, (h c).2⟩) (Cert.Reference27Ideal.Value.run (F := Ideal) m' g')
  refine (h c).1.trans ((Cert.Reference27Ideal.Norm.value (m' (c.tc.loc Cert.Reference27Ideal.main_arg0)) (m' (c.tc.loc Cert.Reference27Ideal.main_arg1)) _ (Cert.Reference27Ideal.Norm.host (m' (c.tc.loc Cert.Reference27Ideal.main_arg0)) (m' (c.tc.loc Cert.Reference27Ideal.main_arg1)))).trans ?_)
  unfold Cert.Kernel27Ideal.Norm.A0 Cert.Kernel27Ideal.Norm.A1
  rw [(hag c).1, (hag c).2]

end Cert.NormFwd

end
-- ==== Proof.AdamW.lean ====
/-
  The AdamW step, one call for each shape of weight: the tiled kernel and the plain lines have the same elements.
-/
module

public import proofs.«01_k».proof.Defs
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.AdamWFfn

/-- The two programs for the feed-forward weights end with the same step and the same moments. -/
theorem algebraic : Cert.algebraic_Kernel28Ideal_Reference28Ideal (hKernel28Ideal := Cert.Kernel28Ideal.Gen.facts)
    (hReference28Ideal := Cert.Reference28Ideal.Gen.facts) := by
  intro m g m' g' _ hag
  refine ⟨fun c => Cert.Kernel28Ideal.Value.G4 (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))
      (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg0)),
    fun c => Cert.Kernel28Ideal.Value.G5 (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)),
    fun c => Cert.Kernel28Ideal.Value.G6 (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg3)),
    Cert.Kernel28Ideal.Value.run m g, ?_⟩
  refine (θ_run _ _ _).mono (fun r h c => ?_) (Cert.Reference28Ideal.Value.run (F := Ideal) m' g')
  obtain ⟨h1, h2, h3, h4⟩ := h c
  obtain ⟨e0, e1, e2, e3⟩ := hag c
  rw [e0, e1, e2, e3] at h1
  rw [e1, e2] at h2
  rw [e1, e3] at h3
  exact ⟨h1.trans rfl, h2.trans rfl, h3.trans rfl, h4⟩

end Cert.AdamWFfn

namespace Cert.AdamWBranch

/-- The two programs for the branches' weights end with the same step and the same moments. -/
theorem algebraic : Cert.algebraic_Kernel29Ideal_Reference29Ideal (hKernel29Ideal := Cert.Kernel29Ideal.Gen.facts)
    (hReference29Ideal := Cert.Reference29Ideal.Gen.facts) := by
  intro m g m' g' _ hag
  refine ⟨fun c => Cert.Kernel29Ideal.Value.G4 (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))
      (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg0)),
    fun c => Cert.Kernel29Ideal.Value.G5 (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)),
    fun c => Cert.Kernel29Ideal.Value.G6 (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg3)),
    Cert.Kernel29Ideal.Value.run m g, ?_⟩
  refine (θ_run _ _ _).mono (fun r h c => ?_) (Cert.Reference29Ideal.Value.run (F := Ideal) m' g')
  obtain ⟨h1, h2, h3, h4⟩ := h c
  obtain ⟨e0, e1, e2, e3⟩ := hag c
  rw [e0, e1, e2, e3] at h1
  rw [e1, e2] at h2
  rw [e1, e3] at h3
  exact ⟨h1.trans rfl, h2.trans rfl, h3.trans rfl, h4⟩

end Cert.AdamWBranch

namespace Cert.AdamWOut

/-- The two programs for the output weight end with the same step and the same moments. -/
theorem algebraic : Cert.algebraic_Kernel30Ideal_Reference30Ideal (hKernel30Ideal := Cert.Kernel30Ideal.Gen.facts)
    (hReference30Ideal := Cert.Reference30Ideal.Gen.facts) := by
  intro m g m' g' _ hag
  refine ⟨fun c => Cert.Kernel30Ideal.Value.G4 (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2))
      (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg0)),
    fun c => Cert.Kernel30Ideal.Value.G5 (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)),
    fun c => Cert.Kernel30Ideal.Value.G6 (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg3)),
    Cert.Kernel30Ideal.Value.run m g, ?_⟩
  refine (θ_run _ _ _).mono (fun r h c => ?_) (Cert.Reference30Ideal.Value.run (F := Ideal) m' g')
  obtain ⟨h1, h2, h3, h4⟩ := h c
  obtain ⟨e0, e1, e2, e3⟩ := hag c
  rw [e0, e1, e2, e3] at h1
  rw [e1, e2] at h2
  rw [e1, e3] at h3
  exact ⟨h1.trans rfl, h2.trans rfl, h3.trans rfl, h4⟩

end Cert.AdamWOut

namespace Cert.AdamWIn

/-- The two programs for the input weight end with the same step and the same moments. -/
theorem algebraic : Cert.algebraic_Kernel31Ideal_Reference31Ideal (hKernel31Ideal := Cert.Kernel31Ideal.Gen.facts)
    (hReference31Ideal := Cert.Reference31Ideal.Gen.facts) := by
  intro m g m' g' _ hag
  refine ⟨fun c => Cert.Kernel31Ideal.Value.G4 (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))
      (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg0)),
    fun c => Cert.Kernel31Ideal.Value.G5 (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)),
    fun c => Cert.Kernel31Ideal.Value.G6 (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg3)),
    Cert.Kernel31Ideal.Value.run m g, ?_⟩
  refine (θ_run _ _ _).mono (fun r h c => ?_) (Cert.Reference31Ideal.Value.run (F := Ideal) m' g')
  obtain ⟨h1, h2, h3, h4⟩ := h c
  obtain ⟨e0, e1, e2, e3⟩ := hag c
  rw [e0, e1, e2, e3] at h1
  rw [e1, e2] at h2
  rw [e1, e3] at h3
  exact ⟨h1.trans rfl, h2.trans rfl, h3.trans rfl, h4⟩

end Cert.AdamWIn

namespace Cert.AdamWSmall

/-- The two programs for the vectors packed as rows end with the same step and the same moments. -/
theorem algebraic : Cert.algebraic_Kernel32Ideal_Reference32Ideal (hKernel32Ideal := Cert.Kernel32Ideal.Gen.facts)
    (hReference32Ideal := Cert.Reference32Ideal.Gen.facts) := by
  intro m g m' g' _ hag
  refine ⟨fun c => Cert.Kernel32Ideal.Value.G4 (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2))
      (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg0)),
    fun c => Cert.Kernel32Ideal.Value.G5 (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)),
    fun c => Cert.Kernel32Ideal.Value.G6 (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg3)),
    Cert.Kernel32Ideal.Value.run m g, ?_⟩
  refine (θ_run _ _ _).mono (fun r h c => ?_) (Cert.Reference32Ideal.Value.run (F := Ideal) m' g')
  obtain ⟨h1, h2, h3, h4⟩ := h c
  obtain ⟨e0, e1, e2, e3⟩ := hag c
  rw [e0, e1, e2, e3] at h1
  rw [e1, e2] at h2
  rw [e1, e3] at h3
  exact ⟨h1.trans rfl, h2.trans rfl, h3.trans rfl, h4⟩

end Cert.AdamWSmall

end
-- ==== Proof.ForgetFwd.lean ====
/-
  The forget gate's running sum of logs: the tiled kernel and the plain lines have the same elements.
-/
module

public import proofs.«01_k».proof.Defs
public import proofs.«01_k».proof.Proof.Sums
public import proofs.«01_k».proof.Proof.Gen.Kernel33Ideal.Value
public import proofs.«01_k».proof.Proof.Gen.Reference33Ideal.Run
public import Idealize.ShloMosaic.Lib.Pointwise
public import Idealize.ShloMosaic.Lib.Routing.OpsPair
public import Idealize.ShloMosaic.Lib.StableHlo.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.Forget

/-- The log of the sigmoid, as the kernel takes it. -/
def logSig (z : EReal) : EReal := min z 0 - Ideal.log (1 + Ideal.exp (0 - max z (-z)))

theorem exp_nonneg (x : EReal) : 0 ≤ Ideal.exp x := by
  induction x with
  | bot => exact le_refl _
  | top => exact le_top
  | coe r => exact EReal.coe_nonneg.mpr (Real.exp_pos r).le

theorem log_ne_bot (x : EReal) (h : 1 ≤ x) : Ideal.log x ≠ ⊥ := by
  induction x with
  | bot => exact absurd (le_bot_iff.mp h) (EReal.coe_ne_bot 1)
  | top => exact top_ne_bot
  | coe r =>
    have h1 : (1 : ℝ) ≤ r := EReal.coe_le_coe_iff.mp h
    have e : Ideal.log (r : EReal) = if r ≤ 0 then ⊥ else (Real.log r : EReal) := rfl
    rw [e, if_neg (by linarith)]
    exact EReal.coe_ne_bot _

/-- The log of the sigmoid, as the plain lines take it, is the same on all extended reals. -/
theorem logSig_eq (z : EReal) : -(max (-z) 0 + Ideal.log (1 + Ideal.exp (-max (-z) (-(-z))))) = logSig z := by
  unfold logSig
  have hL : Ideal.log (1 + Ideal.exp (-max (-z) (-(-z)))) ≠ ⊥ := log_ne_bot _ (le_add_of_nonneg_right (exp_nonneg _))
  have hM : max (-z) 0 ≠ ⊥ := ne_of_gt (lt_of_lt_of_le EReal.bot_lt_zero (le_max_right _ _))
  rw [EReal.neg_add (Or.inl hM) (Or.inr hL), neg_neg, max_comm (-z) z, zero_sub]
  congr 1
  rcases le_total z 0 with h | h
  · rw [max_eq_left (EReal.neg_nonneg.mpr h), neg_neg, min_eq_left h]
  · rw [max_eq_right (by rw [EReal.neg_le, neg_zero]; exact h), min_eq_right h, neg_zero]

theorem foldl_add {α : Type} (f : α → EReal) (l : List α) (a : EReal) : l.foldl (fun r n => r + f n) a = a + (l.map f).sum := by
  induction l generalizing a with
  | nil => simp
  | cons b l ih => rw [List.foldl_cons, ih, List.map_cons, List.sum_cons, add_assoc]

end Cert.Forget

namespace Cert.Forget

open Idealize.ShloMosaic.Routing

/-- One where the column's number is at most the row's, zero elsewhere. -/
theorem mask (k i : Fin 512) :
    (FloatOps.sitofp (F := Ideal) FTy.f32 (BitVec.setWidth 32 (IntOp.cmpi CmpIPredicate.sle (BitVec.ofNat 32 k.val) (BitVec.ofNat 32 i.val))) : EReal)
      = if k.val ≤ i.val then 1 else 0 := by
  have e : IntOp.cmpi CmpIPredicate.sle (BitVec.ofNat 32 k.val) (BitVec.ofNat 32 i.val) = BitVec.ofBool (decide (k.val ≤ i.val)) := by
    show BitVec.ofBool (BitVec.sle (BitVec.ofNat 32 k.val) (BitVec.ofNat 32 i.val)) = _
    congr 1
    have hk := k.isLt
    have hi := i.isLt
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr Int.ofNat_le
  rw [e]
  by_cases h : k.val ≤ i.val
  · rw [if_pos h, decide_eq_true h]
    show (((1 : ℤ) : ℝ) : EReal) = 1
    simp
  · rw [if_neg h, decide_eq_false h]
    show (((0 : ℤ) : ℝ) : EReal) = 0
    simp

/-- A running sum down the rows of an array, read at an element. -/
theorem window {N M C : ℕ} (hN : M + 1 = N) (x : (shape2 N C).Idx → EReal) (v : EReal) (hv : v = 0)
    (h : (shape2 N C).ReduceWindows (![N, 1] : Fin 2 → Nat) ![1, 1] ![M, 0] ![0, 0] (shape2 N C)) (i : Fin N) (j : Fin C) :
    Ideal.hostReduceWindowAdd ![N, 1] ![1, 1] ![M, 0] ![0, 0] h x v (ix2 i j)
      = ∑ k ∈ Finset.range (i.val + 1), Sums.steps N (fun k => x (ix2 k j)) k := by
  subst hN
  have hi := i.isLt
  have hj := j.isLt
  have hn : (shape2 (M + 1) 1).numel = M + 1 := by
    show ∏ a : Fin 2, (![M + 1, 1] : Fin 2 → Nat) a = M + 1
    rw [Fin.prod_univ_two]
    show (M + 1) * 1 = M + 1
    omega
  unfold Ideal.hostReduceWindowAdd Host.reduceWindow
  refine (foldl_add _ _ _).trans ?_
  rw [hv, zero_add, ← Fin.sum_univ_def]
  let φ : ℕ → EReal := fun n => if M ≤ i.val + n then Sums.steps (M + 1) (fun k => x (ix2 k j)) (i.val + n - M) else 0
  refine (Finset.sum_congr rfl fun n _ => ?_ : _ = ∑ n : Fin (shape2 (M + 1) 1).numel, φ n.val).trans ?_
  · have hlt : n.val < M + 1 := lt_of_lt_of_eq n.isLt hn
    have hs := symm22 (A := M + 1) (B := 1) n (by omega) (by omega)
    have w0 : ((shape2 (M + 1) 1).rowMajor.symm n 0).val = n.val := by rw [hs]; exact Nat.div_one _
    have w1 : ((shape2 (M + 1) 1).rowMajor.symm n 1).val = 0 := by rw [hs]; exact Nat.mod_one _
    dsimp only [φ]
    split
    · next hin =>
      have h0 := hin 0
      change M ≤ i.val * 1 + ((shape2 (M + 1) 1).rowMajor.symm n 0).val ∧ i.val * 1 + ((shape2 (M + 1) 1).rowMajor.symm n 0).val - M < M + 1 at h0
      rw [w0] at h0
      rw [if_pos (by omega)]
      refine Eq.trans ?_ (Sums.steps_lt (M + 1) (fun k => x (ix2 k j)) ⟨i.val + n.val - M, by omega⟩).symm
      refine congrArg x (funext fun a => Fin.ext ?_)
      match a with
      | ⟨0, _⟩ => show i.val * 1 + ((shape2 (M + 1) 1).rowMajor.symm n 0).val - M = i.val + n.val - M; rw [w0, Nat.mul_one]
      | ⟨1, _⟩ => show j.val * 1 + ((shape2 (M + 1) 1).rowMajor.symm n 1).val - 0 = j.val; rw [w1]; omega
    · next hin =>
      rw [if_neg fun hle => hin fun a => by
        match a with
        | ⟨0, _⟩ =>
          show M ≤ i.val * 1 + ((shape2 (M + 1) 1).rowMajor.symm n 0).val ∧ i.val * 1 + ((shape2 (M + 1) 1).rowMajor.symm n 0).val - M < M + 1
          rw [w0]; omega
        | ⟨1, _⟩ =>
          show 0 ≤ j.val * 1 + ((shape2 (M + 1) 1).rowMajor.symm n 1).val ∧ j.val * 1 + ((shape2 (M + 1) 1).rowMajor.symm n 1).val - 0 < C
          rw [w1]; omega]
  · have hM : Finset.range (M + 1) = Finset.range ((M - i.val) + (i.val + 1)) := congrArg Finset.range (by omega)
    rw [Fin.sum_univ_eq_sum_range φ, hn, hM, Finset.sum_range_add]
    refine (congrArg₂ (· + ·) (Finset.sum_eq_zero fun n hn' => ?_) (Finset.sum_congr rfl fun k _ => ?_)).trans (zero_add _)
    · have := Finset.mem_range.mp hn'
      exact if_neg (by omega)
    · dsimp only [φ]
      rw [if_pos (by omega), show i.val + (M - i.val + k) - M = k by omega]

/-- The same of the host's operation. -/
theorem window_host {N M C : ℕ} (hN : M + 1 = N) (x : FVec Ideal (shape2 N C) .f32) {u : Shape} (init : FVec Ideal u .f32) (hu : 0 < u.numel)
    (hv : init (Shape.Idx.first hu) = 0)
    (h : (shape2 N C).ReduceWindows (![N, 1] : Fin 2 → Nat) ![1, 1] ![M, 0] ![0, 0] (shape2 N C)) (i : Fin N) (j : Fin C) :
    (Host.reduceWindowAdd ![N, 1] ![1, 1] ![M, 0] ![0, 0] x init h hu : FVec Ideal (shape2 N C) .f32) (ix2 i j)
      = ∑ k ∈ Finset.range (i.val + 1), Sums.steps N (fun k => x (ix2 k j)) k :=
  window hN x _ hv h i j

end Cert.Forget

namespace Cert.Kernel33Ideal.Forget

open Cert.Kernel33Ideal Cert.Kernel33Ideal.Gen
open Cert.Forget (logSig)

theorem tile2 (x0 : Vec Ideal S512x128 .f32) (x1 v : Vec Ideal S1x128 .f32) (i : Fin 512) (j : Fin 128) :
    k0_pay2 x0 x1 v (ix2 i j) = (∑ k : Fin 512, (if k.val ≤ i.val then logSig (x0 (ix2 k j) + x1 (ix2 (0 : Fin 1) j)) else 0)) + v (ix2 (0 : Fin 1) j) := by
  unfold logSig
  pointwise [k0_pay2]
  refine congrArg (· + v (ix2 (0 : Fin 1) j)) (Finset.sum_congr rfl fun k _ => ?_)
  rw [Cert.Forget.mask]
  by_cases h : k.val ≤ i.val
  · rw [if_pos h, if_pos h, one_mul]; rfl
  · rw [if_neg h, if_neg h, zero_mul]

theorem tile3 (v : Vec Ideal S1x128 .f32) (i : Fin 8) (j : Fin 128) : k0_pay3 v (ix2 i j) = v (ix2 (0 : Fin 1) j) := by
  pointwise [k0_pay3]

theorem tile1 (i : Fin 8) (j : Fin 128) : (k0_pay1 : FVec Ideal S8x128 .f32) (ix2 i j) = (0 : EReal) := by
  pointwise [k0_pay1]

/-- The first row of the carried rows. -/
theorem ld_first (x : Vec Ideal S8x128 .f32) (inb) :
    View.ld x (Rect.unit (s := S8x128) ![0, 0] ![1, 128] inb) = fun y => x (ix2 (0 : Fin 8) (y 1)) := by
  funext y
  refine congrArg x (funext fun a => Fin.ext ?_)
  have hy : (y 0).val < 1 := (y 0).isLt
  match a with
  | ⟨0, _⟩ => show 0 + 1 * (y 0).val = 0; omega
  | ⟨1, _⟩ => show 0 + 1 * (y 1).val = (y 1).val; omega

/-- The last row of a block of sums. -/
theorem ld_last (x : Vec Ideal S512x128 .f32) (inb) :
    View.ld x (Rect.unit (s := S512x128) ![511, 0] ![1, 128] inb) = fun y => x (ix2 (511 : Fin 512) (y 1)) := by
  funext y
  refine congrArg x (funext fun a => Fin.ext ?_)
  have hy : (y 0).val < 1 := (y 0).isLt
  match a with
  | ⟨0, _⟩ => show 511 + 1 * (y 0).val = 511; omega
  | ⟨1, _⟩ => show 0 + 1 * (y 1).val = (y 1).val; omega

theorem at_zero : ∀ a : Fin 2, (![0, 0] : Fin 2 → Nat) a = 0 := by decide

theorem zeros : (fun y => (k0_pay1 : FVec Ideal S8x128 .f32) (ix2 (0 : Fin 8) (y 1))) = fun _ : S1x128.Idx => (0 : EReal) :=
  funext fun y => tile1 0 (y 1)

section Leaves

variable (c : Dev nD) (i₀ : grid0.Coords)
  (a1 : Memref sig .tc .vmem S512x128 .f32) (h1 : a1.IsWhole)
  (a2 : Memref sig .tc .vmem S1x128 .f32) (h2 : a2.IsWhole)
  (a3 : Memref sig .tc .vmem S512x128 .f32) (h3 : a3.IsWhole)
  (a4 : Memref sig .tc .vmem S8x128 .f32) (h4 : a4.IsWhole)

/-- The first block of sums. -/
theorem out_first
    (hc0 : cond0_0 i₀) (x0 : Vec Ideal S512x128 .f32) (x1 : Vec Ideal S1x128 .f32) :
    out0_A_2 c i₀ a1 h1 a2 h2 a3 h3 a4 h4 hc0 x0 x1 = k0_pay2 x0 x1 (fun _ => 0) := by
  have hz : (![0, 0] : Fin 2 → Nat) = fun _ => 0 := by decide
  unfold out0_A_2
  rw [View.read_writes_eq_canon _ _ _ (cover0_A_2 c i₀ a1 h1 a2 h2 a3 h3 a4 h4 hc0 x0 x1)]
  unfold kernelRun0_A
  dsimp only
  sl_unfold_words
  rw [View.canon_unit_zero hz]
  simp only [View.readAt_eq_ld, h1.read_unread, h2.read_unread, h4.read_unread,
    View.ld_unit_zero (S := S512x128) hz, View.ld_unit_zero (S := S1x128) hz, View.ld_unit_zero (S := S8x128) hz, shapeCast_self]
  rw [View.readCov_fill (s := S8x128) _ _ _ _ _ at_zero, ld_first]
  exact congrArg (k0_pay2 x0 x1) zeros

/-- The first row carried. -/
theorem carry_first
    (hc0 : cond0_0 i₀) (x0 : Vec Ideal S512x128 .f32) (x1 : Vec Ideal S1x128 .f32) :
    sout0_A_0 c i₀ a1 h1 a2 h2 a3 h3 a4 h4 hc0 x0 x1 = k0_pay3 (fun y => k0_pay2 x0 x1 (fun _ => 0) (ix2 511 (y 1))) := by
  have hz : (![0, 0] : Fin 2 → Nat) = fun _ => 0 := by decide
  unfold sout0_A_0
  rw [View.read_writes_eq_canon _ _ _ (scover0_A_0 c i₀ a1 h1 a2 h2 a3 h3 a4 h4 hc0 x0 x1)]
  unfold kernelRun0_A
  dsimp only
  sl_unfold_words
  rw [View.canon_cons_unit_zero (S := S8x128) hz]
  simp only [View.readAt_eq_ld, h1.read_unread, h2.read_unread, h4.read_unread,
    View.ld_unit_zero (S := S512x128) hz, View.ld_unit_zero (S := S1x128) hz, View.ld_unit_zero (S := S8x128) hz, shapeCast_self]
  rw [View.readCov_fill (s := S512x128) _ _ _ _ _ at_zero, ld_last, View.readCov_fill (s := S8x128) _ _ _ _ _ at_zero, ld_first]
  exact congrArg (fun u => k0_pay3 (fun y => k0_pay2 x0 x1 u (ix2 (511 : Fin 512) (y 1)))) zeros

/-- A later block of sums. -/
theorem out_next
    (hc0 : ¬cond0_0 i₀) (x0 : Vec Ideal S512x128 .f32) (x1 : Vec Ideal S1x128 .f32) (x2 : Vec Ideal S8x128 .f32) :
    out0_B_2 c i₀ a1 h1 a2 h2 a3 h3 a4 h4 hc0 x0 x1 x2 = k0_pay2 x0 x1 (fun y => x2 (ix2 0 (y 1))) := by
  have hz : (![0, 0] : Fin 2 → Nat) = fun _ => 0 := by decide
  unfold out0_B_2
  rw [View.read_writes_eq_canon _ _ _ (cover0_B_2 c i₀ a1 h1 a2 h2 a3 h3 a4 h4 hc0 x0 x1 x2)]
  unfold kernelRun0_B
  dsimp only
  sl_unfold_words
  rw [View.canon_unit_zero hz]
  simp only [View.readAt_eq_ld, h1.read_unread, h2.read_unread, h4.read_unread,
    View.ld_unit_zero (S := S512x128) hz, View.ld_unit_zero (S := S1x128) hz, View.ld_unit_zero (S := S8x128) hz, shapeCast_self]
  rw [ld_first]
  rfl

/-- The row carried. -/
theorem carry_next
    (hc0 : ¬cond0_0 i₀) (x0 : Vec Ideal S512x128 .f32) (x1 : Vec Ideal S1x128 .f32) (x2 : Vec Ideal S8x128 .f32) :
    sout0_B_0 c i₀ a1 h1 a2 h2 a3 h3 a4 h4 hc0 x0 x1 x2 = k0_pay3 (fun y => k0_pay2 x0 x1 (fun y => x2 (ix2 0 (y 1))) (ix2 511 (y 1))) := by
  have hz : (![0, 0] : Fin 2 → Nat) = fun _ => 0 := by decide
  unfold sout0_B_0
  rw [View.read_writes_eq_canon _ _ _ (scover0_B_0 c i₀ a1 h1 a2 h2 a3 h3 a4 h4 hc0 x0 x1 x2)]
  unfold kernelRun0_B
  dsimp only
  sl_unfold_words
  rw [View.canon_unit_zero (S := S8x128) hz]
  simp only [View.readAt_eq_ld, h1.read_unread, h2.read_unread, h4.read_unread,
    View.ld_unit_zero (S := S512x128) hz, View.ld_unit_zero (S := S1x128) hz, View.ld_unit_zero (S := S8x128) hz, shapeCast_self]
  rw [View.readCov_fill (s := S512x128) _ _ _ _ _ at_zero, ld_last, ld_first]
  rfl

end Leaves

/-- The sums of the logs from the first row to each row. -/
def terms (a : Vec Ideal S4096x128 .f32) (b : Vec Ideal S1x128 .f32) (j : Fin 128) (k : Fin 4096) : EReal :=
  logSig (a (ix2 k j) + b (ix2 (0 : Fin 1) j))

def running (a : Vec Ideal S4096x128 .f32) (b : Vec Ideal S1x128 .f32) : Vec Ideal S4096x128 .f32 :=
  fun i => ∑ k ∈ Finset.range ((i 0).val + 1), Sums.steps 4096 (terms a b (i 1)) k

/-- The part of a sum up to a row of a block, numbered by the naturals. -/
theorem upto (n : ℕ) (i : Fin n) (f : Fin n → EReal) (g : ℕ → EReal) (h : ∀ k : Fin n, f k = g k.val) :
    (∑ k : Fin n, if k.val ≤ i.val then f k else 0) = ∑ k ∈ Finset.range (i.val + 1), g k := by
  have hi := i.isLt
  rw [Finset.sum_congr rfl (fun k _ => by rw [h k] : ∀ k ∈ Finset.univ, (if k.val ≤ i.val then f k else 0) = if k.val ≤ i.val then g k.val else 0),
    ← Finset.sum_range (fun k => if k ≤ i.val then g k else 0), ← Finset.sum_filter]
  refine Finset.sum_congr (Finset.ext fun k => ?_) fun _ _ => rfl
  rw [Finset.mem_filter, Finset.mem_range, Finset.mem_range]
  omega

variable (m : (ℓ : Loc nD τ sig) → Buf (Elt Ideal) ℓ) (c : Dev nD)

abbrev A0 : Vec Ideal S4096x128 .f32 := m ((c : Thread nD τ).loc main_arg0)
abbrev A1 : Vec Ideal S1x128 .f32 := m ((c : Thread nD τ).loc main_arg1)

theorem idx0 : ∀ t : Fin grid0.N, win0_0.index t (0 : Fin 2) = t.val ∧ win0_0.index t (1 : Fin 2) = 0 := by decide +kernel

theorem idx1 : ∀ t : Fin grid0.N, win0_1.index t (0 : Fin 2) = 0 ∧ win0_1.index t (1 : Fin 2) = 0 := by decide +kernel

theorem idx2 : ∀ t : Fin grid0.N, win0_2.index t (0 : Fin 2) = t.val ∧ win0_2.index t (1 : Fin 2) = 0 := by decide +kernel

theorem onto : ∀ p : Fin 8, ∃ t : Fin cfg0.N, (cfg0.win 2).flush t = true ∧
    win0_2.index t (0 : Fin 2) = p.val ∧ win0_2.index t (1 : Fin 2) = 0 := by decide +kernel

section Blocks

variable {c}
variable (W : (b : Ref sig .tc) → Buf (Elt Ideal) ((c : Thread nD τ).loc b)) (t : Fin cfg0.N)

theorem block0 (r : Fin 512) (l : Fin 128) (p0) :
    ((cfg0.win 0).blk t).view.read (Elt Ideal) (W (Pipeline.arrRef spec0 0)) (ix2 r l) = W main_arg0 (ix2 ⟨t.val * 512 + r.val, p0⟩ l) := by
  obtain ⟨e0, e1⟩ := idx0 t
  show W main_arg0 (((cfg0.win 0).blk t).view.emb (ix2 r l)) = _
  refine congrArg _ (funext fun a => Fin.ext ?_)
  match a with
  | ⟨0, _⟩ => show win0_0.index t (0 : Fin 2) * 512 + 1 * r.val = t.val * 512 + r.val; rw [e0]; omega
  | ⟨1, _⟩ => show win0_0.index t (1 : Fin 2) * 128 + 1 * l.val = l.val; rw [e1]; omega

theorem block1 (l : Fin 128) :
    ((cfg0.win 1).blk t).view.read (Elt Ideal) (W (Pipeline.arrRef spec0 1)) (ix2 (0 : Fin 1) l) = W main_arg1 (ix2 (0 : Fin 1) l) := by
  obtain ⟨e0, e1⟩ := idx1 t
  show W main_arg1 (((cfg0.win 1).blk t).view.emb (ix2 (0 : Fin 1) l)) = _
  refine congrArg _ (funext fun a => Fin.ext ?_)
  match a with
  | ⟨0, _⟩ => show win0_1.index t (0 : Fin 2) * 1 + 1 * 0 = 0; rw [e0]
  | ⟨1, _⟩ => show win0_1.index t (1 : Fin 2) * 128 + 1 * l.val = l.val; rw [e1]; omega

end Blocks

theorem read0 (t : Fin cfg0.N) (r : Fin 512) (l : Fin 128) (p0) : iblk m c 0 t (ix2 r l) = A0 m c (ix2 ⟨t.val * 512 + r.val, p0⟩ l) :=
  (block0 (c := c) (V m c) t r l p0).trans (congrFun (V_main_arg0 m c) _)

theorem read1 (t : Fin cfg0.N) (l : Fin 128) : iblk m c 1 t (ix2 (0 : Fin 1) l) = A1 m c (ix2 (0 : Fin 1) l) :=
  (block1 (c := c) (V m c) t l).trans (congrFun (V_main_arg1 m c) _)

/-- The logs of the first `n` rows, added. -/
abbrev total (j : Fin 128) (n : ℕ) : EReal := ∑ k ∈ Finset.range n, Sums.steps 4096 (terms (A0 m c) (A1 m c) j) k

theorem stored_eq (x0 : Vec Ideal S512x128 .f32) (x1 v : Vec Ideal S1x128 .f32) (p : ℕ) (i : Fin 512) (j : Fin 128)
    (hf : ∀ k : Fin 512, logSig (x0 (ix2 k j) + x1 (ix2 (0 : Fin 1) j)) = Sums.steps 4096 (terms (A0 m c) (A1 m c) j) (p + k.val))
    (hv : v (ix2 (0 : Fin 1) j) = total m c j p) : k0_pay2 x0 x1 v (ix2 i j) = total m c j (p + i.val + 1) := by
  rw [tile2, hv, upto 512 i _ (fun k => Sums.steps 4096 (terms (A0 m c) (A1 m c) j) (p + k)) hf, add_comm]
  exact (Finset.sum_range_add _ p (i.val + 1)).symm

theorem logSig_congr (a b a' b' : EReal) (ha : a = a') (hb : b = b') : logSig (a + b) = logSig (a' + b') := by
  rw [ha, hb]

theorem terms_eq (t : Fin cfg0.N) (x0 : Vec Ideal S512x128 .f32) (x1 : Vec Ideal S1x128 .f32) (e0 : x0 = iblk m c 0 t) (e1 : x1 = iblk m c 1 t)
    (j : Fin 128) (k : Fin 512) :
    logSig (x0 (ix2 k j) + x1 (ix2 (0 : Fin 1) j)) = Sums.steps 4096 (terms (A0 m c) (A1 m c) j) (t.val * 512 + k.val) := by
  have ht : t.val < 8 := lt_of_lt_of_le t.isLt (by decide)
  have p0 : t.val * 512 + k.val < 4096 := by have := k.isLt; omega
  exact (logSig_congr _ _ _ _ ((congrFun e0 _).trans (read0 m c t k j p0)) ((congrFun e1 _).trans (read1 m c t j))).trans
    (Sums.steps_lt 4096 (terms (A0 m c) (A1 m c) j) ⟨t.val * 512 + k.val, p0⟩).symm

/-- After point `r` its block holds the sums up to each of its rows, and the carried rows the sum up to its last row. -/
theorem held (r : ℕ) (hr : r < 8) (t : Fin cfg0.N) (h : t.val = r) (j : Fin 128) :
    (∀ i : Fin 512, (outsAt0 m c t.val t.isLt).1 (ix2 i j) = total m c j (r * 512 + i.val + 1))
      ∧ ∀ i : Fin 8, (outsAt0 m c t.val t.isLt).2 (ix2 i j) = total m c j ((r + 1) * 512) := by
  induction r generalizing t with
  | zero =>
    have hs := fun i : Fin 512 => stored_eq m c (iblk m c 0 t) (iblk m c 1 t) (fun _ => 0) (0 * 512) i j (fun k => (terms_eq m c t _ _ rfl rfl j k).trans (by rw [h]))
      (Finset.sum_range_zero _).symm
    rw [outsAt0_A m c t (by omega)]
    dsimp only
    rw [out_first, carry_first]
    exact ⟨hs, fun i => (tile3 _ i j).trans (hs 511)⟩
  | succ r ih =>
    have hp := (ih (by omega) ⟨t.val - 1, Nat.lt_of_le_of_lt (Nat.sub_le _ _) t.isLt⟩ (by dsimp only; omega)).2 0
    have hs := fun i : Fin 512 => stored_eq m c (iblk m c 0 t) (iblk m c 1 t)
      (fun y => (outsAt0 m c (t.val - 1) (Nat.lt_of_le_of_lt (Nat.sub_le _ _) t.isLt)).2 (ix2 (0 : Fin 8) (y 1))) ((r + 1) * 512) i j
      (fun k => (terms_eq m c t _ _ rfl rfl j k).trans (by rw [h])) hp
    rw [outsAt0_B m c t (by omega)]
    dsimp only
    rw [out_next, carry_next]
    exact ⟨hs, fun i => (tile3 _ i j).trans ((hs 511).trans (congrArg (total m c j) (by show (r + 1) * 512 + 511 + 1 = _; omega)))⟩

/-- A grid point writes back its rows of the result. -/
theorem flushed (t : Fin cfg0.N) :
    (dats m 0 c).flushed 2 t = ((cfg0.win 2).blk t).view.read (Elt Ideal) (running (A0 m c) (A1 m c)) := by
  rw [Value.flushed2]
  obtain ⟨e0, e1⟩ := idx2 t
  have ht : t.val < 8 := lt_of_lt_of_le t.isLt (by decide)
  funext y
  have hya : (y 0).val < 512 := (y 0).isLt
  have hx : (cfg0.win 2).xinj (grid0.coords t) y = ix2 (y 0) (y 1) := by
    funext a; apply Fin.ext
    match a with
    | ⟨0, _⟩ => rfl
    | ⟨1, _⟩ => rfl
  have hb := (held m c t.val ht t rfl (y 1)).1 (y 0)
  generalize (outsAt0 m c t.val t.isLt).1 = o at hb ⊢
  show o ((cfg0.win 2).xinj (grid0.coords t) y) = running (A0 m c) (A1 m c) (((cfg0.win 2).blk t).view.emb y)
  have g0 : (((cfg0.win 2).blk t).view.emb y 0).val = t.val * 512 + (y 0).val := by
    show win0_2.index t (0 : Fin 2) * 512 + 1 * (y 0).val = t.val * 512 + (y 0).val; rw [e0]; omega
  have g1 : ((cfg0.win 2).blk t).view.emb y 1 = y 1 := Fin.ext (by
    show win0_2.index t (1 : Fin 2) * 128 + 1 * (y 1).val = (y 1).val; rw [e1]; omega)
  refine (congrArg o hx).trans (hb.trans ?_)
  unfold running
  rw [g0, g1]

/-- Every index lies in the block of a point that writes back. -/
theorem cover (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  obtain ⟨t, hft, q0, q1⟩ := onto ⟨(i 0).val / 512, by omega⟩
  refine ⟨t, hft, ?_⟩
  show i ∈ ((View.whole main_v0).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; rw [q0]; dsimp only; omega
  | ⟨1, _⟩ => show win0_2.index t (1 : Fin 2) * 128 ≤ (i 1).val ∧ (i 1).val < win0_2.index t (1 : Fin 2) * 128 + 128; rw [q1]; omega

/-- The kernel ends with the running sums, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = running (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed m c t) cover), (h c).2⟩)
    (Value.run_blocks m ρ)

end Cert.Kernel33Ideal.Forget

namespace Cert.Reference33Ideal.Forget

open Cert.Reference33Ideal Cert.Reference33Ideal.Gen
open Cert.Forget (logSig)

/-- The plain lines' log of the sigmoid. -/
def logs (a0 : FVec Ideal S4096x128 .f32) (a1 : FVec Ideal S1x128 .f32) : FVec Ideal S4096x128 .f32 :=
  Host.negf (select (cmpf .une (subf (Host.negf (addf a0 (broadcastInDim S4096x128 ![0, 1] bcast_S1x128_S4096x128_0_1 a1))) (broadcastInDim S4096x128 ![] bcast_S_S4096x128 (constant S_ .f32 0x00000000#32))) (subf (Host.negf (addf a0 (broadcastInDim S4096x128 ![0, 1] bcast_S1x128_S4096x128_0_1 a1))) (broadcastInDim S4096x128 ![] bcast_S_S4096x128 (constant S_ .f32 0x00000000#32)))) (addf (Host.negf (addf a0 (broadcastInDim S4096x128 ![0, 1] bcast_S1x128_S4096x128_0_1 a1))) (broadcastInDim S4096x128 ![] bcast_S_S4096x128 (constant S_ .f32 0x00000000#32))) (addf (maximumf (Host.negf (addf a0 (broadcastInDim S4096x128 ![0, 1] bcast_S1x128_S4096x128_0_1 a1))) (broadcastInDim S4096x128 ![] bcast_S_S4096x128 (constant S_ .f32 0x00000000#32))) (Host.log1p (Host.exp (Host.negf (Host.absf (subf (Host.negf (addf a0 (broadcastInDim S4096x128 ![0, 1] bcast_S1x128_S4096x128_0_1 a1))) (broadcastInDim S4096x128 ![] bcast_S_S4096x128 (constant S_ .f32 0x00000000#32)))))))))

theorem logs_at (a0 : FVec Ideal S4096x128 .f32) (a1 : FVec Ideal S1x128 .f32) (i : Fin 4096) (j : Fin 128) :
    logs a0 a1 (ix2 i j) = logSig (a0 (ix2 i j) + a1 (ix2 (0 : Fin 1) j)) := by
  rw [← Cert.Forget.logSig_eq]
  pointwise [logs]
  rw [if_neg (not_not.mpr rfl)]
  rfl

/-- The plain lines' running sums. -/
def sums (a0 : FVec Ideal S4096x128 .f32) (a1 : FVec Ideal S1x128 .f32) : FVec Ideal S4096x128 .f32 :=
  Host.reduceWindowAdd ![4096, 1] ![1, 1] ![4095, 0] ![0, 0] (logs a0 a1) (broadcastInDim S_ ![] bcast_S_S_ (constant S_ .f32 0x00000000#32)) reduceWindows_S4096x128_S4096x128_w4096s1p4095_0_w1s1p0_0 h_S_

theorem sums_at (a0 : FVec Ideal S4096x128 .f32) (a1 : FVec Ideal S1x128 .f32) (i : Fin 4096) (j : Fin 128) :
    sums a0 a1 (ix2 i j) = ∑ k ∈ Finset.range (i.val + 1), Sums.steps 4096 (fun k => logs a0 a1 (ix2 k j)) k := by
  unfold sums
  exact Cert.Forget.window_host (N := 4096) (M := 4095) (C := 128) (by norm_num) (logs a0 a1) _ h_S_ (by pointwise) _ i j

/-- The reference's result, element by element. -/
theorem value (a0 : FVec Ideal S4096x128 .f32) (a1 : FVec Ideal S1x128 .f32) : sums a0 a1 = Cert.Kernel33Ideal.Forget.running a0 a1 := by
  funext i
  have hi : i = ix2 (i 0) (i 1) := by
    funext d
    match d with
    | ⟨0, _⟩ => rfl
    | ⟨1, _⟩ => rfl
  have hl : (fun k : Fin 4096 => logs a0 a1 (ix2 k (i 1))) = Cert.Kernel33Ideal.Forget.terms a0 a1 (i 1) := funext fun k => logs_at a0 a1 k (i 1)
  refine ((congrArg (sums a0 a1) hi).trans (sums_at a0 a1 (i 0) (i 1))).trans ?_
  unfold Cert.Kernel33Ideal.Forget.running
  rw [hl]

end Cert.Reference33Ideal.Forget

namespace Cert.ForgetFwd

/-- The two programs end with the same result. -/
theorem algebraic : Cert.algebraic_Kernel33Ideal_Reference33Ideal (hKernel33Ideal := Cert.Kernel33Ideal.Gen.facts)
    (hReference33Ideal := Cert.Reference33Ideal.Gen.facts) := by
  intro m g m' g' _ hag
  refine ⟨fun c => Cert.Kernel33Ideal.Forget.running (Cert.Kernel33Ideal.Forget.A0 m c) (Cert.Kernel33Ideal.Forget.A1 m c),
    Cert.Kernel33Ideal.Forget.run m g, ?_⟩
  refine (θ_run _ _ _).mono (fun r h c => ⟨?_, (h c).2⟩) (Cert.Reference33Ideal.Value.run (F := Ideal) m' g')
  refine (h c).1.trans ((Cert.Reference33Ideal.Forget.value (m' (c.tc.loc Cert.Reference33Ideal.main_arg0)) (m' (c.tc.loc Cert.Reference33Ideal.main_arg1))).trans ?_)
  unfold Cert.Kernel33Ideal.Forget.A0 Cert.Kernel33Ideal.Forget.A1
  rw [(hag c).1, (hag c).2]

end Cert.ForgetFwd

end
-- ==== Proof.ForgetBwd.lean ====
/-
  The forget gate's gradients: the tiled kernel and the plain lines have the same elements.
-/
module

public import proofs.«01_k».proof.Defs
public import proofs.«01_k».proof.Proof.Coe
public import proofs.«01_k».proof.Proof.RmsNorm
public import proofs.«01_k».proof.Proof.Sums
public import proofs.«01_k».proof.Proof.ForgetFwd
public import proofs.«01_k».proof.Proof.Gen.Kernel34Ideal.Value
public import proofs.«01_k».proof.Proof.Gen.Reference34Ideal.Run
public import Idealize.ShloMosaic.Lib.Pointwise
public import Idealize.ShloMosaic.Lib.Routing.OpsPair
public import Idealize.ShloMosaic.Lib.StableHlo.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.Forget

/-- The slope of the log of the sigmoid, as the kernel takes it. -/
def gateSlope (z : EReal) : EReal := Ideal.div 1 (1 + Ideal.exp (0 - (0 - z)))

/-- The log of one plus an exponential, as the plain lines take it. -/
def soft (n : EReal) : EReal := max n 0 + Ideal.log (1 + Ideal.exp (-max n (-n)))

theorem soft_coe (r : ℝ) : soft (r : EReal) = ((Real.log (1 + Real.exp r) : ℝ) : EReal) := by
  have h1 : max (r : EReal) 0 = ((max r 0 : ℝ) : EReal) := (EReal.coe_strictMono.monotone.map_max (a := r) (b := 0)).symm
  have h2 : -max (r : EReal) (-(r : EReal)) = ((-|r| : ℝ) : EReal) := by
    rw [← EReal.coe_neg, ← EReal.coe_strictMono.monotone.map_max, ← EReal.coe_neg]; rfl
  have h3 : Ideal.exp ((-|r| : ℝ) : EReal) = ((Real.exp (-|r|) : ℝ) : EReal) := rfl
  have hp : 0 < 1 + Real.exp (-|r|) := by positivity
  unfold soft
  rw [h1, h2, h3, ← EReal.coe_one, ← EReal.coe_add, Cert.Coe.log_coe _ hp, ← EReal.coe_add]
  congr 1
  rw [← Real.log_exp (max r 0), ← Real.log_mul (Real.exp_pos _).ne' hp.ne', mul_add, mul_one, ← Real.exp_add]
  congr 1
  rcases le_total 0 r with h | h
  · rw [max_eq_left h, abs_of_nonneg h, add_neg_cancel, Real.exp_zero, add_comm]
  · rw [max_eq_right h, abs_of_nonpos h, Real.exp_zero, neg_neg, zero_add]

/-- The slope, as the plain lines take it, is the same on all extended reals. -/
theorem gateSlope_eq (z : EReal) :
    Ideal.exp ((if -z = ⊤ then 0 else -z) - (if soft (-z) = ⊤ then 0 else soft (-z))) = gateSlope z := by
  unfold gateSlope
  rw [zero_sub, zero_sub, neg_neg]
  induction z with
  | bot =>
    have hs : soft ⊤ = ⊤ := by
      unfold soft
      rw [max_eq_left le_top]
      exact EReal.top_add_of_ne_bot (log_ne_bot _ (le_add_of_nonneg_right (exp_nonneg _)))
    rw [EReal.neg_bot, hs, if_pos rfl, sub_zero]
    have e0 : Ideal.exp (0 : EReal) = ((Real.exp 0 : ℝ) : EReal) := rfl
    have eb : Ideal.exp ⊥ = 0 := rfl
    rw [e0, eb, Real.exp_zero, add_zero, ← EReal.coe_one, Cert.Coe.div_coe _ _ one_ne_zero, div_one]
  | top =>
    have hs : soft ⊥ = 0 := by
      unfold soft
      have eb : Ideal.exp ⊥ = 0 := rfl
      rw [max_eq_right bot_le, EReal.neg_bot, max_eq_right bot_le, EReal.neg_top, eb, add_zero, ← EReal.coe_one, Cert.Coe.log_coe _ one_pos,
        Real.log_one, EReal.coe_zero, add_zero]
    have eb : Ideal.exp ⊥ = 0 := rfl
    have et : Ideal.exp ⊤ = ⊤ := rfl
    have h1 : (1 : EReal) + ⊤ = ⊤ := rfl
    rw [EReal.neg_top, hs, if_neg bot_ne_top, if_neg EReal.zero_ne_top, sub_zero, eb, et, h1]
    unfold Ideal.div
    rw [if_neg EReal.top_ne_zero, EReal.inv_top, mul_zero]
  | coe r =>
    have e1 : Ideal.exp (r : EReal) = ((Real.exp r : ℝ) : EReal) := rfl
    have hp : 0 < 1 + Real.exp (-r) := by positivity
    have hq : 0 < 1 + Real.exp r := by positivity
    rw [← EReal.coe_neg, soft_coe, if_neg (EReal.coe_ne_top _), if_neg (EReal.coe_ne_top _), e1, ← EReal.coe_sub, ← EReal.coe_one,
      ← EReal.coe_add, Cert.Coe.div_coe _ _ hq.ne']
    show ((Real.exp (-r - Real.log (1 + Real.exp (-r))) : ℝ) : EReal) = _
    congr 1
    rw [Real.exp_sub, Real.exp_log hp, div_eq_div_iff hp.ne' hq.ne', one_mul, mul_add, mul_one, ← Real.exp_add, neg_add_cancel, Real.exp_zero, add_comm]

open Idealize.ShloMosaic.Routing

/-- One where the column's number is at least the row's, zero elsewhere. -/
theorem mask_ge (k i : Fin 512) :
    (FloatOps.sitofp (F := Ideal) FTy.f32 (BitVec.setWidth 32 (IntOp.cmpi CmpIPredicate.sge (BitVec.ofNat 32 k.val) (BitVec.ofNat 32 i.val))) : EReal)
      = if i.val ≤ k.val then 1 else 0 := mask i k

/-- A running sum up the rows of an array, read at an element. -/
theorem window_up {N M C : ℕ} (hN : M + 1 = N) (x : (shape2 N C).Idx → EReal) (v : EReal) (hv : v = 0)
    (h : (shape2 N C).ReduceWindows (![N, 1] : Fin 2 → Nat) ![1, 1] ![0, 0] ![M, 0] (shape2 N C)) (i : Fin N) (j : Fin C) :
    Ideal.hostReduceWindowAdd ![N, 1] ![1, 1] ![0, 0] ![M, 0] h x v (ix2 i j)
      = ∑ k ∈ Finset.Ico i.val N, Sums.steps N (fun k => x (ix2 k j)) k := by
  subst hN
  have hi := i.isLt
  have hj := j.isLt
  have hn : (shape2 (M + 1) 1).numel = M + 1 := by
    show ∏ a : Fin 2, (![M + 1, 1] : Fin 2 → Nat) a = M + 1
    rw [Fin.prod_univ_two]
    show (M + 1) * 1 = M + 1
    omega
  unfold Ideal.hostReduceWindowAdd Host.reduceWindow
  refine (foldl_add _ _ _).trans ?_
  rw [hv, zero_add, ← Fin.sum_univ_def]
  let φ : ℕ → EReal := fun n => Sums.steps (M + 1) (fun k => x (ix2 k j)) (i.val + n)
  refine (Finset.sum_congr rfl fun n _ => ?_ : _ = ∑ n : Fin (shape2 (M + 1) 1).numel, φ n.val).trans ?_
  · have hlt : n.val < M + 1 := lt_of_lt_of_eq n.isLt hn
    have hs := symm22 (A := M + 1) (B := 1) n (by omega) (by omega)
    have w0 : ((shape2 (M + 1) 1).rowMajor.symm n 0).val = n.val := by rw [hs]; exact Nat.div_one _
    have w1 : ((shape2 (M + 1) 1).rowMajor.symm n 1).val = 0 := by rw [hs]; exact Nat.mod_one _
    dsimp only [φ]
    split
    · next hin =>
      have h0 := hin 0
      change 0 ≤ i.val * 1 + ((shape2 (M + 1) 1).rowMajor.symm n 0).val ∧ i.val * 1 + ((shape2 (M + 1) 1).rowMajor.symm n 0).val - 0 < M + 1 at h0
      rw [w0] at h0
      refine Eq.trans ?_ (Sums.steps_lt (M + 1) (fun k => x (ix2 k j)) ⟨i.val + n.val, by omega⟩).symm
      refine congrArg x (funext fun a => Fin.ext ?_)
      match a with
      | ⟨0, _⟩ => show i.val * 1 + ((shape2 (M + 1) 1).rowMajor.symm n 0).val - 0 = i.val + n.val; rw [w0, Nat.mul_one]; rfl
      | ⟨1, _⟩ => show j.val * 1 + ((shape2 (M + 1) 1).rowMajor.symm n 1).val - 0 = j.val; rw [w1]; omega
    · next hin =>
      refine (dif_neg (fun hle => hin fun a => ?_) : Sums.steps (M + 1) (fun k => x (ix2 k j)) (i.val + n.val) = 0).symm
      match a with
      | ⟨0, _⟩ =>
        show 0 ≤ i.val * 1 + ((shape2 (M + 1) 1).rowMajor.symm n 0).val ∧ i.val * 1 + ((shape2 (M + 1) 1).rowMajor.symm n 0).val - 0 < M + 1
        rw [w0]; omega
      | ⟨1, _⟩ =>
        show 0 ≤ j.val * 1 + ((shape2 (M + 1) 1).rowMajor.symm n 1).val ∧ j.val * 1 + ((shape2 (M + 1) 1).rowMajor.symm n 1).val - 0 < C
        rw [w1]; omega
  · rw [Fin.sum_univ_eq_sum_range φ, hn, Finset.range_eq_Ico, Finset.sum_Ico_add (Sums.steps (M + 1) (fun k => x (ix2 k j))) 0 (M + 1) i.val,
      zero_add, ← Finset.sum_Ico_consecutive _ (show i.val ≤ M + 1 by omega) (show M + 1 ≤ M + 1 + i.val by omega)]
    refine (congrArg _ (Finset.sum_eq_zero fun k hk => ?_)).trans (add_zero _)
    have := (Finset.mem_Ico.mp hk).1
    exact dif_neg (by omega)

/-- The same of the host's operation. -/
theorem window_up_host {N M C : ℕ} (hN : M + 1 = N) (x : FVec Ideal (shape2 N C) .f32) {u : Shape} (init : FVec Ideal u .f32) (hu : 0 < u.numel)
    (hv : init (Shape.Idx.first hu) = 0)
    (h : (shape2 N C).ReduceWindows (![N, 1] : Fin 2 → Nat) ![1, 1] ![0, 0] ![M, 0] (shape2 N C)) (i : Fin N) (j : Fin C) :
    (Host.reduceWindowAdd ![N, 1] ![1, 1] ![0, 0] ![M, 0] x init h hu : FVec Ideal (shape2 N C) .f32) (ix2 i j)
      = ∑ k ∈ Finset.Ico i.val N, Sums.steps N (fun k => x (ix2 k j)) k :=
  window_up hN x _ hv h i j

/-- The part of a sum from a row of a block on, numbered by the naturals. -/
theorem onward (n : ℕ) (i : Fin n) (f : Fin n → EReal) (g : ℕ → EReal) (h : ∀ k : Fin n, f k = g k.val) :
    (∑ k : Fin n, if i.val ≤ k.val then f k else 0) = ∑ k ∈ Finset.Ico i.val n, g k := by
  rw [Finset.sum_congr rfl (fun k _ => by rw [h k] : ∀ k ∈ Finset.univ, (if i.val ≤ k.val then f k else 0) = if i.val ≤ k.val then g k.val else 0),
    ← Finset.sum_range (fun k => if i.val ≤ k then g k else 0), ← Finset.sum_filter]
  refine Finset.sum_congr (Finset.ext fun k => ?_) fun _ _ => rfl
  rw [Finset.mem_filter, Finset.mem_range, Finset.mem_Ico]
  omega

/-- The sum of an array's column from row `n` on. -/
def tail {N C : ℕ} (a : (shape2 N C).Idx → EReal) (j : Fin C) (n : ℕ) : EReal :=
  ∑ k ∈ Finset.Ico n N, Sums.steps N (fun k => a (ix2 k j)) k

/-- The gradient of a logit at row `r`. -/
def grad {N C : ℕ} (a f : (shape2 N C).Idx → EReal) (b : (shape2 1 C).Idx → EReal) (j : Fin C) (r : Fin N) : EReal :=
  tail a j r.val * gateSlope (f (ix2 r j) + b (ix2 (0 : Fin 1) j))

end Cert.Forget

namespace Cert.Reference34Ideal.Forget

open Cert.Reference34Ideal Cert.Reference34Ideal.Gen
open Cert.Forget (gateSlope soft gateSlope_eq tail grad)

/-- The plain lines' log of one plus an exponential. -/
def softs (x : FVec Ideal S4096x128 .f32) : FVec Ideal S4096x128 .f32 :=
  select (cmpf .une (subf x (broadcastInDim S4096x128 ![] bcast_S_S4096x128 (constant S_ .f32 0x00000000#32))) (subf x (broadcastInDim S4096x128 ![] bcast_S_S4096x128 (constant S_ .f32 0x00000000#32)))) (addf x (broadcastInDim S4096x128 ![] bcast_S_S4096x128 (constant S_ .f32 0x00000000#32))) (addf (maximumf x (broadcastInDim S4096x128 ![] bcast_S_S4096x128 (constant S_ .f32 0x00000000#32))) (Host.log1p (Host.exp (Host.negf (Host.absf (subf x (broadcastInDim S4096x128 ![] bcast_S_S4096x128 (constant S_ .f32 0x00000000#32))))))))

theorem softs_at (x : FVec Ideal S4096x128 .f32) (i : Fin 4096) (j : Fin 128) : softs x (ix2 i j) = soft (x (ix2 i j)) := by
  unfold soft
  pointwise [softs]
  rw [if_neg (not_not.mpr rfl)]
  rfl

/-- The plain lines' slope, of the negated logits and their softs. -/
def slopes (x y : FVec Ideal S4096x128 .f32) : FVec Ideal S4096x128 .f32 :=
  Host.exp (subf (select (cmpf .oeq x (broadcastInDim S4096x128 ![] bcast_S_S4096x128 (constant S_ .f32 0x7F800000#32))) (broadcastInDim S4096x128 ![] bcast_S_S4096x128 (constant S_ .f32 0x00000000#32)) x) (select (cmpf .oeq y (broadcastInDim S4096x128 ![] bcast_S_S4096x128 (constant S_ .f32 0x7F800000#32))) (broadcastInDim S4096x128 ![] bcast_S_S4096x128 (constant S_ .f32 0x00000000#32)) y))

theorem slopes_at (x y : FVec Ideal S4096x128 .f32) (i : Fin 4096) (j : Fin 128) :
    slopes x y (ix2 i j) = Ideal.exp ((if x (ix2 i j) = ⊤ then 0 else x (ix2 i j)) - (if y (ix2 i j) = ⊤ then 0 else y (ix2 i j))) := by
  pointwise [slopes]
  rfl

/-- The logits, negated. -/
def negs (a1 : FVec Ideal S4096x128 .f32) (a2 : FVec Ideal S1x128 .f32) : FVec Ideal S4096x128 .f32 :=
  Host.negf (addf a1 (broadcastInDim S4096x128 ![0, 1] bcast_S1x128_S4096x128_0_1 a2))

theorem negs_at (a1 : FVec Ideal S4096x128 .f32) (a2 : FVec Ideal S1x128 .f32) (i : Fin 4096) (j : Fin 128) :
    negs a1 a2 (ix2 i j) = -(a1 (ix2 i j) + a2 (ix2 (0 : Fin 1) j)) := by
  pointwise [negs]

/-- The plain lines' sums from each row on. -/
def back (a0 : FVec Ideal S4096x128 .f32) : FVec Ideal S4096x128 .f32 :=
  Host.reduceWindowAdd ![4096, 1] ![1, 1] ![0, 0] ![4095, 0] a0 (broadcastInDim S_ ![] bcast_S_S_ (constant S_ .f32 0x00000000#32)) reduceWindows_S4096x128_S4096x128_w4096s1p0_4095_w1s1p0_0 h_S_

theorem back_at (a0 : FVec Ideal S4096x128 .f32) (i : Fin 4096) (j : Fin 128) : back a0 (ix2 i j) = tail a0 j i.val := by
  unfold back
  exact Cert.Forget.window_up_host (N := 4096) (M := 4095) (C := 128) (by norm_num) a0 _ h_S_ (by pointwise) _ i j

/-- The logits' gradient as the plain lines write it. -/
def plain (a0 a1 : FVec Ideal S4096x128 .f32) (a2 : FVec Ideal S1x128 .f32) : FVec Ideal S4096x128 .f32 :=
  Host.negf (mulf (Host.negf (back a0)) (slopes (negs a1 a2) (softs (negs a1 a2))))

theorem plain_neg (x y : FVec Ideal S4096x128 .f32) (i : Fin 4096) (j : Fin 128) :
    (Host.negf (mulf (Host.negf x) y) : FVec Ideal S4096x128 .f32) (ix2 i j) = x (ix2 i j) * y (ix2 i j) := by
  pointwise
  show -(-(x (ix2 i j)) * y (ix2 i j)) = _
  rw [EReal.neg_mul, neg_neg]

theorem plain_at (a0 a1 : FVec Ideal S4096x128 .f32) (a2 : FVec Ideal S1x128 .f32) (i : Fin 4096) (j : Fin 128) :
    plain a0 a1 a2 (ix2 i j) = grad a0 a1 a2 j i := by
  unfold plain grad
  rw [plain_neg, back_at, slopes_at, softs_at, negs_at, gateSlope_eq]

/-- The bias's gradient of an array of logits' gradients. -/
theorem summed_at (x : FVec Ideal S4096x128 .f32) (j : Fin 128) :
    (shapeCast S1x128 (Host.reduceAdd x (constant S_ .f32 0x00000000#32) reducesTo_S4096x128_S128_d0 h_S_) shapeCasts_S128_S1x128 : FVec Ideal S1x128 .f32) (ix2 (0 : Fin 1) j)
      = ∑ r : Fin 4096, x (ix2 r j) := by
  pointwise

end Cert.Reference34Ideal.Forget

namespace Cert.Kernel34Ideal.Forget

open Cert.Kernel34Ideal Cert.Kernel34Ideal.Gen
open Cert.Forget (gateSlope tail grad)

theorem tile7 (x0 : Vec Ideal S512x128 .f32) (v : Vec Ideal S1x128 .f32) (i : Fin 512) (j : Fin 128) :
    k0_pay7 x0 v (ix2 i j) = (∑ k : Fin 512, (if i.val ≤ k.val then x0 (ix2 k j) else 0)) + v (ix2 (0 : Fin 1) j) := by
  pointwise [k0_pay7]
  refine congrArg (· + v (ix2 (0 : Fin 1) j)) (Finset.sum_congr rfl fun k _ => ?_)
  rw [Cert.Forget.mask_ge]
  by_cases h : i.val ≤ k.val
  · rw [if_pos h, if_pos h, one_mul]
  · rw [if_neg h, if_neg h, zero_mul]

theorem tile8 (v : Vec Ideal S1x128 .f32) (i : Fin 8) (j : Fin 128) : k0_pay8 v (ix2 i j) = v (ix2 (0 : Fin 1) j) := by
  pointwise [k0_pay8]

theorem tile1 (u : Vec Ideal S512x128 .f32) (x1 : Vec Ideal S512x128 .f32) (x2 : Vec Ideal S1x128 .f32) (i : Fin 512) (j : Fin 128) :
    k0_pay1 u (k0_pay9 x1 x2) (ix2 i j) = u (ix2 i j) * gateSlope (x1 (ix2 i j) + x2 (ix2 (0 : Fin 1) j)) := by
  unfold gateSlope
  pointwise [k0_pay1, k0_pay9]

theorem tile2 (u : Vec Ideal S512x128 .f32) (w : FVec Ideal S512x128 .f32) (i : Fin 512) (j : Fin 128) :
    k0_pay2 u w (ix2 i j) = k0_pay1 u w (ix2 i j) := rfl

/-- Row `u` of the rows that go to running sum `s`. -/
def at8 (u : Fin 64) (s : Fin 8) : Fin 512 := ⟨u.val * 8 + s.val, by omega⟩

theorem fold8 (v : FVec Ideal S512x128 .f32) (s : Vec Ideal S8x128 .f32) (i : Fin 8) (j : Fin 128) :
    (addf s (multiReduction .add [0] S8x128 (shapeCast S64x8x128 v shapeCasts_S512x128_S64x8x128) 0x00000000#32 reduces_S64x8x128_S8x128 (.inl rfl) rfl)
      : FVec Ideal S8x128 .f32) (ix2 i j) = s (ix2 i j) + ∑ u : Fin 64, v (ix2 (at8 u i) j) := by
  unfold at8
  pointwise

theorem tile3 (u : Vec Ideal S512x128 .f32) (w : FVec Ideal S512x128 .f32) (s : Vec Ideal S8x128 .f32) (i : Fin 8) (j : Fin 128) :
    k0_pay3 u w s (ix2 i j) = s (ix2 i j) + ∑ q : Fin 64, k0_pay1 u w (ix2 (at8 q i) j) := by
  rw [← fold8]
  unfold k0_pay3
  dsimp only
  rw [shapeCast_self]

theorem tile4 (s : Vec Ideal S8x128 .f32) (j : Fin 128) : k0_pay4 s (ix2 (0 : Fin 1) j) = ∑ i : Fin 8, s (ix2 i j) := by
  pointwise [k0_pay4]

theorem tile5 (i : Fin 8) (j : Fin 128) : (k0_pay5 : FVec Ideal S8x128 .f32) (ix2 i j) = (0 : EReal) := by
  pointwise [k0_pay5]

theorem tile6 (i : Fin 8) (j : Fin 128) : (k0_pay6 : FVec Ideal S8x128 .f32) (ix2 i j) = (0 : EReal) := by
  pointwise [k0_pay6]

/-- The first row of the carried rows. -/
theorem ld_carry (x : Vec Ideal S8x128 .f32) (inb) :
    View.ld x (Rect.unit (s := S8x128) ![0, 0] ![1, 128] inb) = fun y => x (ix2 (0 : Fin 8) (y 1)) := by
  funext y
  refine congrArg x (funext fun a => Fin.ext ?_)
  have hy : (y 0).val < 1 := (y 0).isLt
  match a with
  | ⟨0, _⟩ => show 0 + 1 * (y 0).val = 0; omega
  | ⟨1, _⟩ => show 0 + 1 * (y 1).val = (y 1).val; omega

/-- The first row of a block of sums. -/
theorem ld_sums (x : Vec Ideal S512x128 .f32) (inb) :
    View.ld x (Rect.unit (s := S512x128) ![0, 0] ![1, 128] inb) = fun y => x (ix2 (0 : Fin 512) (y 1)) := by
  funext y
  refine congrArg x (funext fun a => Fin.ext ?_)
  have hy : (y 0).val < 1 := (y 0).isLt
  match a with
  | ⟨0, _⟩ => show 0 + 1 * (y 0).val = 0; omega
  | ⟨1, _⟩ => show 0 + 1 * (y 1).val = (y 1).val; omega

theorem at_zero : ∀ a : Fin 2, (![0, 0] : Fin 2 → Nat) a = 0 := by decide

theorem zeros : (fun y => (k0_pay5 : FVec Ideal S8x128 .f32) (ix2 (0 : Fin 8) (y 1))) = fun _ : S1x128.Idx => (0 : EReal) :=
  funext fun y => tile5 0 (y 1)

section Leaves

theorem hz : (![0, 0] : Fin 2 → Nat) = fun _ => 0 := by decide

variable (c : Dev nD) (i₀ : grid0.Coords)
  (a1 : Memref sig .tc .vmem S512x128 .f32) (h1 : a1.IsWhole)
  (a2 : Memref sig .tc .vmem S512x128 .f32) (h2 : a2.IsWhole)
  (a3 : Memref sig .tc .vmem S1x128 .f32) (h3 : a3.IsWhole)
  (a4 : Memref sig .tc .vmem S512x128 .bf16) (h4 : a4.IsWhole)
  (a5 : Memref sig .tc .vmem S1x128 .f32) (h5 : a5.IsWhole)
  (a6 : Memref sig .tc .vmem S8x128 .f32) (h6 : a6.IsWhole)
  (a7 : Memref sig .tc .vmem S8x128 .f32) (h7 : a7.IsWhole)
  (a8 : Memref sig .tc .vmem S512x128 .f32) (h8 : a8.IsWhole)

/-- The rows of the logits' gradient at the first point. -/
theorem df_first
    (hc0 : cond0_0 i₀) (hc1 : ¬cond0_1 i₀)
    (x0 x1 : Vec Ideal S512x128 .f32) (x2 : Vec Ideal S1x128 .f32) :
    out0_A_3 c i₀ a1 h1 a2 h2 a3 h3 a4 h4 a5 h5 a6 h6 a7 h7 a8 h8 hc0 hc1 x0 x1 x2 = k0_pay2 (k0_pay7 x0 (fun _ => 0)) (k0_pay9 x1 x2) := by
  unfold out0_A_3
  rw [View.read_writes_eq_canon _ _ _ (cover0_A_3 c i₀ a1 h1 a2 h2 a3 h3 a4 h4 a5 h5 a6 h6 a7 h7 a8 h8 hc0 hc1 x0 x1 x2)]
  unfold kernelRun0_A
  dsimp only
  sl_unfold_words
  rw [View.canon_unit_zero hz]
  simp only [View.readAt_eq_ld, h1.read_unread, h2.read_unread, h3.read_unread, h6.read_unread, h7.read_unread, h8.read_unread,
    View.ld_unit_zero (S := S512x128) hz, View.ld_unit_zero (S := S1x128) hz, View.ld_unit_zero (S := S8x128) hz, shapeCast_self]
  rw [View.readCov_unit_zero (S := S512x128) _ hz, View.readCov_fill (s := S8x128) _ _ _ _ _ at_zero, ld_carry]
  exact congrArg (fun u => k0_pay2 (k0_pay7 x0 u) (k0_pay9 x1 x2)) zeros

/-- The row carried at the first point. -/
theorem carry_first
    (hc0 : cond0_0 i₀) (hc1 : ¬cond0_1 i₀)
    (x0 x1 : Vec Ideal S512x128 .f32) (x2 : Vec Ideal S1x128 .f32) :
    sout0_A_0 c i₀ a1 h1 a2 h2 a3 h3 a4 h4 a5 h5 a6 h6 a7 h7 a8 h8 hc0 hc1 x0 x1 x2 = k0_pay8 (fun y => k0_pay7 x0 (fun _ => 0) (ix2 (0 : Fin 512) (y 1))) := by
  unfold sout0_A_0
  rw [View.read_writes_eq_canon _ _ _ (scover0_A_0 c i₀ a1 h1 a2 h2 a3 h3 a4 h4 a5 h5 a6 h6 a7 h7 a8 h8 hc0 hc1 x0 x1 x2)]
  unfold kernelRun0_A
  dsimp only
  sl_unfold_words
  rw [View.canon_cons_unit_zero (S := S8x128) hz]
  simp only [View.readAt_eq_ld, h1.read_unread, h2.read_unread, h3.read_unread, h6.read_unread, h7.read_unread, h8.read_unread,
    View.ld_unit_zero (S := S512x128) hz, View.ld_unit_zero (S := S1x128) hz, View.ld_unit_zero (S := S8x128) hz, shapeCast_self]
  rw [View.readCov_fill (s := S512x128) _ _ _ _ _ at_zero, ld_sums, View.readCov_fill (s := S8x128) _ _ _ _ _ at_zero, ld_carry]
  exact congrArg (fun u => k0_pay8 (fun y => k0_pay7 x0 u (ix2 (0 : Fin 512) (y 1)))) zeros

/-- The eight running sums at the first point. -/
theorem sum_first
    (hc0 : cond0_0 i₀) (hc1 : ¬cond0_1 i₀)
    (x0 x1 : Vec Ideal S512x128 .f32) (x2 : Vec Ideal S1x128 .f32) :
    sout0_A_1 c i₀ a1 h1 a2 h2 a3 h3 a4 h4 a5 h5 a6 h6 a7 h7 a8 h8 hc0 hc1 x0 x1 x2 = k0_pay3 (k0_pay7 x0 (fun _ => 0)) (k0_pay9 x1 x2) (k0_pay6 (F := Ideal)) := by
  unfold sout0_A_1
  rw [View.read_writes_eq_canon _ _ _ (scover0_A_1 c i₀ a1 h1 a2 h2 a3 h3 a4 h4 a5 h5 a6 h6 a7 h7 a8 h8 hc0 hc1 x0 x1 x2)]
  unfold kernelRun0_A
  dsimp only
  sl_unfold_words
  rw [View.canon_cons_unit_zero (S := S8x128) hz]
  simp only [View.readAt_eq_ld, h1.read_unread, h2.read_unread, h3.read_unread, h6.read_unread, h7.read_unread, h8.read_unread,
    View.ld_unit_zero (S := S512x128) hz, View.ld_unit_zero (S := S1x128) hz, View.ld_unit_zero (S := S8x128) hz, shapeCast_self]
  rw [View.readCov_unit_zero (S := S512x128) _ hz, View.readCov_unit_zero (S := S8x128) _ hz, View.readCov_fill (s := S8x128) _ _ _ _ _ at_zero, ld_carry]
  exact congrArg (fun u => k0_pay3 (k0_pay7 x0 u) (k0_pay9 x1 x2) (k0_pay6 (F := Ideal))) zeros

/-- The rows of the logits' gradient at a middle point. -/
theorem df_middle
    (hc0 : ¬cond0_0 i₀) (hc1 : ¬cond0_1 i₀)
    (x0 x1 : Vec Ideal S512x128 .f32) (x2 : Vec Ideal S1x128 .f32) (xs0 xs1 : Vec Ideal S8x128 .f32) :
    out0_B_3 c i₀ a1 h1 a2 h2 a3 h3 a4 h4 a5 h5 a6 h6 a7 h7 a8 h8 hc0 hc1 x0 x1 x2 xs0 xs1 = k0_pay2 (k0_pay7 x0 (fun y => xs0 (ix2 0 (y 1)))) (k0_pay9 x1 x2) := by
  unfold out0_B_3
  rw [View.read_writes_eq_canon _ _ _ (cover0_B_3 c i₀ a1 h1 a2 h2 a3 h3 a4 h4 a5 h5 a6 h6 a7 h7 a8 h8 hc0 hc1 x0 x1 x2 xs0 xs1)]
  unfold kernelRun0_B
  dsimp only
  sl_unfold_words
  rw [View.canon_unit_zero hz]
  simp only [View.readAt_eq_ld, h1.read_unread, h2.read_unread, h3.read_unread, h6.read_unread, h7.read_unread, h8.read_unread,
    View.ld_unit_zero (S := S512x128) hz, View.ld_unit_zero (S := S1x128) hz, View.ld_unit_zero (S := S8x128) hz, shapeCast_self]
  rw [View.readCov_unit_zero (S := S512x128) _ hz, ld_carry]
  rfl

/-- The row carried at a middle point. -/
theorem carry_middle
    (hc0 : ¬cond0_0 i₀) (hc1 : ¬cond0_1 i₀)
    (x0 x1 : Vec Ideal S512x128 .f32) (x2 : Vec Ideal S1x128 .f32) (xs0 xs1 : Vec Ideal S8x128 .f32) :
    sout0_B_0 c i₀ a1 h1 a2 h2 a3 h3 a4 h4 a5 h5 a6 h6 a7 h7 a8 h8 hc0 hc1 x0 x1 x2 xs0 xs1 = k0_pay8 (fun y => k0_pay7 x0 (fun y => xs0 (ix2 0 (y 1))) (ix2 (0 : Fin 512) (y 1))) := by
  unfold sout0_B_0
  rw [View.read_writes_eq_canon _ _ _ (scover0_B_0 c i₀ a1 h1 a2 h2 a3 h3 a4 h4 a5 h5 a6 h6 a7 h7 a8 h8 hc0 hc1 x0 x1 x2 xs0 xs1)]
  unfold kernelRun0_B
  dsimp only
  sl_unfold_words
  rw [View.canon_unit_zero (S := S8x128) hz]
  simp only [View.readAt_eq_ld, h1.read_unread, h2.read_unread, h3.read_unread, h6.read_unread, h7.read_unread, h8.read_unread,
    View.ld_unit_zero (S := S512x128) hz, View.ld_unit_zero (S := S1x128) hz, View.ld_unit_zero (S := S8x128) hz, shapeCast_self]
  rw [View.readCov_fill (s := S512x128) _ _ _ _ _ at_zero, ld_sums, ld_carry]
  rfl

/-- The eight running sums at a middle point. -/
theorem sum_middle
    (hc0 : ¬cond0_0 i₀) (hc1 : ¬cond0_1 i₀)
    (x0 x1 : Vec Ideal S512x128 .f32) (x2 : Vec Ideal S1x128 .f32) (xs0 xs1 : Vec Ideal S8x128 .f32) :
    sout0_B_1 c i₀ a1 h1 a2 h2 a3 h3 a4 h4 a5 h5 a6 h6 a7 h7 a8 h8 hc0 hc1 x0 x1 x2 xs0 xs1 = k0_pay3 (k0_pay7 x0 (fun y => xs0 (ix2 0 (y 1)))) (k0_pay9 x1 x2) xs1 := by
  unfold sout0_B_1
  rw [View.read_writes_eq_canon _ _ _ (scover0_B_1 c i₀ a1 h1 a2 h2 a3 h3 a4 h4 a5 h5 a6 h6 a7 h7 a8 h8 hc0 hc1 x0 x1 x2 xs0 xs1)]
  unfold kernelRun0_B
  dsimp only
  sl_unfold_words
  rw [View.canon_unit_zero (S := S8x128) hz]
  simp only [View.readAt_eq_ld, h1.read_unread, h2.read_unread, h3.read_unread, h6.read_unread, h7.read_unread, h8.read_unread,
    View.ld_unit_zero (S := S512x128) hz, View.ld_unit_zero (S := S1x128) hz, View.ld_unit_zero (S := S8x128) hz, shapeCast_self]
  rw [View.readCov_unit_zero (S := S512x128) _ hz, ld_carry]
  rfl

/-- The rows of the logits' gradient at the last point. -/
theorem df_last
    (hc0 : ¬cond0_0 i₀) (hc1 : cond0_1 i₀)
    (x0 x1 : Vec Ideal S512x128 .f32) (x2 : Vec Ideal S1x128 .f32) (xs0 xs1 : Vec Ideal S8x128 .f32) :
    out0_C_3 c i₀ a1 h1 a2 h2 a3 h3 a4 h4 a5 h5 a6 h6 a7 h7 a8 h8 hc0 hc1 x0 x1 x2 xs0 xs1 = k0_pay2 (k0_pay7 x0 (fun y => xs0 (ix2 0 (y 1)))) (k0_pay9 x1 x2) := by
  unfold out0_C_3
  rw [View.read_writes_eq_canon _ _ _ (cover0_C_3 c i₀ a1 h1 a2 h2 a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h1.read_unread, h2.read_unread, h3.read_unread, h6.read_unread, h7.read_unread, h8.read_unread,
    View.ld_unit_zero (S := S512x128) hz, View.ld_unit_zero (S := S1x128) hz, View.ld_unit_zero (S := S8x128) hz, shapeCast_self]
  rw [View.readCov_unit_zero (S := S512x128) _ hz, ld_carry]
  rfl

/-- The last point adds its rows and stores the total. -/
theorem db_last
    (hc0 : ¬cond0_0 i₀) (hc1 : cond0_1 i₀)
    (x0 x1 : Vec Ideal S512x128 .f32) (x2 : Vec Ideal S1x128 .f32) (xs0 xs1 : Vec Ideal S8x128 .f32) :
    out0_C_4 c i₀ a1 h1 a2 h2 a3 h3 a4 h4 a5 h5 a6 h6 a7 h7 a8 h8 hc0 hc1 x0 x1 x2 xs0 xs1 = k0_pay4 (k0_pay3 (k0_pay7 x0 (fun y => xs0 (ix2 0 (y 1)))) (k0_pay9 x1 x2) xs1) := by
  unfold out0_C_4
  rw [View.read_writes_eq_canon _ _ _ (cover0_C_4 c i₀ a1 h1 a2 h2 a3 h3 a4 h4 a5 h5 a6 h6 a7 h7 a8 h8 hc0 hc1 x0 x1 x2 xs0 xs1)]
  unfold kernelRun0_C
  dsimp only
  sl_unfold_words
  rw [View.canon_unit_zero hz, View.readCov_unit_zero (S := S8x128) _ hz]
  simp only [View.readAt_eq_ld, h1.read_unread, h2.read_unread, h3.read_unread, h6.read_unread, h7.read_unread, h8.read_unread,
    View.ld_unit_zero (S := S512x128) hz, View.ld_unit_zero (S := S1x128) hz, View.ld_unit_zero (S := S8x128) hz, shapeCast_self]
  rw [View.readCov_unit_zero (S := S512x128) _ hz, ld_carry]
  rfl

end Leaves

theorem pay7_eq (x0 : Vec Ideal S512x128 .f32) (v : Vec Ideal S1x128 .f32) (a : Vec Ideal S4096x128 .f32) (p : ℕ) (hp : p + 512 ≤ 4096) (j : Fin 128)
    (e0 : ∀ k : Fin 512, x0 (ix2 k j) = Sums.steps 4096 (fun k => a (ix2 k j)) (p + k.val))
    (hv : v (ix2 (0 : Fin 1) j) = tail a j (p + 512)) (i : Fin 512) : k0_pay7 x0 v (ix2 i j) = tail a j (p + i.val) := by
  have hi := i.isLt
  rw [tile7, hv, Cert.Forget.onward 512 i _ (fun k => Sums.steps 4096 (fun k => a (ix2 k j)) (p + k)) e0,
    Finset.sum_Ico_add (Sums.steps 4096 (fun k => a (ix2 k j))) i.val 512 p, add_comm i.val p, add_comm 512 p]
  exact Finset.sum_Ico_consecutive _ (by omega) hp

theorem pay1_eq (u x1 : Vec Ideal S512x128 .f32) (x2 : Vec Ideal S1x128 .f32) (i : Fin 512) (j : Fin 128) (s f b : EReal)
    (e : u (ix2 i j) = s) (e1 : x1 (ix2 i j) = f) (e2 : x2 (ix2 (0 : Fin 1) j) = b) :
    k0_pay1 u (k0_pay9 x1 x2) (ix2 i j) = s * gateSlope (f + b) := by
  rw [tile1, e, e1, e2]

variable (m : (ℓ : Loc nD τ sig) → Buf (Elt Ideal) ℓ) (c : Dev nD)

abbrev A0 : Vec Ideal S4096x128 .f32 := m ((c : Thread nD τ).loc main_arg0)
abbrev A1 : Vec Ideal S4096x128 .f32 := m ((c : Thread nD τ).loc main_arg1)
abbrev A2 : Vec Ideal S1x128 .f32 := m ((c : Thread nD τ).loc main_arg2)

/-- The logits' gradient in half the bits, and the bias's gradient. -/
def gradB (a f : Vec Ideal S4096x128 .f32) (b : Vec Ideal S1x128 .f32) : Vec Ideal S4096x128 .bf16 := fun i => grad a f b (i 1) (i 0)

def bias (a f : Vec Ideal S4096x128 .f32) (b : Vec Ideal S1x128 .f32) : Vec Ideal S1x128 .f32 := fun i => ∑ r : Fin 4096, grad a f b (i 1) r

theorem idx0 : ∀ t : Fin grid0.N, win0_0.index t (0 : Fin 2) = 7 - t.val ∧ win0_0.index t (1 : Fin 2) = 0 := by decide +kernel

theorem idx1 : ∀ t : Fin grid0.N, win0_1.index t (0 : Fin 2) = 7 - t.val ∧ win0_1.index t (1 : Fin 2) = 0 := by decide +kernel

theorem idx2 : ∀ t : Fin grid0.N, win0_2.index t (0 : Fin 2) = 0 ∧ win0_2.index t (1 : Fin 2) = 0 := by decide +kernel

theorem idx3 : ∀ t : Fin grid0.N, win0_3.index t (0 : Fin 2) = 7 - t.val ∧ win0_3.index t (1 : Fin 2) = 0 := by decide +kernel

theorem idx4 : ∀ t : Fin grid0.N, win0_4.index t (0 : Fin 2) = 0 ∧ win0_4.index t (1 : Fin 2) = 0 := by decide +kernel

theorem onto3 : ∀ p : Fin 8, ∃ t : Fin cfg0.N, (cfg0.win 3).flush t = true ∧
    win0_3.index t (0 : Fin 2) = p.val ∧ win0_3.index t (1 : Fin 2) = 0 := by decide +kernel

section Blocks

variable {c}
variable (W : (b : Ref sig .tc) → Buf (Elt Ideal) ((c : Thread nD τ).loc b)) (t : Fin cfg0.N)

theorem block0 (r : Fin 512) (l : Fin 128) (p0) :
    ((cfg0.win 0).blk t).view.read (Elt Ideal) (W (Pipeline.arrRef spec0 0)) (ix2 r l) = W main_arg0 (ix2 ⟨(7 - t.val) * 512 + r.val, p0⟩ l) := by
  obtain ⟨e0, e1⟩ := idx0 t
  show W main_arg0 (((cfg0.win 0).blk t).view.emb (ix2 r l)) = _
  refine congrArg _ (funext fun a => Fin.ext ?_)
  match a with
  | ⟨0, _⟩ => show win0_0.index t (0 : Fin 2) * 512 + 1 * r.val = (7 - t.val) * 512 + r.val; rw [e0]; omega
  | ⟨1, _⟩ => show win0_0.index t (1 : Fin 2) * 128 + 1 * l.val = l.val; rw [e1]; omega

theorem block1 (r : Fin 512) (l : Fin 128) (p0) :
    ((cfg0.win 1).blk t).view.read (Elt Ideal) (W (Pipeline.arrRef spec0 1)) (ix2 r l) = W main_arg1 (ix2 ⟨(7 - t.val) * 512 + r.val, p0⟩ l) := by
  obtain ⟨e0, e1⟩ := idx1 t
  show W main_arg1 (((cfg0.win 1).blk t).view.emb (ix2 r l)) = _
  refine congrArg _ (funext fun a => Fin.ext ?_)
  match a with
  | ⟨0, _⟩ => show win0_1.index t (0 : Fin 2) * 512 + 1 * r.val = (7 - t.val) * 512 + r.val; rw [e0]; omega
  | ⟨1, _⟩ => show win0_1.index t (1 : Fin 2) * 128 + 1 * l.val = l.val; rw [e1]; omega

theorem block2 (l : Fin 128) :
    ((cfg0.win 2).blk t).view.read (Elt Ideal) (W (Pipeline.arrRef spec0 2)) (ix2 (0 : Fin 1) l) = W main_arg2 (ix2 (0 : Fin 1) l) := by
  obtain ⟨e0, e1⟩ := idx2 t
  show W main_arg2 (((cfg0.win 2).blk t).view.emb (ix2 (0 : Fin 1) l)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * l.val = l.val; rw [e1]; omega

end Blocks

theorem read0 (t : Fin cfg0.N) (r : Fin 512) (l : Fin 128) (p0) : iblk m c 0 t (ix2 r l) = A0 m c (ix2 ⟨(7 - t.val) * 512 + r.val, p0⟩ l) :=
  (block0 (c := c) (V m c) t r l p0).trans (congrFun (V_main_arg0 m c) _)

theorem read1 (t : Fin cfg0.N) (r : Fin 512) (l : Fin 128) (p0) : iblk m c 1 t (ix2 r l) = A1 m c (ix2 ⟨(7 - t.val) * 512 + r.val, p0⟩ l) :=
  (block1 (c := c) (V m c) t r l p0).trans (congrFun (V_main_arg1 m c) _)

theorem read2 (t : Fin cfg0.N) (l : Fin 128) : iblk m c 2 t (ix2 (0 : Fin 1) l) = A2 m c (ix2 (0 : Fin 1) l) :=
  (block2 (c := c) (V m c) t l).trans (congrFun (V_main_arg2 m c) _)

/-- The logits' gradient at a row of the array, the rows numbered by the naturals. -/
abbrev at_row (j : Fin 128) (n : ℕ) : EReal := Sums.steps 4096 (grad (A0 m c) (A1 m c) (A2 m c) j) n

/-- A point that starts from the sum of the rows after its own has the sums from each of its rows on. -/
theorem sums_of (t : Fin cfg0.N) (ht : t.val < 8) (v : Vec Ideal S1x128 .f32) (j : Fin 128)
    (hv : v (ix2 (0 : Fin 1) j) = tail (A0 m c) j ((7 - t.val) * 512 + 512)) (i : Fin 512) :
    k0_pay7 (iblk m c 0 t) v (ix2 i j) = tail (A0 m c) j ((7 - t.val) * 512 + i.val) :=
  pay7_eq (iblk m c 0 t) v (A0 m c) ((7 - t.val) * 512) (by omega) j (fun k => by
    have p0 : (7 - t.val) * 512 + k.val < 4096 := by have := k.isLt; omega
    exact (read0 m c t k j p0).trans (Sums.steps_lt 4096 (fun k => A0 m c (ix2 k j)) ⟨(7 - t.val) * 512 + k.val, p0⟩).symm) hv i

theorem rows_of (t : Fin cfg0.N) (ht : t.val < 8) (v : Vec Ideal S1x128 .f32) (j : Fin 128)
    (hv : v (ix2 (0 : Fin 1) j) = tail (A0 m c) j ((7 - t.val) * 512 + 512)) (i : Fin 512) :
    k0_pay1 (k0_pay7 (iblk m c 0 t) v) (k0_pay9 (iblk m c 1 t) (iblk m c 2 t)) (ix2 i j) = at_row m c j ((7 - t.val) * 512 + i.val) := by
  have p0 : (7 - t.val) * 512 + i.val < 4096 := by have := i.isLt; omega
  exact (pay1_eq _ (iblk m c 1 t) (iblk m c 2 t) i j _ _ _ (sums_of m c t ht v j hv i) (read1 m c t i j p0) (read2 m c t j)).trans
    (Sums.steps_lt 4096 (grad (A0 m c) (A1 m c) (A2 m c) j) ⟨(7 - t.val) * 512 + i.val, p0⟩).symm

/-- What a point adds to running sum `i`, numbered by the points. -/
abbrev part (i : Fin 8) (j : Fin 128) (s : ℕ) : EReal := ∑ u : Fin 64, at_row m c j ((7 - s) * 512 + (at8 u i).val)

theorem added (t : Fin cfg0.N) (ht : t.val < 8) (v : Vec Ideal S1x128 .f32) (s : Vec Ideal S8x128 .f32) (i : Fin 8) (j : Fin 128)
    (hv : v (ix2 (0 : Fin 1) j) = tail (A0 m c) j ((7 - t.val) * 512 + 512)) :
    k0_pay3 (k0_pay7 (iblk m c 0 t) v) (k0_pay9 (iblk m c 1 t) (iblk m c 2 t)) s (ix2 i j) = s (ix2 i j) + part m c i j t.val := by
  rw [tile3]
  exact congrArg _ (Finset.sum_congr rfl fun u _ => rows_of m c t ht v j hv (at8 u i))

/-- Nothing comes after the last row. -/
theorem start (t : Fin cfg0.N) (h : t.val = 0) (j : Fin 128) : (0 : EReal) = tail (A0 m c) j ((7 - t.val) * 512 + 512) := by
  rw [h]
  exact (Finset.sum_eq_zero fun k hk => absurd (Finset.mem_Ico.mp hk) (by omega)).symm

/-- After point `r` the carried rows hold the sum from its first row on, and a running sum the rows of the points so far. -/
theorem held (r : ℕ) (hr : r ≤ 6) (t : Fin cfg0.N) (h : t.val = r) (j : Fin 128) :
    (∀ i : Fin 8, (outsAt0 m c t.val t.isLt).2.2.1 (ix2 i j) = tail (A0 m c) j ((7 - r) * 512))
      ∧ ∀ i : Fin 8, (outsAt0 m c t.val t.isLt).2.2.2 (ix2 i j) = ∑ s ∈ Finset.range (r + 1), part m c i j s := by
  have ht : t.val < 8 := by omega
  have hc : tail (A0 m c) j ((7 - t.val) * 512 + (0 : Fin 512).val) = tail (A0 m c) j ((7 - r) * 512) := by rw [h]; rfl
  induction r generalizing t with
  | zero =>
    have hv := start m c t h j
    have hs := fun i : Fin 8 => added m c t ht (fun _ => 0) (k0_pay6 (F := Ideal)) i j hv
    have hd := sums_of m c t ht (fun _ => 0) j hv 0
    rw [outsAt0_A m c t (by omega) (by omega)]
    dsimp only
    rw [carry_first, sum_first]
    refine ⟨fun i => (tile8 _ i j).trans (hd.trans hc), fun i => (hs i).trans ?_⟩
    rw [tile6, zero_add, Finset.sum_range_one]
    exact congrArg (part m c i j) h
  | succ r ih =>
    have hp := ih (by omega) ⟨t.val - 1, Nat.lt_of_le_of_lt (Nat.sub_le _ _) t.isLt⟩ (by dsimp only; omega) (by dsimp only; omega)
      (by dsimp only; rw [show t.val - 1 = r by omega]; rfl)
    have hv : (outsAt0 m c (t.val - 1) (Nat.lt_of_le_of_lt (Nat.sub_le _ _) t.isLt)).2.2.1 (ix2 (0 : Fin 8) j)
        = tail (A0 m c) j ((7 - t.val) * 512 + 512) := (hp.1 0).trans (congrArg (tail (A0 m c) j) (by omega))
    have hs := fun i : Fin 8 => added m c t ht
      (fun y => (outsAt0 m c (t.val - 1) (Nat.lt_of_le_of_lt (Nat.sub_le _ _) t.isLt)).2.2.1 (ix2 (0 : Fin 8) (y 1)))
      (outsAt0 m c (t.val - 1) (Nat.lt_of_le_of_lt (Nat.sub_le _ _) t.isLt)).2.2.2 i j hv
    have hd := sums_of m c t ht
      (fun y => (outsAt0 m c (t.val - 1) (Nat.lt_of_le_of_lt (Nat.sub_le _ _) t.isLt)).2.2.1 (ix2 (0 : Fin 8) (y 1))) j hv 0
    rw [outsAt0_B m c t (by omega) (by omega)]
    dsimp only
    rw [carry_middle, sum_middle]
    refine ⟨fun i => (tile8 _ i j).trans (hd.trans hc), fun i => (hs i).trans ?_⟩
    rw [Finset.sum_range_succ]
    exact congrArg₂ (· + ·) (hp.2 i) (congrArg (part m c i j) h)

/-- What a later point starts from. -/
theorem carried (t : Fin cfg0.N) (ht : t.val < 8) (h0 : ¬t.val = 0) (j : Fin 128) :
    (outsAt0 m c (t.val - 1) (Nat.lt_of_le_of_lt (Nat.sub_le _ _) t.isLt)).2.2.1 (ix2 (0 : Fin 8) j) = tail (A0 m c) j ((7 - t.val) * 512 + 512) :=
  ((held m c (t.val - 1) (by omega) ⟨t.val - 1, Nat.lt_of_le_of_lt (Nat.sub_le _ _) t.isLt⟩ rfl j).1 0).trans (congrArg (tail (A0 m c) j) (by omega))

/-- The rows that a point stores. -/
theorem stored (t : Fin cfg0.N) (i : Fin 512) (j : Fin 128) :
    (outsAt0 m c t.val t.isLt).1 (ix2 i j) = at_row m c j ((7 - t.val) * 512 + i.val) := by
  have ht : t.val < 8 := lt_of_lt_of_le t.isLt (by decide)
  by_cases h0 : t.val = 0
  · have hs := rows_of m c t ht (fun _ => 0) j (start m c t h0 j) i
    rw [outsAt0_A m c t (by omega) (by omega)]
    dsimp only
    rw [df_first, tile2]
    exact hs
  · have hs := rows_of m c t ht
      (fun y => (outsAt0 m c (t.val - 1) (Nat.lt_of_le_of_lt (Nat.sub_le _ _) t.isLt)).2.2.1 (ix2 (0 : Fin 8) (y 1))) j (carried m c t ht h0 j) i
    by_cases h1 : t.val % 8 = 7
    · rw [outsAt0_C m c t (by omega) h1]
      dsimp only
      rw [df_last, tile2]
      exact hs
    · rw [outsAt0_B m c t (by omega) h1]
      dsimp only
      rw [df_middle, tile2]
      exact hs

/-- What the last point stores: the bias's gradient. -/
theorem total (j : Fin 128) (t : Fin cfg0.N) (h : t.val = 7) :
    (outsAt0 m c t.val t.isLt).2.1 (ix2 (0 : Fin 1) j) = ∑ r : Fin 4096, grad (A0 m c) (A1 m c) (A2 m c) j r := by
  have hp := (held m c 6 (by omega) ⟨t.val - 1, Nat.lt_of_le_of_lt (Nat.sub_le _ _) t.isLt⟩ (by dsimp only; omega) j).2
  have hs := fun i : Fin 8 => added m c t (by omega)
    (fun y => (outsAt0 m c (t.val - 1) (Nat.lt_of_le_of_lt (Nat.sub_le _ _) t.isLt)).2.2.1 (ix2 (0 : Fin 8) (y 1)))
    (outsAt0 m c (t.val - 1) (Nat.lt_of_le_of_lt (Nat.sub_le _ _) t.isLt)).2.2.2 i j (carried m c t (by omega) (by omega) j)
  have hall : ∀ i : Fin 8, (outsAt0 m c (t.val - 1) (Nat.lt_of_le_of_lt (Nat.sub_le _ _) t.isLt)).2.2.2 (ix2 i j) + part m c i j t.val
      = ∑ s : Fin 8, part m c i j s.val := by
    intro i
    rw [← Finset.sum_range (part m c i j), Finset.sum_range_succ]
    exact congrArg₂ (· + ·) (hp i) (congrArg (part m c i j) h)
  rw [outsAt0_C m c t (by omega) (by omega)]
  dsimp only
  rw [db_last, tile4]
  refine (Finset.sum_congr rfl fun i _ => (hs i).trans (hall i)).trans ?_
  rw [Finset.sum_comm, ← Equiv.sum_comp Fin.revPerm, Cert.RmsNorm.sum_runs (a := 8) (b := 512) 4096 rfl _ (fun p q => by omega)]
  refine Finset.sum_congr rfl fun s _ => ?_
  rw [Cert.RmsNorm.sum_runs (a := 64) (b := 8) 512 rfl _ (fun p q => by omega), Finset.sum_comm]
  refine Finset.sum_congr rfl fun u _ => Finset.sum_congr rfl fun i _ => ?_
  have p0 : s.val * 512 + (u.val * 8 + i.val) < 4096 := by omega
  have hb : (7 - (Fin.revPerm s).val) * 512 + (at8 u i).val = s.val * 512 + (u.val * 8 + i.val) := by
    show (7 - (8 - (s.val + 1))) * 512 + (u.val * 8 + i.val) = _
    omega
  exact (congrArg (at_row m c j) hb).trans (Sums.steps_lt 4096 (grad (A0 m c) (A1 m c) (A2 m c) j) ⟨s.val * 512 + (u.val * 8 + i.val), p0⟩)

/-- A point writes back its rows of the logits' gradient. -/
theorem flushed3 (t : Fin cfg0.N) :
    (dats m 0 c).flushed 3 t = ((cfg0.win 3).blk t).view.read (Elt Ideal) (gradB (A0 m c) (A1 m c) (A2 m c)) := by
  rw [Value.flushed3]
  obtain ⟨e0, e1⟩ := idx3 t
  have ht : t.val < 8 := lt_of_lt_of_le t.isLt (by decide)
  funext y
  have hya : (y 0).val < 512 := (y 0).isLt
  have p0 : (7 - t.val) * 512 + (y 0).val < 4096 := by omega
  have hx : (cfg0.win 3).xinj (grid0.coords t) y = ix2 (y 0) (y 1) := by
    funext a; apply Fin.ext
    match a with
    | ⟨0, _⟩ => rfl
    | ⟨1, _⟩ => rfl
  have hb := (stored m c t (y 0) (y 1)).trans (Sums.steps_lt 4096 (grad (A0 m c) (A1 m c) (A2 m c) (y 1)) ⟨(7 - t.val) * 512 + (y 0).val, p0⟩)
  generalize (outsAt0 m c t.val t.isLt).1 = o at hb ⊢
  show o ((cfg0.win 3).xinj (grid0.coords t) y) = gradB (A0 m c) (A1 m c) (A2 m c) (((cfg0.win 3).blk t).view.emb y)
  have g0 : ((cfg0.win 3).blk t).view.emb y 0 = (⟨(7 - t.val) * 512 + (y 0).val, p0⟩ : Fin 4096) := Fin.ext (by
    show win0_3.index t (0 : Fin 2) * 512 + 1 * (y 0).val = (7 - t.val) * 512 + (y 0).val; rw [e0]; omega)
  have g1 : ((cfg0.win 3).blk t).view.emb y 1 = y 1 := Fin.ext (by
    show win0_3.index t (1 : Fin 2) * 128 + 1 * (y 1).val = (y 1).val; rw [e1]; omega)
  refine (congrArg o hx).trans (hb.trans ?_)
  unfold gradB
  rw [g0, g1]

/-- Every index lies in the block of a point that writes back. -/
theorem cover3 (i : S4096x128.Idx) : ∃ t : Fin cfg0.N, (cfg0.win 3).flush t = true ∧ i ∈ ((cfg0.win 3).blk t).view.set := by
  have hi0 : (i 0).val < 4096 := (i 0).isLt
  have hi1 : (i 1).val < 128 := (i 1).isLt
  obtain ⟨t, hft, q0, q1⟩ := onto3 ⟨(i 0).val / 512, by omega⟩
  refine ⟨t, hft, ?_⟩
  show i ∈ ((View.whole main_v0_0).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; rw [q0]; dsimp only; omega
  | ⟨1, _⟩ => show win0_3.index t (1 : Fin 2) * 128 ≤ (i 1).val ∧ (i 1).val < win0_3.index t (1 : Fin 2) * 128 + 128; rw [q1]; omega

/-- The last point writes back the bias's gradient. -/
theorem flushed4 (t : Fin cfg0.N) (hf : (cfg0.win 4).flush t = true) :
    (dats m 0 c).flushed 4 t = ((cfg0.win 4).blk t).view.read (Elt Ideal) (bias (A0 m c) (A1 m c) (A2 m c)) := by
  have hm : t.val % 8 = 7 := (flush0_4 t).mp hf
  have ht : t.val < 8 := lt_of_lt_of_le t.isLt (by decide)
  rw [Value.flushed4]
  obtain ⟨e0, e1⟩ := idx4 t
  funext y
  have hya : (y 0).val < 1 := (y 0).isLt
  have hx : (cfg0.win 4).xinj (grid0.coords t) y = ix2 (0 : Fin 1) (y 1) := by
    funext a; apply Fin.ext
    match a with
    | ⟨0, _⟩ => show (y 0).val = 0; omega
    | ⟨1, _⟩ => rfl
  have hb := total m c (y 1) t (by omega)
  generalize (outsAt0 m c t.val t.isLt).2.1 = o at hb ⊢
  show o ((cfg0.win 4).xinj (grid0.coords t) y) = bias (A0 m c) (A1 m c) (A2 m c) (((cfg0.win 4).blk t).view.emb y)
  have g1 : ((cfg0.win 4).blk t).view.emb y 1 = y 1 := Fin.ext (by
    show win0_4.index t (1 : Fin 2) * 128 + 1 * (y 1).val = (y 1).val; rw [e1]; omega)
  refine (congrArg o hx).trans (hb.trans ?_)
  unfold bias
  rw [g1]

theorem cover4 (i : S1x128.Idx) : ∃ t : Fin cfg0.N, (cfg0.win 4).flush t = true ∧ i ∈ ((cfg0.win 4).blk t).view.set := by
  have hi0 : (i 0).val < 1 := (i 0).isLt
  have hi1 : (i 1).val < 128 := (i 1).isLt
  have h7 : (7 : ℕ) < cfg0.N := by decide
  refine ⟨⟨7, h7⟩, (flush0_4 ⟨7, h7⟩).mpr rfl, ?_⟩
  obtain ⟨q0, q1⟩ := idx4 ⟨7, h7⟩
  show i ∈ ((View.whole main_v0_1).slice (win0_4.rect ⟨7, h7⟩)).set
  rw [View.set_slice_whole, Rect.mem_set_unit]
  intro a
  match a with
  | ⟨0, _⟩ => show win0_4.index ⟨7, h7⟩ (0 : Fin 2) * 1 ≤ (i 0).val ∧ (i 0).val < win0_4.index ⟨7, h7⟩ (0 : Fin 2) * 1 + 1; rw [q0]; omega
  | ⟨1, _⟩ => show win0_4.index ⟨7, h7⟩ (1 : Fin 2) * 128 ≤ (i 1).val ∧ (i 1).val < win0_4.index ⟨7, h7⟩ (1 : Fin 2) * 128 + 128; rw [q1]; omega

/-- The kernel ends with the gradients, its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = gradB (A0 m c) (A1 m c) (A2 m c)
      ∧ r.2.mem ((c : Thread nD τ).loc main_v0_1) = bias (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t hf => flushed3 m c t) cover3),
      (h c).2.1.trans ((dats m 0 c).arrAt_eq_of_cover 4 _ (fun t hf => flushed4 m c t hf) cover4), (h c).2.2⟩)
    (Value.run_blocks m ρ)

end Cert.Kernel34Ideal.Forget

namespace Cert.ForgetBwd

open Cert.Reference34Ideal Cert.Reference34Ideal.Gen Cert.Reference34Ideal.Forget
open Cert.Kernel34Ideal.Forget (gradB bias)

/-- The reference's results, element by element. -/
theorem value_df (a0 a1 : FVec Ideal S4096x128 .f32) (a2 : FVec Ideal S1x128 .f32) :
    (truncf .bf16 (plain a0 a1 a2) bitsLt_bf16_f32 : FVec Ideal S4096x128 .bf16) = gradB a0 a1 a2 := by
  funext i
  have hi : i = ix2 (i 0) (i 1) := by
    funext d
    match d with
    | ⟨0, _⟩ => rfl
    | ⟨1, _⟩ => rfl
  exact (congrArg (plain a0 a1 a2) hi).trans (plain_at a0 a1 a2 (i 0) (i 1))

theorem value_db (a0 a1 : FVec Ideal S4096x128 .f32) (a2 : FVec Ideal S1x128 .f32) :
    (shapeCast S1x128 (Host.reduceAdd (plain a0 a1 a2) (constant S_ .f32 0x00000000#32) reducesTo_S4096x128_S128_d0 h_S_) shapeCasts_S128_S1x128 : FVec Ideal S1x128 .f32)
      = bias a0 a1 a2 := by
  funext i
  have hi : i = ix2 (0 : Fin 1) (i 1) := by
    funext d
    match d with
    | ⟨0, _⟩ => exact Fin.ext (by have h : (i 0).val < 1 := (i 0).isLt; show (i 0).val = 0; omega)
    | ⟨1, _⟩ => rfl
  refine (congrArg _ hi).trans ((summed_at (plain a0 a1 a2) (i 1)).trans ?_)
  exact Finset.sum_congr rfl fun r _ => plain_at a0 a1 a2 r (i 1)

/-- The two programs end with the same results. -/
theorem algebraic : Cert.algebraic_Kernel34Ideal_Reference34Ideal (hKernel34Ideal := Cert.Kernel34Ideal.Gen.facts)
    (hReference34Ideal := Cert.Reference34Ideal.Gen.facts) := by
  intro m g m' g' _ hag
  refine ⟨fun c => gradB (Cert.Kernel34Ideal.Forget.A0 m c) (Cert.Kernel34Ideal.Forget.A1 m c) (Cert.Kernel34Ideal.Forget.A2 m c),
    fun c => bias (Cert.Kernel34Ideal.Forget.A0 m c) (Cert.Kernel34Ideal.Forget.A1 m c) (Cert.Kernel34Ideal.Forget.A2 m c),
    Cert.Kernel34Ideal.Forget.run m g, ?_⟩
  refine (θ_run _ _ _).mono (fun r h c => ⟨?_, ?_, (h c).2.2⟩) (Cert.Reference34Ideal.Value.run (F := Ideal) m' g')
  · refine (h c).1.trans ((value_df (m' (c.tc.loc main_arg0)) (m' (c.tc.loc main_arg1)) (m' (c.tc.loc main_arg2))).trans ?_)
    unfold Cert.Kernel34Ideal.Forget.A0 Cert.Kernel34Ideal.Forget.A1 Cert.Kernel34Ideal.Forget.A2
    rw [(hag c).1, (hag c).2.1, (hag c).2.2]
  · refine (h c).2.1.trans ((value_db (m' (c.tc.loc main_arg0)) (m' (c.tc.loc main_arg1)) (m' (c.tc.loc main_arg2))).trans ?_)
    unfold Cert.Kernel34Ideal.Forget.A0 Cert.Kernel34Ideal.Forget.A1 Cert.Kernel34Ideal.Forget.A2
    rw [(hag c).1, (hag c).2.1, (hag c).2.2]

end Cert.ForgetBwd

end
-- ==== Proof.lean ====
/-
  The certificate, one part for each kernel call of the training step that it is about: the gradients of the forgetting
  attention's keys, values and cumulative gate ends, the tiled products of the forward and the backward pass, the branch gates,
  SwiGLU and the norms with their gradients, the running log of the forget gate with its gradients, and the AdamW steps.
  Every call runs on every float instance with its arguments unchanged and every counter at zero, and over exact arithmetic
  its results are those of the plain lines that it stands for.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.Final
public import proofs.«01_k».proof.Proof.RefFinal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.InProjDw
public import proofs.«01_k».proof.Proof.GateUpDx
public import proofs.«01_k».proof.Proof.GateUpDw
public import proofs.«01_k».proof.Proof.DownDw
public import proofs.«01_k».proof.Proof.DownDx
public import proofs.«01_k».proof.Proof.OutProjDw
public import proofs.«01_k».proof.Proof.OutProjDx
public import proofs.«01_k».proof.Proof.InProjDx
public import proofs.«01_k».proof.Proof.BranchADw
public import proofs.«01_k».proof.Proof.BranchBDw
public import proofs.«01_k».proof.Proof.BranchADx
public import proofs.«01_k».proof.Proof.BranchBDx
public import proofs.«01_k».proof.Proof.GateUp
public import proofs.«01_k».proof.Proof.Down
public import proofs.«01_k».proof.Proof.ProjQkv
public import proofs.«01_k».proof.Proof.ProjGates
public import proofs.«01_k».proof.Proof.OutProj
public import proofs.«01_k».proof.Proof.BranchA
public import proofs.«01_k».proof.Proof.BranchB
public import proofs.«01_k».proof.Proof.ProjForget
public import proofs.«01_k».proof.Proof.GateBwd
public import proofs.«01_k».proof.Proof.SwigluBwd
public import proofs.«01_k».proof.Proof.GateFwd
public import proofs.«01_k».proof.Proof.SwigluFwd
public import proofs.«01_k».proof.Proof.NormBwd
public import proofs.«01_k».proof.Proof.NormFwd
public import proofs.«01_k».proof.Proof.AdamW
public import proofs.«01_k».proof.Proof.ForgetFwd
public import proofs.«01_k».proof.Proof.ForgetBwd
public import Idealize.ShloMosaic.Adequacy
public import Idealize.ShloMosaic.Init

@[expose] public section

noncomputable section

namespace Cert.Proof

open Idealize.ShloMosaic Idealize.SL.Sem

/-- The kernel's frame, at the machine's floats. -/
theorem frame_kernel : Cert.quiescent_Kernel (hKernel := Cert.Kernel.Gen.facts) := fun m ρ _ => Cert.Kernel.Gen.frame m ρ

/-- The kernel's frame, at exact arithmetic. -/
theorem frame_ideal : Cert.quiescent_KernelIdeal (hKernelIdeal := Cert.KernelIdeal.Gen.facts) := fun m ρ _ => Cert.KernelIdeal.Gen.frame m ρ

/-- The reference's frame: a line of host operations, which write no argument; it declares no semaphore. -/
theorem frame_reference : Cert.quiescent_ReferenceIdeal (hReferenceIdeal := Cert.ReferenceIdeal.Gen.facts) := fun m ρ _ =>
  (θ_run _ _ _).mono (fun r h => ⟨fun c => ⟨(h c).2.2.2.1, (h c).2.2.2.2.1, (h c).2.2.2.2.2⟩, sem_eq_zero_of_no_sems (by decide) r.2⟩)
    (Cert.ReferenceIdeal.Value.run (F := Ideal) m ρ)

/-- The same gradients: both runs end with the arrays of the real numbers that the arguments hold. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hag
  choose R hR using fun c => Cert.Pre_finite.exists_reals _ _ _ (hpre c)
  have hR' : ∀ c, (R c).Of (Cert.ReferenceIdeal.RefVals.A0 m' c) (Cert.ReferenceIdeal.RefVals.A1 m' c) (Cert.ReferenceIdeal.RefVals.A2 m' c) := by
    intro c
    unfold Cert.ReferenceIdeal.RefVals.A0 Cert.ReferenceIdeal.RefVals.A1 Cert.ReferenceIdeal.RefVals.A2
    rw [(hag c).1, (hag c).2.1, (hag c).2.2]
    exact hR c
  exact ⟨fun c => Cert.KernelIdeal.Final.cols (R c).dk, fun c => Cert.KernelIdeal.Final.cols (R c).dv, fun c => Cert.KernelIdeal.Final.lanes (R c).dc,
    Cert.KernelIdeal.Final.run R hR g, Cert.ReferenceIdeal.RefFinal.run m' R hR' g'⟩

/-- The reference's frame for the gradient of the input projection's weights: host operations alone, which write no argument. -/
theorem frame_reference2 : Cert.quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run (F := Ideal) m ρ)

/-- The reference's frame for the gradient of the activations entering the gate and up products: host operations alone, which write no argument. -/
theorem frame_reference3 : Cert.quiescent_Reference3Ideal (hReference3Ideal := Cert.Reference3Ideal.Gen.facts) := fun m ρ _ =>
  (θ_run _ _ _).mono (fun r h => ⟨fun c => (h c).2, sem_eq_zero_of_no_sems (by decide) r.2⟩)
    (Cert.Reference3Ideal.Value.run (F := Ideal) m ρ)

/-- The reference's frame for the gradient of the gate and up weights: host operations alone, which write no argument. -/
theorem frame_reference4 : Cert.quiescent_Reference4Ideal (hReference4Ideal := Cert.Reference4Ideal.Gen.facts) := fun m ρ _ =>
  (θ_run _ _ _).mono (fun r h => ⟨fun c => (h c).2, sem_eq_zero_of_no_sems (by decide) r.2⟩)
    (Cert.Reference4Ideal.Value.run (F := Ideal) m ρ)

/-- The reference's frame for the gradient of the down projection's weights: host operations alone, which write no argument. -/
theorem frame_reference5 : Cert.quiescent_Reference5Ideal (hReference5Ideal := Cert.Reference5Ideal.Gen.facts) := fun m ρ _ =>
  (θ_run _ _ _).mono (fun r h => ⟨fun c => (h c).2, sem_eq_zero_of_no_sems (by decide) r.2⟩)
    (Cert.Reference5Ideal.Value.run (F := Ideal) m ρ)

/-- The reference's frame for the gradient of the hidden activations: host operations alone, which write no argument. -/
theorem frame_reference6 : Cert.quiescent_Reference6Ideal (hReference6Ideal := Cert.Reference6Ideal.Gen.facts) := fun m ρ _ =>
  (θ_run _ _ _).mono (fun r h => ⟨fun c => (h c).2, sem_eq_zero_of_no_sems (by decide) r.2⟩)
    (Cert.Reference6Ideal.Value.run (F := Ideal) m ρ)

/-- The reference's frame for the gradient of the output projection's weights: host operations alone, which write no argument. -/
theorem frame_reference7 : Cert.quiescent_Reference7Ideal (hReference7Ideal := Cert.Reference7Ideal.Gen.facts) := fun m ρ _ =>
  (θ_run _ _ _).mono (fun r h => ⟨fun c => (h c).2, sem_eq_zero_of_no_sems (by decide) r.2⟩)
    (Cert.Reference7Ideal.Value.run (F := Ideal) m ρ)

/-- The reference's frame for the gradient of the output projection's input: host operations alone, which write no argument. -/
theorem frame_reference8 : Cert.quiescent_Reference8Ideal (hReference8Ideal := Cert.Reference8Ideal.Gen.facts) := fun m ρ _ =>
  (θ_run _ _ _).mono (fun r h => ⟨fun c => (h c).2, sem_eq_zero_of_no_sems (by decide) r.2⟩)
    (Cert.Reference8Ideal.Value.run (F := Ideal) m ρ)

/-- The reference's frame for the gradient of the input projection's input: host operations alone, which write no argument. -/
theorem frame_reference9 : Cert.quiescent_Reference9Ideal (hReference9Ideal := Cert.Reference9Ideal.Gen.facts) := fun m ρ _ =>
  (θ_run _ _ _).mono (fun r h => ⟨fun c => (h c).2, sem_eq_zero_of_no_sems (by decide) r.2⟩)
    (Cert.Reference9Ideal.Value.run (F := Ideal) m ρ)

/-- The reference's frame for the gradient of the first branch's output weights: host operations alone, which write no argument. -/
theorem frame_reference10 : Cert.quiescent_Reference10Ideal (hReference10Ideal := Cert.Reference10Ideal.Gen.facts) := fun m ρ _ =>
  (θ_run _ _ _).mono (fun r h => ⟨fun c => (h c).2, sem_eq_zero_of_no_sems (by decide) r.2⟩)
    (Cert.Reference10Ideal.Value.run (F := Ideal) m ρ)

/-- The reference's frame for the gradient of the second branch's output weights: host operations alone, which write no argument. -/
theorem frame_reference11 : Cert.quiescent_Reference11Ideal (hReference11Ideal := Cert.Reference11Ideal.Gen.facts) := fun m ρ _ =>
  (θ_run _ _ _).mono (fun r h => ⟨fun c => (h c).2, sem_eq_zero_of_no_sems (by decide) r.2⟩)
    (Cert.Reference11Ideal.Value.run (F := Ideal) m ρ)

/-- The reference's frame for the gradient of the first branch's attention output: host operations alone, which write no argument. -/
theorem frame_reference12 : Cert.quiescent_Reference12Ideal (hReference12Ideal := Cert.Reference12Ideal.Gen.facts) := fun m ρ _ =>
  (θ_run _ _ _).mono (fun r h => ⟨fun c => (h c).2, sem_eq_zero_of_no_sems (by decide) r.2⟩)
    (Cert.Reference12Ideal.Value.run (F := Ideal) m ρ)

/-- The reference's frame for the gradient of the second branch's attention output: host operations alone, which write no argument. -/
theorem frame_reference13 : Cert.quiescent_Reference13Ideal (hReference13Ideal := Cert.Reference13Ideal.Gen.facts) := fun m ρ _ =>
  (θ_run _ _ _).mono (fun r h => ⟨fun c => (h c).2, sem_eq_zero_of_no_sems (by decide) r.2⟩)
    (Cert.Reference13Ideal.Value.run (F := Ideal) m ρ)

/-- The reference's frame for the gate and up products: host operations alone, which write no argument. -/
theorem frame_reference14 : Cert.quiescent_Reference14Ideal (hReference14Ideal := Cert.Reference14Ideal.Gen.facts) := fun m ρ _ =>
  (θ_run _ _ _).mono (fun r h => ⟨fun c => (h c).2, sem_eq_zero_of_no_sems (by decide) r.2⟩)
    (Cert.Reference14Ideal.Value.run (F := Ideal) m ρ)

/-- The reference's frame for the down projection with the residual: host operations alone, which write no argument. -/
theorem frame_reference15 : Cert.quiescent_Reference15Ideal (hReference15Ideal := Cert.Reference15Ideal.Gen.facts) := fun m ρ _ =>
  (θ_run _ _ _).mono (fun r h => ⟨fun c => (h c).2, sem_eq_zero_of_no_sems (by decide) r.2⟩)
    (Cert.Reference15Ideal.Value.run (F := Ideal) m ρ)

/-- The reference's frame for the input projection's query, key and value columns: host operations alone, which write no argument. -/
theorem frame_reference16 : Cert.quiescent_Reference16Ideal (hReference16Ideal := Cert.Reference16Ideal.Gen.facts) := fun m ρ _ =>
  (θ_run _ _ _).mono (fun r h => ⟨fun c => (h c).2, sem_eq_zero_of_no_sems (by decide) r.2⟩)
    (Cert.Reference16Ideal.Value.run (F := Ideal) m ρ)

/-- The reference's frame for the input projection's gate columns: host operations alone, which write no argument. -/
theorem frame_reference17 : Cert.quiescent_Reference17Ideal (hReference17Ideal := Cert.Reference17Ideal.Gen.facts) := fun m ρ _ =>
  (θ_run _ _ _).mono (fun r h => ⟨fun c => (h c).2, sem_eq_zero_of_no_sems (by decide) r.2⟩)
    (Cert.Reference17Ideal.Value.run (F := Ideal) m ρ)

/-- The reference's frame for the output projection with the residual: host operations alone, which write no argument. -/
theorem frame_reference18 : Cert.quiescent_Reference18Ideal (hReference18Ideal := Cert.Reference18Ideal.Gen.facts) := fun m ρ _ =>
  (θ_run _ _ _).mono (fun r h => ⟨fun c => (h c).2, sem_eq_zero_of_no_sems (by decide) r.2⟩)
    (Cert.Reference18Ideal.Value.run (F := Ideal) m ρ)

/-- The reference's frame for the first branch's output product: host operations alone, which write no argument. -/
theorem frame_reference19 : Cert.quiescent_Reference19Ideal (hReference19Ideal := Cert.Reference19Ideal.Gen.facts) := fun m ρ _ =>
  (θ_run _ _ _).mono (fun r h => ⟨fun c => (h c).2, sem_eq_zero_of_no_sems (by decide) r.2⟩)
    (Cert.Reference19Ideal.Value.run (F := Ideal) m ρ)

/-- The reference's frame for the second branch's output product: host operations alone, which write no argument. -/
theorem frame_reference20 : Cert.quiescent_Reference20Ideal (hReference20Ideal := Cert.Reference20Ideal.Gen.facts) := fun m ρ _ =>
  (θ_run _ _ _).mono (fun r h => ⟨fun c => (h c).2, sem_eq_zero_of_no_sems (by decide) r.2⟩)
    (Cert.Reference20Ideal.Value.run (F := Ideal) m ρ)

/-- The reference's frame for the input projection's forget columns: host operations alone, which write no argument. -/
theorem frame_reference21 : Cert.quiescent_Reference21Ideal (hReference21Ideal := Cert.Reference21Ideal.Gen.facts) := fun m ρ _ =>
  (θ_run _ _ _).mono (fun r h => ⟨fun c => (h c).2, sem_eq_zero_of_no_sems (by decide) r.2⟩)
    (Cert.Reference21Ideal.Value.run (F := Ideal) m ρ)

/-- The reference's frame for gate_bwd: host operations alone, which write no argument. -/
theorem frame_reference22 : Cert.quiescent_Reference22Ideal (hReference22Ideal := Cert.Reference22Ideal.Gen.facts) := fun m ρ _ =>
  (θ_run _ _ _).mono (fun r h => ⟨fun c => (h c).2.2.2.2, sem_eq_zero_of_no_sems (by decide) r.2⟩)
    (Cert.Reference22Ideal.Value.run (F := Ideal) m ρ)

/-- The reference's frame for swiglu_bwd: host operations alone, which write no argument. -/
theorem frame_reference23 : Cert.quiescent_Reference23Ideal (hReference23Ideal := Cert.Reference23Ideal.Gen.facts) := fun m ρ _ =>
  (θ_run _ _ _).mono (fun r h => ⟨fun c => (h c).2, sem_eq_zero_of_no_sems (by decide) r.2⟩)
    (Cert.Reference23Ideal.Value.run (F := Ideal) m ρ)

/-- The reference's frame for gate_fwd: host operations alone, which write no argument. -/
theorem frame_reference24 : Cert.quiescent_Reference24Ideal (hReference24Ideal := Cert.Reference24Ideal.Gen.facts) := fun m ρ _ =>
  (θ_run _ _ _).mono (fun r h => ⟨fun c => (h c).2, sem_eq_zero_of_no_sems (by decide) r.2⟩)
    (Cert.Reference24Ideal.Value.run (F := Ideal) m ρ)

/-- The reference's frame for swiglu_fwd: host operations alone, which write no argument. -/
theorem frame_reference25 : Cert.quiescent_Reference25Ideal (hReference25Ideal := Cert.Reference25Ideal.Gen.facts) := fun m ρ _ =>
  (θ_run _ _ _).mono (fun r h => ⟨fun c => (h c).2, sem_eq_zero_of_no_sems (by decide) r.2⟩)
    (Cert.Reference25Ideal.Value.run (F := Ideal) m ρ)

/-- The reference's frame for norm2_bwd: host operations alone, which write no argument. -/
theorem frame_reference26 : Cert.quiescent_Reference26Ideal (hReference26Ideal := Cert.Reference26Ideal.Gen.facts) := fun m ρ _ =>
  (θ_run _ _ _).mono (fun r h => ⟨fun c => (h c).2.2.2, sem_eq_zero_of_no_sems (by decide) r.2⟩)
    (Cert.Reference26Ideal.Value.run (F := Ideal) m ρ)

/-- The reference's frame for norm1_fwd: host operations alone, which write no argument. -/
theorem frame_reference27 : Cert.quiescent_Reference27Ideal (hReference27Ideal := Cert.Reference27Ideal.Gen.facts) := fun m ρ _ =>
  (θ_run _ _ _).mono (fun r h => ⟨fun c => (h c).2, sem_eq_zero_of_no_sems (by decide) r.2⟩)
    (Cert.Reference27Ideal.Value.run (F := Ideal) m ρ)

/-- The reference's frame for adamw_ffn: host operations alone, which write no argument. -/
theorem frame_reference28 : Cert.quiescent_Reference28Ideal (hReference28Ideal := Cert.Reference28Ideal.Gen.facts) := fun m ρ _ =>
  (θ_run _ _ _).mono (fun r h => ⟨fun c => (h c).2.2.2, sem_eq_zero_of_no_sems (by decide) r.2⟩)
    (Cert.Reference28Ideal.Value.run (F := Ideal) m ρ)

/-- The reference's frame for adamw_branch: host operations alone, which write no argument. -/
theorem frame_reference29 : Cert.quiescent_Reference29Ideal (hReference29Ideal := Cert.Reference29Ideal.Gen.facts) := fun m ρ _ =>
  (θ_run _ _ _).mono (fun r h => ⟨fun c => (h c).2.2.2, sem_eq_zero_of_no_sems (by decide) r.2⟩)
    (Cert.Reference29Ideal.Value.run (F := Ideal) m ρ)

/-- The reference's frame for adamw_out: host operations alone, which write no argument. -/
theorem frame_reference30 : Cert.quiescent_Reference30Ideal (hReference30Ideal := Cert.Reference30Ideal.Gen.facts) := fun m ρ _ =>
  (θ_run _ _ _).mono (fun r h => ⟨fun c => (h c).2.2.2, sem_eq_zero_of_no_sems (by decide) r.2⟩)
    (Cert.Reference30Ideal.Value.run (F := Ideal) m ρ)

/-- The reference's frame for adamw_in: host operations alone, which write no argument. -/
theorem frame_reference31 : Cert.quiescent_Reference31Ideal (hReference31Ideal := Cert.Reference31Ideal.Gen.facts) := fun m ρ _ =>
  (θ_run _ _ _).mono (fun r h => ⟨fun c => (h c).2.2.2, sem_eq_zero_of_no_sems (by decide) r.2⟩)
    (Cert.Reference31Ideal.Value.run (F := Ideal) m ρ)

/-- The reference's frame for adamw_small: host operations alone, which write no argument. -/
theorem frame_reference32 : Cert.quiescent_Reference32Ideal (hReference32Ideal := Cert.Reference32Ideal.Gen.facts) := fun m ρ _ =>
  (θ_run _ _ _).mono (fun r h => ⟨fun c => (h c).2.2.2, sem_eq_zero_of_no_sems (by decide) r.2⟩)
    (Cert.Reference32Ideal.Value.run (F := Ideal) m ρ)

/-- The reference's frame for forget_fwd: host operations alone, which write no argument. -/
theorem frame_reference33 : Cert.quiescent_Reference33Ideal (hReference33Ideal := Cert.Reference33Ideal.Gen.facts) := fun m ρ _ =>
  (θ_run _ _ _).mono (fun r h => ⟨fun c => (h c).2, sem_eq_zero_of_no_sems (by decide) r.2⟩)
    (Cert.Reference33Ideal.Value.run (F := Ideal) m ρ)

/-- The reference's frame for forget_bwd: host operations alone, which write no argument. -/
theorem frame_reference34 : Cert.quiescent_Reference34Ideal (hReference34Ideal := Cert.Reference34Ideal.Gen.facts) := fun m ρ _ =>
  (θ_run _ _ _).mono (fun r h => ⟨fun c => (h c).2.2, sem_eq_zero_of_no_sems (by decide) r.2⟩)
    (Cert.Reference34Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Pre_finite.facts, Cert.Pre_finite_swiglu.facts,
    frame_kernel, frame_ideal, fun m ρ _ => Cert.KernelIdeal.Gen.frame m ρ, frame_reference,
    fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, fun m ρ _ => Cert.Kernel23Ideal.Gen.frame m ρ,
    frame_reference23, fun m ρ _ => frame_reference23 m ρ trivial,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    fun m ρ _ => Cert.Kernel27.Gen.frame m ρ, fun m ρ _ => Cert.Kernel27Ideal.Gen.frame m ρ, frame_reference27,
    fun m ρ _ => Cert.Kernel28.Gen.frame m ρ, fun m ρ _ => Cert.Kernel28Ideal.Gen.frame m ρ, frame_reference28,
    fun m ρ _ => Cert.Kernel29.Gen.frame m ρ, fun m ρ _ => Cert.Kernel29Ideal.Gen.frame m ρ, frame_reference29,
    fun m ρ _ => Cert.Kernel30.Gen.frame m ρ, fun m ρ _ => Cert.Kernel30Ideal.Gen.frame m ρ, frame_reference30,
    fun m ρ _ => Cert.Kernel31.Gen.frame m ρ, fun m ρ _ => Cert.Kernel31Ideal.Gen.frame m ρ, frame_reference31,
    fun m ρ _ => Cert.Kernel32.Gen.frame m ρ, fun m ρ _ => Cert.Kernel32Ideal.Gen.frame m ρ, frame_reference32,
    fun m ρ _ => Cert.Kernel33.Gen.frame m ρ, fun m ρ _ => Cert.Kernel33Ideal.Gen.frame m ρ, frame_reference33,
    fun m ρ _ => Cert.Kernel34.Gen.frame m ρ, fun m ρ _ => Cert.Kernel34Ideal.Gen.frame m ρ, frame_reference34,
    trivial, algebraic,
    trivial, Cert.InProjDw.algebraic,
    trivial, Cert.GateUpDx.algebraic,
    trivial, Cert.GateUpDw.algebraic,
    trivial, Cert.DownDw.algebraic,
    trivial, Cert.DownDx.algebraic,
    trivial, Cert.OutProjDw.algebraic,
    trivial, Cert.OutProjDx.algebraic,
    trivial, Cert.InProjDx.algebraic,
    trivial, Cert.BranchADw.algebraic,
    trivial, Cert.BranchBDw.algebraic,
    trivial, Cert.BranchADx.algebraic,
    trivial, Cert.BranchBDx.algebraic,
    trivial, Cert.GateUp.algebraic,
    trivial, Cert.Down.algebraic,
    trivial, Cert.ProjQkv.algebraic,
    trivial, Cert.ProjGates.algebraic,
    trivial, Cert.OutProj.algebraic,
    trivial, Cert.BranchA.algebraic,
    trivial, Cert.BranchB.algebraic,
    trivial, Cert.ProjForget.algebraic,
    trivial, Cert.GateBwd.algebraic,
    trivial, Cert.SwigluBwd.algebraic,
    trivial, Cert.GateFwd.algebraic,
    trivial, Cert.SwigluFwd.algebraic,
    trivial, Cert.NormBwd.algebraic,
    trivial, Cert.NormFwd.algebraic,
    trivial, Cert.AdamWFfn.algebraic,
    trivial, Cert.AdamWBranch.algebraic,
    trivial, Cert.AdamWOut.algebraic,
    trivial, Cert.AdamWIn.algebraic,
    trivial, Cert.AdamWSmall.algebraic,
    trivial, Cert.ForgetFwd.algebraic,
    trivial, Cert.ForgetBwd.algebraic⟩

end Cert.Proof

end
